-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_in_table_KernelIdeal [hPre_ids_in_table_KernelIdeal : Cert.Pre_ids_in_table_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table_ReferenceIdeal [hPre_ids_in_table_ReferenceIdeal : Cert.Pre_ids_in_table_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_in_table_KernelIdeal [hKernelIdeal : Cert.KernelIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_in_table_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_in_table_ReferenceIdeal [hReferenceIdeal : Cert.ReferenceIdeal.Facts] [hPre_ids_in_table_ReferenceIdeal : Cert.Pre_ids_in_table_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_in_table_KernelIdeal [hKernelIdeal : Cert.KernelIdeal.Facts] [hReferenceIdeal : Cert.ReferenceIdeal.Facts] [hPre_ids_in_table_KernelIdeal : Cert.Pre_ids_in_table_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_in_table_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![4096, 512]⟩ ⟨2, ![8192, 512]⟩ (Layout.meshBlock [2, 2, 2] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_table_KernelIdeal : Cert.Pre_ids_in_table_KernelIdeal.Facts) (hPre_ids_in_table_ReferenceIdeal : Cert.Pre_ids_in_table_ReferenceIdeal.Facts),
    quiescent_Kernel (hKernel := hKernel)
    ∧ quiescent_KernelIdeal (hKernelIdeal := hKernelIdeal)
    ∧ quiescent_KernelIdeal_pre_ids_in_table_KernelIdeal (hKernelIdeal := hKernelIdeal) (hPre_ids_in_table_KernelIdeal := hPre_ids_in_table_KernelIdeal)
    ∧ quiescent_ReferenceIdeal (hReferenceIdeal := hReferenceIdeal)
    ∧ quiescent_ReferenceIdeal_pre_ids_in_table_ReferenceIdeal (hReferenceIdeal := hReferenceIdeal) (hPre_ids_in_table_ReferenceIdeal := hPre_ids_in_table_ReferenceIdeal)
    ∧ preserves_Kernel_KernelIdeal
    ∧ algebraic_KernelIdeal_ReferenceIdeal_pre_ids_in_table_KernelIdeal (hKernelIdeal := hKernelIdeal) (hReferenceIdeal := hReferenceIdeal) (hPre_ids_in_table_KernelIdeal := hPre_ids_in_table_KernelIdeal)
-- ==== Pre_ids_in_table_KernelIdeal.lean ====
abbrev S512 : Shape := ⟨1, ![512]⟩
abbrev S4096x512 : Shape := ⟨2, ![4096, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S4096x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Pre_ids_in_table_ReferenceIdeal.lean ====
abbrev S512 : Shape := ⟨1, ![512]⟩
abbrev S8192x512 : Shape := ⟨2, ![8192, 512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : IVec S512 32) (main_arg1 : FVec F S8192x512 .f32) : IVec S512 1 :=
  let main_c : IVec S_ 32 := constantI S_ 32 0#32
  let main_v0 : IVec S512 32 := broadcastInDim S512 ![] bcast_S_S512 main_c
  let main_v1 : IVec S512 1 := cmpi .sge main_arg0 main_v0
  let main_c_0 : IVec S_ 32 := constantI S_ 32 8192#32
  let main_v2 : IVec S512 32 := broadcastInDim S512 ![] bcast_S_S512 main_c_0
  let main_v3 : IVec S512 1 := cmpi .slt main_arg0 main_v2
  let main_v4 : IVec S512 1 := andi main_v1 main_v3
  main_v4
-- ==== Kernel.lean ====
abbrev S512 : Shape := ⟨1, ![512]⟩
abbrev S4096x512 : Shape := ⟨2, ![4096, 512]⟩
abbrev S512x512 : Shape := ⟨2, ![512, 512]⟩
abbrev S128x512 : Shape := ⟨2, ![128, 512]⟩
abbrev S2x4x32x512 : Shape := ⟨4, ![2, 4, 32, 512]⟩
abbrev S4x32x512 : Shape := ⟨3, ![4, 32, 512]⟩
abbrev S4 : Shape := ⟨1, ![4]⟩
abbrev S_ : Shape := ⟨0, ![]⟩
abbrev S4x4 : Shape := ⟨2, ![4, 4]⟩
abbrev S1 : Shape := ⟨1, ![1]⟩
abbrev S1x512 : Shape := ⟨2, ![1, 512]⟩
abbrev S32x512 : Shape := ⟨2, ![32, 512]⟩
abbrev S1x1x32x512 : Shape := ⟨4, ![1, 1, 32, 512]⟩
abbrev S1x32x512 : Shape := ⟨3, ![1, 32, 512]⟩
abbrev S1x1 : Shape := ⟨2, ![1, 1]⟩

abbrev nBuf : Space → Nat
  | .hbm => 3
  | .vmem => 3
  | .smem => 1
  | _ => 0

abbrev bufTy : (tb : Table) → Fin (tcTables nBuf tb) → BufTy
  | .hbm, ⟨0, _⟩ => ⟨S512, .i32⟩
  | .hbm, ⟨1, _⟩ => ⟨S4096x512, .f32⟩
  | .hbm, ⟨2, _⟩ => ⟨S512x512, .bf16⟩
  | .local _ .vmem, ⟨0, _⟩ => ⟨S128x512, .f32⟩
  | .local _ .vmem, ⟨1, _⟩ => ⟨S2x4x32x512, .bf16⟩
  | .local _ .vmem, ⟨2, _⟩ => ⟨S4x32x512, .bf16⟩
  | .local _ .smem, ⟨0, _⟩ => ⟨S512, .i32⟩
  | _, _ => ⟨S512, .i32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v17 : BitVec 32 := Scalar.muli v2 c4_i32_10
  let v18 : BitVec 32 := Scalar.addi c0_i32 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v19 : BitVec 32 := Scalar.muli v5 c2_i32_11
  let v20 : BitVec 32 := Scalar.addi v18 v19
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_12 : BitVec 32 := 1#32
  let v21 : BitVec 32 := Scalar.muli v11 c1_i32_12
  let v22 : BitVec 32 := Scalar.addi v20 v21
  v22.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v23 : BitVec 32 := Scalar.muli v2 c4_i32_14
  let v24 : BitVec 32 := Scalar.addi c0_i32_15 v23
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_16 : BitVec 32 := 2#32
  let v25 : BitVec 32 := Scalar.muli v12 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_dev3 (d0 : Dev nD) : Nat :=
  let c0_i32_20 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_19 : BitVec 32 := 4#32
  let v29 : BitVec 32 := Scalar.muli v13 c4_i32_19
  let v30 : BitVec 32 := Scalar.addi c0_i32_20 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v31 : BitVec 32 := Scalar.muli v5 c2_i32_21
  let v32 : BitVec 32 := Scalar.addi v30 v31
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v33 : BitVec 32 := Scalar.muli v8 c1_i32_22
  let v34 : BitVec 32 := Scalar.addi v32 v33
  v34.toNat
def k0_dev4 (d0 : Dev nD) : Nat :=
  let c0_i32_25 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_24 : BitVec 32 := 4#32
  let v35 : BitVec 32 := Scalar.muli v14 c4_i32_24
  let v36 : BitVec 32 := Scalar.addi c0_i32_25 v35
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_26 : BitVec 32 := 2#32
  let v37 : BitVec 32 := Scalar.muli v15 c2_i32_26
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v39 : BitVec 32 := Scalar.muli v8 c1_i32_27
  let v40 : BitVec 32 := Scalar.addi v38 v39
  v40.toNat
def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32 : BitVec 32 := 128#32
  let v45 : BitVec 32 := Scalar.muli v10 c128_i32
  let c0_i32_29 : BitVec 32 := 0#32
  let v46 : BitVec 32 := Scalar.addi v45 c0_i32_29
  let v47 : Index := Scalar.indexCast v46
  ![v47.toNat]
def k0_off2 (d0 : Dev nD) (v48 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v49 : BitVec 32 := Scalar.muli v8 c4096_i32
  let v50 : BitVec 32 := Scalar.subi v48 v49
  let c0_i32_2121 : BitVec 32 := 0#32
  ![v50.toNat, 0]
def k0_cond1 (d0 : Dev nD) (v48 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v49 : BitVec 32 := Scalar.muli v8 c4096_i32
  let v50 : BitVec 32 := Scalar.subi v48 v49
  let c0_i32_30 : BitVec 32 := 0#32
  let v51 : BitVec 1 := Scalar.cmpi .sge v50 c0_i32_30
  let c4096_i32_31 : BitVec 32 := 4096#32
  let v52 : BitVec 1 := Scalar.cmpi .slt v50 c4096_i32_31
  let v53 : BitVec 1 := Scalar.andi v51 v52
  let v54 : BitVec 32 := Scalar.extui v53
  let c0_i32_32 : BitVec 32 := 0#32
  let v55 : BitVec 1 := Scalar.cmpi .ne v54 c0_i32_32
  v55

def k0_chk1 (d0 : Dev nD) (v48 : BitVec 32) : Prop :=
  (∀ (k0_h1 : k0_cond1 d0 v48 = 1#1), ∀ a, (k0_off2 d0 v48) a + S1x512.size a ≤ S4096x512.size a)
theorem k0_off2_inb : ∀ (d0 : Dev nD) (v48 : BitVec 32) (k0_hw1 : k0_chk1 d0 v48), ∀ (k0_h1 : k0_cond1 d0 v48 = 1#1), ∀ a, (k0_off2 d0 v48) a + S1x512.size a ≤ S4096x512.size a := fun d0 v48 k0_hw1 k0_h1 => k0_hw1 k0_h1

def k0_off3 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_33 : BitVec 32 := 128#32
  let v56 : BitVec 32 := Scalar.muli v10 c128_i32_33
  let c1_i32_34 : BitVec 32 := 1#32
  let v57 : BitVec 32 := Scalar.addi v56 c1_i32_34
  let v58 : Index := Scalar.indexCast v57
  ![v58.toNat]
def k0_off4 (d0 : Dev nD) (v59 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_35 : BitVec 32 := 4096#32
  let v60 : BitVec 32 := Scalar.muli v8 c4096_i32_35
  let v61 : BitVec 32 := Scalar.subi v59 v60
  let c0_i32_2121 : BitVec 32 := 0#32
  ![v61.toNat, 0]
def k0_cond2 (d0 : Dev nD) (v59 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_35 : BitVec 32 := 4096#32
  let v60 : BitVec 32 := Scalar.muli v8 c4096_i32_35
  let v61 : BitVec 32 := Scalar.subi v59 v60
  let c0_i32_36 : BitVec 32 := 0#32
  let v62 : BitVec 1 := Scalar.cmpi .sge v61 c0_i32_36
  let c4096_i32_37 : BitVec 32 := 4096#32
  let v63 : BitVec 1 := Scalar.cmpi .slt v61 c4096_i32_37
  let v64 : BitVec 1 := Scalar.andi v62 v63
  let v65 : BitVec 32 := Scalar.extui v64
  let c0_i32_38 : BitVec 32 := 0#32
  let v66 : BitVec 1 := Scalar.cmpi .ne v65 c0_i32_38
  v66

def k0_chk2 (d0 : Dev nD) (v59 : BitVec 32) : Prop :=
  (∀ (k0_h2 : k0_cond2 d0 v59 = 1#1), ∀ a, (k0_off4 d0 v59) a + S1x512.size a ≤ S4096x512.size a)
theorem k0_off4_inb : ∀ (d0 : Dev nD) (v59 : BitVec 32) (k0_hw2 : k0_chk2 d0 v59), ∀ (k0_h2 : k0_cond2 d0 v59 = 1#1), ∀ a, (k0_off4 d0 v59) a + S1x512.size a ≤ S4096x512.size a := fun d0 v59 k0_hw2 k0_h2 => k0_hw2 k0_h2

def k0_off5 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_39 : BitVec 32 := 128#32
  let v67 : BitVec 32 := Scalar.muli v10 c128_i32_39
  let c2_i32_40 : BitVec 32 := 2#32
  let v68 : BitVec 32 := Scalar.addi v67 c2_i32_40
  let v69 : Index := Scalar.indexCast v68
  ![v69.toNat]
def k0_off6 (d0 : Dev nD) (v70 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_41 : BitVec 32 := 4096#32
  let v71 : BitVec 32 := Scalar.muli v8 c4096_i32_41
  let v72 : BitVec 32 := Scalar.subi v70 v71
  let c0_i32_2121 : BitVec 32 := 0#32
  ![v72.toNat, 0]
def k0_cond3 (d0 : Dev nD) (v70 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_41 : BitVec 32 := 4096#32
  let v71 : BitVec 32 := Scalar.muli v8 c4096_i32_41
  let v72 : BitVec 32 := Scalar.subi v70 v71
  let c0_i32_42 : BitVec 32 := 0#32
  let v73 : BitVec 1 := Scalar.cmpi .sge v72 c0_i32_42
  let c4096_i32_43 : BitVec 32 := 4096#32
  let v74 : BitVec 1 := Scalar.cmpi .slt v72 c4096_i32_43
  let v75 : BitVec 1 := Scalar.andi v73 v74
  let v76 : BitVec 32 := Scalar.extui v75
  let c0_i32_44 : BitVec 32 := 0#32
  let v77 : BitVec 1 := Scalar.cmpi .ne v76 c0_i32_44
  v77

def k0_chk3 (d0 : Dev nD) (v70 : BitVec 32) : Prop :=
  (∀ (k0_h3 : k0_cond3 d0 v70 = 1#1), ∀ a, (k0_off6 d0 v70) a + S1x512.size a ≤ S4096x512.size a)
theorem k0_off6_inb : ∀ (d0 : Dev nD) (v70 : BitVec 32) (k0_hw3 : k0_chk3 d0 v70), ∀ (k0_h3 : k0_cond3 d0 v70 = 1#1), ∀ a, (k0_off6 d0 v70) a + S1x512.size a ≤ S4096x512.size a := fun d0 v70 k0_hw3 k0_h3 => k0_hw3 k0_h3

def k0_off7 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_45 : BitVec 32 := 128#32
  let v78 : BitVec 32 := Scalar.muli v10 c128_i32_45
  let c3_i32 : BitVec 32 := 3#32
  let v79 : BitVec 32 := Scalar.addi v78 c3_i32
  let v80 : Index := Scalar.indexCast v79
  ![v80.toNat]
def k0_off8 (d0 : Dev nD) (v81 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_46 : BitVec 32 := 4096#32
  let v82 : BitVec 32 := Scalar.muli v8 c4096_i32_46
  let v83 : BitVec 32 := Scalar.subi v81 v82
  let c0_i32_2121 : BitVec 32 := 0#32
  ![v83.toNat, 0]
def k0_cond4 (d0 : Dev nD) (v81 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_46 : BitVec 32 := 4096#32
  let v82 : BitVec 32 := Scalar.muli v8 c4096_i32_46
  let v83 : BitVec 32 := Scalar.subi v81 v82
  let c0_i32_47 : BitVec 32 := 0#32
  let v84 : BitVec 1 := Scalar.cmpi .sge v83 c0_i32_47
  let c4096_i32_48 : BitVec 32 := 4096#32
  let v85 : BitVec 1 := Scalar.cmpi .slt v83 c4096_i32_48
  let v86 : BitVec 1 := Scalar.andi v84 v85
  let v87 : BitVec 32 := Scalar.extui v86
  let c0_i32_49 : BitVec 32 := 0#32
  let v88 : BitVec 1 := Scalar.cmpi .ne v87 c0_i32_49
  v88

def k0_chk4 (d0 : Dev nD) (v81 : BitVec 32) : Prop :=
  (∀ (k0_h4 : k0_cond4 d0 v81 = 1#1), ∀ a, (k0_off8 d0 v81) a + S1x512.size a ≤ S4096x512.size a)
theorem k0_off8_inb : ∀ (d0 : Dev nD) (v81 : BitVec 32) (k0_hw4 : k0_chk4 d0 v81), ∀ (k0_h4 : k0_cond4 d0 v81 = 1#1), ∀ a, (k0_off8 d0 v81) a + S1x512.size a ≤ S4096x512.size a := fun d0 v81 k0_hw4 k0_h4 => k0_hw4 k0_h4

def k0_off9 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_50 : BitVec 32 := 128#32
  let v89 : BitVec 32 := Scalar.muli v10 c128_i32_50
  let c4_i32_51 : BitVec 32 := 4#32
  let v90 : BitVec 32 := Scalar.addi v89 c4_i32_51
  let v91 : Index := Scalar.indexCast v90
  ![v91.toNat]
def k0_off10 (d0 : Dev nD) (v92 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_52 : BitVec 32 := 4096#32
  let v93 : BitVec 32 := Scalar.muli v8 c4096_i32_52
  let v94 : BitVec 32 := Scalar.subi v92 v93
  let c0_i32_2121 : BitVec 32 := 0#32
  ![v94.toNat, 0]
def k0_cond5 (d0 : Dev nD) (v92 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_52 : BitVec 32 := 4096#32
  let v93 : BitVec 32 := Scalar.muli v8 c4096_i32_52
  let v94 : BitVec 32 := Scalar.subi v92 v93
  let c0_i32_53 : BitVec 32 := 0#32
  let v95 : BitVec 1 := Scalar.cmpi .sge v94 c0_i32_53
  let c4096_i32_54 : BitVec 32 := 4096#32
  let v96 : BitVec 1 := Scalar.cmpi .slt v94 c4096_i32_54
  let v97 : BitVec 1 := Scalar.andi v95 v96
  let v98 : BitVec 32 := Scalar.extui v97
  let c0_i32_55 : BitVec 32 := 0#32
  let v99 : BitVec 1 := Scalar.cmpi .ne v98 c0_i32_55
  v99

def k0_chk5 (d0 : Dev nD) (v92 : BitVec 32) : Prop :=
  (∀ (k0_h5 : k0_cond5 d0 v92 = 1#1), ∀ a, (k0_off10 d0 v92) a + S1x512.size a ≤ S4096x512.size a)
theorem k0_off10_inb : ∀ (d0 : Dev nD) (v92 : BitVec 32) (k0_hw5 : k0_chk5 d0 v92), ∀ (k0_h5 : k0_cond5 d0 v92 = 1#1), ∀ a, (k0_off10 d0 v92) a + S1x512.size a ≤ S4096x512.size a := fun d0 v92 k0_hw5 k0_h5 => k0_hw5 k0_h5

def k0_off11 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_56 : BitVec 32 := 128#32
  let v100 : BitVec 32 := Scalar.muli v10 c128_i32_56
  let c5_i32 : BitVec 32 := 5#32
  let v101 : BitVec 32 := Scalar.addi v100 c5_i32
  let v102 : Index := Scalar.indexCast v101
  ![v102.toNat]
def k0_off12 (d0 : Dev nD) (v103 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_57 : BitVec 32 := 4096#32
  let v104 : BitVec 32 := Scalar.muli v8 c4096_i32_57
  let v105 : BitVec 32 := Scalar.subi v103 v104
  let c0_i32_2121 : BitVec 32 := 0#32
  ![v105.toNat, 0]
def k0_cond6 (d0 : Dev nD) (v103 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_57 : BitVec 32 := 4096#32
  let v104 : BitVec 32 := Scalar.muli v8 c4096_i32_57
  let v105 : BitVec 32 := Scalar.subi v103 v104
  let c0_i32_58 : BitVec 32 := 0#32
  let v106 : BitVec 1 := Scalar.cmpi .sge v105 c0_i32_58
  let c4096_i32_59 : BitVec 32 := 4096#32
  let v107 : BitVec 1 := Scalar.cmpi .slt v105 c4096_i32_59
  let v108 : BitVec 1 := Scalar.andi v106 v107
  let v109 : BitVec 32 := Scalar.extui v108
  let c0_i32_60 : BitVec 32 := 0#32
  let v110 : BitVec 1 := Scalar.cmpi .ne v109 c0_i32_60
  v110

def k0_chk6 (d0 : Dev nD) (v103 : BitVec 32) : Prop :=
  (∀ (k0_h6 : k0_cond6 d0 v103 = 1#1), ∀ a, (k0_off12 d0 v103) a + S1x512.size a ≤ S4096x512.size a)
theorem k0_off12_inb : ∀ (d0 : Dev nD) (v103 : BitVec 32) (k0_hw6 : k0_chk6 d0 v103), ∀ (k0_h6 : k0_cond6 d0 v103 = 1#1), ∀ a, (k0_off12 d0 v103) a + S1x512.size a ≤ S4096x512.size a := fun d0 v103 k0_hw6 k0_h6 => k0_hw6 k0_h6

def k0_off13 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_61 : BitVec 32 := 128#32
  let v111 : BitVec 32 := Scalar.muli v10 c128_i32_61
  let c6_i32 : BitVec 32 := 6#32
  let v112 : BitVec 32 := Scalar.addi v111 c6_i32
  let v113 : Index := Scalar.indexCast v112
  ![v113.toNat]
def k0_off14 (d0 : Dev nD) (v114 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_62 : BitVec 32 := 4096#32
  let v115 : BitVec 32 := Scalar.muli v8 c4096_i32_62
  let v116 : BitVec 32 := Scalar.subi v114 v115
  let c0_i32_2121 : BitVec 32 := 0#32
  ![v116.toNat, 0]
def k0_cond7 (d0 : Dev nD) (v114 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_62 : BitVec 32 := 4096#32
  let v115 : BitVec 32 := Scalar.muli v8 c4096_i32_62
  let v116 : BitVec 32 := Scalar.subi v114 v115
  let c0_i32_63 : BitVec 32 := 0#32
  let v117 : BitVec 1 := Scalar.cmpi .sge v116 c0_i32_63
  let c4096_i32_64 : BitVec 32 := 4096#32
  let v118 : BitVec 1 := Scalar.cmpi .slt v116 c4096_i32_64
  let v119 : BitVec 1 := Scalar.andi v117 v118
  let v120 : BitVec 32 := Scalar.extui v119
  let c0_i32_65 : BitVec 32 := 0#32
  let v121 : BitVec 1 := Scalar.cmpi .ne v120 c0_i32_65
  v121

def k0_chk7 (d0 : Dev nD) (v114 : BitVec 32) : Prop :=
  (∀ (k0_h7 : k0_cond7 d0 v114 = 1#1), ∀ a, (k0_off14 d0 v114) a + S1x512.size a ≤ S4096x512.size a)
theorem k0_off14_inb : ∀ (d0 : Dev nD) (v114 : BitVec 32) (k0_hw7 : k0_chk7 d0 v114), ∀ (k0_h7 : k0_cond7 d0 v114 = 1#1), ∀ a, (k0_off14 d0 v114) a + S1x512.size a ≤ S4096x512.size a := fun d0 v114 k0_hw7 k0_h7 => k0_hw7 k0_h7

def k0_off15 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_66 : BitVec 32 := 128#32
  let v122 : BitVec 32 := Scalar.muli v10 c128_i32_66
  let c7_i32 : BitVec 32 := 7#32
  let v123 : BitVec 32 := Scalar.addi v122 c7_i32
  let v124 : Index := Scalar.indexCast v123
  ![v124.toNat]
def k0_off16 (d0 : Dev nD) (v125 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_67 : BitVec 32 := 4096#32
  let v126 : BitVec 32 := Scalar.muli v8 c4096_i32_67
  let v127 : BitVec 32 := Scalar.subi v125 v126
  let c0_i32_2121 : BitVec 32 := 0#32
  ![v127.toNat, 0]
def k0_cond8 (d0 : Dev nD) (v125 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_67 : BitVec 32 := 4096#32
  let v126 : BitVec 32 := Scalar.muli v8 c4096_i32_67
  let v127 : BitVec 32 := Scalar.subi v125 v126
  let c0_i32_68 : BitVec 32 := 0#32
  let v128 : BitVec 1 := Scalar.cmpi .sge v127 c0_i32_68
  let c4096_i32_69 : BitVec 32 := 4096#32
  let v129 : BitVec 1 := Scalar.cmpi .slt v127 c4096_i32_69
  let v130 : BitVec 1 := Scalar.andi v128 v129
  let v131 : BitVec 32 := Scalar.extui v130
  let c0_i32_70 : BitVec 32 := 0#32
  let v132 : BitVec 1 := Scalar.cmpi .ne v131 c0_i32_70
  v132

def k0_chk8 (d0 : Dev nD) (v125 : BitVec 32) : Prop :=
  (∀ (k0_h8 : k0_cond8 d0 v125 = 1#1), ∀ a, (k0_off16 d0 v125) a + S1x512.size a ≤ S4096x512.size a)
theorem k0_off16_inb : ∀ (d0 : Dev nD) (v125 : BitVec 32) (k0_hw8 : k0_chk8 d0 v125), ∀ (k0_h8 : k0_cond8 d0 v125 = 1#1), ∀ a, (k0_off16 d0 v125) a + S1x512.size a ≤ S4096x512.size a := fun d0 v125 k0_hw8 k0_h8 => k0_hw8 k0_h8

def k0_off17 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_71 : BitVec 32 := 128#32
  let v133 : BitVec 32 := Scalar.muli v10 c128_i32_71
  let c8_i32 : BitVec 32 := 8#32
  let v134 : BitVec 32 := Scalar.addi v133 c8_i32
  let v135 : Index := Scalar.indexCast v134
  ![v135.toNat]
def k0_off18 (d0 : Dev nD) (v136 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_72 : BitVec 32 := 4096#32
  let v137 : BitVec 32 := Scalar.muli v8 c4096_i32_72
  let v138 : BitVec 32 := Scalar.subi v136 v137
  let c0_i32_2121 : BitVec 32 := 0#32
  ![v138.toNat, 0]
def k0_cond9 (d0 : Dev nD) (v136 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_72 : BitVec 32 := 4096#32
  let v137 : BitVec 32 := Scalar.muli v8 c4096_i32_72
  let v138 : BitVec 32 := Scalar.subi v136 v137
  let c0_i32_73 : BitVec 32 := 0#32
  let v139 : BitVec 1 := Scalar.cmpi .sge v138 c0_i32_73
  let c4096_i32_74 : BitVec 32 := 4096#32
  let v140 : BitVec 1 := Scalar.cmpi .slt v138 c4096_i32_74
  let v141 : BitVec 1 := Scalar.andi v139 v140
  let v142 : BitVec 32 := Scalar.extui v141
  let c0_i32_75 : BitVec 32 := 0#32
  let v143 : BitVec 1 := Scalar.cmpi .ne v142 c0_i32_75
  v143

def k0_chk9 (d0 : Dev nD) (v136 : BitVec 32) : Prop :=
  (∀ (k0_h9 : k0_cond9 d0 v136 = 1#1), ∀ a, (k0_off18 d0 v136) a + S1x512.size a ≤ S4096x512.size a)
theorem k0_off18_inb : ∀ (d0 : Dev nD) (v136 : BitVec 32) (k0_hw9 : k0_chk9 d0 v136), ∀ (k0_h9 : k0_cond9 d0 v136 = 1#1), ∀ a, (k0_off18 d0 v136) a + S1x512.size a ≤ S4096x512.size a := fun d0 v136 k0_hw9 k0_h9 => k0_hw9 k0_h9

def k0_off19 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_76 : BitVec 32 := 128#32
  let v144 : BitVec 32 := Scalar.muli v10 c128_i32_76
  let c9_i32 : BitVec 32 := 9#32
  let v145 : BitVec 32 := Scalar.addi v144 c9_i32
  let v146 : Index := Scalar.indexCast v145
  ![v146.toNat]
def k0_off20 (d0 : Dev nD) (v147 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_77 : BitVec 32 := 4096#32
  let v148 : BitVec 32 := Scalar.muli v8 c4096_i32_77
  let v149 : BitVec 32 := Scalar.subi v147 v148
  let c0_i32_2121 : BitVec 32 := 0#32
  ![v149.toNat, 0]
def k0_cond10 (d0 : Dev nD) (v147 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_77 : BitVec 32 := 4096#32
  let v148 : BitVec 32 := Scalar.muli v8 c4096_i32_77
  let v149 : BitVec 32 := Scalar.subi v147 v148
  let c0_i32_78 : BitVec 32 := 0#32
  let v150 : BitVec 1 := Scalar.cmpi .sge v149 c0_i32_78
  let c4096_i32_79 : BitVec 32 := 4096#32
  let v151 : BitVec 1 := Scalar.cmpi .slt v149 c4096_i32_79
  let v152 : BitVec 1 := Scalar.andi v150 v151
  let v153 : BitVec 32 := Scalar.extui v152
  let c0_i32_80 : BitVec 32 := 0#32
  let v154 : BitVec 1 := Scalar.cmpi .ne v153 c0_i32_80
  v154

def k0_chk10 (d0 : Dev nD) (v147 : BitVec 32) : Prop :=
  (∀ (k0_h10 : k0_cond10 d0 v147 = 1#1), ∀ a, (k0_off20 d0 v147) a + S1x512.size a ≤ S4096x512.size a)
theorem k0_off20_inb : ∀ (d0 : Dev nD) (v147 : BitVec 32) (k0_hw10 : k0_chk10 d0 v147), ∀ (k0_h10 : k0_cond10 d0 v147 = 1#1), ∀ a, (k0_off20 d0 v147) a + S1x512.size a ≤ S4096x512.size a := fun d0 v147 k0_hw10 k0_h10 => k0_hw10 k0_h10

def k0_off21 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_81 : BitVec 32 := 128#32
  let v155 : BitVec 32 := Scalar.muli v10 c128_i32_81
  let c10_i32 : BitVec 32 := 10#32
  let v156 : BitVec 32 := Scalar.addi v155 c10_i32
  let v157 : Index := Scalar.indexCast v156
  ![v157.toNat]
def k0_off22 (d0 : Dev nD) (v158 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_82 : BitVec 32 := 4096#32
  let v159 : BitVec 32 := Scalar.muli v8 c4096_i32_82
  let v160 : BitVec 32 := Scalar.subi v158 v159
  let c0_i32_2121 : BitVec 32 := 0#32
  ![v160.toNat, 0]
def k0_cond11 (d0 : Dev nD) (v158 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_82 : BitVec 32 := 4096#32
  let v159 : BitVec 32 := Scalar.muli v8 c4096_i32_82
  let v160 : BitVec 32 := Scalar.subi v158 v159
  let c0_i32_83 : BitVec 32 := 0#32
  let v161 : BitVec 1 := Scalar.cmpi .sge v160 c0_i32_83
  let c4096_i32_84 : BitVec 32 := 4096#32
  let v162 : BitVec 1 := Scalar.cmpi .slt v160 c4096_i32_84
  let v163 : BitVec 1 := Scalar.andi v161 v162
  let v164 : BitVec 32 := Scalar.extui v163
  let c0_i32_85 : BitVec 32 := 0#32
  let v165 : BitVec 1 := Scalar.cmpi .ne v164 c0_i32_85
  v165

def k0_chk11 (d0 : Dev nD) (v158 : BitVec 32) : Prop :=
  (∀ (k0_h11 : k0_cond11 d0 v158 = 1#1), ∀ a, (k0_off22 d0 v158) a + S1x512.size a ≤ S4096x512.size a)
theorem k0_off22_inb : ∀ (d0 : Dev nD) (v158 : BitVec 32) (k0_hw11 : k0_chk11 d0 v158), ∀ (k0_h11 : k0_cond11 d0 v158 = 1#1), ∀ a, (k0_off22 d0 v158) a + S1x512.size a ≤ S4096x512.size a := fun d0 v158 k0_hw11 k0_h11 => k0_hw11 k0_h11

def k0_off23 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_86 : BitVec 32 := 128#32
  let v166 : BitVec 32 := Scalar.muli v10 c128_i32_86
  let c11_i32 : BitVec 32 := 11#32
  let v167 : BitVec 32 := Scalar.addi v166 c11_i32
  let v168 : Index := Scalar.indexCast v167
  ![v168.toNat]
def k0_off24 (d0 : Dev nD) (v169 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_87 : BitVec 32 := 4096#32
  let v170 : BitVec 32 := Scalar.muli v8 c4096_i32_87
  let v171 : BitVec 32 := Scalar.subi v169 v170
  let c0_i32_2121 : BitVec 32 := 0#32
  ![v171.toNat, 0]
def k0_cond12 (d0 : Dev nD) (v169 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_87 : BitVec 32 := 4096#32
  let v170 : BitVec 32 := Scalar.muli v8 c4096_i32_87
  let v171 : BitVec 32 := Scalar.subi v169 v170
  let c0_i32_88 : BitVec 32 := 0#32
  let v172 : BitVec 1 := Scalar.cmpi .sge v171 c0_i32_88
  let c4096_i32_89 : BitVec 32 := 4096#32
  let v173 : BitVec 1 := Scalar.cmpi .slt v171 c4096_i32_89
  let v174 : BitVec 1 := Scalar.andi v172 v173
  let v175 : BitVec 32 := Scalar.extui v174
  let c0_i32_90 : BitVec 32 := 0#32
  let v176 : BitVec 1 := Scalar.cmpi .ne v175 c0_i32_90
  v176

def k0_chk12 (d0 : Dev nD) (v169 : BitVec 32) : Prop :=
  (∀ (k0_h12 : k0_cond12 d0 v169 = 1#1), ∀ a, (k0_off24 d0 v169) a + S1x512.size a ≤ S4096x512.size a)
theorem k0_off24_inb : ∀ (d0 : Dev nD) (v169 : BitVec 32) (k0_hw12 : k0_chk12 d0 v169), ∀ (k0_h12 : k0_cond12 d0 v169 = 1#1), ∀ a, (k0_off24 d0 v169) a + S1x512.size a ≤ S4096x512.size a := fun d0 v169 k0_hw12 k0_h12 => k0_hw12 k0_h12

def k0_off25 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_91 : BitVec 32 := 128#32
  let v177 : BitVec 32 := Scalar.muli v10 c128_i32_91
  let c12_i32 : BitVec 32 := 12#32
  let v178 : BitVec 32 := Scalar.addi v177 c12_i32
  let v179 : Index := Scalar.indexCast v178
  ![v179.toNat]
def k0_off26 (d0 : Dev nD) (v180 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_92 : BitVec 32 := 4096#32
  let v181 : BitVec 32 := Scalar.muli v8 c4096_i32_92
  let v182 : BitVec 32 := Scalar.subi v180 v181
  let c0_i32_2121 : BitVec 32 := 0#32
  ![v182.toNat, 0]
def k0_cond13 (d0 : Dev nD) (v180 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_92 : BitVec 32 := 4096#32
  let v181 : BitVec 32 := Scalar.muli v8 c4096_i32_92
  let v182 : BitVec 32 := Scalar.subi v180 v181
  let c0_i32_93 : BitVec 32 := 0#32
  let v183 : BitVec 1 := Scalar.cmpi .sge v182 c0_i32_93
  let c4096_i32_94 : BitVec 32 := 4096#32
  let v184 : BitVec 1 := Scalar.cmpi .slt v182 c4096_i32_94
  let v185 : BitVec 1 := Scalar.andi v183 v184
  let v186 : BitVec 32 := Scalar.extui v185
  let c0_i32_95 : BitVec 32 := 0#32
  let v187 : BitVec 1 := Scalar.cmpi .ne v186 c0_i32_95
  v187

def k0_chk13 (d0 : Dev nD) (v180 : BitVec 32) : Prop :=
  (∀ (k0_h13 : k0_cond13 d0 v180 = 1#1), ∀ a, (k0_off26 d0 v180) a + S1x512.size a ≤ S4096x512.size a)
theorem k0_off26_inb : ∀ (d0 : Dev nD) (v180 : BitVec 32) (k0_hw13 : k0_chk13 d0 v180), ∀ (k0_h13 : k0_cond13 d0 v180 = 1#1), ∀ a, (k0_off26 d0 v180) a + S1x512.size a ≤ S4096x512.size a := fun d0 v180 k0_hw13 k0_h13 => k0_hw13 k0_h13

def k0_off27 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_96 : BitVec 32 := 128#32
  let v188 : BitVec 32 := Scalar.muli v10 c128_i32_96
  let c13_i32 : BitVec 32 := 13#32
  let v189 : BitVec 32 := Scalar.addi v188 c13_i32
  let v190 : Index := Scalar.indexCast v189
  ![v190.toNat]
def k0_off28 (d0 : Dev nD) (v191 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_97 : BitVec 32 := 4096#32
  let v192 : BitVec 32 := Scalar.muli v8 c4096_i32_97
  let v193 : BitVec 32 := Scalar.subi v191 v192
  let c0_i32_2121 : BitVec 32 := 0#32
  ![v193.toNat, 0]
def k0_cond14 (d0 : Dev nD) (v191 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_97 : BitVec 32 := 4096#32
  let v192 : BitVec 32 := Scalar.muli v8 c4096_i32_97
  let v193 : BitVec 32 := Scalar.subi v191 v192
  let c0_i32_98 : BitVec 32 := 0#32
  let v194 : BitVec 1 := Scalar.cmpi .sge v193 c0_i32_98
  let c4096_i32_99 : BitVec 32 := 4096#32
  let v195 : BitVec 1 := Scalar.cmpi .slt v193 c4096_i32_99
  let v196 : BitVec 1 := Scalar.andi v194 v195
  let v197 : BitVec 32 := Scalar.extui v196
  let c0_i32_100 : BitVec 32 := 0#32
  let v198 : BitVec 1 := Scalar.cmpi .ne v197 c0_i32_100
  v198

def k0_chk14 (d0 : Dev nD) (v191 : BitVec 32) : Prop :=
  (∀ (k0_h14 : k0_cond14 d0 v191 = 1#1), ∀ a, (k0_off28 d0 v191) a + S1x512.size a ≤ S4096x512.size a)
theorem k0_off28_inb : ∀ (d0 : Dev nD) (v191 : BitVec 32) (k0_hw14 : k0_chk14 d0 v191), ∀ (k0_h14 : k0_cond14 d0 v191 = 1#1), ∀ a, (k0_off28 d0 v191) a + S1x512.size a ≤ S4096x512.size a := fun d0 v191 k0_hw14 k0_h14 => k0_hw14 k0_h14

def k0_off29 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_101 : BitVec 32 := 128#32
  let v199 : BitVec 32 := Scalar.muli v10 c128_i32_101
  let c14_i32 : BitVec 32 := 14#32
  let v200 : BitVec 32 := Scalar.addi v199 c14_i32
  let v201 : Index := Scalar.indexCast v200
  ![v201.toNat]
def k0_off30 (d0 : Dev nD) (v202 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_102 : BitVec 32 := 4096#32
  let v203 : BitVec 32 := Scalar.muli v8 c4096_i32_102
  let v204 : BitVec 32 := Scalar.subi v202 v203
  let c0_i32_2121 : BitVec 32 := 0#32
  ![v204.toNat, 0]
def k0_cond15 (d0 : Dev nD) (v202 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_102 : BitVec 32 := 4096#32
  let v203 : BitVec 32 := Scalar.muli v8 c4096_i32_102
  let v204 : BitVec 32 := Scalar.subi v202 v203
  let c0_i32_103 : BitVec 32 := 0#32
  let v205 : BitVec 1 := Scalar.cmpi .sge v204 c0_i32_103
  let c4096_i32_104 : BitVec 32 := 4096#32
  let v206 : BitVec 1 := Scalar.cmpi .slt v204 c4096_i32_104
  let v207 : BitVec 1 := Scalar.andi v205 v206
  let v208 : BitVec 32 := Scalar.extui v207
  let c0_i32_105 : BitVec 32 := 0#32
  let v209 : BitVec 1 := Scalar.cmpi .ne v208 c0_i32_105
  v209

def k0_chk15 (d0 : Dev nD) (v202 : BitVec 32) : Prop :=
  (∀ (k0_h15 : k0_cond15 d0 v202 = 1#1), ∀ a, (k0_off30 d0 v202) a + S1x512.size a ≤ S4096x512.size a)
theorem k0_off30_inb : ∀ (d0 : Dev nD) (v202 : BitVec 32) (k0_hw15 : k0_chk15 d0 v202), ∀ (k0_h15 : k0_cond15 d0 v202 = 1#1), ∀ a, (k0_off30 d0 v202) a + S1x512.size a ≤ S4096x512.size a := fun d0 v202 k0_hw15 k0_h15 => k0_hw15 k0_h15

def k0_off31 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_106 : BitVec 32 := 128#32
  let v210 : BitVec 32 := Scalar.muli v10 c128_i32_106
  let c15_i32 : BitVec 32 := 15#32
  let v211 : BitVec 32 := Scalar.addi v210 c15_i32
  let v212 : Index := Scalar.indexCast v211
  ![v212.toNat]
def k0_off32 (d0 : Dev nD) (v213 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_107 : BitVec 32 := 4096#32
  let v214 : BitVec 32 := Scalar.muli v8 c4096_i32_107
  let v215 : BitVec 32 := Scalar.subi v213 v214
  let c0_i32_2121 : BitVec 32 := 0#32
  ![v215.toNat, 0]
def k0_cond16 (d0 : Dev nD) (v213 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_107 : BitVec 32 := 4096#32
  let v214 : BitVec 32 := Scalar.muli v8 c4096_i32_107
  let v215 : BitVec 32 := Scalar.subi v213 v214
  let c0_i32_108 : BitVec 32 := 0#32
  let v216 : BitVec 1 := Scalar.cmpi .sge v215 c0_i32_108
  let c4096_i32_109 : BitVec 32 := 4096#32
  let v217 : BitVec 1 := Scalar.cmpi .slt v215 c4096_i32_109
  let v218 : BitVec 1 := Scalar.andi v216 v217
  let v219 : BitVec 32 := Scalar.extui v218
  let c0_i32_110 : BitVec 32 := 0#32
  let v220 : BitVec 1 := Scalar.cmpi .ne v219 c0_i32_110
  v220

def k0_chk16 (d0 : Dev nD) (v213 : BitVec 32) : Prop :=
  (∀ (k0_h16 : k0_cond16 d0 v213 = 1#1), ∀ a, (k0_off32 d0 v213) a + S1x512.size a ≤ S4096x512.size a)
theorem k0_off32_inb : ∀ (d0 : Dev nD) (v213 : BitVec 32) (k0_hw16 : k0_chk16 d0 v213), ∀ (k0_h16 : k0_cond16 d0 v213 = 1#1), ∀ a, (k0_off32 d0 v213) a + S1x512.size a ≤ S4096x512.size a := fun d0 v213 k0_hw16 k0_h16 => k0_hw16 k0_h16

def k0_off33 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_111 : BitVec 32 := 128#32
  let v221 : BitVec 32 := Scalar.muli v10 c128_i32_111
  let c16_i32 : BitVec 32 := 16#32
  let v222 : BitVec 32 := Scalar.addi v221 c16_i32
  let v223 : Index := Scalar.indexCast v222
  ![v223.toNat]
def k0_off34 (d0 : Dev nD) (v224 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_112 : BitVec 32 := 4096#32
  let v225 : BitVec 32 := Scalar.muli v8 c4096_i32_112
  let v226 : BitVec 32 := Scalar.subi v224 v225
  let c0_i32_2121 : BitVec 32 := 0#32
  ![v226.toNat, 0]
def k0_cond17 (d0 : Dev nD) (v224 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_112 : BitVec 32 := 4096#32
  let v225 : BitVec 32 := Scalar.muli v8 c4096_i32_112
  let v226 : BitVec 32 := Scalar.subi v224 v225
  let c0_i32_113 : BitVec 32 := 0#32
  let v227 : BitVec 1 := Scalar.cmpi .sge v226 c0_i32_113
  let c4096_i32_114 : BitVec 32 := 4096#32
  let v228 : BitVec 1 := Scalar.cmpi .slt v226 c4096_i32_114
  let v229 : BitVec 1 := Scalar.andi v227 v228
  let v230 : BitVec 32 := Scalar.extui v229
  let c0_i32_115 : BitVec 32 := 0#32
  let v231 : BitVec 1 := Scalar.cmpi .ne v230 c0_i32_115
  v231

def k0_chk17 (d0 : Dev nD) (v224 : BitVec 32) : Prop :=
  (∀ (k0_h17 : k0_cond17 d0 v224 = 1#1), ∀ a, (k0_off34 d0 v224) a + S1x512.size a ≤ S4096x512.size a)
theorem k0_off34_inb : ∀ (d0 : Dev nD) (v224 : BitVec 32) (k0_hw17 : k0_chk17 d0 v224), ∀ (k0_h17 : k0_cond17 d0 v224 = 1#1), ∀ a, (k0_off34 d0 v224) a + S1x512.size a ≤ S4096x512.size a := fun d0 v224 k0_hw17 k0_h17 => k0_hw17 k0_h17

def k0_off35 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_116 : BitVec 32 := 128#32
  let v232 : BitVec 32 := Scalar.muli v10 c128_i32_116
  let c17_i32 : BitVec 32 := 17#32
  let v233 : BitVec 32 := Scalar.addi v232 c17_i32
  let v234 : Index := Scalar.indexCast v233
  ![v234.toNat]
def k0_off36 (d0 : Dev nD) (v235 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_117 : BitVec 32 := 4096#32
  let v236 : BitVec 32 := Scalar.muli v8 c4096_i32_117
  let v237 : BitVec 32 := Scalar.subi v235 v236
  let c0_i32_2121 : BitVec 32 := 0#32
  ![v237.toNat, 0]
def k0_cond18 (d0 : Dev nD) (v235 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_117 : BitVec 32 := 4096#32
  let v236 : BitVec 32 := Scalar.muli v8 c4096_i32_117
  let v237 : BitVec 32 := Scalar.subi v235 v236
  let c0_i32_118 : BitVec 32 := 0#32
  let v238 : BitVec 1 := Scalar.cmpi .sge v237 c0_i32_118
  let c4096_i32_119 : BitVec 32 := 4096#32
  let v239 : BitVec 1 := Scalar.cmpi .slt v237 c4096_i32_119
  let v240 : BitVec 1 := Scalar.andi v238 v239
  let v241 : BitVec 32 := Scalar.extui v240
  let c0_i32_120 : BitVec 32 := 0#32
  let v242 : BitVec 1 := Scalar.cmpi .ne v241 c0_i32_120
  v242

def k0_chk18 (d0 : Dev nD) (v235 : BitVec 32) : Prop :=
  (∀ (k0_h18 : k0_cond18 d0 v235 = 1#1), ∀ a, (k0_off36 d0 v235) a + S1x512.size a ≤ S4096x512.size a)
theorem k0_off36_inb : ∀ (d0 : Dev nD) (v235 : BitVec 32) (k0_hw18 : k0_chk18 d0 v235), ∀ (k0_h18 : k0_cond18 d0 v235 = 1#1), ∀ a, (k0_off36 d0 v235) a + S1x512.size a ≤ S4096x512.size a := fun d0 v235 k0_hw18 k0_h18 => k0_hw18 k0_h18

def k0_off37 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_121 : BitVec 32 := 128#32
  let v243 : BitVec 32 := Scalar.muli v10 c128_i32_121
  let c18_i32 : BitVec 32 := 18#32
  let v244 : BitVec 32 := Scalar.addi v243 c18_i32
  let v245 : Index := Scalar.indexCast v244
  ![v245.toNat]
def k0_off38 (d0 : Dev nD) (v246 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_122 : BitVec 32 := 4096#32
  let v247 : BitVec 32 := Scalar.muli v8 c4096_i32_122
  let v248 : BitVec 32 := Scalar.subi v246 v247
  let c0_i32_2121 : BitVec 32 := 0#32
  ![v248.toNat, 0]
def k0_cond19 (d0 : Dev nD) (v246 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_122 : BitVec 32 := 4096#32
  let v247 : BitVec 32 := Scalar.muli v8 c4096_i32_122
  let v248 : BitVec 32 := Scalar.subi v246 v247
  let c0_i32_123 : BitVec 32 := 0#32
  let v249 : BitVec 1 := Scalar.cmpi .sge v248 c0_i32_123
  let c4096_i32_124 : BitVec 32 := 4096#32
  let v250 : BitVec 1 := Scalar.cmpi .slt v248 c4096_i32_124
  let v251 : BitVec 1 := Scalar.andi v249 v250
  let v252 : BitVec 32 := Scalar.extui v251
  let c0_i32_125 : BitVec 32 := 0#32
  let v253 : BitVec 1 := Scalar.cmpi .ne v252 c0_i32_125
  v253

def k0_chk19 (d0 : Dev nD) (v246 : BitVec 32) : Prop :=
  (∀ (k0_h19 : k0_cond19 d0 v246 = 1#1), ∀ a, (k0_off38 d0 v246) a + S1x512.size a ≤ S4096x512.size a)
theorem k0_off38_inb : ∀ (d0 : Dev nD) (v246 : BitVec 32) (k0_hw19 : k0_chk19 d0 v246), ∀ (k0_h19 : k0_cond19 d0 v246 = 1#1), ∀ a, (k0_off38 d0 v246) a + S1x512.size a ≤ S4096x512.size a := fun d0 v246 k0_hw19 k0_h19 => k0_hw19 k0_h19

def k0_off39 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_126 : BitVec 32 := 128#32
  let v254 : BitVec 32 := Scalar.muli v10 c128_i32_126
  let c19_i32 : BitVec 32 := 19#32
  let v255 : BitVec 32 := Scalar.addi v254 c19_i32
  let v256 : Index := Scalar.indexCast v255
  ![v256.toNat]
def k0_off40 (d0 : Dev nD) (v257 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_127 : BitVec 32 := 4096#32
  let v258 : BitVec 32 := Scalar.muli v8 c4096_i32_127
  let v259 : BitVec 32 := Scalar.subi v257 v258
  let c0_i32_2121 : BitVec 32 := 0#32
  ![v259.toNat, 0]
def k0_cond20 (d0 : Dev nD) (v257 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_127 : BitVec 32 := 4096#32
  let v258 : BitVec 32 := Scalar.muli v8 c4096_i32_127
  let v259 : BitVec 32 := Scalar.subi v257 v258
  let c0_i32_128 : BitVec 32 := 0#32
  let v260 : BitVec 1 := Scalar.cmpi .sge v259 c0_i32_128
  let c4096_i32_129 : BitVec 32 := 4096#32
  let v261 : BitVec 1 := Scalar.cmpi .slt v259 c4096_i32_129
  let v262 : BitVec 1 := Scalar.andi v260 v261
  let v263 : BitVec 32 := Scalar.extui v262
  let c0_i32_130 : BitVec 32 := 0#32
  let v264 : BitVec 1 := Scalar.cmpi .ne v263 c0_i32_130
  v264

def k0_chk20 (d0 : Dev nD) (v257 : BitVec 32) : Prop :=
  (∀ (k0_h20 : k0_cond20 d0 v257 = 1#1), ∀ a, (k0_off40 d0 v257) a + S1x512.size a ≤ S4096x512.size a)
theorem k0_off40_inb : ∀ (d0 : Dev nD) (v257 : BitVec 32) (k0_hw20 : k0_chk20 d0 v257), ∀ (k0_h20 : k0_cond20 d0 v257 = 1#1), ∀ a, (k0_off40 d0 v257) a + S1x512.size a ≤ S4096x512.size a := fun d0 v257 k0_hw20 k0_h20 => k0_hw20 k0_h20

def k0_off41 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_131 : BitVec 32 := 128#32
  let v265 : BitVec 32 := Scalar.muli v10 c128_i32_131
  let c20_i32 : BitVec 32 := 20#32
  let v266 : BitVec 32 := Scalar.addi v265 c20_i32
  let v267 : Index := Scalar.indexCast v266
  ![v267.toNat]
def k0_off42 (d0 : Dev nD) (v268 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_132 : BitVec 32 := 4096#32
  let v269 : BitVec 32 := Scalar.muli v8 c4096_i32_132
  let v270 : BitVec 32 := Scalar.subi v268 v269
  let c0_i32_2121 : BitVec 32 := 0#32
  ![v270.toNat, 0]
def k0_cond21 (d0 : Dev nD) (v268 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_132 : BitVec 32 := 4096#32
  let v269 : BitVec 32 := Scalar.muli v8 c4096_i32_132
  let v270 : BitVec 32 := Scalar.subi v268 v269
  let c0_i32_133 : BitVec 32 := 0#32
  let v271 : BitVec 1 := Scalar.cmpi .sge v270 c0_i32_133
  let c4096_i32_134 : BitVec 32 := 4096#32
  let v272 : BitVec 1 := Scalar.cmpi .slt v270 c4096_i32_134
  let v273 : BitVec 1 := Scalar.andi v271 v272
  let v274 : BitVec 32 := Scalar.extui v273
  let c0_i32_135 : BitVec 32 := 0#32
  let v275 : BitVec 1 := Scalar.cmpi .ne v274 c0_i32_135
  v275

def k0_chk21 (d0 : Dev nD) (v268 : BitVec 32) : Prop :=
  (∀ (k0_h21 : k0_cond21 d0 v268 = 1#1), ∀ a, (k0_off42 d0 v268) a + S1x512.size a ≤ S4096x512.size a)
theorem k0_off42_inb : ∀ (d0 : Dev nD) (v268 : BitVec 32) (k0_hw21 : k0_chk21 d0 v268), ∀ (k0_h21 : k0_cond21 d0 v268 = 1#1), ∀ a, (k0_off42 d0 v268) a + S1x512.size a ≤ S4096x512.size a := fun d0 v268 k0_hw21 k0_h21 => k0_hw21 k0_h21

def k0_off43 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_136 : BitVec 32 := 128#32
  let v276 : BitVec 32 := Scalar.muli v10 c128_i32_136
  let c21_i32 : BitVec 32 := 21#32
  let v277 : BitVec 32 := Scalar.addi v276 c21_i32
  let v278 : Index := Scalar.indexCast v277
  ![v278.toNat]
def k0_off44 (d0 : Dev nD) (v279 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_137 : BitVec 32 := 4096#32
  let v280 : BitVec 32 := Scalar.muli v8 c4096_i32_137
  let v281 : BitVec 32 := Scalar.subi v279 v280
  let c0_i32_2121 : BitVec 32 := 0#32
  ![v281.toNat, 0]
def k0_cond22 (d0 : Dev nD) (v279 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_137 : BitVec 32 := 4096#32
  let v280 : BitVec 32 := Scalar.muli v8 c4096_i32_137
  let v281 : BitVec 32 := Scalar.subi v279 v280
  let c0_i32_138 : BitVec 32 := 0#32
  let v282 : BitVec 1 := Scalar.cmpi .sge v281 c0_i32_138
  let c4096_i32_139 : BitVec 32 := 4096#32
  let v283 : BitVec 1 := Scalar.cmpi .slt v281 c4096_i32_139
  let v284 : BitVec 1 := Scalar.andi v282 v283
  let v285 : BitVec 32 := Scalar.extui v284
  let c0_i32_140 : BitVec 32 := 0#32
  let v286 : BitVec 1 := Scalar.cmpi .ne v285 c0_i32_140
  v286

def k0_chk22 (d0 : Dev nD) (v279 : BitVec 32) : Prop :=
  (∀ (k0_h22 : k0_cond22 d0 v279 = 1#1), ∀ a, (k0_off44 d0 v279) a + S1x512.size a ≤ S4096x512.size a)
theorem k0_off44_inb : ∀ (d0 : Dev nD) (v279 : BitVec 32) (k0_hw22 : k0_chk22 d0 v279), ∀ (k0_h22 : k0_cond22 d0 v279 = 1#1), ∀ a, (k0_off44 d0 v279) a + S1x512.size a ≤ S4096x512.size a := fun d0 v279 k0_hw22 k0_h22 => k0_hw22 k0_h22

def k0_off45 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_141 : BitVec 32 := 128#32
  let v287 : BitVec 32 := Scalar.muli v10 c128_i32_141
  let c22_i32 : BitVec 32 := 22#32
  let v288 : BitVec 32 := Scalar.addi v287 c22_i32
  let v289 : Index := Scalar.indexCast v288
  ![v289.toNat]
def k0_off46 (d0 : Dev nD) (v290 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_142 : BitVec 32 := 4096#32
  let v291 : BitVec 32 := Scalar.muli v8 c4096_i32_142
  let v292 : BitVec 32 := Scalar.subi v290 v291
  let c0_i32_2121 : BitVec 32 := 0#32
  ![v292.toNat, 0]
def k0_cond23 (d0 : Dev nD) (v290 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_142 : BitVec 32 := 4096#32
  let v291 : BitVec 32 := Scalar.muli v8 c4096_i32_142
  let v292 : BitVec 32 := Scalar.subi v290 v291
  let c0_i32_143 : BitVec 32 := 0#32
  let v293 : BitVec 1 := Scalar.cmpi .sge v292 c0_i32_143
  let c4096_i32_144 : BitVec 32 := 4096#32
  let v294 : BitVec 1 := Scalar.cmpi .slt v292 c4096_i32_144
  let v295 : BitVec 1 := Scalar.andi v293 v294
  let v296 : BitVec 32 := Scalar.extui v295
  let c0_i32_145 : BitVec 32 := 0#32
  let v297 : BitVec 1 := Scalar.cmpi .ne v296 c0_i32_145
  v297

def k0_chk23 (d0 : Dev nD) (v290 : BitVec 32) : Prop :=
  (∀ (k0_h23 : k0_cond23 d0 v290 = 1#1), ∀ a, (k0_off46 d0 v290) a + S1x512.size a ≤ S4096x512.size a)
theorem k0_off46_inb : ∀ (d0 : Dev nD) (v290 : BitVec 32) (k0_hw23 : k0_chk23 d0 v290), ∀ (k0_h23 : k0_cond23 d0 v290 = 1#1), ∀ a, (k0_off46 d0 v290) a + S1x512.size a ≤ S4096x512.size a := fun d0 v290 k0_hw23 k0_h23 => k0_hw23 k0_h23

def k0_off47 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_146 : BitVec 32 := 128#32
  let v298 : BitVec 32 := Scalar.muli v10 c128_i32_146
  let c23_i32 : BitVec 32 := 23#32
  let v299 : BitVec 32 := Scalar.addi v298 c23_i32
  let v300 : Index := Scalar.indexCast v299
  ![v300.toNat]
def k0_off48 (d0 : Dev nD) (v301 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_147 : BitVec 32 := 4096#32
  let v302 : BitVec 32 := Scalar.muli v8 c4096_i32_147
  let v303 : BitVec 32 := Scalar.subi v301 v302
  let c0_i32_2121 : BitVec 32 := 0#32
  ![v303.toNat, 0]
def k0_cond24 (d0 : Dev nD) (v301 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_147 : BitVec 32 := 4096#32
  let v302 : BitVec 32 := Scalar.muli v8 c4096_i32_147
  let v303 : BitVec 32 := Scalar.subi v301 v302
  let c0_i32_148 : BitVec 32 := 0#32
  let v304 : BitVec 1 := Scalar.cmpi .sge v303 c0_i32_148
  let c4096_i32_149 : BitVec 32 := 4096#32
  let v305 : BitVec 1 := Scalar.cmpi .slt v303 c4096_i32_149
  let v306 : BitVec 1 := Scalar.andi v304 v305
  let v307 : BitVec 32 := Scalar.extui v306
  let c0_i32_150 : BitVec 32 := 0#32
  let v308 : BitVec 1 := Scalar.cmpi .ne v307 c0_i32_150
  v308

def k0_chk24 (d0 : Dev nD) (v301 : BitVec 32) : Prop :=
  (∀ (k0_h24 : k0_cond24 d0 v301 = 1#1), ∀ a, (k0_off48 d0 v301) a + S1x512.size a ≤ S4096x512.size a)
theorem k0_off48_inb : ∀ (d0 : Dev nD) (v301 : BitVec 32) (k0_hw24 : k0_chk24 d0 v301), ∀ (k0_h24 : k0_cond24 d0 v301 = 1#1), ∀ a, (k0_off48 d0 v301) a + S1x512.size a ≤ S4096x512.size a := fun d0 v301 k0_hw24 k0_h24 => k0_hw24 k0_h24

def k0_off49 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_151 : BitVec 32 := 128#32
  let v309 : BitVec 32 := Scalar.muli v10 c128_i32_151
  let c24_i32 : BitVec 32 := 24#32
  let v310 : BitVec 32 := Scalar.addi v309 c24_i32
  let v311 : Index := Scalar.indexCast v310
  ![v311.toNat]
def k0_off50 (d0 : Dev nD) (v312 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_152 : BitVec 32 := 4096#32
  let v313 : BitVec 32 := Scalar.muli v8 c4096_i32_152
  let v314 : BitVec 32 := Scalar.subi v312 v313
  let c0_i32_2121 : BitVec 32 := 0#32
  ![v314.toNat, 0]
def k0_cond25 (d0 : Dev nD) (v312 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_152 : BitVec 32 := 4096#32
  let v313 : BitVec 32 := Scalar.muli v8 c4096_i32_152
  let v314 : BitVec 32 := Scalar.subi v312 v313
  let c0_i32_153 : BitVec 32 := 0#32
  let v315 : BitVec 1 := Scalar.cmpi .sge v314 c0_i32_153
  let c4096_i32_154 : BitVec 32 := 4096#32
  let v316 : BitVec 1 := Scalar.cmpi .slt v314 c4096_i32_154
  let v317 : BitVec 1 := Scalar.andi v315 v316
  let v318 : BitVec 32 := Scalar.extui v317
  let c0_i32_155 : BitVec 32 := 0#32
  let v319 : BitVec 1 := Scalar.cmpi .ne v318 c0_i32_155
  v319

def k0_chk25 (d0 : Dev nD) (v312 : BitVec 32) : Prop :=
  (∀ (k0_h25 : k0_cond25 d0 v312 = 1#1), ∀ a, (k0_off50 d0 v312) a + S1x512.size a ≤ S4096x512.size a)
theorem k0_off50_inb : ∀ (d0 : Dev nD) (v312 : BitVec 32) (k0_hw25 : k0_chk25 d0 v312), ∀ (k0_h25 : k0_cond25 d0 v312 = 1#1), ∀ a, (k0_off50 d0 v312) a + S1x512.size a ≤ S4096x512.size a := fun d0 v312 k0_hw25 k0_h25 => k0_hw25 k0_h25

def k0_off51 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_156 : BitVec 32 := 128#32
  let v320 : BitVec 32 := Scalar.muli v10 c128_i32_156
  let c25_i32 : BitVec 32 := 25#32
  let v321 : BitVec 32 := Scalar.addi v320 c25_i32
  let v322 : Index := Scalar.indexCast v321
  ![v322.toNat]
def k0_off52 (d0 : Dev nD) (v323 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_157 : BitVec 32 := 4096#32
  let v324 : BitVec 32 := Scalar.muli v8 c4096_i32_157
  let v325 : BitVec 32 := Scalar.subi v323 v324
  let c0_i32_2121 : BitVec 32 := 0#32
  ![v325.toNat, 0]
def k0_cond26 (d0 : Dev nD) (v323 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_157 : BitVec 32 := 4096#32
  let v324 : BitVec 32 := Scalar.muli v8 c4096_i32_157
  let v325 : BitVec 32 := Scalar.subi v323 v324
  let c0_i32_158 : BitVec 32 := 0#32
  let v326 : BitVec 1 := Scalar.cmpi .sge v325 c0_i32_158
  let c4096_i32_159 : BitVec 32 := 4096#32
  let v327 : BitVec 1 := Scalar.cmpi .slt v325 c4096_i32_159
  let v328 : BitVec 1 := Scalar.andi v326 v327
  let v329 : BitVec 32 := Scalar.extui v328
  let c0_i32_160 : BitVec 32 := 0#32
  let v330 : BitVec 1 := Scalar.cmpi .ne v329 c0_i32_160
  v330

def k0_chk26 (d0 : Dev nD) (v323 : BitVec 32) : Prop :=
  (∀ (k0_h26 : k0_cond26 d0 v323 = 1#1), ∀ a, (k0_off52 d0 v323) a + S1x512.size a ≤ S4096x512.size a)
theorem k0_off52_inb : ∀ (d0 : Dev nD) (v323 : BitVec 32) (k0_hw26 : k0_chk26 d0 v323), ∀ (k0_h26 : k0_cond26 d0 v323 = 1#1), ∀ a, (k0_off52 d0 v323) a + S1x512.size a ≤ S4096x512.size a := fun d0 v323 k0_hw26 k0_h26 => k0_hw26 k0_h26

def k0_off53 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_161 : BitVec 32 := 128#32
  let v331 : BitVec 32 := Scalar.muli v10 c128_i32_161
  let c26_i32 : BitVec 32 := 26#32
  let v332 : BitVec 32 := Scalar.addi v331 c26_i32
  let v333 : Index := Scalar.indexCast v332
  ![v333.toNat]
def k0_off54 (d0 : Dev nD) (v334 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_162 : BitVec 32 := 4096#32
  let v335 : BitVec 32 := Scalar.muli v8 c4096_i32_162
  let v336 : BitVec 32 := Scalar.subi v334 v335
  let c0_i32_2121 : BitVec 32 := 0#32
  ![v336.toNat, 0]
def k0_cond27 (d0 : Dev nD) (v334 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_162 : BitVec 32 := 4096#32
  let v335 : BitVec 32 := Scalar.muli v8 c4096_i32_162
  let v336 : BitVec 32 := Scalar.subi v334 v335
  let c0_i32_163 : BitVec 32 := 0#32
  let v337 : BitVec 1 := Scalar.cmpi .sge v336 c0_i32_163
  let c4096_i32_164 : BitVec 32 := 4096#32
  let v338 : BitVec 1 := Scalar.cmpi .slt v336 c4096_i32_164
  let v339 : BitVec 1 := Scalar.andi v337 v338
  let v340 : BitVec 32 := Scalar.extui v339
  let c0_i32_165 : BitVec 32 := 0#32
  let v341 : BitVec 1 := Scalar.cmpi .ne v340 c0_i32_165
  v341

def k0_chk27 (d0 : Dev nD) (v334 : BitVec 32) : Prop :=
  (∀ (k0_h27 : k0_cond27 d0 v334 = 1#1), ∀ a, (k0_off54 d0 v334) a + S1x512.size a ≤ S4096x512.size a)
theorem k0_off54_inb : ∀ (d0 : Dev nD) (v334 : BitVec 32) (k0_hw27 : k0_chk27 d0 v334), ∀ (k0_h27 : k0_cond27 d0 v334 = 1#1), ∀ a, (k0_off54 d0 v334) a + S1x512.size a ≤ S4096x512.size a := fun d0 v334 k0_hw27 k0_h27 => k0_hw27 k0_h27

def k0_off55 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_166 : BitVec 32 := 128#32
  let v342 : BitVec 32 := Scalar.muli v10 c128_i32_166
  let c27_i32 : BitVec 32 := 27#32
  let v343 : BitVec 32 := Scalar.addi v342 c27_i32
  let v344 : Index := Scalar.indexCast v343
  ![v344.toNat]
def k0_off56 (d0 : Dev nD) (v345 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_167 : BitVec 32 := 4096#32
  let v346 : BitVec 32 := Scalar.muli v8 c4096_i32_167
  let v347 : BitVec 32 := Scalar.subi v345 v346
  let c0_i32_2121 : BitVec 32 := 0#32
  ![v347.toNat, 0]
def k0_cond28 (d0 : Dev nD) (v345 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_167 : BitVec 32 := 4096#32
  let v346 : BitVec 32 := Scalar.muli v8 c4096_i32_167
  let v347 : BitVec 32 := Scalar.subi v345 v346
  let c0_i32_168 : BitVec 32 := 0#32
  let v348 : BitVec 1 := Scalar.cmpi .sge v347 c0_i32_168
  let c4096_i32_169 : BitVec 32 := 4096#32
  let v349 : BitVec 1 := Scalar.cmpi .slt v347 c4096_i32_169
  let v350 : BitVec 1 := Scalar.andi v348 v349
  let v351 : BitVec 32 := Scalar.extui v350
  let c0_i32_170 : BitVec 32 := 0#32
  let v352 : BitVec 1 := Scalar.cmpi .ne v351 c0_i32_170
  v352

def k0_chk28 (d0 : Dev nD) (v345 : BitVec 32) : Prop :=
  (∀ (k0_h28 : k0_cond28 d0 v345 = 1#1), ∀ a, (k0_off56 d0 v345) a + S1x512.size a ≤ S4096x512.size a)
theorem k0_off56_inb : ∀ (d0 : Dev nD) (v345 : BitVec 32) (k0_hw28 : k0_chk28 d0 v345), ∀ (k0_h28 : k0_cond28 d0 v345 = 1#1), ∀ a, (k0_off56 d0 v345) a + S1x512.size a ≤ S4096x512.size a := fun d0 v345 k0_hw28 k0_h28 => k0_hw28 k0_h28

def k0_off57 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_171 : BitVec 32 := 128#32
  let v353 : BitVec 32 := Scalar.muli v10 c128_i32_171
  let c28_i32 : BitVec 32 := 28#32
  let v354 : BitVec 32 := Scalar.addi v353 c28_i32
  let v355 : Index := Scalar.indexCast v354
  ![v355.toNat]
def k0_off58 (d0 : Dev nD) (v356 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_172 : BitVec 32 := 4096#32
  let v357 : BitVec 32 := Scalar.muli v8 c4096_i32_172
  let v358 : BitVec 32 := Scalar.subi v356 v357
  let c0_i32_2121 : BitVec 32 := 0#32
  ![v358.toNat, 0]
def k0_cond29 (d0 : Dev nD) (v356 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_172 : BitVec 32 := 4096#32
  let v357 : BitVec 32 := Scalar.muli v8 c4096_i32_172
  let v358 : BitVec 32 := Scalar.subi v356 v357
  let c0_i32_173 : BitVec 32 := 0#32
  let v359 : BitVec 1 := Scalar.cmpi .sge v358 c0_i32_173
  let c4096_i32_174 : BitVec 32 := 4096#32
  let v360 : BitVec 1 := Scalar.cmpi .slt v358 c4096_i32_174
  let v361 : BitVec 1 := Scalar.andi v359 v360
  let v362 : BitVec 32 := Scalar.extui v361
  let c0_i32_175 : BitVec 32 := 0#32
  let v363 : BitVec 1 := Scalar.cmpi .ne v362 c0_i32_175
  v363

def k0_chk29 (d0 : Dev nD) (v356 : BitVec 32) : Prop :=
  (∀ (k0_h29 : k0_cond29 d0 v356 = 1#1), ∀ a, (k0_off58 d0 v356) a + S1x512.size a ≤ S4096x512.size a)
theorem k0_off58_inb : ∀ (d0 : Dev nD) (v356 : BitVec 32) (k0_hw29 : k0_chk29 d0 v356), ∀ (k0_h29 : k0_cond29 d0 v356 = 1#1), ∀ a, (k0_off58 d0 v356) a + S1x512.size a ≤ S4096x512.size a := fun d0 v356 k0_hw29 k0_h29 => k0_hw29 k0_h29

def k0_off59 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_176 : BitVec 32 := 128#32
  let v364 : BitVec 32 := Scalar.muli v10 c128_i32_176
  let c29_i32 : BitVec 32 := 29#32
  let v365 : BitVec 32 := Scalar.addi v364 c29_i32
  let v366 : Index := Scalar.indexCast v365
  ![v366.toNat]
def k0_off60 (d0 : Dev nD) (v367 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_177 : BitVec 32 := 4096#32
  let v368 : BitVec 32 := Scalar.muli v8 c4096_i32_177
  let v369 : BitVec 32 := Scalar.subi v367 v368
  let c0_i32_2121 : BitVec 32 := 0#32
  ![v369.toNat, 0]
def k0_cond30 (d0 : Dev nD) (v367 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_177 : BitVec 32 := 4096#32
  let v368 : BitVec 32 := Scalar.muli v8 c4096_i32_177
  let v369 : BitVec 32 := Scalar.subi v367 v368
  let c0_i32_178 : BitVec 32 := 0#32
  let v370 : BitVec 1 := Scalar.cmpi .sge v369 c0_i32_178
  let c4096_i32_179 : BitVec 32 := 4096#32
  let v371 : BitVec 1 := Scalar.cmpi .slt v369 c4096_i32_179
  let v372 : BitVec 1 := Scalar.andi v370 v371
  let v373 : BitVec 32 := Scalar.extui v372
  let c0_i32_180 : BitVec 32 := 0#32
  let v374 : BitVec 1 := Scalar.cmpi .ne v373 c0_i32_180
  v374

def k0_chk30 (d0 : Dev nD) (v367 : BitVec 32) : Prop :=
  (∀ (k0_h30 : k0_cond30 d0 v367 = 1#1), ∀ a, (k0_off60 d0 v367) a + S1x512.size a ≤ S4096x512.size a)
theorem k0_off60_inb : ∀ (d0 : Dev nD) (v367 : BitVec 32) (k0_hw30 : k0_chk30 d0 v367), ∀ (k0_h30 : k0_cond30 d0 v367 = 1#1), ∀ a, (k0_off60 d0 v367) a + S1x512.size a ≤ S4096x512.size a := fun d0 v367 k0_hw30 k0_h30 => k0_hw30 k0_h30

def k0_off61 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_181 : BitVec 32 := 128#32
  let v375 : BitVec 32 := Scalar.muli v10 c128_i32_181
  let c30_i32 : BitVec 32 := 30#32
  let v376 : BitVec 32 := Scalar.addi v375 c30_i32
  let v377 : Index := Scalar.indexCast v376
  ![v377.toNat]
def k0_off62 (d0 : Dev nD) (v378 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_182 : BitVec 32 := 4096#32
  let v379 : BitVec 32 := Scalar.muli v8 c4096_i32_182
  let v380 : BitVec 32 := Scalar.subi v378 v379
  let c0_i32_2121 : BitVec 32 := 0#32
  ![v380.toNat, 0]
def k0_cond31 (d0 : Dev nD) (v378 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_182 : BitVec 32 := 4096#32
  let v379 : BitVec 32 := Scalar.muli v8 c4096_i32_182
  let v380 : BitVec 32 := Scalar.subi v378 v379
  let c0_i32_183 : BitVec 32 := 0#32
  let v381 : BitVec 1 := Scalar.cmpi .sge v380 c0_i32_183
  let c4096_i32_184 : BitVec 32 := 4096#32
  let v382 : BitVec 1 := Scalar.cmpi .slt v380 c4096_i32_184
  let v383 : BitVec 1 := Scalar.andi v381 v382
  let v384 : BitVec 32 := Scalar.extui v383
  let c0_i32_185 : BitVec 32 := 0#32
  let v385 : BitVec 1 := Scalar.cmpi .ne v384 c0_i32_185
  v385

def k0_chk31 (d0 : Dev nD) (v378 : BitVec 32) : Prop :=
  (∀ (k0_h31 : k0_cond31 d0 v378 = 1#1), ∀ a, (k0_off62 d0 v378) a + S1x512.size a ≤ S4096x512.size a)
theorem k0_off62_inb : ∀ (d0 : Dev nD) (v378 : BitVec 32) (k0_hw31 : k0_chk31 d0 v378), ∀ (k0_h31 : k0_cond31 d0 v378 = 1#1), ∀ a, (k0_off62 d0 v378) a + S1x512.size a ≤ S4096x512.size a := fun d0 v378 k0_hw31 k0_h31 => k0_hw31 k0_h31

def k0_off63 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_186 : BitVec 32 := 128#32
  let v386 : BitVec 32 := Scalar.muli v10 c128_i32_186
  let c31_i32 : BitVec 32 := 31#32
  let v387 : BitVec 32 := Scalar.addi v386 c31_i32
  let v388 : Index := Scalar.indexCast v387
  ![v388.toNat]
def k0_off64 (d0 : Dev nD) (v389 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_187 : BitVec 32 := 4096#32
  let v390 : BitVec 32 := Scalar.muli v8 c4096_i32_187
  let v391 : BitVec 32 := Scalar.subi v389 v390
  let c0_i32_2121 : BitVec 32 := 0#32
  ![v391.toNat, 0]
def k0_cond32 (d0 : Dev nD) (v389 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_187 : BitVec 32 := 4096#32
  let v390 : BitVec 32 := Scalar.muli v8 c4096_i32_187
  let v391 : BitVec 32 := Scalar.subi v389 v390
  let c0_i32_188 : BitVec 32 := 0#32
  let v392 : BitVec 1 := Scalar.cmpi .sge v391 c0_i32_188
  let c4096_i32_189 : BitVec 32 := 4096#32
  let v393 : BitVec 1 := Scalar.cmpi .slt v391 c4096_i32_189
  let v394 : BitVec 1 := Scalar.andi v392 v393
  let v395 : BitVec 32 := Scalar.extui v394
  let c0_i32_190 : BitVec 32 := 0#32
  let v396 : BitVec 1 := Scalar.cmpi .ne v395 c0_i32_190
  v396

def k0_chk32 (d0 : Dev nD) (v389 : BitVec 32) : Prop :=
  (∀ (k0_h32 : k0_cond32 d0 v389 = 1#1), ∀ a, (k0_off64 d0 v389) a + S1x512.size a ≤ S4096x512.size a)
theorem k0_off64_inb : ∀ (d0 : Dev nD) (v389 : BitVec 32) (k0_hw32 : k0_chk32 d0 v389), ∀ (k0_h32 : k0_cond32 d0 v389 = 1#1), ∀ a, (k0_off64 d0 v389) a + S1x512.size a ≤ S4096x512.size a := fun d0 v389 k0_hw32 k0_h32 => k0_hw32 k0_h32

def k0_off65 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_191 : BitVec 32 := 128#32
  let v397 : BitVec 32 := Scalar.muli v10 c128_i32_191
  let c32_i32 : BitVec 32 := 32#32
  let v398 : BitVec 32 := Scalar.addi v397 c32_i32
  let v399 : Index := Scalar.indexCast v398
  ![v399.toNat]
def k0_off66 (d0 : Dev nD) (v400 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_192 : BitVec 32 := 4096#32
  let v401 : BitVec 32 := Scalar.muli v8 c4096_i32_192
  let v402 : BitVec 32 := Scalar.subi v400 v401
  let c0_i32_2121 : BitVec 32 := 0#32
  ![v402.toNat, 0]
def k0_cond33 (d0 : Dev nD) (v400 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_192 : BitVec 32 := 4096#32
  let v401 : BitVec 32 := Scalar.muli v8 c4096_i32_192
  let v402 : BitVec 32 := Scalar.subi v400 v401
  let c0_i32_193 : BitVec 32 := 0#32
  let v403 : BitVec 1 := Scalar.cmpi .sge v402 c0_i32_193
  let c4096_i32_194 : BitVec 32 := 4096#32
  let v404 : BitVec 1 := Scalar.cmpi .slt v402 c4096_i32_194
  let v405 : BitVec 1 := Scalar.andi v403 v404
  let v406 : BitVec 32 := Scalar.extui v405
  let c0_i32_195 : BitVec 32 := 0#32
  let v407 : BitVec 1 := Scalar.cmpi .ne v406 c0_i32_195
  v407

def k0_chk33 (d0 : Dev nD) (v400 : BitVec 32) : Prop :=
  (∀ (k0_h33 : k0_cond33 d0 v400 = 1#1), ∀ a, (k0_off66 d0 v400) a + S1x512.size a ≤ S4096x512.size a)
theorem k0_off66_inb : ∀ (d0 : Dev nD) (v400 : BitVec 32) (k0_hw33 : k0_chk33 d0 v400), ∀ (k0_h33 : k0_cond33 d0 v400 = 1#1), ∀ a, (k0_off66 d0 v400) a + S1x512.size a ≤ S4096x512.size a := fun d0 v400 k0_hw33 k0_h33 => k0_hw33 k0_h33

def k0_off67 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_196 : BitVec 32 := 128#32
  let v408 : BitVec 32 := Scalar.muli v10 c128_i32_196
  let c33_i32 : BitVec 32 := 33#32
  let v409 : BitVec 32 := Scalar.addi v408 c33_i32
  let v410 : Index := Scalar.indexCast v409
  ![v410.toNat]
def k0_off68 (d0 : Dev nD) (v411 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_197 : BitVec 32 := 4096#32
  let v412 : BitVec 32 := Scalar.muli v8 c4096_i32_197
  let v413 : BitVec 32 := Scalar.subi v411 v412
  let c0_i32_2121 : BitVec 32 := 0#32
  ![v413.toNat, 0]
def k0_cond34 (d0 : Dev nD) (v411 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_197 : BitVec 32 := 4096#32
  let v412 : BitVec 32 := Scalar.muli v8 c4096_i32_197
  let v413 : BitVec 32 := Scalar.subi v411 v412
  let c0_i32_198 : BitVec 32 := 0#32
  let v414 : BitVec 1 := Scalar.cmpi .sge v413 c0_i32_198
  let c4096_i32_199 : BitVec 32 := 4096#32
  let v415 : BitVec 1 := Scalar.cmpi .slt v413 c4096_i32_199
  let v416 : BitVec 1 := Scalar.andi v414 v415
  let v417 : BitVec 32 := Scalar.extui v416
  let c0_i32_200 : BitVec 32 := 0#32
  let v418 : BitVec 1 := Scalar.cmpi .ne v417 c0_i32_200
  v418

def k0_chk34 (d0 : Dev nD) (v411 : BitVec 32) : Prop :=
  (∀ (k0_h34 : k0_cond34 d0 v411 = 1#1), ∀ a, (k0_off68 d0 v411) a + S1x512.size a ≤ S4096x512.size a)
theorem k0_off68_inb : ∀ (d0 : Dev nD) (v411 : BitVec 32) (k0_hw34 : k0_chk34 d0 v411), ∀ (k0_h34 : k0_cond34 d0 v411 = 1#1), ∀ a, (k0_off68 d0 v411) a + S1x512.size a ≤ S4096x512.size a := fun d0 v411 k0_hw34 k0_h34 => k0_hw34 k0_h34

def k0_off69 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_201 : BitVec 32 := 128#32
  let v419 : BitVec 32 := Scalar.muli v10 c128_i32_201
  let c34_i32 : BitVec 32 := 34#32
  let v420 : BitVec 32 := Scalar.addi v419 c34_i32
  let v421 : Index := Scalar.indexCast v420
  ![v421.toNat]
def k0_off70 (d0 : Dev nD) (v422 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_202 : BitVec 32 := 4096#32
  let v423 : BitVec 32 := Scalar.muli v8 c4096_i32_202
  let v424 : BitVec 32 := Scalar.subi v422 v423
  let c0_i32_2121 : BitVec 32 := 0#32
  ![v424.toNat, 0]
def k0_cond35 (d0 : Dev nD) (v422 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_202 : BitVec 32 := 4096#32
  let v423 : BitVec 32 := Scalar.muli v8 c4096_i32_202
  let v424 : BitVec 32 := Scalar.subi v422 v423
  let c0_i32_203 : BitVec 32 := 0#32
  let v425 : BitVec 1 := Scalar.cmpi .sge v424 c0_i32_203
  let c4096_i32_204 : BitVec 32 := 4096#32
  let v426 : BitVec 1 := Scalar.cmpi .slt v424 c4096_i32_204
  let v427 : BitVec 1 := Scalar.andi v425 v426
  let v428 : BitVec 32 := Scalar.extui v427
  let c0_i32_205 : BitVec 32 := 0#32
  let v429 : BitVec 1 := Scalar.cmpi .ne v428 c0_i32_205
  v429

def k0_chk35 (d0 : Dev nD) (v422 : BitVec 32) : Prop :=
  (∀ (k0_h35 : k0_cond35 d0 v422 = 1#1), ∀ a, (k0_off70 d0 v422) a + S1x512.size a ≤ S4096x512.size a)
theorem k0_off70_inb : ∀ (d0 : Dev nD) (v422 : BitVec 32) (k0_hw35 : k0_chk35 d0 v422), ∀ (k0_h35 : k0_cond35 d0 v422 = 1#1), ∀ a, (k0_off70 d0 v422) a + S1x512.size a ≤ S4096x512.size a := fun d0 v422 k0_hw35 k0_h35 => k0_hw35 k0_h35

def k0_off71 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_206 : BitVec 32 := 128#32
  let v430 : BitVec 32 := Scalar.muli v10 c128_i32_206
  let c35_i32 : BitVec 32 := 35#32
  let v431 : BitVec 32 := Scalar.addi v430 c35_i32
  let v432 : Index := Scalar.indexCast v431
  ![v432.toNat]
def k0_off72 (d0 : Dev nD) (v433 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_207 : BitVec 32 := 4096#32
  let v434 : BitVec 32 := Scalar.muli v8 c4096_i32_207
  let v435 : BitVec 32 := Scalar.subi v433 v434
  let c0_i32_2121 : BitVec 32 := 0#32
  ![v435.toNat, 0]
def k0_cond36 (d0 : Dev nD) (v433 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_207 : BitVec 32 := 4096#32
  let v434 : BitVec 32 := Scalar.muli v8 c4096_i32_207
  let v435 : BitVec 32 := Scalar.subi v433 v434
  let c0_i32_208 : BitVec 32 := 0#32
  let v436 : BitVec 1 := Scalar.cmpi .sge v435 c0_i32_208
  let c4096_i32_209 : BitVec 32 := 4096#32
  let v437 : BitVec 1 := Scalar.cmpi .slt v435 c4096_i32_209
  let v438 : BitVec 1 := Scalar.andi v436 v437
  let v439 : BitVec 32 := Scalar.extui v438
  let c0_i32_210 : BitVec 32 := 0#32
  let v440 : BitVec 1 := Scalar.cmpi .ne v439 c0_i32_210
  v440

def k0_chk36 (d0 : Dev nD) (v433 : BitVec 32) : Prop :=
  (∀ (k0_h36 : k0_cond36 d0 v433 = 1#1), ∀ a, (k0_off72 d0 v433) a + S1x512.size a ≤ S4096x512.size a)
theorem k0_off72_inb : ∀ (d0 : Dev nD) (v433 : BitVec 32) (k0_hw36 : k0_chk36 d0 v433), ∀ (k0_h36 : k0_cond36 d0 v433 = 1#1), ∀ a, (k0_off72 d0 v433) a + S1x512.size a ≤ S4096x512.size a := fun d0 v433 k0_hw36 k0_h36 => k0_hw36 k0_h36

def k0_off73 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_211 : BitVec 32 := 128#32
  let v441 : BitVec 32 := Scalar.muli v10 c128_i32_211
  let c36_i32 : BitVec 32 := 36#32
  let v442 : BitVec 32 := Scalar.addi v441 c36_i32
  let v443 : Index := Scalar.indexCast v442
  ![v443.toNat]
def k0_off74 (d0 : Dev nD) (v444 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_212 : BitVec 32 := 4096#32
  let v445 : BitVec 32 := Scalar.muli v8 c4096_i32_212
  let v446 : BitVec 32 := Scalar.subi v444 v445
  let c0_i32_2121 : BitVec 32 := 0#32
  ![v446.toNat, 0]
def k0_cond37 (d0 : Dev nD) (v444 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_212 : BitVec 32 := 4096#32
  let v445 : BitVec 32 := Scalar.muli v8 c4096_i32_212
  let v446 : BitVec 32 := Scalar.subi v444 v445
  let c0_i32_213 : BitVec 32 := 0#32
  let v447 : BitVec 1 := Scalar.cmpi .sge v446 c0_i32_213
  let c4096_i32_214 : BitVec 32 := 4096#32
  let v448 : BitVec 1 := Scalar.cmpi .slt v446 c4096_i32_214
  let v449 : BitVec 1 := Scalar.andi v447 v448
  let v450 : BitVec 32 := Scalar.extui v449
  let c0_i32_215 : BitVec 32 := 0#32
  let v451 : BitVec 1 := Scalar.cmpi .ne v450 c0_i32_215
  v451

def k0_chk37 (d0 : Dev nD) (v444 : BitVec 32) : Prop :=
  (∀ (k0_h37 : k0_cond37 d0 v444 = 1#1), ∀ a, (k0_off74 d0 v444) a + S1x512.size a ≤ S4096x512.size a)
theorem k0_off74_inb : ∀ (d0 : Dev nD) (v444 : BitVec 32) (k0_hw37 : k0_chk37 d0 v444), ∀ (k0_h37 : k0_cond37 d0 v444 = 1#1), ∀ a, (k0_off74 d0 v444) a + S1x512.size a ≤ S4096x512.size a := fun d0 v444 k0_hw37 k0_h37 => k0_hw37 k0_h37

def k0_off75 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_216 : BitVec 32 := 128#32
  let v452 : BitVec 32 := Scalar.muli v10 c128_i32_216
  let c37_i32 : BitVec 32 := 37#32
  let v453 : BitVec 32 := Scalar.addi v452 c37_i32
  let v454 : Index := Scalar.indexCast v453
  ![v454.toNat]
def k0_off76 (d0 : Dev nD) (v455 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_217 : BitVec 32 := 4096#32
  let v456 : BitVec 32 := Scalar.muli v8 c4096_i32_217
  let v457 : BitVec 32 := Scalar.subi v455 v456
  let c0_i32_2121 : BitVec 32 := 0#32
  ![v457.toNat, 0]
def k0_cond38 (d0 : Dev nD) (v455 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_217 : BitVec 32 := 4096#32
  let v456 : BitVec 32 := Scalar.muli v8 c4096_i32_217
  let v457 : BitVec 32 := Scalar.subi v455 v456
  let c0_i32_218 : BitVec 32 := 0#32
  let v458 : BitVec 1 := Scalar.cmpi .sge v457 c0_i32_218
  let c4096_i32_219 : BitVec 32 := 4096#32
  let v459 : BitVec 1 := Scalar.cmpi .slt v457 c4096_i32_219
  let v460 : BitVec 1 := Scalar.andi v458 v459
  let v461 : BitVec 32 := Scalar.extui v460
  let c0_i32_220 : BitVec 32 := 0#32
  let v462 : BitVec 1 := Scalar.cmpi .ne v461 c0_i32_220
  v462

def k0_chk38 (d0 : Dev nD) (v455 : BitVec 32) : Prop :=
  (∀ (k0_h38 : k0_cond38 d0 v455 = 1#1), ∀ a, (k0_off76 d0 v455) a + S1x512.size a ≤ S4096x512.size a)
theorem k0_off76_inb : ∀ (d0 : Dev nD) (v455 : BitVec 32) (k0_hw38 : k0_chk38 d0 v455), ∀ (k0_h38 : k0_cond38 d0 v455 = 1#1), ∀ a, (k0_off76 d0 v455) a + S1x512.size a ≤ S4096x512.size a := fun d0 v455 k0_hw38 k0_h38 => k0_hw38 k0_h38

def k0_off77 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_221 : BitVec 32 := 128#32
  let v463 : BitVec 32 := Scalar.muli v10 c128_i32_221
  let c38_i32 : BitVec 32 := 38#32
  let v464 : BitVec 32 := Scalar.addi v463 c38_i32
  let v465 : Index := Scalar.indexCast v464
  ![v465.toNat]
def k0_off78 (d0 : Dev nD) (v466 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_222 : BitVec 32 := 4096#32
  let v467 : BitVec 32 := Scalar.muli v8 c4096_i32_222
  let v468 : BitVec 32 := Scalar.subi v466 v467
  let c0_i32_2121 : BitVec 32 := 0#32
  ![v468.toNat, 0]
def k0_cond39 (d0 : Dev nD) (v466 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_222 : BitVec 32 := 4096#32
  let v467 : BitVec 32 := Scalar.muli v8 c4096_i32_222
  let v468 : BitVec 32 := Scalar.subi v466 v467
  let c0_i32_223 : BitVec 32 := 0#32
  let v469 : BitVec 1 := Scalar.cmpi .sge v468 c0_i32_223
  let c4096_i32_224 : BitVec 32 := 4096#32
  let v470 : BitVec 1 := Scalar.cmpi .slt v468 c4096_i32_224
  let v471 : BitVec 1 := Scalar.andi v469 v470
  let v472 : BitVec 32 := Scalar.extui v471
  let c0_i32_225 : BitVec 32 := 0#32
  let v473 : BitVec 1 := Scalar.cmpi .ne v472 c0_i32_225
  v473

def k0_chk39 (d0 : Dev nD) (v466 : BitVec 32) : Prop :=
  (∀ (k0_h39 : k0_cond39 d0 v466 = 1#1), ∀ a, (k0_off78 d0 v466) a + S1x512.size a ≤ S4096x512.size a)
theorem k0_off78_inb : ∀ (d0 : Dev nD) (v466 : BitVec 32) (k0_hw39 : k0_chk39 d0 v466), ∀ (k0_h39 : k0_cond39 d0 v466 = 1#1), ∀ a, (k0_off78 d0 v466) a + S1x512.size a ≤ S4096x512.size a := fun d0 v466 k0_hw39 k0_h39 => k0_hw39 k0_h39

def k0_off79 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_226 : BitVec 32 := 128#32
  let v474 : BitVec 32 := Scalar.muli v10 c128_i32_226
  let c39_i32 : BitVec 32 := 39#32
  let v475 : BitVec 32 := Scalar.addi v474 c39_i32
  let v476 : Index := Scalar.indexCast v475
  ![v476.toNat]
def k0_off80 (d0 : Dev nD) (v477 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_227 : BitVec 32 := 4096#32
  let v478 : BitVec 32 := Scalar.muli v8 c4096_i32_227
  let v479 : BitVec 32 := Scalar.subi v477 v478
  let c0_i32_2121 : BitVec 32 := 0#32
  ![v479.toNat, 0]
def k0_cond40 (d0 : Dev nD) (v477 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_227 : BitVec 32 := 4096#32
  let v478 : BitVec 32 := Scalar.muli v8 c4096_i32_227
  let v479 : BitVec 32 := Scalar.subi v477 v478
  let c0_i32_228 : BitVec 32 := 0#32
  let v480 : BitVec 1 := Scalar.cmpi .sge v479 c0_i32_228
  let c4096_i32_229 : BitVec 32 := 4096#32
  let v481 : BitVec 1 := Scalar.cmpi .slt v479 c4096_i32_229
  let v482 : BitVec 1 := Scalar.andi v480 v481
  let v483 : BitVec 32 := Scalar.extui v482
  let c0_i32_230 : BitVec 32 := 0#32
  let v484 : BitVec 1 := Scalar.cmpi .ne v483 c0_i32_230
  v484

def k0_chk40 (d0 : Dev nD) (v477 : BitVec 32) : Prop :=
  (∀ (k0_h40 : k0_cond40 d0 v477 = 1#1), ∀ a, (k0_off80 d0 v477) a + S1x512.size a ≤ S4096x512.size a)
theorem k0_off80_inb : ∀ (d0 : Dev nD) (v477 : BitVec 32) (k0_hw40 : k0_chk40 d0 v477), ∀ (k0_h40 : k0_cond40 d0 v477 = 1#1), ∀ a, (k0_off80 d0 v477) a + S1x512.size a ≤ S4096x512.size a := fun d0 v477 k0_hw40 k0_h40 => k0_hw40 k0_h40

def k0_off81 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_231 : BitVec 32 := 128#32
  let v485 : BitVec 32 := Scalar.muli v10 c128_i32_231
  let c40_i32 : BitVec 32 := 40#32
  let v486 : BitVec 32 := Scalar.addi v485 c40_i32
  let v487 : Index := Scalar.indexCast v486
  ![v487.toNat]
def k0_off82 (d0 : Dev nD) (v488 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_232 : BitVec 32 := 4096#32
  let v489 : BitVec 32 := Scalar.muli v8 c4096_i32_232
  let v490 : BitVec 32 := Scalar.subi v488 v489
  let c0_i32_2121 : BitVec 32 := 0#32
  ![v490.toNat, 0]
def k0_cond41 (d0 : Dev nD) (v488 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_232 : BitVec 32 := 4096#32
  let v489 : BitVec 32 := Scalar.muli v8 c4096_i32_232
  let v490 : BitVec 32 := Scalar.subi v488 v489
  let c0_i32_233 : BitVec 32 := 0#32
  let v491 : BitVec 1 := Scalar.cmpi .sge v490 c0_i32_233
  let c4096_i32_234 : BitVec 32 := 4096#32
  let v492 : BitVec 1 := Scalar.cmpi .slt v490 c4096_i32_234
  let v493 : BitVec 1 := Scalar.andi v491 v492
  let v494 : BitVec 32 := Scalar.extui v493
  let c0_i32_235 : BitVec 32 := 0#32
  let v495 : BitVec 1 := Scalar.cmpi .ne v494 c0_i32_235
  v495

def k0_chk41 (d0 : Dev nD) (v488 : BitVec 32) : Prop :=
  (∀ (k0_h41 : k0_cond41 d0 v488 = 1#1), ∀ a, (k0_off82 d0 v488) a + S1x512.size a ≤ S4096x512.size a)
theorem k0_off82_inb : ∀ (d0 : Dev nD) (v488 : BitVec 32) (k0_hw41 : k0_chk41 d0 v488), ∀ (k0_h41 : k0_cond41 d0 v488 = 1#1), ∀ a, (k0_off82 d0 v488) a + S1x512.size a ≤ S4096x512.size a := fun d0 v488 k0_hw41 k0_h41 => k0_hw41 k0_h41

def k0_off83 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_236 : BitVec 32 := 128#32
  let v496 : BitVec 32 := Scalar.muli v10 c128_i32_236
  let c41_i32 : BitVec 32 := 41#32
  let v497 : BitVec 32 := Scalar.addi v496 c41_i32
  let v498 : Index := Scalar.indexCast v497
  ![v498.toNat]
def k0_off84 (d0 : Dev nD) (v499 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_237 : BitVec 32 := 4096#32
  let v500 : BitVec 32 := Scalar.muli v8 c4096_i32_237
  let v501 : BitVec 32 := Scalar.subi v499 v500
  let c0_i32_2121 : BitVec 32 := 0#32
  ![v501.toNat, 0]
def k0_cond42 (d0 : Dev nD) (v499 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_237 : BitVec 32 := 4096#32
  let v500 : BitVec 32 := Scalar.muli v8 c4096_i32_237
  let v501 : BitVec 32 := Scalar.subi v499 v500
  let c0_i32_238 : BitVec 32 := 0#32
  let v502 : BitVec 1 := Scalar.cmpi .sge v501 c0_i32_238
  let c4096_i32_239 : BitVec 32 := 4096#32
  let v503 : BitVec 1 := Scalar.cmpi .slt v501 c4096_i32_239
  let v504 : BitVec 1 := Scalar.andi v502 v503
  let v505 : BitVec 32 := Scalar.extui v504
  let c0_i32_240 : BitVec 32 := 0#32
  let v506 : BitVec 1 := Scalar.cmpi .ne v505 c0_i32_240
  v506

def k0_chk42 (d0 : Dev nD) (v499 : BitVec 32) : Prop :=
  (∀ (k0_h42 : k0_cond42 d0 v499 = 1#1), ∀ a, (k0_off84 d0 v499) a + S1x512.size a ≤ S4096x512.size a)
theorem k0_off84_inb : ∀ (d0 : Dev nD) (v499 : BitVec 32) (k0_hw42 : k0_chk42 d0 v499), ∀ (k0_h42 : k0_cond42 d0 v499 = 1#1), ∀ a, (k0_off84 d0 v499) a + S1x512.size a ≤ S4096x512.size a := fun d0 v499 k0_hw42 k0_h42 => k0_hw42 k0_h42

def k0_off85 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_241 : BitVec 32 := 128#32
  let v507 : BitVec 32 := Scalar.muli v10 c128_i32_241
  let c42_i32 : BitVec 32 := 42#32
  let v508 : BitVec 32 := Scalar.addi v507 c42_i32
  let v509 : Index := Scalar.indexCast v508
  ![v509.toNat]
def k0_off86 (d0 : Dev nD) (v510 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_242 : BitVec 32 := 4096#32
  let v511 : BitVec 32 := Scalar.muli v8 c4096_i32_242
  let v512 : BitVec 32 := Scalar.subi v510 v511
  let c0_i32_2121 : BitVec 32 := 0#32
  ![v512.toNat, 0]
def k0_cond43 (d0 : Dev nD) (v510 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_242 : BitVec 32 := 4096#32
  let v511 : BitVec 32 := Scalar.muli v8 c4096_i32_242
  let v512 : BitVec 32 := Scalar.subi v510 v511
  let c0_i32_243 : BitVec 32 := 0#32
  let v513 : BitVec 1 := Scalar.cmpi .sge v512 c0_i32_243
  let c4096_i32_244 : BitVec 32 := 4096#32
  let v514 : BitVec 1 := Scalar.cmpi .slt v512 c4096_i32_244
  let v515 : BitVec 1 := Scalar.andi v513 v514
  let v516 : BitVec 32 := Scalar.extui v515
  let c0_i32_245 : BitVec 32 := 0#32
  let v517 : BitVec 1 := Scalar.cmpi .ne v516 c0_i32_245
  v517

def k0_chk43 (d0 : Dev nD) (v510 : BitVec 32) : Prop :=
  (∀ (k0_h43 : k0_cond43 d0 v510 = 1#1), ∀ a, (k0_off86 d0 v510) a + S1x512.size a ≤ S4096x512.size a)
theorem k0_off86_inb : ∀ (d0 : Dev nD) (v510 : BitVec 32) (k0_hw43 : k0_chk43 d0 v510), ∀ (k0_h43 : k0_cond43 d0 v510 = 1#1), ∀ a, (k0_off86 d0 v510) a + S1x512.size a ≤ S4096x512.size a := fun d0 v510 k0_hw43 k0_h43 => k0_hw43 k0_h43

def k0_off87 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_246 : BitVec 32 := 128#32
  let v518 : BitVec 32 := Scalar.muli v10 c128_i32_246
  let c43_i32 : BitVec 32 := 43#32
  let v519 : BitVec 32 := Scalar.addi v518 c43_i32
  let v520 : Index := Scalar.indexCast v519
  ![v520.toNat]
def k0_off88 (d0 : Dev nD) (v521 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_247 : BitVec 32 := 4096#32
  let v522 : BitVec 32 := Scalar.muli v8 c4096_i32_247
  let v523 : BitVec 32 := Scalar.subi v521 v522
  let c0_i32_2121 : BitVec 32 := 0#32
  ![v523.toNat, 0]
def k0_cond44 (d0 : Dev nD) (v521 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_247 : BitVec 32 := 4096#32
  let v522 : BitVec 32 := Scalar.muli v8 c4096_i32_247
  let v523 : BitVec 32 := Scalar.subi v521 v522
  let c0_i32_248 : BitVec 32 := 0#32
  let v524 : BitVec 1 := Scalar.cmpi .sge v523 c0_i32_248
  let c4096_i32_249 : BitVec 32 := 4096#32
  let v525 : BitVec 1 := Scalar.cmpi .slt v523 c4096_i32_249
  let v526 : BitVec 1 := Scalar.andi v524 v525
  let v527 : BitVec 32 := Scalar.extui v526
  let c0_i32_250 : BitVec 32 := 0#32
  let v528 : BitVec 1 := Scalar.cmpi .ne v527 c0_i32_250
  v528

def k0_chk44 (d0 : Dev nD) (v521 : BitVec 32) : Prop :=
  (∀ (k0_h44 : k0_cond44 d0 v521 = 1#1), ∀ a, (k0_off88 d0 v521) a + S1x512.size a ≤ S4096x512.size a)
theorem k0_off88_inb : ∀ (d0 : Dev nD) (v521 : BitVec 32) (k0_hw44 : k0_chk44 d0 v521), ∀ (k0_h44 : k0_cond44 d0 v521 = 1#1), ∀ a, (k0_off88 d0 v521) a + S1x512.size a ≤ S4096x512.size a := fun d0 v521 k0_hw44 k0_h44 => k0_hw44 k0_h44

def k0_off89 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_251 : BitVec 32 := 128#32
  let v529 : BitVec 32 := Scalar.muli v10 c128_i32_251
  let c44_i32 : BitVec 32 := 44#32
  let v530 : BitVec 32 := Scalar.addi v529 c44_i32
  let v531 : Index := Scalar.indexCast v530
  ![v531.toNat]
def k0_off90 (d0 : Dev nD) (v532 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_252 : BitVec 32 := 4096#32
  let v533 : BitVec 32 := Scalar.muli v8 c4096_i32_252
  let v534 : BitVec 32 := Scalar.subi v532 v533
  let c0_i32_2121 : BitVec 32 := 0#32
  ![v534.toNat, 0]
def k0_cond45 (d0 : Dev nD) (v532 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_252 : BitVec 32 := 4096#32
  let v533 : BitVec 32 := Scalar.muli v8 c4096_i32_252
  let v534 : BitVec 32 := Scalar.subi v532 v533
  let c0_i32_253 : BitVec 32 := 0#32
  let v535 : BitVec 1 := Scalar.cmpi .sge v534 c0_i32_253
  let c4096_i32_254 : BitVec 32 := 4096#32
  let v536 : BitVec 1 := Scalar.cmpi .slt v534 c4096_i32_254
  let v537 : BitVec 1 := Scalar.andi v535 v536
  let v538 : BitVec 32 := Scalar.extui v537
  let c0_i32_255 : BitVec 32 := 0#32
  let v539 : BitVec 1 := Scalar.cmpi .ne v538 c0_i32_255
  v539

def k0_chk45 (d0 : Dev nD) (v532 : BitVec 32) : Prop :=
  (∀ (k0_h45 : k0_cond45 d0 v532 = 1#1), ∀ a, (k0_off90 d0 v532) a + S1x512.size a ≤ S4096x512.size a)
theorem k0_off90_inb : ∀ (d0 : Dev nD) (v532 : BitVec 32) (k0_hw45 : k0_chk45 d0 v532), ∀ (k0_h45 : k0_cond45 d0 v532 = 1#1), ∀ a, (k0_off90 d0 v532) a + S1x512.size a ≤ S4096x512.size a := fun d0 v532 k0_hw45 k0_h45 => k0_hw45 k0_h45

def k0_off91 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_256 : BitVec 32 := 128#32
  let v540 : BitVec 32 := Scalar.muli v10 c128_i32_256
  let c45_i32 : BitVec 32 := 45#32
  let v541 : BitVec 32 := Scalar.addi v540 c45_i32
  let v542 : Index := Scalar.indexCast v541
  ![v542.toNat]
def k0_off92 (d0 : Dev nD) (v543 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_257 : BitVec 32 := 4096#32
  let v544 : BitVec 32 := Scalar.muli v8 c4096_i32_257
  let v545 : BitVec 32 := Scalar.subi v543 v544
  let c0_i32_2121 : BitVec 32 := 0#32
  ![v545.toNat, 0]
def k0_cond46 (d0 : Dev nD) (v543 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_257 : BitVec 32 := 4096#32
  let v544 : BitVec 32 := Scalar.muli v8 c4096_i32_257
  let v545 : BitVec 32 := Scalar.subi v543 v544
  let c0_i32_258 : BitVec 32 := 0#32
  let v546 : BitVec 1 := Scalar.cmpi .sge v545 c0_i32_258
  let c4096_i32_259 : BitVec 32 := 4096#32
  let v547 : BitVec 1 := Scalar.cmpi .slt v545 c4096_i32_259
  let v548 : BitVec 1 := Scalar.andi v546 v547
  let v549 : BitVec 32 := Scalar.extui v548
  let c0_i32_260 : BitVec 32 := 0#32
  let v550 : BitVec 1 := Scalar.cmpi .ne v549 c0_i32_260
  v550

def k0_chk46 (d0 : Dev nD) (v543 : BitVec 32) : Prop :=
  (∀ (k0_h46 : k0_cond46 d0 v543 = 1#1), ∀ a, (k0_off92 d0 v543) a + S1x512.size a ≤ S4096x512.size a)
theorem k0_off92_inb : ∀ (d0 : Dev nD) (v543 : BitVec 32) (k0_hw46 : k0_chk46 d0 v543), ∀ (k0_h46 : k0_cond46 d0 v543 = 1#1), ∀ a, (k0_off92 d0 v543) a + S1x512.size a ≤ S4096x512.size a := fun d0 v543 k0_hw46 k0_h46 => k0_hw46 k0_h46

def k0_off93 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_261 : BitVec 32 := 128#32
  let v551 : BitVec 32 := Scalar.muli v10 c128_i32_261
  let c46_i32 : BitVec 32 := 46#32
  let v552 : BitVec 32 := Scalar.addi v551 c46_i32
  let v553 : Index := Scalar.indexCast v552
  ![v553.toNat]
def k0_off94 (d0 : Dev nD) (v554 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_262 : BitVec 32 := 4096#32
  let v555 : BitVec 32 := Scalar.muli v8 c4096_i32_262
  let v556 : BitVec 32 := Scalar.subi v554 v555
  let c0_i32_2121 : BitVec 32 := 0#32
  ![v556.toNat, 0]
def k0_cond47 (d0 : Dev nD) (v554 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_262 : BitVec 32 := 4096#32
  let v555 : BitVec 32 := Scalar.muli v8 c4096_i32_262
  let v556 : BitVec 32 := Scalar.subi v554 v555
  let c0_i32_263 : BitVec 32 := 0#32
  let v557 : BitVec 1 := Scalar.cmpi .sge v556 c0_i32_263
  let c4096_i32_264 : BitVec 32 := 4096#32
  let v558 : BitVec 1 := Scalar.cmpi .slt v556 c4096_i32_264
  let v559 : BitVec 1 := Scalar.andi v557 v558
  let v560 : BitVec 32 := Scalar.extui v559
  let c0_i32_265 : BitVec 32 := 0#32
  let v561 : BitVec 1 := Scalar.cmpi .ne v560 c0_i32_265
  v561

def k0_chk47 (d0 : Dev nD) (v554 : BitVec 32) : Prop :=
  (∀ (k0_h47 : k0_cond47 d0 v554 = 1#1), ∀ a, (k0_off94 d0 v554) a + S1x512.size a ≤ S4096x512.size a)
theorem k0_off94_inb : ∀ (d0 : Dev nD) (v554 : BitVec 32) (k0_hw47 : k0_chk47 d0 v554), ∀ (k0_h47 : k0_cond47 d0 v554 = 1#1), ∀ a, (k0_off94 d0 v554) a + S1x512.size a ≤ S4096x512.size a := fun d0 v554 k0_hw47 k0_h47 => k0_hw47 k0_h47

def k0_off95 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_266 : BitVec 32 := 128#32
  let v562 : BitVec 32 := Scalar.muli v10 c128_i32_266
  let c47_i32 : BitVec 32 := 47#32
  let v563 : BitVec 32 := Scalar.addi v562 c47_i32
  let v564 : Index := Scalar.indexCast v563
  ![v564.toNat]
def k0_off96 (d0 : Dev nD) (v565 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_267 : BitVec 32 := 4096#32
  let v566 : BitVec 32 := Scalar.muli v8 c4096_i32_267
  let v567 : BitVec 32 := Scalar.subi v565 v566
  let c0_i32_2121 : BitVec 32 := 0#32
  ![v567.toNat, 0]
def k0_cond48 (d0 : Dev nD) (v565 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_267 : BitVec 32 := 4096#32
  let v566 : BitVec 32 := Scalar.muli v8 c4096_i32_267
  let v567 : BitVec 32 := Scalar.subi v565 v566
  let c0_i32_268 : BitVec 32 := 0#32
  let v568 : BitVec 1 := Scalar.cmpi .sge v567 c0_i32_268
  let c4096_i32_269 : BitVec 32 := 4096#32
  let v569 : BitVec 1 := Scalar.cmpi .slt v567 c4096_i32_269
  let v570 : BitVec 1 := Scalar.andi v568 v569
  let v571 : BitVec 32 := Scalar.extui v570
  let c0_i32_270 : BitVec 32 := 0#32
  let v572 : BitVec 1 := Scalar.cmpi .ne v571 c0_i32_270
  v572

def k0_chk48 (d0 : Dev nD) (v565 : BitVec 32) : Prop :=
  (∀ (k0_h48 : k0_cond48 d0 v565 = 1#1), ∀ a, (k0_off96 d0 v565) a + S1x512.size a ≤ S4096x512.size a)
theorem k0_off96_inb : ∀ (d0 : Dev nD) (v565 : BitVec 32) (k0_hw48 : k0_chk48 d0 v565), ∀ (k0_h48 : k0_cond48 d0 v565 = 1#1), ∀ a, (k0_off96 d0 v565) a + S1x512.size a ≤ S4096x512.size a := fun d0 v565 k0_hw48 k0_h48 => k0_hw48 k0_h48

def k0_off97 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_271 : BitVec 32 := 128#32
  let v573 : BitVec 32 := Scalar.muli v10 c128_i32_271
  let c48_i32 : BitVec 32 := 48#32
  let v574 : BitVec 32 := Scalar.addi v573 c48_i32
  let v575 : Index := Scalar.indexCast v574
  ![v575.toNat]
def k0_off98 (d0 : Dev nD) (v576 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_272 : BitVec 32 := 4096#32
  let v577 : BitVec 32 := Scalar.muli v8 c4096_i32_272
  let v578 : BitVec 32 := Scalar.subi v576 v577
  let c0_i32_2121 : BitVec 32 := 0#32
  ![v578.toNat, 0]
def k0_cond49 (d0 : Dev nD) (v576 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_272 : BitVec 32 := 4096#32
  let v577 : BitVec 32 := Scalar.muli v8 c4096_i32_272
  let v578 : BitVec 32 := Scalar.subi v576 v577
  let c0_i32_273 : BitVec 32 := 0#32
  let v579 : BitVec 1 := Scalar.cmpi .sge v578 c0_i32_273
  let c4096_i32_274 : BitVec 32 := 4096#32
  let v580 : BitVec 1 := Scalar.cmpi .slt v578 c4096_i32_274
  let v581 : BitVec 1 := Scalar.andi v579 v580
  let v582 : BitVec 32 := Scalar.extui v581
  let c0_i32_275 : BitVec 32 := 0#32
  let v583 : BitVec 1 := Scalar.cmpi .ne v582 c0_i32_275
  v583

def k0_chk49 (d0 : Dev nD) (v576 : BitVec 32) : Prop :=
  (∀ (k0_h49 : k0_cond49 d0 v576 = 1#1), ∀ a, (k0_off98 d0 v576) a + S1x512.size a ≤ S4096x512.size a)
theorem k0_off98_inb : ∀ (d0 : Dev nD) (v576 : BitVec 32) (k0_hw49 : k0_chk49 d0 v576), ∀ (k0_h49 : k0_cond49 d0 v576 = 1#1), ∀ a, (k0_off98 d0 v576) a + S1x512.size a ≤ S4096x512.size a := fun d0 v576 k0_hw49 k0_h49 => k0_hw49 k0_h49

def k0_off99 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_276 : BitVec 32 := 128#32
  let v584 : BitVec 32 := Scalar.muli v10 c128_i32_276
  let c49_i32 : BitVec 32 := 49#32
  let v585 : BitVec 32 := Scalar.addi v584 c49_i32
  let v586 : Index := Scalar.indexCast v585
  ![v586.toNat]
def k0_off100 (d0 : Dev nD) (v587 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_277 : BitVec 32 := 4096#32
  let v588 : BitVec 32 := Scalar.muli v8 c4096_i32_277
  let v589 : BitVec 32 := Scalar.subi v587 v588
  let c0_i32_2121 : BitVec 32 := 0#32
  ![v589.toNat, 0]
def k0_cond50 (d0 : Dev nD) (v587 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_277 : BitVec 32 := 4096#32
  let v588 : BitVec 32 := Scalar.muli v8 c4096_i32_277
  let v589 : BitVec 32 := Scalar.subi v587 v588
  let c0_i32_278 : BitVec 32 := 0#32
  let v590 : BitVec 1 := Scalar.cmpi .sge v589 c0_i32_278
  let c4096_i32_279 : BitVec 32 := 4096#32
  let v591 : BitVec 1 := Scalar.cmpi .slt v589 c4096_i32_279
  let v592 : BitVec 1 := Scalar.andi v590 v591
  let v593 : BitVec 32 := Scalar.extui v592
  let c0_i32_280 : BitVec 32 := 0#32
  let v594 : BitVec 1 := Scalar.cmpi .ne v593 c0_i32_280
  v594

def k0_chk50 (d0 : Dev nD) (v587 : BitVec 32) : Prop :=
  (∀ (k0_h50 : k0_cond50 d0 v587 = 1#1), ∀ a, (k0_off100 d0 v587) a + S1x512.size a ≤ S4096x512.size a)
theorem k0_off100_inb : ∀ (d0 : Dev nD) (v587 : BitVec 32) (k0_hw50 : k0_chk50 d0 v587), ∀ (k0_h50 : k0_cond50 d0 v587 = 1#1), ∀ a, (k0_off100 d0 v587) a + S1x512.size a ≤ S4096x512.size a := fun d0 v587 k0_hw50 k0_h50 => k0_hw50 k0_h50

def k0_off101 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_281 : BitVec 32 := 128#32
  let v595 : BitVec 32 := Scalar.muli v10 c128_i32_281
  let c50_i32 : BitVec 32 := 50#32
  let v596 : BitVec 32 := Scalar.addi v595 c50_i32
  let v597 : Index := Scalar.indexCast v596
  ![v597.toNat]
def k0_off102 (d0 : Dev nD) (v598 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_282 : BitVec 32 := 4096#32
  let v599 : BitVec 32 := Scalar.muli v8 c4096_i32_282
  let v600 : BitVec 32 := Scalar.subi v598 v599
  let c0_i32_2121 : BitVec 32 := 0#32
  ![v600.toNat, 0]
def k0_cond51 (d0 : Dev nD) (v598 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_282 : BitVec 32 := 4096#32
  let v599 : BitVec 32 := Scalar.muli v8 c4096_i32_282
  let v600 : BitVec 32 := Scalar.subi v598 v599
  let c0_i32_283 : BitVec 32 := 0#32
  let v601 : BitVec 1 := Scalar.cmpi .sge v600 c0_i32_283
  let c4096_i32_284 : BitVec 32 := 4096#32
  let v602 : BitVec 1 := Scalar.cmpi .slt v600 c4096_i32_284
  let v603 : BitVec 1 := Scalar.andi v601 v602
  let v604 : BitVec 32 := Scalar.extui v603
  let c0_i32_285 : BitVec 32 := 0#32
  let v605 : BitVec 1 := Scalar.cmpi .ne v604 c0_i32_285
  v605

def k0_chk51 (d0 : Dev nD) (v598 : BitVec 32) : Prop :=
  (∀ (k0_h51 : k0_cond51 d0 v598 = 1#1), ∀ a, (k0_off102 d0 v598) a + S1x512.size a ≤ S4096x512.size a)
theorem k0_off102_inb : ∀ (d0 : Dev nD) (v598 : BitVec 32) (k0_hw51 : k0_chk51 d0 v598), ∀ (k0_h51 : k0_cond51 d0 v598 = 1#1), ∀ a, (k0_off102 d0 v598) a + S1x512.size a ≤ S4096x512.size a := fun d0 v598 k0_hw51 k0_h51 => k0_hw51 k0_h51

def k0_off103 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_286 : BitVec 32 := 128#32
  let v606 : BitVec 32 := Scalar.muli v10 c128_i32_286
  let c51_i32 : BitVec 32 := 51#32
  let v607 : BitVec 32 := Scalar.addi v606 c51_i32
  let v608 : Index := Scalar.indexCast v607
  ![v608.toNat]
def k0_off104 (d0 : Dev nD) (v609 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_287 : BitVec 32 := 4096#32
  let v610 : BitVec 32 := Scalar.muli v8 c4096_i32_287
  let v611 : BitVec 32 := Scalar.subi v609 v610
  let c0_i32_2121 : BitVec 32 := 0#32
  ![v611.toNat, 0]
def k0_cond52 (d0 : Dev nD) (v609 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_287 : BitVec 32 := 4096#32
  let v610 : BitVec 32 := Scalar.muli v8 c4096_i32_287
  let v611 : BitVec 32 := Scalar.subi v609 v610
  let c0_i32_288 : BitVec 32 := 0#32
  let v612 : BitVec 1 := Scalar.cmpi .sge v611 c0_i32_288
  let c4096_i32_289 : BitVec 32 := 4096#32
  let v613 : BitVec 1 := Scalar.cmpi .slt v611 c4096_i32_289
  let v614 : BitVec 1 := Scalar.andi v612 v613
  let v615 : BitVec 32 := Scalar.extui v614
  let c0_i32_290 : BitVec 32 := 0#32
  let v616 : BitVec 1 := Scalar.cmpi .ne v615 c0_i32_290
  v616

def k0_chk52 (d0 : Dev nD) (v609 : BitVec 32) : Prop :=
  (∀ (k0_h52 : k0_cond52 d0 v609 = 1#1), ∀ a, (k0_off104 d0 v609) a + S1x512.size a ≤ S4096x512.size a)
theorem k0_off104_inb : ∀ (d0 : Dev nD) (v609 : BitVec 32) (k0_hw52 : k0_chk52 d0 v609), ∀ (k0_h52 : k0_cond52 d0 v609 = 1#1), ∀ a, (k0_off104 d0 v609) a + S1x512.size a ≤ S4096x512.size a := fun d0 v609 k0_hw52 k0_h52 => k0_hw52 k0_h52

def k0_off105 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_291 : BitVec 32 := 128#32
  let v617 : BitVec 32 := Scalar.muli v10 c128_i32_291
  let c52_i32 : BitVec 32 := 52#32
  let v618 : BitVec 32 := Scalar.addi v617 c52_i32
  let v619 : Index := Scalar.indexCast v618
  ![v619.toNat]
def k0_off106 (d0 : Dev nD) (v620 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_292 : BitVec 32 := 4096#32
  let v621 : BitVec 32 := Scalar.muli v8 c4096_i32_292
  let v622 : BitVec 32 := Scalar.subi v620 v621
  let c0_i32_2121 : BitVec 32 := 0#32
  ![v622.toNat, 0]
def k0_cond53 (d0 : Dev nD) (v620 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_292 : BitVec 32 := 4096#32
  let v621 : BitVec 32 := Scalar.muli v8 c4096_i32_292
  let v622 : BitVec 32 := Scalar.subi v620 v621
  let c0_i32_293 : BitVec 32 := 0#32
  let v623 : BitVec 1 := Scalar.cmpi .sge v622 c0_i32_293
  let c4096_i32_294 : BitVec 32 := 4096#32
  let v624 : BitVec 1 := Scalar.cmpi .slt v622 c4096_i32_294
  let v625 : BitVec 1 := Scalar.andi v623 v624
  let v626 : BitVec 32 := Scalar.extui v625
  let c0_i32_295 : BitVec 32 := 0#32
  let v627 : BitVec 1 := Scalar.cmpi .ne v626 c0_i32_295
  v627

def k0_chk53 (d0 : Dev nD) (v620 : BitVec 32) : Prop :=
  (∀ (k0_h53 : k0_cond53 d0 v620 = 1#1), ∀ a, (k0_off106 d0 v620) a + S1x512.size a ≤ S4096x512.size a)
theorem k0_off106_inb : ∀ (d0 : Dev nD) (v620 : BitVec 32) (k0_hw53 : k0_chk53 d0 v620), ∀ (k0_h53 : k0_cond53 d0 v620 = 1#1), ∀ a, (k0_off106 d0 v620) a + S1x512.size a ≤ S4096x512.size a := fun d0 v620 k0_hw53 k0_h53 => k0_hw53 k0_h53

def k0_off107 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_296 : BitVec 32 := 128#32
  let v628 : BitVec 32 := Scalar.muli v10 c128_i32_296
  let c53_i32 : BitVec 32 := 53#32
  let v629 : BitVec 32 := Scalar.addi v628 c53_i32
  let v630 : Index := Scalar.indexCast v629
  ![v630.toNat]
def k0_off108 (d0 : Dev nD) (v631 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_297 : BitVec 32 := 4096#32
  let v632 : BitVec 32 := Scalar.muli v8 c4096_i32_297
  let v633 : BitVec 32 := Scalar.subi v631 v632
  let c0_i32_2121 : BitVec 32 := 0#32
  ![v633.toNat, 0]
def k0_cond54 (d0 : Dev nD) (v631 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_297 : BitVec 32 := 4096#32
  let v632 : BitVec 32 := Scalar.muli v8 c4096_i32_297
  let v633 : BitVec 32 := Scalar.subi v631 v632
  let c0_i32_298 : BitVec 32 := 0#32
  let v634 : BitVec 1 := Scalar.cmpi .sge v633 c0_i32_298
  let c4096_i32_299 : BitVec 32 := 4096#32
  let v635 : BitVec 1 := Scalar.cmpi .slt v633 c4096_i32_299
  let v636 : BitVec 1 := Scalar.andi v634 v635
  let v637 : BitVec 32 := Scalar.extui v636
  let c0_i32_300 : BitVec 32 := 0#32
  let v638 : BitVec 1 := Scalar.cmpi .ne v637 c0_i32_300
  v638

def k0_chk54 (d0 : Dev nD) (v631 : BitVec 32) : Prop :=
  (∀ (k0_h54 : k0_cond54 d0 v631 = 1#1), ∀ a, (k0_off108 d0 v631) a + S1x512.size a ≤ S4096x512.size a)
theorem k0_off108_inb : ∀ (d0 : Dev nD) (v631 : BitVec 32) (k0_hw54 : k0_chk54 d0 v631), ∀ (k0_h54 : k0_cond54 d0 v631 = 1#1), ∀ a, (k0_off108 d0 v631) a + S1x512.size a ≤ S4096x512.size a := fun d0 v631 k0_hw54 k0_h54 => k0_hw54 k0_h54

def k0_off109 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_301 : BitVec 32 := 128#32
  let v639 : BitVec 32 := Scalar.muli v10 c128_i32_301
  let c54_i32 : BitVec 32 := 54#32
  let v640 : BitVec 32 := Scalar.addi v639 c54_i32
  let v641 : Index := Scalar.indexCast v640
  ![v641.toNat]
def k0_off110 (d0 : Dev nD) (v642 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_302 : BitVec 32 := 4096#32
  let v643 : BitVec 32 := Scalar.muli v8 c4096_i32_302
  let v644 : BitVec 32 := Scalar.subi v642 v643
  let c0_i32_2121 : BitVec 32 := 0#32
  ![v644.toNat, 0]
def k0_cond55 (d0 : Dev nD) (v642 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_302 : BitVec 32 := 4096#32
  let v643 : BitVec 32 := Scalar.muli v8 c4096_i32_302
  let v644 : BitVec 32 := Scalar.subi v642 v643
  let c0_i32_303 : BitVec 32 := 0#32
  let v645 : BitVec 1 := Scalar.cmpi .sge v644 c0_i32_303
  let c4096_i32_304 : BitVec 32 := 4096#32
  let v646 : BitVec 1 := Scalar.cmpi .slt v644 c4096_i32_304
  let v647 : BitVec 1 := Scalar.andi v645 v646
  let v648 : BitVec 32 := Scalar.extui v647
  let c0_i32_305 : BitVec 32 := 0#32
  let v649 : BitVec 1 := Scalar.cmpi .ne v648 c0_i32_305
  v649

def k0_chk55 (d0 : Dev nD) (v642 : BitVec 32) : Prop :=
  (∀ (k0_h55 : k0_cond55 d0 v642 = 1#1), ∀ a, (k0_off110 d0 v642) a + S1x512.size a ≤ S4096x512.size a)
theorem k0_off110_inb : ∀ (d0 : Dev nD) (v642 : BitVec 32) (k0_hw55 : k0_chk55 d0 v642), ∀ (k0_h55 : k0_cond55 d0 v642 = 1#1), ∀ a, (k0_off110 d0 v642) a + S1x512.size a ≤ S4096x512.size a := fun d0 v642 k0_hw55 k0_h55 => k0_hw55 k0_h55

def k0_off111 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_306 : BitVec 32 := 128#32
  let v650 : BitVec 32 := Scalar.muli v10 c128_i32_306
  let c55_i32 : BitVec 32 := 55#32
  let v651 : BitVec 32 := Scalar.addi v650 c55_i32
  let v652 : Index := Scalar.indexCast v651
  ![v652.toNat]
def k0_off112 (d0 : Dev nD) (v653 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_307 : BitVec 32 := 4096#32
  let v654 : BitVec 32 := Scalar.muli v8 c4096_i32_307
  let v655 : BitVec 32 := Scalar.subi v653 v654
  let c0_i32_2121 : BitVec 32 := 0#32
  ![v655.toNat, 0]
def k0_cond56 (d0 : Dev nD) (v653 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_307 : BitVec 32 := 4096#32
  let v654 : BitVec 32 := Scalar.muli v8 c4096_i32_307
  let v655 : BitVec 32 := Scalar.subi v653 v654
  let c0_i32_308 : BitVec 32 := 0#32
  let v656 : BitVec 1 := Scalar.cmpi .sge v655 c0_i32_308
  let c4096_i32_309 : BitVec 32 := 4096#32
  let v657 : BitVec 1 := Scalar.cmpi .slt v655 c4096_i32_309
  let v658 : BitVec 1 := Scalar.andi v656 v657
  let v659 : BitVec 32 := Scalar.extui v658
  let c0_i32_310 : BitVec 32 := 0#32
  let v660 : BitVec 1 := Scalar.cmpi .ne v659 c0_i32_310
  v660

def k0_chk56 (d0 : Dev nD) (v653 : BitVec 32) : Prop :=
  (∀ (k0_h56 : k0_cond56 d0 v653 = 1#1), ∀ a, (k0_off112 d0 v653) a + S1x512.size a ≤ S4096x512.size a)
theorem k0_off112_inb : ∀ (d0 : Dev nD) (v653 : BitVec 32) (k0_hw56 : k0_chk56 d0 v653), ∀ (k0_h56 : k0_cond56 d0 v653 = 1#1), ∀ a, (k0_off112 d0 v653) a + S1x512.size a ≤ S4096x512.size a := fun d0 v653 k0_hw56 k0_h56 => k0_hw56 k0_h56

def k0_off113 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_311 : BitVec 32 := 128#32
  let v661 : BitVec 32 := Scalar.muli v10 c128_i32_311
  let c56_i32 : BitVec 32 := 56#32
  let v662 : BitVec 32 := Scalar.addi v661 c56_i32
  let v663 : Index := Scalar.indexCast v662
  ![v663.toNat]
def k0_off114 (d0 : Dev nD) (v664 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_312 : BitVec 32 := 4096#32
  let v665 : BitVec 32 := Scalar.muli v8 c4096_i32_312
  let v666 : BitVec 32 := Scalar.subi v664 v665
  let c0_i32_2121 : BitVec 32 := 0#32
  ![v666.toNat, 0]
def k0_cond57 (d0 : Dev nD) (v664 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_312 : BitVec 32 := 4096#32
  let v665 : BitVec 32 := Scalar.muli v8 c4096_i32_312
  let v666 : BitVec 32 := Scalar.subi v664 v665
  let c0_i32_313 : BitVec 32 := 0#32
  let v667 : BitVec 1 := Scalar.cmpi .sge v666 c0_i32_313
  let c4096_i32_314 : BitVec 32 := 4096#32
  let v668 : BitVec 1 := Scalar.cmpi .slt v666 c4096_i32_314
  let v669 : BitVec 1 := Scalar.andi v667 v668
  let v670 : BitVec 32 := Scalar.extui v669
  let c0_i32_315 : BitVec 32 := 0#32
  let v671 : BitVec 1 := Scalar.cmpi .ne v670 c0_i32_315
  v671

def k0_chk57 (d0 : Dev nD) (v664 : BitVec 32) : Prop :=
  (∀ (k0_h57 : k0_cond57 d0 v664 = 1#1), ∀ a, (k0_off114 d0 v664) a + S1x512.size a ≤ S4096x512.size a)
theorem k0_off114_inb : ∀ (d0 : Dev nD) (v664 : BitVec 32) (k0_hw57 : k0_chk57 d0 v664), ∀ (k0_h57 : k0_cond57 d0 v664 = 1#1), ∀ a, (k0_off114 d0 v664) a + S1x512.size a ≤ S4096x512.size a := fun d0 v664 k0_hw57 k0_h57 => k0_hw57 k0_h57

def k0_off115 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_316 : BitVec 32 := 128#32
  let v672 : BitVec 32 := Scalar.muli v10 c128_i32_316
  let c57_i32 : BitVec 32 := 57#32
  let v673 : BitVec 32 := Scalar.addi v672 c57_i32
  let v674 : Index := Scalar.indexCast v673
  ![v674.toNat]
def k0_off116 (d0 : Dev nD) (v675 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_317 : BitVec 32 := 4096#32
  let v676 : BitVec 32 := Scalar.muli v8 c4096_i32_317
  let v677 : BitVec 32 := Scalar.subi v675 v676
  let c0_i32_2121 : BitVec 32 := 0#32
  ![v677.toNat, 0]
def k0_cond58 (d0 : Dev nD) (v675 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_317 : BitVec 32 := 4096#32
  let v676 : BitVec 32 := Scalar.muli v8 c4096_i32_317
  let v677 : BitVec 32 := Scalar.subi v675 v676
  let c0_i32_318 : BitVec 32 := 0#32
  let v678 : BitVec 1 := Scalar.cmpi .sge v677 c0_i32_318
  let c4096_i32_319 : BitVec 32 := 4096#32
  let v679 : BitVec 1 := Scalar.cmpi .slt v677 c4096_i32_319
  let v680 : BitVec 1 := Scalar.andi v678 v679
  let v681 : BitVec 32 := Scalar.extui v680
  let c0_i32_320 : BitVec 32 := 0#32
  let v682 : BitVec 1 := Scalar.cmpi .ne v681 c0_i32_320
  v682

def k0_chk58 (d0 : Dev nD) (v675 : BitVec 32) : Prop :=
  (∀ (k0_h58 : k0_cond58 d0 v675 = 1#1), ∀ a, (k0_off116 d0 v675) a + S1x512.size a ≤ S4096x512.size a)
theorem k0_off116_inb : ∀ (d0 : Dev nD) (v675 : BitVec 32) (k0_hw58 : k0_chk58 d0 v675), ∀ (k0_h58 : k0_cond58 d0 v675 = 1#1), ∀ a, (k0_off116 d0 v675) a + S1x512.size a ≤ S4096x512.size a := fun d0 v675 k0_hw58 k0_h58 => k0_hw58 k0_h58

def k0_off117 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_321 : BitVec 32 := 128#32
  let v683 : BitVec 32 := Scalar.muli v10 c128_i32_321
  let c58_i32 : BitVec 32 := 58#32
  let v684 : BitVec 32 := Scalar.addi v683 c58_i32
  let v685 : Index := Scalar.indexCast v684
  ![v685.toNat]
def k0_off118 (d0 : Dev nD) (v686 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_322 : BitVec 32 := 4096#32
  let v687 : BitVec 32 := Scalar.muli v8 c4096_i32_322
  let v688 : BitVec 32 := Scalar.subi v686 v687
  let c0_i32_2121 : BitVec 32 := 0#32
  ![v688.toNat, 0]
def k0_cond59 (d0 : Dev nD) (v686 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_322 : BitVec 32 := 4096#32
  let v687 : BitVec 32 := Scalar.muli v8 c4096_i32_322
  let v688 : BitVec 32 := Scalar.subi v686 v687
  let c0_i32_323 : BitVec 32 := 0#32
  let v689 : BitVec 1 := Scalar.cmpi .sge v688 c0_i32_323
  let c4096_i32_324 : BitVec 32 := 4096#32
  let v690 : BitVec 1 := Scalar.cmpi .slt v688 c4096_i32_324
  let v691 : BitVec 1 := Scalar.andi v689 v690
  let v692 : BitVec 32 := Scalar.extui v691
  let c0_i32_325 : BitVec 32 := 0#32
  let v693 : BitVec 1 := Scalar.cmpi .ne v692 c0_i32_325
  v693

def k0_chk59 (d0 : Dev nD) (v686 : BitVec 32) : Prop :=
  (∀ (k0_h59 : k0_cond59 d0 v686 = 1#1), ∀ a, (k0_off118 d0 v686) a + S1x512.size a ≤ S4096x512.size a)
theorem k0_off118_inb : ∀ (d0 : Dev nD) (v686 : BitVec 32) (k0_hw59 : k0_chk59 d0 v686), ∀ (k0_h59 : k0_cond59 d0 v686 = 1#1), ∀ a, (k0_off118 d0 v686) a + S1x512.size a ≤ S4096x512.size a := fun d0 v686 k0_hw59 k0_h59 => k0_hw59 k0_h59

def k0_off119 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_326 : BitVec 32 := 128#32
  let v694 : BitVec 32 := Scalar.muli v10 c128_i32_326
  let c59_i32 : BitVec 32 := 59#32
  let v695 : BitVec 32 := Scalar.addi v694 c59_i32
  let v696 : Index := Scalar.indexCast v695
  ![v696.toNat]
def k0_off120 (d0 : Dev nD) (v697 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_327 : BitVec 32 := 4096#32
  let v698 : BitVec 32 := Scalar.muli v8 c4096_i32_327
  let v699 : BitVec 32 := Scalar.subi v697 v698
  let c0_i32_2121 : BitVec 32 := 0#32
  ![v699.toNat, 0]
def k0_cond60 (d0 : Dev nD) (v697 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_327 : BitVec 32 := 4096#32
  let v698 : BitVec 32 := Scalar.muli v8 c4096_i32_327
  let v699 : BitVec 32 := Scalar.subi v697 v698
  let c0_i32_328 : BitVec 32 := 0#32
  let v700 : BitVec 1 := Scalar.cmpi .sge v699 c0_i32_328
  let c4096_i32_329 : BitVec 32 := 4096#32
  let v701 : BitVec 1 := Scalar.cmpi .slt v699 c4096_i32_329
  let v702 : BitVec 1 := Scalar.andi v700 v701
  let v703 : BitVec 32 := Scalar.extui v702
  let c0_i32_330 : BitVec 32 := 0#32
  let v704 : BitVec 1 := Scalar.cmpi .ne v703 c0_i32_330
  v704

def k0_chk60 (d0 : Dev nD) (v697 : BitVec 32) : Prop :=
  (∀ (k0_h60 : k0_cond60 d0 v697 = 1#1), ∀ a, (k0_off120 d0 v697) a + S1x512.size a ≤ S4096x512.size a)
theorem k0_off120_inb : ∀ (d0 : Dev nD) (v697 : BitVec 32) (k0_hw60 : k0_chk60 d0 v697), ∀ (k0_h60 : k0_cond60 d0 v697 = 1#1), ∀ a, (k0_off120 d0 v697) a + S1x512.size a ≤ S4096x512.size a := fun d0 v697 k0_hw60 k0_h60 => k0_hw60 k0_h60

def k0_off121 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_331 : BitVec 32 := 128#32
  let v705 : BitVec 32 := Scalar.muli v10 c128_i32_331
  let c60_i32 : BitVec 32 := 60#32
  let v706 : BitVec 32 := Scalar.addi v705 c60_i32
  let v707 : Index := Scalar.indexCast v706
  ![v707.toNat]
def k0_off122 (d0 : Dev nD) (v708 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_332 : BitVec 32 := 4096#32
  let v709 : BitVec 32 := Scalar.muli v8 c4096_i32_332
  let v710 : BitVec 32 := Scalar.subi v708 v709
  let c0_i32_2121 : BitVec 32 := 0#32
  ![v710.toNat, 0]
def k0_cond61 (d0 : Dev nD) (v708 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_332 : BitVec 32 := 4096#32
  let v709 : BitVec 32 := Scalar.muli v8 c4096_i32_332
  let v710 : BitVec 32 := Scalar.subi v708 v709
  let c0_i32_333 : BitVec 32 := 0#32
  let v711 : BitVec 1 := Scalar.cmpi .sge v710 c0_i32_333
  let c4096_i32_334 : BitVec 32 := 4096#32
  let v712 : BitVec 1 := Scalar.cmpi .slt v710 c4096_i32_334
  let v713 : BitVec 1 := Scalar.andi v711 v712
  let v714 : BitVec 32 := Scalar.extui v713
  let c0_i32_335 : BitVec 32 := 0#32
  let v715 : BitVec 1 := Scalar.cmpi .ne v714 c0_i32_335
  v715

def k0_chk61 (d0 : Dev nD) (v708 : BitVec 32) : Prop :=
  (∀ (k0_h61 : k0_cond61 d0 v708 = 1#1), ∀ a, (k0_off122 d0 v708) a + S1x512.size a ≤ S4096x512.size a)
theorem k0_off122_inb : ∀ (d0 : Dev nD) (v708 : BitVec 32) (k0_hw61 : k0_chk61 d0 v708), ∀ (k0_h61 : k0_cond61 d0 v708 = 1#1), ∀ a, (k0_off122 d0 v708) a + S1x512.size a ≤ S4096x512.size a := fun d0 v708 k0_hw61 k0_h61 => k0_hw61 k0_h61

def k0_off123 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_336 : BitVec 32 := 128#32
  let v716 : BitVec 32 := Scalar.muli v10 c128_i32_336
  let c61_i32 : BitVec 32 := 61#32
  let v717 : BitVec 32 := Scalar.addi v716 c61_i32
  let v718 : Index := Scalar.indexCast v717
  ![v718.toNat]
def k0_off124 (d0 : Dev nD) (v719 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_337 : BitVec 32 := 4096#32
  let v720 : BitVec 32 := Scalar.muli v8 c4096_i32_337
  let v721 : BitVec 32 := Scalar.subi v719 v720
  let c0_i32_2121 : BitVec 32 := 0#32
  ![v721.toNat, 0]
def k0_cond62 (d0 : Dev nD) (v719 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_337 : BitVec 32 := 4096#32
  let v720 : BitVec 32 := Scalar.muli v8 c4096_i32_337
  let v721 : BitVec 32 := Scalar.subi v719 v720
  let c0_i32_338 : BitVec 32 := 0#32
  let v722 : BitVec 1 := Scalar.cmpi .sge v721 c0_i32_338
  let c4096_i32_339 : BitVec 32 := 4096#32
  let v723 : BitVec 1 := Scalar.cmpi .slt v721 c4096_i32_339
  let v724 : BitVec 1 := Scalar.andi v722 v723
  let v725 : BitVec 32 := Scalar.extui v724
  let c0_i32_340 : BitVec 32 := 0#32
  let v726 : BitVec 1 := Scalar.cmpi .ne v725 c0_i32_340
  v726

def k0_chk62 (d0 : Dev nD) (v719 : BitVec 32) : Prop :=
  (∀ (k0_h62 : k0_cond62 d0 v719 = 1#1), ∀ a, (k0_off124 d0 v719) a + S1x512.size a ≤ S4096x512.size a)
theorem k0_off124_inb : ∀ (d0 : Dev nD) (v719 : BitVec 32) (k0_hw62 : k0_chk62 d0 v719), ∀ (k0_h62 : k0_cond62 d0 v719 = 1#1), ∀ a, (k0_off124 d0 v719) a + S1x512.size a ≤ S4096x512.size a := fun d0 v719 k0_hw62 k0_h62 => k0_hw62 k0_h62

def k0_off125 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_341 : BitVec 32 := 128#32
  let v727 : BitVec 32 := Scalar.muli v10 c128_i32_341
  let c62_i32 : BitVec 32 := 62#32
  let v728 : BitVec 32 := Scalar.addi v727 c62_i32
  let v729 : Index := Scalar.indexCast v728
  ![v729.toNat]
def k0_off126 (d0 : Dev nD) (v730 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_342 : BitVec 32 := 4096#32
  let v731 : BitVec 32 := Scalar.muli v8 c4096_i32_342
  let v732 : BitVec 32 := Scalar.subi v730 v731
  let c0_i32_2121 : BitVec 32 := 0#32
  ![v732.toNat, 0]
def k0_cond63 (d0 : Dev nD) (v730 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_342 : BitVec 32 := 4096#32
  let v731 : BitVec 32 := Scalar.muli v8 c4096_i32_342
  let v732 : BitVec 32 := Scalar.subi v730 v731
  let c0_i32_343 : BitVec 32 := 0#32
  let v733 : BitVec 1 := Scalar.cmpi .sge v732 c0_i32_343
  let c4096_i32_344 : BitVec 32 := 4096#32
  let v734 : BitVec 1 := Scalar.cmpi .slt v732 c4096_i32_344
  let v735 : BitVec 1 := Scalar.andi v733 v734
  let v736 : BitVec 32 := Scalar.extui v735
  let c0_i32_345 : BitVec 32 := 0#32
  let v737 : BitVec 1 := Scalar.cmpi .ne v736 c0_i32_345
  v737

def k0_chk63 (d0 : Dev nD) (v730 : BitVec 32) : Prop :=
  (∀ (k0_h63 : k0_cond63 d0 v730 = 1#1), ∀ a, (k0_off126 d0 v730) a + S1x512.size a ≤ S4096x512.size a)
theorem k0_off126_inb : ∀ (d0 : Dev nD) (v730 : BitVec 32) (k0_hw63 : k0_chk63 d0 v730), ∀ (k0_h63 : k0_cond63 d0 v730 = 1#1), ∀ a, (k0_off126 d0 v730) a + S1x512.size a ≤ S4096x512.size a := fun d0 v730 k0_hw63 k0_h63 => k0_hw63 k0_h63

def k0_off127 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_346 : BitVec 32 := 128#32
  let v738 : BitVec 32 := Scalar.muli v10 c128_i32_346
  let c63_i32 : BitVec 32 := 63#32
  let v739 : BitVec 32 := Scalar.addi v738 c63_i32
  let v740 : Index := Scalar.indexCast v739
  ![v740.toNat]
def k0_off128 (d0 : Dev nD) (v741 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_347 : BitVec 32 := 4096#32
  let v742 : BitVec 32 := Scalar.muli v8 c4096_i32_347
  let v743 : BitVec 32 := Scalar.subi v741 v742
  let c0_i32_2121 : BitVec 32 := 0#32
  ![v743.toNat, 0]
def k0_cond64 (d0 : Dev nD) (v741 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_347 : BitVec 32 := 4096#32
  let v742 : BitVec 32 := Scalar.muli v8 c4096_i32_347
  let v743 : BitVec 32 := Scalar.subi v741 v742
  let c0_i32_348 : BitVec 32 := 0#32
  let v744 : BitVec 1 := Scalar.cmpi .sge v743 c0_i32_348
  let c4096_i32_349 : BitVec 32 := 4096#32
  let v745 : BitVec 1 := Scalar.cmpi .slt v743 c4096_i32_349
  let v746 : BitVec 1 := Scalar.andi v744 v745
  let v747 : BitVec 32 := Scalar.extui v746
  let c0_i32_350 : BitVec 32 := 0#32
  let v748 : BitVec 1 := Scalar.cmpi .ne v747 c0_i32_350
  v748

def k0_chk64 (d0 : Dev nD) (v741 : BitVec 32) : Prop :=
  (∀ (k0_h64 : k0_cond64 d0 v741 = 1#1), ∀ a, (k0_off128 d0 v741) a + S1x512.size a ≤ S4096x512.size a)
theorem k0_off128_inb : ∀ (d0 : Dev nD) (v741 : BitVec 32) (k0_hw64 : k0_chk64 d0 v741), ∀ (k0_h64 : k0_cond64 d0 v741 = 1#1), ∀ a, (k0_off128 d0 v741) a + S1x512.size a ≤ S4096x512.size a := fun d0 v741 k0_hw64 k0_h64 => k0_hw64 k0_h64

def k0_off129 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_351 : BitVec 32 := 128#32
  let v749 : BitVec 32 := Scalar.muli v10 c128_i32_351
  let c64_i32 : BitVec 32 := 64#32
  let v750 : BitVec 32 := Scalar.addi v749 c64_i32
  let v751 : Index := Scalar.indexCast v750
  ![v751.toNat]
def k0_off130 (d0 : Dev nD) (v752 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_352 : BitVec 32 := 4096#32
  let v753 : BitVec 32 := Scalar.muli v8 c4096_i32_352
  let v754 : BitVec 32 := Scalar.subi v752 v753
  let c0_i32_2121 : BitVec 32 := 0#32
  ![v754.toNat, 0]
def k0_cond65 (d0 : Dev nD) (v752 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_352 : BitVec 32 := 4096#32
  let v753 : BitVec 32 := Scalar.muli v8 c4096_i32_352
  let v754 : BitVec 32 := Scalar.subi v752 v753
  let c0_i32_353 : BitVec 32 := 0#32
  let v755 : BitVec 1 := Scalar.cmpi .sge v754 c0_i32_353
  let c4096_i32_354 : BitVec 32 := 4096#32
  let v756 : BitVec 1 := Scalar.cmpi .slt v754 c4096_i32_354
  let v757 : BitVec 1 := Scalar.andi v755 v756
  let v758 : BitVec 32 := Scalar.extui v757
  let c0_i32_355 : BitVec 32 := 0#32
  let v759 : BitVec 1 := Scalar.cmpi .ne v758 c0_i32_355
  v759

def k0_chk65 (d0 : Dev nD) (v752 : BitVec 32) : Prop :=
  (∀ (k0_h65 : k0_cond65 d0 v752 = 1#1), ∀ a, (k0_off130 d0 v752) a + S1x512.size a ≤ S4096x512.size a)
theorem k0_off130_inb : ∀ (d0 : Dev nD) (v752 : BitVec 32) (k0_hw65 : k0_chk65 d0 v752), ∀ (k0_h65 : k0_cond65 d0 v752 = 1#1), ∀ a, (k0_off130 d0 v752) a + S1x512.size a ≤ S4096x512.size a := fun d0 v752 k0_hw65 k0_h65 => k0_hw65 k0_h65

def k0_off131 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_356 : BitVec 32 := 128#32
  let v760 : BitVec 32 := Scalar.muli v10 c128_i32_356
  let c65_i32 : BitVec 32 := 65#32
  let v761 : BitVec 32 := Scalar.addi v760 c65_i32
  let v762 : Index := Scalar.indexCast v761
  ![v762.toNat]
def k0_off132 (d0 : Dev nD) (v763 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_357 : BitVec 32 := 4096#32
  let v764 : BitVec 32 := Scalar.muli v8 c4096_i32_357
  let v765 : BitVec 32 := Scalar.subi v763 v764
  let c0_i32_2121 : BitVec 32 := 0#32
  ![v765.toNat, 0]
def k0_cond66 (d0 : Dev nD) (v763 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_357 : BitVec 32 := 4096#32
  let v764 : BitVec 32 := Scalar.muli v8 c4096_i32_357
  let v765 : BitVec 32 := Scalar.subi v763 v764
  let c0_i32_358 : BitVec 32 := 0#32
  let v766 : BitVec 1 := Scalar.cmpi .sge v765 c0_i32_358
  let c4096_i32_359 : BitVec 32 := 4096#32
  let v767 : BitVec 1 := Scalar.cmpi .slt v765 c4096_i32_359
  let v768 : BitVec 1 := Scalar.andi v766 v767
  let v769 : BitVec 32 := Scalar.extui v768
  let c0_i32_360 : BitVec 32 := 0#32
  let v770 : BitVec 1 := Scalar.cmpi .ne v769 c0_i32_360
  v770

def k0_chk66 (d0 : Dev nD) (v763 : BitVec 32) : Prop :=
  (∀ (k0_h66 : k0_cond66 d0 v763 = 1#1), ∀ a, (k0_off132 d0 v763) a + S1x512.size a ≤ S4096x512.size a)
theorem k0_off132_inb : ∀ (d0 : Dev nD) (v763 : BitVec 32) (k0_hw66 : k0_chk66 d0 v763), ∀ (k0_h66 : k0_cond66 d0 v763 = 1#1), ∀ a, (k0_off132 d0 v763) a + S1x512.size a ≤ S4096x512.size a := fun d0 v763 k0_hw66 k0_h66 => k0_hw66 k0_h66

def k0_off133 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_361 : BitVec 32 := 128#32
  let v771 : BitVec 32 := Scalar.muli v10 c128_i32_361
  let c66_i32 : BitVec 32 := 66#32
  let v772 : BitVec 32 := Scalar.addi v771 c66_i32
  let v773 : Index := Scalar.indexCast v772
  ![v773.toNat]
def k0_off134 (d0 : Dev nD) (v774 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_362 : BitVec 32 := 4096#32
  let v775 : BitVec 32 := Scalar.muli v8 c4096_i32_362
  let v776 : BitVec 32 := Scalar.subi v774 v775
  let c0_i32_2121 : BitVec 32 := 0#32
  ![v776.toNat, 0]
def k0_cond67 (d0 : Dev nD) (v774 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_362 : BitVec 32 := 4096#32
  let v775 : BitVec 32 := Scalar.muli v8 c4096_i32_362
  let v776 : BitVec 32 := Scalar.subi v774 v775
  let c0_i32_363 : BitVec 32 := 0#32
  let v777 : BitVec 1 := Scalar.cmpi .sge v776 c0_i32_363
  let c4096_i32_364 : BitVec 32 := 4096#32
  let v778 : BitVec 1 := Scalar.cmpi .slt v776 c4096_i32_364
  let v779 : BitVec 1 := Scalar.andi v777 v778
  let v780 : BitVec 32 := Scalar.extui v779
  let c0_i32_365 : BitVec 32 := 0#32
  let v781 : BitVec 1 := Scalar.cmpi .ne v780 c0_i32_365
  v781

def k0_chk67 (d0 : Dev nD) (v774 : BitVec 32) : Prop :=
  (∀ (k0_h67 : k0_cond67 d0 v774 = 1#1), ∀ a, (k0_off134 d0 v774) a + S1x512.size a ≤ S4096x512.size a)
theorem k0_off134_inb : ∀ (d0 : Dev nD) (v774 : BitVec 32) (k0_hw67 : k0_chk67 d0 v774), ∀ (k0_h67 : k0_cond67 d0 v774 = 1#1), ∀ a, (k0_off134 d0 v774) a + S1x512.size a ≤ S4096x512.size a := fun d0 v774 k0_hw67 k0_h67 => k0_hw67 k0_h67

def k0_off135 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_366 : BitVec 32 := 128#32
  let v782 : BitVec 32 := Scalar.muli v10 c128_i32_366
  let c67_i32 : BitVec 32 := 67#32
  let v783 : BitVec 32 := Scalar.addi v782 c67_i32
  let v784 : Index := Scalar.indexCast v783
  ![v784.toNat]
def k0_off136 (d0 : Dev nD) (v785 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_367 : BitVec 32 := 4096#32
  let v786 : BitVec 32 := Scalar.muli v8 c4096_i32_367
  let v787 : BitVec 32 := Scalar.subi v785 v786
  let c0_i32_2121 : BitVec 32 := 0#32
  ![v787.toNat, 0]
def k0_cond68 (d0 : Dev nD) (v785 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_367 : BitVec 32 := 4096#32
  let v786 : BitVec 32 := Scalar.muli v8 c4096_i32_367
  let v787 : BitVec 32 := Scalar.subi v785 v786
  let c0_i32_368 : BitVec 32 := 0#32
  let v788 : BitVec 1 := Scalar.cmpi .sge v787 c0_i32_368
  let c4096_i32_369 : BitVec 32 := 4096#32
  let v789 : BitVec 1 := Scalar.cmpi .slt v787 c4096_i32_369
  let v790 : BitVec 1 := Scalar.andi v788 v789
  let v791 : BitVec 32 := Scalar.extui v790
  let c0_i32_370 : BitVec 32 := 0#32
  let v792 : BitVec 1 := Scalar.cmpi .ne v791 c0_i32_370
  v792

def k0_chk68 (d0 : Dev nD) (v785 : BitVec 32) : Prop :=
  (∀ (k0_h68 : k0_cond68 d0 v785 = 1#1), ∀ a, (k0_off136 d0 v785) a + S1x512.size a ≤ S4096x512.size a)
theorem k0_off136_inb : ∀ (d0 : Dev nD) (v785 : BitVec 32) (k0_hw68 : k0_chk68 d0 v785), ∀ (k0_h68 : k0_cond68 d0 v785 = 1#1), ∀ a, (k0_off136 d0 v785) a + S1x512.size a ≤ S4096x512.size a := fun d0 v785 k0_hw68 k0_h68 => k0_hw68 k0_h68

def k0_off137 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_371 : BitVec 32 := 128#32
  let v793 : BitVec 32 := Scalar.muli v10 c128_i32_371
  let c68_i32 : BitVec 32 := 68#32
  let v794 : BitVec 32 := Scalar.addi v793 c68_i32
  let v795 : Index := Scalar.indexCast v794
  ![v795.toNat]
def k0_off138 (d0 : Dev nD) (v796 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_372 : BitVec 32 := 4096#32
  let v797 : BitVec 32 := Scalar.muli v8 c4096_i32_372
  let v798 : BitVec 32 := Scalar.subi v796 v797
  let c0_i32_2121 : BitVec 32 := 0#32
  ![v798.toNat, 0]
def k0_cond69 (d0 : Dev nD) (v796 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_372 : BitVec 32 := 4096#32
  let v797 : BitVec 32 := Scalar.muli v8 c4096_i32_372
  let v798 : BitVec 32 := Scalar.subi v796 v797
  let c0_i32_373 : BitVec 32 := 0#32
  let v799 : BitVec 1 := Scalar.cmpi .sge v798 c0_i32_373
  let c4096_i32_374 : BitVec 32 := 4096#32
  let v800 : BitVec 1 := Scalar.cmpi .slt v798 c4096_i32_374
  let v801 : BitVec 1 := Scalar.andi v799 v800
  let v802 : BitVec 32 := Scalar.extui v801
  let c0_i32_375 : BitVec 32 := 0#32
  let v803 : BitVec 1 := Scalar.cmpi .ne v802 c0_i32_375
  v803

def k0_chk69 (d0 : Dev nD) (v796 : BitVec 32) : Prop :=
  (∀ (k0_h69 : k0_cond69 d0 v796 = 1#1), ∀ a, (k0_off138 d0 v796) a + S1x512.size a ≤ S4096x512.size a)
theorem k0_off138_inb : ∀ (d0 : Dev nD) (v796 : BitVec 32) (k0_hw69 : k0_chk69 d0 v796), ∀ (k0_h69 : k0_cond69 d0 v796 = 1#1), ∀ a, (k0_off138 d0 v796) a + S1x512.size a ≤ S4096x512.size a := fun d0 v796 k0_hw69 k0_h69 => k0_hw69 k0_h69

def k0_off139 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_376 : BitVec 32 := 128#32
  let v804 : BitVec 32 := Scalar.muli v10 c128_i32_376
  let c69_i32 : BitVec 32 := 69#32
  let v805 : BitVec 32 := Scalar.addi v804 c69_i32
  let v806 : Index := Scalar.indexCast v805
  ![v806.toNat]
def k0_off140 (d0 : Dev nD) (v807 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_377 : BitVec 32 := 4096#32
  let v808 : BitVec 32 := Scalar.muli v8 c4096_i32_377
  let v809 : BitVec 32 := Scalar.subi v807 v808
  let c0_i32_2121 : BitVec 32 := 0#32
  ![v809.toNat, 0]
def k0_cond70 (d0 : Dev nD) (v807 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_377 : BitVec 32 := 4096#32
  let v808 : BitVec 32 := Scalar.muli v8 c4096_i32_377
  let v809 : BitVec 32 := Scalar.subi v807 v808
  let c0_i32_378 : BitVec 32 := 0#32
  let v810 : BitVec 1 := Scalar.cmpi .sge v809 c0_i32_378
  let c4096_i32_379 : BitVec 32 := 4096#32
  let v811 : BitVec 1 := Scalar.cmpi .slt v809 c4096_i32_379
  let v812 : BitVec 1 := Scalar.andi v810 v811
  let v813 : BitVec 32 := Scalar.extui v812
  let c0_i32_380 : BitVec 32 := 0#32
  let v814 : BitVec 1 := Scalar.cmpi .ne v813 c0_i32_380
  v814

def k0_chk70 (d0 : Dev nD) (v807 : BitVec 32) : Prop :=
  (∀ (k0_h70 : k0_cond70 d0 v807 = 1#1), ∀ a, (k0_off140 d0 v807) a + S1x512.size a ≤ S4096x512.size a)
theorem k0_off140_inb : ∀ (d0 : Dev nD) (v807 : BitVec 32) (k0_hw70 : k0_chk70 d0 v807), ∀ (k0_h70 : k0_cond70 d0 v807 = 1#1), ∀ a, (k0_off140 d0 v807) a + S1x512.size a ≤ S4096x512.size a := fun d0 v807 k0_hw70 k0_h70 => k0_hw70 k0_h70

def k0_off141 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_381 : BitVec 32 := 128#32
  let v815 : BitVec 32 := Scalar.muli v10 c128_i32_381
  let c70_i32 : BitVec 32 := 70#32
  let v816 : BitVec 32 := Scalar.addi v815 c70_i32
  let v817 : Index := Scalar.indexCast v816
  ![v817.toNat]
def k0_off142 (d0 : Dev nD) (v818 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_382 : BitVec 32 := 4096#32
  let v819 : BitVec 32 := Scalar.muli v8 c4096_i32_382
  let v820 : BitVec 32 := Scalar.subi v818 v819
  let c0_i32_2121 : BitVec 32 := 0#32
  ![v820.toNat, 0]
def k0_cond71 (d0 : Dev nD) (v818 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_382 : BitVec 32 := 4096#32
  let v819 : BitVec 32 := Scalar.muli v8 c4096_i32_382
  let v820 : BitVec 32 := Scalar.subi v818 v819
  let c0_i32_383 : BitVec 32 := 0#32
  let v821 : BitVec 1 := Scalar.cmpi .sge v820 c0_i32_383
  let c4096_i32_384 : BitVec 32 := 4096#32
  let v822 : BitVec 1 := Scalar.cmpi .slt v820 c4096_i32_384
  let v823 : BitVec 1 := Scalar.andi v821 v822
  let v824 : BitVec 32 := Scalar.extui v823
  let c0_i32_385 : BitVec 32 := 0#32
  let v825 : BitVec 1 := Scalar.cmpi .ne v824 c0_i32_385
  v825

def k0_chk71 (d0 : Dev nD) (v818 : BitVec 32) : Prop :=
  (∀ (k0_h71 : k0_cond71 d0 v818 = 1#1), ∀ a, (k0_off142 d0 v818) a + S1x512.size a ≤ S4096x512.size a)
theorem k0_off142_inb : ∀ (d0 : Dev nD) (v818 : BitVec 32) (k0_hw71 : k0_chk71 d0 v818), ∀ (k0_h71 : k0_cond71 d0 v818 = 1#1), ∀ a, (k0_off142 d0 v818) a + S1x512.size a ≤ S4096x512.size a := fun d0 v818 k0_hw71 k0_h71 => k0_hw71 k0_h71

def k0_off143 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_386 : BitVec 32 := 128#32
  let v826 : BitVec 32 := Scalar.muli v10 c128_i32_386
  let c71_i32 : BitVec 32 := 71#32
  let v827 : BitVec 32 := Scalar.addi v826 c71_i32
  let v828 : Index := Scalar.indexCast v827
  ![v828.toNat]
def k0_off144 (d0 : Dev nD) (v829 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_387 : BitVec 32 := 4096#32
  let v830 : BitVec 32 := Scalar.muli v8 c4096_i32_387
  let v831 : BitVec 32 := Scalar.subi v829 v830
  let c0_i32_2121 : BitVec 32 := 0#32
  ![v831.toNat, 0]
def k0_cond72 (d0 : Dev nD) (v829 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_387 : BitVec 32 := 4096#32
  let v830 : BitVec 32 := Scalar.muli v8 c4096_i32_387
  let v831 : BitVec 32 := Scalar.subi v829 v830
  let c0_i32_388 : BitVec 32 := 0#32
  let v832 : BitVec 1 := Scalar.cmpi .sge v831 c0_i32_388
  let c4096_i32_389 : BitVec 32 := 4096#32
  let v833 : BitVec 1 := Scalar.cmpi .slt v831 c4096_i32_389
  let v834 : BitVec 1 := Scalar.andi v832 v833
  let v835 : BitVec 32 := Scalar.extui v834
  let c0_i32_390 : BitVec 32 := 0#32
  let v836 : BitVec 1 := Scalar.cmpi .ne v835 c0_i32_390
  v836

def k0_chk72 (d0 : Dev nD) (v829 : BitVec 32) : Prop :=
  (∀ (k0_h72 : k0_cond72 d0 v829 = 1#1), ∀ a, (k0_off144 d0 v829) a + S1x512.size a ≤ S4096x512.size a)
theorem k0_off144_inb : ∀ (d0 : Dev nD) (v829 : BitVec 32) (k0_hw72 : k0_chk72 d0 v829), ∀ (k0_h72 : k0_cond72 d0 v829 = 1#1), ∀ a, (k0_off144 d0 v829) a + S1x512.size a ≤ S4096x512.size a := fun d0 v829 k0_hw72 k0_h72 => k0_hw72 k0_h72

def k0_off145 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_391 : BitVec 32 := 128#32
  let v837 : BitVec 32 := Scalar.muli v10 c128_i32_391
  let c72_i32 : BitVec 32 := 72#32
  let v838 : BitVec 32 := Scalar.addi v837 c72_i32
  let v839 : Index := Scalar.indexCast v838
  ![v839.toNat]
def k0_off146 (d0 : Dev nD) (v840 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_392 : BitVec 32 := 4096#32
  let v841 : BitVec 32 := Scalar.muli v8 c4096_i32_392
  let v842 : BitVec 32 := Scalar.subi v840 v841
  let c0_i32_2121 : BitVec 32 := 0#32
  ![v842.toNat, 0]
def k0_cond73 (d0 : Dev nD) (v840 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_392 : BitVec 32 := 4096#32
  let v841 : BitVec 32 := Scalar.muli v8 c4096_i32_392
  let v842 : BitVec 32 := Scalar.subi v840 v841
  let c0_i32_393 : BitVec 32 := 0#32
  let v843 : BitVec 1 := Scalar.cmpi .sge v842 c0_i32_393
  let c4096_i32_394 : BitVec 32 := 4096#32
  let v844 : BitVec 1 := Scalar.cmpi .slt v842 c4096_i32_394
  let v845 : BitVec 1 := Scalar.andi v843 v844
  let v846 : BitVec 32 := Scalar.extui v845
  let c0_i32_395 : BitVec 32 := 0#32
  let v847 : BitVec 1 := Scalar.cmpi .ne v846 c0_i32_395
  v847

def k0_chk73 (d0 : Dev nD) (v840 : BitVec 32) : Prop :=
  (∀ (k0_h73 : k0_cond73 d0 v840 = 1#1), ∀ a, (k0_off146 d0 v840) a + S1x512.size a ≤ S4096x512.size a)
theorem k0_off146_inb : ∀ (d0 : Dev nD) (v840 : BitVec 32) (k0_hw73 : k0_chk73 d0 v840), ∀ (k0_h73 : k0_cond73 d0 v840 = 1#1), ∀ a, (k0_off146 d0 v840) a + S1x512.size a ≤ S4096x512.size a := fun d0 v840 k0_hw73 k0_h73 => k0_hw73 k0_h73

def k0_off147 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_396 : BitVec 32 := 128#32
  let v848 : BitVec 32 := Scalar.muli v10 c128_i32_396
  let c73_i32 : BitVec 32 := 73#32
  let v849 : BitVec 32 := Scalar.addi v848 c73_i32
  let v850 : Index := Scalar.indexCast v849
  ![v850.toNat]
def k0_off148 (d0 : Dev nD) (v851 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_397 : BitVec 32 := 4096#32
  let v852 : BitVec 32 := Scalar.muli v8 c4096_i32_397
  let v853 : BitVec 32 := Scalar.subi v851 v852
  let c0_i32_2121 : BitVec 32 := 0#32
  ![v853.toNat, 0]
def k0_cond74 (d0 : Dev nD) (v851 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_397 : BitVec 32 := 4096#32
  let v852 : BitVec 32 := Scalar.muli v8 c4096_i32_397
  let v853 : BitVec 32 := Scalar.subi v851 v852
  let c0_i32_398 : BitVec 32 := 0#32
  let v854 : BitVec 1 := Scalar.cmpi .sge v853 c0_i32_398
  let c4096_i32_399 : BitVec 32 := 4096#32
  let v855 : BitVec 1 := Scalar.cmpi .slt v853 c4096_i32_399
  let v856 : BitVec 1 := Scalar.andi v854 v855
  let v857 : BitVec 32 := Scalar.extui v856
  let c0_i32_400 : BitVec 32 := 0#32
  let v858 : BitVec 1 := Scalar.cmpi .ne v857 c0_i32_400
  v858

def k0_chk74 (d0 : Dev nD) (v851 : BitVec 32) : Prop :=
  (∀ (k0_h74 : k0_cond74 d0 v851 = 1#1), ∀ a, (k0_off148 d0 v851) a + S1x512.size a ≤ S4096x512.size a)
theorem k0_off148_inb : ∀ (d0 : Dev nD) (v851 : BitVec 32) (k0_hw74 : k0_chk74 d0 v851), ∀ (k0_h74 : k0_cond74 d0 v851 = 1#1), ∀ a, (k0_off148 d0 v851) a + S1x512.size a ≤ S4096x512.size a := fun d0 v851 k0_hw74 k0_h74 => k0_hw74 k0_h74

def k0_off149 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_401 : BitVec 32 := 128#32
  let v859 : BitVec 32 := Scalar.muli v10 c128_i32_401
  let c74_i32 : BitVec 32 := 74#32
  let v860 : BitVec 32 := Scalar.addi v859 c74_i32
  let v861 : Index := Scalar.indexCast v860
  ![v861.toNat]
def k0_off150 (d0 : Dev nD) (v862 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_402 : BitVec 32 := 4096#32
  let v863 : BitVec 32 := Scalar.muli v8 c4096_i32_402
  let v864 : BitVec 32 := Scalar.subi v862 v863
  let c0_i32_2121 : BitVec 32 := 0#32
  ![v864.toNat, 0]
def k0_cond75 (d0 : Dev nD) (v862 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_402 : BitVec 32 := 4096#32
  let v863 : BitVec 32 := Scalar.muli v8 c4096_i32_402
  let v864 : BitVec 32 := Scalar.subi v862 v863
  let c0_i32_403 : BitVec 32 := 0#32
  let v865 : BitVec 1 := Scalar.cmpi .sge v864 c0_i32_403
  let c4096_i32_404 : BitVec 32 := 4096#32
  let v866 : BitVec 1 := Scalar.cmpi .slt v864 c4096_i32_404
  let v867 : BitVec 1 := Scalar.andi v865 v866
  let v868 : BitVec 32 := Scalar.extui v867
  let c0_i32_405 : BitVec 32 := 0#32
  let v869 : BitVec 1 := Scalar.cmpi .ne v868 c0_i32_405
  v869

def k0_chk75 (d0 : Dev nD) (v862 : BitVec 32) : Prop :=
  (∀ (k0_h75 : k0_cond75 d0 v862 = 1#1), ∀ a, (k0_off150 d0 v862) a + S1x512.size a ≤ S4096x512.size a)
theorem k0_off150_inb : ∀ (d0 : Dev nD) (v862 : BitVec 32) (k0_hw75 : k0_chk75 d0 v862), ∀ (k0_h75 : k0_cond75 d0 v862 = 1#1), ∀ a, (k0_off150 d0 v862) a + S1x512.size a ≤ S4096x512.size a := fun d0 v862 k0_hw75 k0_h75 => k0_hw75 k0_h75

def k0_off151 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_406 : BitVec 32 := 128#32
  let v870 : BitVec 32 := Scalar.muli v10 c128_i32_406
  let c75_i32 : BitVec 32 := 75#32
  let v871 : BitVec 32 := Scalar.addi v870 c75_i32
  let v872 : Index := Scalar.indexCast v871
  ![v872.toNat]
def k0_off152 (d0 : Dev nD) (v873 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_407 : BitVec 32 := 4096#32
  let v874 : BitVec 32 := Scalar.muli v8 c4096_i32_407
  let v875 : BitVec 32 := Scalar.subi v873 v874
  let c0_i32_2121 : BitVec 32 := 0#32
  ![v875.toNat, 0]
def k0_cond76 (d0 : Dev nD) (v873 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_407 : BitVec 32 := 4096#32
  let v874 : BitVec 32 := Scalar.muli v8 c4096_i32_407
  let v875 : BitVec 32 := Scalar.subi v873 v874
  let c0_i32_408 : BitVec 32 := 0#32
  let v876 : BitVec 1 := Scalar.cmpi .sge v875 c0_i32_408
  let c4096_i32_409 : BitVec 32 := 4096#32
  let v877 : BitVec 1 := Scalar.cmpi .slt v875 c4096_i32_409
  let v878 : BitVec 1 := Scalar.andi v876 v877
  let v879 : BitVec 32 := Scalar.extui v878
  let c0_i32_410 : BitVec 32 := 0#32
  let v880 : BitVec 1 := Scalar.cmpi .ne v879 c0_i32_410
  v880

def k0_chk76 (d0 : Dev nD) (v873 : BitVec 32) : Prop :=
  (∀ (k0_h76 : k0_cond76 d0 v873 = 1#1), ∀ a, (k0_off152 d0 v873) a + S1x512.size a ≤ S4096x512.size a)
theorem k0_off152_inb : ∀ (d0 : Dev nD) (v873 : BitVec 32) (k0_hw76 : k0_chk76 d0 v873), ∀ (k0_h76 : k0_cond76 d0 v873 = 1#1), ∀ a, (k0_off152 d0 v873) a + S1x512.size a ≤ S4096x512.size a := fun d0 v873 k0_hw76 k0_h76 => k0_hw76 k0_h76

def k0_off153 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_411 : BitVec 32 := 128#32
  let v881 : BitVec 32 := Scalar.muli v10 c128_i32_411
  let c76_i32 : BitVec 32 := 76#32
  let v882 : BitVec 32 := Scalar.addi v881 c76_i32
  let v883 : Index := Scalar.indexCast v882
  ![v883.toNat]
def k0_off154 (d0 : Dev nD) (v884 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_412 : BitVec 32 := 4096#32
  let v885 : BitVec 32 := Scalar.muli v8 c4096_i32_412
  let v886 : BitVec 32 := Scalar.subi v884 v885
  let c0_i32_2121 : BitVec 32 := 0#32
  ![v886.toNat, 0]
def k0_cond77 (d0 : Dev nD) (v884 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_412 : BitVec 32 := 4096#32
  let v885 : BitVec 32 := Scalar.muli v8 c4096_i32_412
  let v886 : BitVec 32 := Scalar.subi v884 v885
  let c0_i32_413 : BitVec 32 := 0#32
  let v887 : BitVec 1 := Scalar.cmpi .sge v886 c0_i32_413
  let c4096_i32_414 : BitVec 32 := 4096#32
  let v888 : BitVec 1 := Scalar.cmpi .slt v886 c4096_i32_414
  let v889 : BitVec 1 := Scalar.andi v887 v888
  let v890 : BitVec 32 := Scalar.extui v889
  let c0_i32_415 : BitVec 32 := 0#32
  let v891 : BitVec 1 := Scalar.cmpi .ne v890 c0_i32_415
  v891

def k0_chk77 (d0 : Dev nD) (v884 : BitVec 32) : Prop :=
  (∀ (k0_h77 : k0_cond77 d0 v884 = 1#1), ∀ a, (k0_off154 d0 v884) a + S1x512.size a ≤ S4096x512.size a)
theorem k0_off154_inb : ∀ (d0 : Dev nD) (v884 : BitVec 32) (k0_hw77 : k0_chk77 d0 v884), ∀ (k0_h77 : k0_cond77 d0 v884 = 1#1), ∀ a, (k0_off154 d0 v884) a + S1x512.size a ≤ S4096x512.size a := fun d0 v884 k0_hw77 k0_h77 => k0_hw77 k0_h77

def k0_off155 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_416 : BitVec 32 := 128#32
  let v892 : BitVec 32 := Scalar.muli v10 c128_i32_416
  let c77_i32 : BitVec 32 := 77#32
  let v893 : BitVec 32 := Scalar.addi v892 c77_i32
  let v894 : Index := Scalar.indexCast v893
  ![v894.toNat]
def k0_off156 (d0 : Dev nD) (v895 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_417 : BitVec 32 := 4096#32
  let v896 : BitVec 32 := Scalar.muli v8 c4096_i32_417
  let v897 : BitVec 32 := Scalar.subi v895 v896
  let c0_i32_2121 : BitVec 32 := 0#32
  ![v897.toNat, 0]
def k0_cond78 (d0 : Dev nD) (v895 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_417 : BitVec 32 := 4096#32
  let v896 : BitVec 32 := Scalar.muli v8 c4096_i32_417
  let v897 : BitVec 32 := Scalar.subi v895 v896
  let c0_i32_418 : BitVec 32 := 0#32
  let v898 : BitVec 1 := Scalar.cmpi .sge v897 c0_i32_418
  let c4096_i32_419 : BitVec 32 := 4096#32
  let v899 : BitVec 1 := Scalar.cmpi .slt v897 c4096_i32_419
  let v900 : BitVec 1 := Scalar.andi v898 v899
  let v901 : BitVec 32 := Scalar.extui v900
  let c0_i32_420 : BitVec 32 := 0#32
  let v902 : BitVec 1 := Scalar.cmpi .ne v901 c0_i32_420
  v902

def k0_chk78 (d0 : Dev nD) (v895 : BitVec 32) : Prop :=
  (∀ (k0_h78 : k0_cond78 d0 v895 = 1#1), ∀ a, (k0_off156 d0 v895) a + S1x512.size a ≤ S4096x512.size a)
theorem k0_off156_inb : ∀ (d0 : Dev nD) (v895 : BitVec 32) (k0_hw78 : k0_chk78 d0 v895), ∀ (k0_h78 : k0_cond78 d0 v895 = 1#1), ∀ a, (k0_off156 d0 v895) a + S1x512.size a ≤ S4096x512.size a := fun d0 v895 k0_hw78 k0_h78 => k0_hw78 k0_h78

def k0_off157 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_421 : BitVec 32 := 128#32
  let v903 : BitVec 32 := Scalar.muli v10 c128_i32_421
  let c78_i32 : BitVec 32 := 78#32
  let v904 : BitVec 32 := Scalar.addi v903 c78_i32
  let v905 : Index := Scalar.indexCast v904
  ![v905.toNat]
def k0_off158 (d0 : Dev nD) (v906 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_422 : BitVec 32 := 4096#32
  let v907 : BitVec 32 := Scalar.muli v8 c4096_i32_422
  let v908 : BitVec 32 := Scalar.subi v906 v907
  let c0_i32_2121 : BitVec 32 := 0#32
  ![v908.toNat, 0]
def k0_cond79 (d0 : Dev nD) (v906 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_422 : BitVec 32 := 4096#32
  let v907 : BitVec 32 := Scalar.muli v8 c4096_i32_422
  let v908 : BitVec 32 := Scalar.subi v906 v907
  let c0_i32_423 : BitVec 32 := 0#32
  let v909 : BitVec 1 := Scalar.cmpi .sge v908 c0_i32_423
  let c4096_i32_424 : BitVec 32 := 4096#32
  let v910 : BitVec 1 := Scalar.cmpi .slt v908 c4096_i32_424
  let v911 : BitVec 1 := Scalar.andi v909 v910
  let v912 : BitVec 32 := Scalar.extui v911
  let c0_i32_425 : BitVec 32 := 0#32
  let v913 : BitVec 1 := Scalar.cmpi .ne v912 c0_i32_425
  v913

def k0_chk79 (d0 : Dev nD) (v906 : BitVec 32) : Prop :=
  (∀ (k0_h79 : k0_cond79 d0 v906 = 1#1), ∀ a, (k0_off158 d0 v906) a + S1x512.size a ≤ S4096x512.size a)
theorem k0_off158_inb : ∀ (d0 : Dev nD) (v906 : BitVec 32) (k0_hw79 : k0_chk79 d0 v906), ∀ (k0_h79 : k0_cond79 d0 v906 = 1#1), ∀ a, (k0_off158 d0 v906) a + S1x512.size a ≤ S4096x512.size a := fun d0 v906 k0_hw79 k0_h79 => k0_hw79 k0_h79

def k0_off159 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_426 : BitVec 32 := 128#32
  let v914 : BitVec 32 := Scalar.muli v10 c128_i32_426
  let c79_i32 : BitVec 32 := 79#32
  let v915 : BitVec 32 := Scalar.addi v914 c79_i32
  let v916 : Index := Scalar.indexCast v915
  ![v916.toNat]
def k0_off160 (d0 : Dev nD) (v917 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_427 : BitVec 32 := 4096#32
  let v918 : BitVec 32 := Scalar.muli v8 c4096_i32_427
  let v919 : BitVec 32 := Scalar.subi v917 v918
  let c0_i32_2121 : BitVec 32 := 0#32
  ![v919.toNat, 0]
def k0_cond80 (d0 : Dev nD) (v917 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_427 : BitVec 32 := 4096#32
  let v918 : BitVec 32 := Scalar.muli v8 c4096_i32_427
  let v919 : BitVec 32 := Scalar.subi v917 v918
  let c0_i32_428 : BitVec 32 := 0#32
  let v920 : BitVec 1 := Scalar.cmpi .sge v919 c0_i32_428
  let c4096_i32_429 : BitVec 32 := 4096#32
  let v921 : BitVec 1 := Scalar.cmpi .slt v919 c4096_i32_429
  let v922 : BitVec 1 := Scalar.andi v920 v921
  let v923 : BitVec 32 := Scalar.extui v922
  let c0_i32_430 : BitVec 32 := 0#32
  let v924 : BitVec 1 := Scalar.cmpi .ne v923 c0_i32_430
  v924

def k0_chk80 (d0 : Dev nD) (v917 : BitVec 32) : Prop :=
  (∀ (k0_h80 : k0_cond80 d0 v917 = 1#1), ∀ a, (k0_off160 d0 v917) a + S1x512.size a ≤ S4096x512.size a)
theorem k0_off160_inb : ∀ (d0 : Dev nD) (v917 : BitVec 32) (k0_hw80 : k0_chk80 d0 v917), ∀ (k0_h80 : k0_cond80 d0 v917 = 1#1), ∀ a, (k0_off160 d0 v917) a + S1x512.size a ≤ S4096x512.size a := fun d0 v917 k0_hw80 k0_h80 => k0_hw80 k0_h80

def k0_off161 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_431 : BitVec 32 := 128#32
  let v925 : BitVec 32 := Scalar.muli v10 c128_i32_431
  let c80_i32 : BitVec 32 := 80#32
  let v926 : BitVec 32 := Scalar.addi v925 c80_i32
  let v927 : Index := Scalar.indexCast v926
  ![v927.toNat]
def k0_off162 (d0 : Dev nD) (v928 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_432 : BitVec 32 := 4096#32
  let v929 : BitVec 32 := Scalar.muli v8 c4096_i32_432
  let v930 : BitVec 32 := Scalar.subi v928 v929
  let c0_i32_2121 : BitVec 32 := 0#32
  ![v930.toNat, 0]
def k0_cond81 (d0 : Dev nD) (v928 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_432 : BitVec 32 := 4096#32
  let v929 : BitVec 32 := Scalar.muli v8 c4096_i32_432
  let v930 : BitVec 32 := Scalar.subi v928 v929
  let c0_i32_433 : BitVec 32 := 0#32
  let v931 : BitVec 1 := Scalar.cmpi .sge v930 c0_i32_433
  let c4096_i32_434 : BitVec 32 := 4096#32
  let v932 : BitVec 1 := Scalar.cmpi .slt v930 c4096_i32_434
  let v933 : BitVec 1 := Scalar.andi v931 v932
  let v934 : BitVec 32 := Scalar.extui v933
  let c0_i32_435 : BitVec 32 := 0#32
  let v935 : BitVec 1 := Scalar.cmpi .ne v934 c0_i32_435
  v935

def k0_chk81 (d0 : Dev nD) (v928 : BitVec 32) : Prop :=
  (∀ (k0_h81 : k0_cond81 d0 v928 = 1#1), ∀ a, (k0_off162 d0 v928) a + S1x512.size a ≤ S4096x512.size a)
theorem k0_off162_inb : ∀ (d0 : Dev nD) (v928 : BitVec 32) (k0_hw81 : k0_chk81 d0 v928), ∀ (k0_h81 : k0_cond81 d0 v928 = 1#1), ∀ a, (k0_off162 d0 v928) a + S1x512.size a ≤ S4096x512.size a := fun d0 v928 k0_hw81 k0_h81 => k0_hw81 k0_h81

def k0_off163 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_436 : BitVec 32 := 128#32
  let v936 : BitVec 32 := Scalar.muli v10 c128_i32_436
  let c81_i32 : BitVec 32 := 81#32
  let v937 : BitVec 32 := Scalar.addi v936 c81_i32
  let v938 : Index := Scalar.indexCast v937
  ![v938.toNat]
def k0_off164 (d0 : Dev nD) (v939 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_437 : BitVec 32 := 4096#32
  let v940 : BitVec 32 := Scalar.muli v8 c4096_i32_437
  let v941 : BitVec 32 := Scalar.subi v939 v940
  let c0_i32_2121 : BitVec 32 := 0#32
  ![v941.toNat, 0]
def k0_cond82 (d0 : Dev nD) (v939 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_437 : BitVec 32 := 4096#32
  let v940 : BitVec 32 := Scalar.muli v8 c4096_i32_437
  let v941 : BitVec 32 := Scalar.subi v939 v940
  let c0_i32_438 : BitVec 32 := 0#32
  let v942 : BitVec 1 := Scalar.cmpi .sge v941 c0_i32_438
  let c4096_i32_439 : BitVec 32 := 4096#32
  let v943 : BitVec 1 := Scalar.cmpi .slt v941 c4096_i32_439
  let v944 : BitVec 1 := Scalar.andi v942 v943
  let v945 : BitVec 32 := Scalar.extui v944
  let c0_i32_440 : BitVec 32 := 0#32
  let v946 : BitVec 1 := Scalar.cmpi .ne v945 c0_i32_440
  v946

def k0_chk82 (d0 : Dev nD) (v939 : BitVec 32) : Prop :=
  (∀ (k0_h82 : k0_cond82 d0 v939 = 1#1), ∀ a, (k0_off164 d0 v939) a + S1x512.size a ≤ S4096x512.size a)
theorem k0_off164_inb : ∀ (d0 : Dev nD) (v939 : BitVec 32) (k0_hw82 : k0_chk82 d0 v939), ∀ (k0_h82 : k0_cond82 d0 v939 = 1#1), ∀ a, (k0_off164 d0 v939) a + S1x512.size a ≤ S4096x512.size a := fun d0 v939 k0_hw82 k0_h82 => k0_hw82 k0_h82

def k0_off165 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_441 : BitVec 32 := 128#32
  let v947 : BitVec 32 := Scalar.muli v10 c128_i32_441
  let c82_i32 : BitVec 32 := 82#32
  let v948 : BitVec 32 := Scalar.addi v947 c82_i32
  let v949 : Index := Scalar.indexCast v948
  ![v949.toNat]
def k0_off166 (d0 : Dev nD) (v950 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_442 : BitVec 32 := 4096#32
  let v951 : BitVec 32 := Scalar.muli v8 c4096_i32_442
  let v952 : BitVec 32 := Scalar.subi v950 v951
  let c0_i32_2121 : BitVec 32 := 0#32
  ![v952.toNat, 0]
def k0_cond83 (d0 : Dev nD) (v950 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_442 : BitVec 32 := 4096#32
  let v951 : BitVec 32 := Scalar.muli v8 c4096_i32_442
  let v952 : BitVec 32 := Scalar.subi v950 v951
  let c0_i32_443 : BitVec 32 := 0#32
  let v953 : BitVec 1 := Scalar.cmpi .sge v952 c0_i32_443
  let c4096_i32_444 : BitVec 32 := 4096#32
  let v954 : BitVec 1 := Scalar.cmpi .slt v952 c4096_i32_444
  let v955 : BitVec 1 := Scalar.andi v953 v954
  let v956 : BitVec 32 := Scalar.extui v955
  let c0_i32_445 : BitVec 32 := 0#32
  let v957 : BitVec 1 := Scalar.cmpi .ne v956 c0_i32_445
  v957

def k0_chk83 (d0 : Dev nD) (v950 : BitVec 32) : Prop :=
  (∀ (k0_h83 : k0_cond83 d0 v950 = 1#1), ∀ a, (k0_off166 d0 v950) a + S1x512.size a ≤ S4096x512.size a)
theorem k0_off166_inb : ∀ (d0 : Dev nD) (v950 : BitVec 32) (k0_hw83 : k0_chk83 d0 v950), ∀ (k0_h83 : k0_cond83 d0 v950 = 1#1), ∀ a, (k0_off166 d0 v950) a + S1x512.size a ≤ S4096x512.size a := fun d0 v950 k0_hw83 k0_h83 => k0_hw83 k0_h83

def k0_off167 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_446 : BitVec 32 := 128#32
  let v958 : BitVec 32 := Scalar.muli v10 c128_i32_446
  let c83_i32 : BitVec 32 := 83#32
  let v959 : BitVec 32 := Scalar.addi v958 c83_i32
  let v960 : Index := Scalar.indexCast v959
  ![v960.toNat]
def k0_off168 (d0 : Dev nD) (v961 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_447 : BitVec 32 := 4096#32
  let v962 : BitVec 32 := Scalar.muli v8 c4096_i32_447
  let v963 : BitVec 32 := Scalar.subi v961 v962
  let c0_i32_2121 : BitVec 32 := 0#32
  ![v963.toNat, 0]
def k0_cond84 (d0 : Dev nD) (v961 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_447 : BitVec 32 := 4096#32
  let v962 : BitVec 32 := Scalar.muli v8 c4096_i32_447
  let v963 : BitVec 32 := Scalar.subi v961 v962
  let c0_i32_448 : BitVec 32 := 0#32
  let v964 : BitVec 1 := Scalar.cmpi .sge v963 c0_i32_448
  let c4096_i32_449 : BitVec 32 := 4096#32
  let v965 : BitVec 1 := Scalar.cmpi .slt v963 c4096_i32_449
  let v966 : BitVec 1 := Scalar.andi v964 v965
  let v967 : BitVec 32 := Scalar.extui v966
  let c0_i32_450 : BitVec 32 := 0#32
  let v968 : BitVec 1 := Scalar.cmpi .ne v967 c0_i32_450
  v968

def k0_chk84 (d0 : Dev nD) (v961 : BitVec 32) : Prop :=
  (∀ (k0_h84 : k0_cond84 d0 v961 = 1#1), ∀ a, (k0_off168 d0 v961) a + S1x512.size a ≤ S4096x512.size a)
theorem k0_off168_inb : ∀ (d0 : Dev nD) (v961 : BitVec 32) (k0_hw84 : k0_chk84 d0 v961), ∀ (k0_h84 : k0_cond84 d0 v961 = 1#1), ∀ a, (k0_off168 d0 v961) a + S1x512.size a ≤ S4096x512.size a := fun d0 v961 k0_hw84 k0_h84 => k0_hw84 k0_h84

def k0_off169 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_451 : BitVec 32 := 128#32
  let v969 : BitVec 32 := Scalar.muli v10 c128_i32_451
  let c84_i32 : BitVec 32 := 84#32
  let v970 : BitVec 32 := Scalar.addi v969 c84_i32
  let v971 : Index := Scalar.indexCast v970
  ![v971.toNat]
def k0_off170 (d0 : Dev nD) (v972 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_452 : BitVec 32 := 4096#32
  let v973 : BitVec 32 := Scalar.muli v8 c4096_i32_452
  let v974 : BitVec 32 := Scalar.subi v972 v973
  let c0_i32_2121 : BitVec 32 := 0#32
  ![v974.toNat, 0]
def k0_cond85 (d0 : Dev nD) (v972 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_452 : BitVec 32 := 4096#32
  let v973 : BitVec 32 := Scalar.muli v8 c4096_i32_452
  let v974 : BitVec 32 := Scalar.subi v972 v973
  let c0_i32_453 : BitVec 32 := 0#32
  let v975 : BitVec 1 := Scalar.cmpi .sge v974 c0_i32_453
  let c4096_i32_454 : BitVec 32 := 4096#32
  let v976 : BitVec 1 := Scalar.cmpi .slt v974 c4096_i32_454
  let v977 : BitVec 1 := Scalar.andi v975 v976
  let v978 : BitVec 32 := Scalar.extui v977
  let c0_i32_455 : BitVec 32 := 0#32
  let v979 : BitVec 1 := Scalar.cmpi .ne v978 c0_i32_455
  v979

def k0_chk85 (d0 : Dev nD) (v972 : BitVec 32) : Prop :=
  (∀ (k0_h85 : k0_cond85 d0 v972 = 1#1), ∀ a, (k0_off170 d0 v972) a + S1x512.size a ≤ S4096x512.size a)
theorem k0_off170_inb : ∀ (d0 : Dev nD) (v972 : BitVec 32) (k0_hw85 : k0_chk85 d0 v972), ∀ (k0_h85 : k0_cond85 d0 v972 = 1#1), ∀ a, (k0_off170 d0 v972) a + S1x512.size a ≤ S4096x512.size a := fun d0 v972 k0_hw85 k0_h85 => k0_hw85 k0_h85

def k0_off171 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_456 : BitVec 32 := 128#32
  let v980 : BitVec 32 := Scalar.muli v10 c128_i32_456
  let c85_i32 : BitVec 32 := 85#32
  let v981 : BitVec 32 := Scalar.addi v980 c85_i32
  let v982 : Index := Scalar.indexCast v981
  ![v982.toNat]
def k0_off172 (d0 : Dev nD) (v983 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_457 : BitVec 32 := 4096#32
  let v984 : BitVec 32 := Scalar.muli v8 c4096_i32_457
  let v985 : BitVec 32 := Scalar.subi v983 v984
  let c0_i32_2121 : BitVec 32 := 0#32
  ![v985.toNat, 0]
def k0_cond86 (d0 : Dev nD) (v983 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_457 : BitVec 32 := 4096#32
  let v984 : BitVec 32 := Scalar.muli v8 c4096_i32_457
  let v985 : BitVec 32 := Scalar.subi v983 v984
  let c0_i32_458 : BitVec 32 := 0#32
  let v986 : BitVec 1 := Scalar.cmpi .sge v985 c0_i32_458
  let c4096_i32_459 : BitVec 32 := 4096#32
  let v987 : BitVec 1 := Scalar.cmpi .slt v985 c4096_i32_459
  let v988 : BitVec 1 := Scalar.andi v986 v987
  let v989 : BitVec 32 := Scalar.extui v988
  let c0_i32_460 : BitVec 32 := 0#32
  let v990 : BitVec 1 := Scalar.cmpi .ne v989 c0_i32_460
  v990

def k0_chk86 (d0 : Dev nD) (v983 : BitVec 32) : Prop :=
  (∀ (k0_h86 : k0_cond86 d0 v983 = 1#1), ∀ a, (k0_off172 d0 v983) a + S1x512.size a ≤ S4096x512.size a)
theorem k0_off172_inb : ∀ (d0 : Dev nD) (v983 : BitVec 32) (k0_hw86 : k0_chk86 d0 v983), ∀ (k0_h86 : k0_cond86 d0 v983 = 1#1), ∀ a, (k0_off172 d0 v983) a + S1x512.size a ≤ S4096x512.size a := fun d0 v983 k0_hw86 k0_h86 => k0_hw86 k0_h86

def k0_off173 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_461 : BitVec 32 := 128#32
  let v991 : BitVec 32 := Scalar.muli v10 c128_i32_461
  let c86_i32 : BitVec 32 := 86#32
  let v992 : BitVec 32 := Scalar.addi v991 c86_i32
  let v993 : Index := Scalar.indexCast v992
  ![v993.toNat]
def k0_off174 (d0 : Dev nD) (v994 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_462 : BitVec 32 := 4096#32
  let v995 : BitVec 32 := Scalar.muli v8 c4096_i32_462
  let v996 : BitVec 32 := Scalar.subi v994 v995
  let c0_i32_2121 : BitVec 32 := 0#32
  ![v996.toNat, 0]
def k0_cond87 (d0 : Dev nD) (v994 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_462 : BitVec 32 := 4096#32
  let v995 : BitVec 32 := Scalar.muli v8 c4096_i32_462
  let v996 : BitVec 32 := Scalar.subi v994 v995
  let c0_i32_463 : BitVec 32 := 0#32
  let v997 : BitVec 1 := Scalar.cmpi .sge v996 c0_i32_463
  let c4096_i32_464 : BitVec 32 := 4096#32
  let v998 : BitVec 1 := Scalar.cmpi .slt v996 c4096_i32_464
  let v999 : BitVec 1 := Scalar.andi v997 v998
  let v1000 : BitVec 32 := Scalar.extui v999
  let c0_i32_465 : BitVec 32 := 0#32
  let v1001 : BitVec 1 := Scalar.cmpi .ne v1000 c0_i32_465
  v1001

def k0_chk87 (d0 : Dev nD) (v994 : BitVec 32) : Prop :=
  (∀ (k0_h87 : k0_cond87 d0 v994 = 1#1), ∀ a, (k0_off174 d0 v994) a + S1x512.size a ≤ S4096x512.size a)
theorem k0_off174_inb : ∀ (d0 : Dev nD) (v994 : BitVec 32) (k0_hw87 : k0_chk87 d0 v994), ∀ (k0_h87 : k0_cond87 d0 v994 = 1#1), ∀ a, (k0_off174 d0 v994) a + S1x512.size a ≤ S4096x512.size a := fun d0 v994 k0_hw87 k0_h87 => k0_hw87 k0_h87

def k0_off175 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_466 : BitVec 32 := 128#32
  let v1002 : BitVec 32 := Scalar.muli v10 c128_i32_466
  let c87_i32 : BitVec 32 := 87#32
  let v1003 : BitVec 32 := Scalar.addi v1002 c87_i32
  let v1004 : Index := Scalar.indexCast v1003
  ![v1004.toNat]
def k0_off176 (d0 : Dev nD) (v1005 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_467 : BitVec 32 := 4096#32
  let v1006 : BitVec 32 := Scalar.muli v8 c4096_i32_467
  let v1007 : BitVec 32 := Scalar.subi v1005 v1006
  let c0_i32_2121 : BitVec 32 := 0#32
  ![v1007.toNat, 0]
def k0_cond88 (d0 : Dev nD) (v1005 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_467 : BitVec 32 := 4096#32
  let v1006 : BitVec 32 := Scalar.muli v8 c4096_i32_467
  let v1007 : BitVec 32 := Scalar.subi v1005 v1006
  let c0_i32_468 : BitVec 32 := 0#32
  let v1008 : BitVec 1 := Scalar.cmpi .sge v1007 c0_i32_468
  let c4096_i32_469 : BitVec 32 := 4096#32
  let v1009 : BitVec 1 := Scalar.cmpi .slt v1007 c4096_i32_469
  let v1010 : BitVec 1 := Scalar.andi v1008 v1009
  let v1011 : BitVec 32 := Scalar.extui v1010
  let c0_i32_470 : BitVec 32 := 0#32
  let v1012 : BitVec 1 := Scalar.cmpi .ne v1011 c0_i32_470
  v1012

def k0_chk88 (d0 : Dev nD) (v1005 : BitVec 32) : Prop :=
  (∀ (k0_h88 : k0_cond88 d0 v1005 = 1#1), ∀ a, (k0_off176 d0 v1005) a + S1x512.size a ≤ S4096x512.size a)
theorem k0_off176_inb : ∀ (d0 : Dev nD) (v1005 : BitVec 32) (k0_hw88 : k0_chk88 d0 v1005), ∀ (k0_h88 : k0_cond88 d0 v1005 = 1#1), ∀ a, (k0_off176 d0 v1005) a + S1x512.size a ≤ S4096x512.size a := fun d0 v1005 k0_hw88 k0_h88 => k0_hw88 k0_h88

def k0_off177 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_471 : BitVec 32 := 128#32
  let v1013 : BitVec 32 := Scalar.muli v10 c128_i32_471
  let c88_i32 : BitVec 32 := 88#32
  let v1014 : BitVec 32 := Scalar.addi v1013 c88_i32
  let v1015 : Index := Scalar.indexCast v1014
  ![v1015.toNat]
def k0_off178 (d0 : Dev nD) (v1016 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_472 : BitVec 32 := 4096#32
  let v1017 : BitVec 32 := Scalar.muli v8 c4096_i32_472
  let v1018 : BitVec 32 := Scalar.subi v1016 v1017
  let c0_i32_2121 : BitVec 32 := 0#32
  ![v1018.toNat, 0]
def k0_cond89 (d0 : Dev nD) (v1016 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_472 : BitVec 32 := 4096#32
  let v1017 : BitVec 32 := Scalar.muli v8 c4096_i32_472
  let v1018 : BitVec 32 := Scalar.subi v1016 v1017
  let c0_i32_473 : BitVec 32 := 0#32
  let v1019 : BitVec 1 := Scalar.cmpi .sge v1018 c0_i32_473
  let c4096_i32_474 : BitVec 32 := 4096#32
  let v1020 : BitVec 1 := Scalar.cmpi .slt v1018 c4096_i32_474
  let v1021 : BitVec 1 := Scalar.andi v1019 v1020
  let v1022 : BitVec 32 := Scalar.extui v1021
  let c0_i32_475 : BitVec 32 := 0#32
  let v1023 : BitVec 1 := Scalar.cmpi .ne v1022 c0_i32_475
  v1023

def k0_chk89 (d0 : Dev nD) (v1016 : BitVec 32) : Prop :=
  (∀ (k0_h89 : k0_cond89 d0 v1016 = 1#1), ∀ a, (k0_off178 d0 v1016) a + S1x512.size a ≤ S4096x512.size a)
theorem k0_off178_inb : ∀ (d0 : Dev nD) (v1016 : BitVec 32) (k0_hw89 : k0_chk89 d0 v1016), ∀ (k0_h89 : k0_cond89 d0 v1016 = 1#1), ∀ a, (k0_off178 d0 v1016) a + S1x512.size a ≤ S4096x512.size a := fun d0 v1016 k0_hw89 k0_h89 => k0_hw89 k0_h89

def k0_off179 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_476 : BitVec 32 := 128#32
  let v1024 : BitVec 32 := Scalar.muli v10 c128_i32_476
  let c89_i32 : BitVec 32 := 89#32
  let v1025 : BitVec 32 := Scalar.addi v1024 c89_i32
  let v1026 : Index := Scalar.indexCast v1025
  ![v1026.toNat]
def k0_off180 (d0 : Dev nD) (v1027 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_477 : BitVec 32 := 4096#32
  let v1028 : BitVec 32 := Scalar.muli v8 c4096_i32_477
  let v1029 : BitVec 32 := Scalar.subi v1027 v1028
  let c0_i32_2121 : BitVec 32 := 0#32
  ![v1029.toNat, 0]
def k0_cond90 (d0 : Dev nD) (v1027 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_477 : BitVec 32 := 4096#32
  let v1028 : BitVec 32 := Scalar.muli v8 c4096_i32_477
  let v1029 : BitVec 32 := Scalar.subi v1027 v1028
  let c0_i32_478 : BitVec 32 := 0#32
  let v1030 : BitVec 1 := Scalar.cmpi .sge v1029 c0_i32_478
  let c4096_i32_479 : BitVec 32 := 4096#32
  let v1031 : BitVec 1 := Scalar.cmpi .slt v1029 c4096_i32_479
  let v1032 : BitVec 1 := Scalar.andi v1030 v1031
  let v1033 : BitVec 32 := Scalar.extui v1032
  let c0_i32_480 : BitVec 32 := 0#32
  let v1034 : BitVec 1 := Scalar.cmpi .ne v1033 c0_i32_480
  v1034

def k0_chk90 (d0 : Dev nD) (v1027 : BitVec 32) : Prop :=
  (∀ (k0_h90 : k0_cond90 d0 v1027 = 1#1), ∀ a, (k0_off180 d0 v1027) a + S1x512.size a ≤ S4096x512.size a)
theorem k0_off180_inb : ∀ (d0 : Dev nD) (v1027 : BitVec 32) (k0_hw90 : k0_chk90 d0 v1027), ∀ (k0_h90 : k0_cond90 d0 v1027 = 1#1), ∀ a, (k0_off180 d0 v1027) a + S1x512.size a ≤ S4096x512.size a := fun d0 v1027 k0_hw90 k0_h90 => k0_hw90 k0_h90

def k0_off181 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_481 : BitVec 32 := 128#32
  let v1035 : BitVec 32 := Scalar.muli v10 c128_i32_481
  let c90_i32 : BitVec 32 := 90#32
  let v1036 : BitVec 32 := Scalar.addi v1035 c90_i32
  let v1037 : Index := Scalar.indexCast v1036
  ![v1037.toNat]
def k0_off182 (d0 : Dev nD) (v1038 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_482 : BitVec 32 := 4096#32
  let v1039 : BitVec 32 := Scalar.muli v8 c4096_i32_482
  let v1040 : BitVec 32 := Scalar.subi v1038 v1039
  let c0_i32_2121 : BitVec 32 := 0#32
  ![v1040.toNat, 0]
def k0_cond91 (d0 : Dev nD) (v1038 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_482 : BitVec 32 := 4096#32
  let v1039 : BitVec 32 := Scalar.muli v8 c4096_i32_482
  let v1040 : BitVec 32 := Scalar.subi v1038 v1039
  let c0_i32_483 : BitVec 32 := 0#32
  let v1041 : BitVec 1 := Scalar.cmpi .sge v1040 c0_i32_483
  let c4096_i32_484 : BitVec 32 := 4096#32
  let v1042 : BitVec 1 := Scalar.cmpi .slt v1040 c4096_i32_484
  let v1043 : BitVec 1 := Scalar.andi v1041 v1042
  let v1044 : BitVec 32 := Scalar.extui v1043
  let c0_i32_485 : BitVec 32 := 0#32
  let v1045 : BitVec 1 := Scalar.cmpi .ne v1044 c0_i32_485
  v1045

def k0_chk91 (d0 : Dev nD) (v1038 : BitVec 32) : Prop :=
  (∀ (k0_h91 : k0_cond91 d0 v1038 = 1#1), ∀ a, (k0_off182 d0 v1038) a + S1x512.size a ≤ S4096x512.size a)
theorem k0_off182_inb : ∀ (d0 : Dev nD) (v1038 : BitVec 32) (k0_hw91 : k0_chk91 d0 v1038), ∀ (k0_h91 : k0_cond91 d0 v1038 = 1#1), ∀ a, (k0_off182 d0 v1038) a + S1x512.size a ≤ S4096x512.size a := fun d0 v1038 k0_hw91 k0_h91 => k0_hw91 k0_h91

def k0_off183 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_486 : BitVec 32 := 128#32
  let v1046 : BitVec 32 := Scalar.muli v10 c128_i32_486
  let c91_i32 : BitVec 32 := 91#32
  let v1047 : BitVec 32 := Scalar.addi v1046 c91_i32
  let v1048 : Index := Scalar.indexCast v1047
  ![v1048.toNat]
def k0_off184 (d0 : Dev nD) (v1049 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_487 : BitVec 32 := 4096#32
  let v1050 : BitVec 32 := Scalar.muli v8 c4096_i32_487
  let v1051 : BitVec 32 := Scalar.subi v1049 v1050
  let c0_i32_2121 : BitVec 32 := 0#32
  ![v1051.toNat, 0]
def k0_cond92 (d0 : Dev nD) (v1049 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_487 : BitVec 32 := 4096#32
  let v1050 : BitVec 32 := Scalar.muli v8 c4096_i32_487
  let v1051 : BitVec 32 := Scalar.subi v1049 v1050
  let c0_i32_488 : BitVec 32 := 0#32
  let v1052 : BitVec 1 := Scalar.cmpi .sge v1051 c0_i32_488
  let c4096_i32_489 : BitVec 32 := 4096#32
  let v1053 : BitVec 1 := Scalar.cmpi .slt v1051 c4096_i32_489
  let v1054 : BitVec 1 := Scalar.andi v1052 v1053
  let v1055 : BitVec 32 := Scalar.extui v1054
  let c0_i32_490 : BitVec 32 := 0#32
  let v1056 : BitVec 1 := Scalar.cmpi .ne v1055 c0_i32_490
  v1056

def k0_chk92 (d0 : Dev nD) (v1049 : BitVec 32) : Prop :=
  (∀ (k0_h92 : k0_cond92 d0 v1049 = 1#1), ∀ a, (k0_off184 d0 v1049) a + S1x512.size a ≤ S4096x512.size a)
theorem k0_off184_inb : ∀ (d0 : Dev nD) (v1049 : BitVec 32) (k0_hw92 : k0_chk92 d0 v1049), ∀ (k0_h92 : k0_cond92 d0 v1049 = 1#1), ∀ a, (k0_off184 d0 v1049) a + S1x512.size a ≤ S4096x512.size a := fun d0 v1049 k0_hw92 k0_h92 => k0_hw92 k0_h92

def k0_off185 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_491 : BitVec 32 := 128#32
  let v1057 : BitVec 32 := Scalar.muli v10 c128_i32_491
  let c92_i32 : BitVec 32 := 92#32
  let v1058 : BitVec 32 := Scalar.addi v1057 c92_i32
  let v1059 : Index := Scalar.indexCast v1058
  ![v1059.toNat]
def k0_off186 (d0 : Dev nD) (v1060 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_492 : BitVec 32 := 4096#32
  let v1061 : BitVec 32 := Scalar.muli v8 c4096_i32_492
  let v1062 : BitVec 32 := Scalar.subi v1060 v1061
  let c0_i32_2121 : BitVec 32 := 0#32
  ![v1062.toNat, 0]
def k0_cond93 (d0 : Dev nD) (v1060 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_492 : BitVec 32 := 4096#32
  let v1061 : BitVec 32 := Scalar.muli v8 c4096_i32_492
  let v1062 : BitVec 32 := Scalar.subi v1060 v1061
  let c0_i32_493 : BitVec 32 := 0#32
  let v1063 : BitVec 1 := Scalar.cmpi .sge v1062 c0_i32_493
  let c4096_i32_494 : BitVec 32 := 4096#32
  let v1064 : BitVec 1 := Scalar.cmpi .slt v1062 c4096_i32_494
  let v1065 : BitVec 1 := Scalar.andi v1063 v1064
  let v1066 : BitVec 32 := Scalar.extui v1065
  let c0_i32_495 : BitVec 32 := 0#32
  let v1067 : BitVec 1 := Scalar.cmpi .ne v1066 c0_i32_495
  v1067

def k0_chk93 (d0 : Dev nD) (v1060 : BitVec 32) : Prop :=
  (∀ (k0_h93 : k0_cond93 d0 v1060 = 1#1), ∀ a, (k0_off186 d0 v1060) a + S1x512.size a ≤ S4096x512.size a)
theorem k0_off186_inb : ∀ (d0 : Dev nD) (v1060 : BitVec 32) (k0_hw93 : k0_chk93 d0 v1060), ∀ (k0_h93 : k0_cond93 d0 v1060 = 1#1), ∀ a, (k0_off186 d0 v1060) a + S1x512.size a ≤ S4096x512.size a := fun d0 v1060 k0_hw93 k0_h93 => k0_hw93 k0_h93

def k0_off187 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_496 : BitVec 32 := 128#32
  let v1068 : BitVec 32 := Scalar.muli v10 c128_i32_496
  let c93_i32 : BitVec 32 := 93#32
  let v1069 : BitVec 32 := Scalar.addi v1068 c93_i32
  let v1070 : Index := Scalar.indexCast v1069
  ![v1070.toNat]
def k0_off188 (d0 : Dev nD) (v1071 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_497 : BitVec 32 := 4096#32
  let v1072 : BitVec 32 := Scalar.muli v8 c4096_i32_497
  let v1073 : BitVec 32 := Scalar.subi v1071 v1072
  let c0_i32_2121 : BitVec 32 := 0#32
  ![v1073.toNat, 0]
def k0_cond94 (d0 : Dev nD) (v1071 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_497 : BitVec 32 := 4096#32
  let v1072 : BitVec 32 := Scalar.muli v8 c4096_i32_497
  let v1073 : BitVec 32 := Scalar.subi v1071 v1072
  let c0_i32_498 : BitVec 32 := 0#32
  let v1074 : BitVec 1 := Scalar.cmpi .sge v1073 c0_i32_498
  let c4096_i32_499 : BitVec 32 := 4096#32
  let v1075 : BitVec 1 := Scalar.cmpi .slt v1073 c4096_i32_499
  let v1076 : BitVec 1 := Scalar.andi v1074 v1075
  let v1077 : BitVec 32 := Scalar.extui v1076
  let c0_i32_500 : BitVec 32 := 0#32
  let v1078 : BitVec 1 := Scalar.cmpi .ne v1077 c0_i32_500
  v1078

def k0_chk94 (d0 : Dev nD) (v1071 : BitVec 32) : Prop :=
  (∀ (k0_h94 : k0_cond94 d0 v1071 = 1#1), ∀ a, (k0_off188 d0 v1071) a + S1x512.size a ≤ S4096x512.size a)
theorem k0_off188_inb : ∀ (d0 : Dev nD) (v1071 : BitVec 32) (k0_hw94 : k0_chk94 d0 v1071), ∀ (k0_h94 : k0_cond94 d0 v1071 = 1#1), ∀ a, (k0_off188 d0 v1071) a + S1x512.size a ≤ S4096x512.size a := fun d0 v1071 k0_hw94 k0_h94 => k0_hw94 k0_h94

def k0_off189 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_501 : BitVec 32 := 128#32
  let v1079 : BitVec 32 := Scalar.muli v10 c128_i32_501
  let c94_i32 : BitVec 32 := 94#32
  let v1080 : BitVec 32 := Scalar.addi v1079 c94_i32
  let v1081 : Index := Scalar.indexCast v1080
  ![v1081.toNat]
def k0_off190 (d0 : Dev nD) (v1082 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_502 : BitVec 32 := 4096#32
  let v1083 : BitVec 32 := Scalar.muli v8 c4096_i32_502
  let v1084 : BitVec 32 := Scalar.subi v1082 v1083
  let c0_i32_2121 : BitVec 32 := 0#32
  ![v1084.toNat, 0]
def k0_cond95 (d0 : Dev nD) (v1082 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_502 : BitVec 32 := 4096#32
  let v1083 : BitVec 32 := Scalar.muli v8 c4096_i32_502
  let v1084 : BitVec 32 := Scalar.subi v1082 v1083
  let c0_i32_503 : BitVec 32 := 0#32
  let v1085 : BitVec 1 := Scalar.cmpi .sge v1084 c0_i32_503
  let c4096_i32_504 : BitVec 32 := 4096#32
  let v1086 : BitVec 1 := Scalar.cmpi .slt v1084 c4096_i32_504
  let v1087 : BitVec 1 := Scalar.andi v1085 v1086
  let v1088 : BitVec 32 := Scalar.extui v1087
  let c0_i32_505 : BitVec 32 := 0#32
  let v1089 : BitVec 1 := Scalar.cmpi .ne v1088 c0_i32_505
  v1089

def k0_chk95 (d0 : Dev nD) (v1082 : BitVec 32) : Prop :=
  (∀ (k0_h95 : k0_cond95 d0 v1082 = 1#1), ∀ a, (k0_off190 d0 v1082) a + S1x512.size a ≤ S4096x512.size a)
theorem k0_off190_inb : ∀ (d0 : Dev nD) (v1082 : BitVec 32) (k0_hw95 : k0_chk95 d0 v1082), ∀ (k0_h95 : k0_cond95 d0 v1082 = 1#1), ∀ a, (k0_off190 d0 v1082) a + S1x512.size a ≤ S4096x512.size a := fun d0 v1082 k0_hw95 k0_h95 => k0_hw95 k0_h95

def k0_off191 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_506 : BitVec 32 := 128#32
  let v1090 : BitVec 32 := Scalar.muli v10 c128_i32_506
  let c95_i32 : BitVec 32 := 95#32
  let v1091 : BitVec 32 := Scalar.addi v1090 c95_i32
  let v1092 : Index := Scalar.indexCast v1091
  ![v1092.toNat]
def k0_off192 (d0 : Dev nD) (v1093 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_507 : BitVec 32 := 4096#32
  let v1094 : BitVec 32 := Scalar.muli v8 c4096_i32_507
  let v1095 : BitVec 32 := Scalar.subi v1093 v1094
  let c0_i32_2121 : BitVec 32 := 0#32
  ![v1095.toNat, 0]
def k0_cond96 (d0 : Dev nD) (v1093 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_507 : BitVec 32 := 4096#32
  let v1094 : BitVec 32 := Scalar.muli v8 c4096_i32_507
  let v1095 : BitVec 32 := Scalar.subi v1093 v1094
  let c0_i32_508 : BitVec 32 := 0#32
  let v1096 : BitVec 1 := Scalar.cmpi .sge v1095 c0_i32_508
  let c4096_i32_509 : BitVec 32 := 4096#32
  let v1097 : BitVec 1 := Scalar.cmpi .slt v1095 c4096_i32_509
  let v1098 : BitVec 1 := Scalar.andi v1096 v1097
  let v1099 : BitVec 32 := Scalar.extui v1098
  let c0_i32_510 : BitVec 32 := 0#32
  let v1100 : BitVec 1 := Scalar.cmpi .ne v1099 c0_i32_510
  v1100

def k0_chk96 (d0 : Dev nD) (v1093 : BitVec 32) : Prop :=
  (∀ (k0_h96 : k0_cond96 d0 v1093 = 1#1), ∀ a, (k0_off192 d0 v1093) a + S1x512.size a ≤ S4096x512.size a)
theorem k0_off192_inb : ∀ (d0 : Dev nD) (v1093 : BitVec 32) (k0_hw96 : k0_chk96 d0 v1093), ∀ (k0_h96 : k0_cond96 d0 v1093 = 1#1), ∀ a, (k0_off192 d0 v1093) a + S1x512.size a ≤ S4096x512.size a := fun d0 v1093 k0_hw96 k0_h96 => k0_hw96 k0_h96

def k0_off193 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_511 : BitVec 32 := 128#32
  let v1101 : BitVec 32 := Scalar.muli v10 c128_i32_511
  let c96_i32 : BitVec 32 := 96#32
  let v1102 : BitVec 32 := Scalar.addi v1101 c96_i32
  let v1103 : Index := Scalar.indexCast v1102
  ![v1103.toNat]
def k0_off194 (d0 : Dev nD) (v1104 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_512 : BitVec 32 := 4096#32
  let v1105 : BitVec 32 := Scalar.muli v8 c4096_i32_512
  let v1106 : BitVec 32 := Scalar.subi v1104 v1105
  let c0_i32_2121 : BitVec 32 := 0#32
  ![v1106.toNat, 0]
def k0_cond97 (d0 : Dev nD) (v1104 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_512 : BitVec 32 := 4096#32
  let v1105 : BitVec 32 := Scalar.muli v8 c4096_i32_512
  let v1106 : BitVec 32 := Scalar.subi v1104 v1105
  let c0_i32_513 : BitVec 32 := 0#32
  let v1107 : BitVec 1 := Scalar.cmpi .sge v1106 c0_i32_513
  let c4096_i32_514 : BitVec 32 := 4096#32
  let v1108 : BitVec 1 := Scalar.cmpi .slt v1106 c4096_i32_514
  let v1109 : BitVec 1 := Scalar.andi v1107 v1108
  let v1110 : BitVec 32 := Scalar.extui v1109
  let c0_i32_515 : BitVec 32 := 0#32
  let v1111 : BitVec 1 := Scalar.cmpi .ne v1110 c0_i32_515
  v1111

def k0_chk97 (d0 : Dev nD) (v1104 : BitVec 32) : Prop :=
  (∀ (k0_h97 : k0_cond97 d0 v1104 = 1#1), ∀ a, (k0_off194 d0 v1104) a + S1x512.size a ≤ S4096x512.size a)
theorem k0_off194_inb : ∀ (d0 : Dev nD) (v1104 : BitVec 32) (k0_hw97 : k0_chk97 d0 v1104), ∀ (k0_h97 : k0_cond97 d0 v1104 = 1#1), ∀ a, (k0_off194 d0 v1104) a + S1x512.size a ≤ S4096x512.size a := fun d0 v1104 k0_hw97 k0_h97 => k0_hw97 k0_h97

def k0_off195 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_516 : BitVec 32 := 128#32
  let v1112 : BitVec 32 := Scalar.muli v10 c128_i32_516
  let c97_i32 : BitVec 32 := 97#32
  let v1113 : BitVec 32 := Scalar.addi v1112 c97_i32
  let v1114 : Index := Scalar.indexCast v1113
  ![v1114.toNat]
def k0_off196 (d0 : Dev nD) (v1115 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_517 : BitVec 32 := 4096#32
  let v1116 : BitVec 32 := Scalar.muli v8 c4096_i32_517
  let v1117 : BitVec 32 := Scalar.subi v1115 v1116
  let c0_i32_2121 : BitVec 32 := 0#32
  ![v1117.toNat, 0]
def k0_cond98 (d0 : Dev nD) (v1115 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_517 : BitVec 32 := 4096#32
  let v1116 : BitVec 32 := Scalar.muli v8 c4096_i32_517
  let v1117 : BitVec 32 := Scalar.subi v1115 v1116
  let c0_i32_518 : BitVec 32 := 0#32
  let v1118 : BitVec 1 := Scalar.cmpi .sge v1117 c0_i32_518
  let c4096_i32_519 : BitVec 32 := 4096#32
  let v1119 : BitVec 1 := Scalar.cmpi .slt v1117 c4096_i32_519
  let v1120 : BitVec 1 := Scalar.andi v1118 v1119
  let v1121 : BitVec 32 := Scalar.extui v1120
  let c0_i32_520 : BitVec 32 := 0#32
  let v1122 : BitVec 1 := Scalar.cmpi .ne v1121 c0_i32_520
  v1122

def k0_chk98 (d0 : Dev nD) (v1115 : BitVec 32) : Prop :=
  (∀ (k0_h98 : k0_cond98 d0 v1115 = 1#1), ∀ a, (k0_off196 d0 v1115) a + S1x512.size a ≤ S4096x512.size a)
theorem k0_off196_inb : ∀ (d0 : Dev nD) (v1115 : BitVec 32) (k0_hw98 : k0_chk98 d0 v1115), ∀ (k0_h98 : k0_cond98 d0 v1115 = 1#1), ∀ a, (k0_off196 d0 v1115) a + S1x512.size a ≤ S4096x512.size a := fun d0 v1115 k0_hw98 k0_h98 => k0_hw98 k0_h98

def k0_off197 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_521 : BitVec 32 := 128#32
  let v1123 : BitVec 32 := Scalar.muli v10 c128_i32_521
  let c98_i32 : BitVec 32 := 98#32
  let v1124 : BitVec 32 := Scalar.addi v1123 c98_i32
  let v1125 : Index := Scalar.indexCast v1124
  ![v1125.toNat]
def k0_off198 (d0 : Dev nD) (v1126 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_522 : BitVec 32 := 4096#32
  let v1127 : BitVec 32 := Scalar.muli v8 c4096_i32_522
  let v1128 : BitVec 32 := Scalar.subi v1126 v1127
  let c0_i32_2121 : BitVec 32 := 0#32
  ![v1128.toNat, 0]
def k0_cond99 (d0 : Dev nD) (v1126 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_522 : BitVec 32 := 4096#32
  let v1127 : BitVec 32 := Scalar.muli v8 c4096_i32_522
  let v1128 : BitVec 32 := Scalar.subi v1126 v1127
  let c0_i32_523 : BitVec 32 := 0#32
  let v1129 : BitVec 1 := Scalar.cmpi .sge v1128 c0_i32_523
  let c4096_i32_524 : BitVec 32 := 4096#32
  let v1130 : BitVec 1 := Scalar.cmpi .slt v1128 c4096_i32_524
  let v1131 : BitVec 1 := Scalar.andi v1129 v1130
  let v1132 : BitVec 32 := Scalar.extui v1131
  let c0_i32_525 : BitVec 32 := 0#32
  let v1133 : BitVec 1 := Scalar.cmpi .ne v1132 c0_i32_525
  v1133

def k0_chk99 (d0 : Dev nD) (v1126 : BitVec 32) : Prop :=
  (∀ (k0_h99 : k0_cond99 d0 v1126 = 1#1), ∀ a, (k0_off198 d0 v1126) a + S1x512.size a ≤ S4096x512.size a)
theorem k0_off198_inb : ∀ (d0 : Dev nD) (v1126 : BitVec 32) (k0_hw99 : k0_chk99 d0 v1126), ∀ (k0_h99 : k0_cond99 d0 v1126 = 1#1), ∀ a, (k0_off198 d0 v1126) a + S1x512.size a ≤ S4096x512.size a := fun d0 v1126 k0_hw99 k0_h99 => k0_hw99 k0_h99

def k0_off199 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_526 : BitVec 32 := 128#32
  let v1134 : BitVec 32 := Scalar.muli v10 c128_i32_526
  let c99_i32 : BitVec 32 := 99#32
  let v1135 : BitVec 32 := Scalar.addi v1134 c99_i32
  let v1136 : Index := Scalar.indexCast v1135
  ![v1136.toNat]
def k0_off200 (d0 : Dev nD) (v1137 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_527 : BitVec 32 := 4096#32
  let v1138 : BitVec 32 := Scalar.muli v8 c4096_i32_527
  let v1139 : BitVec 32 := Scalar.subi v1137 v1138
  let c0_i32_2121 : BitVec 32 := 0#32
  ![v1139.toNat, 0]
def k0_cond100 (d0 : Dev nD) (v1137 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_527 : BitVec 32 := 4096#32
  let v1138 : BitVec 32 := Scalar.muli v8 c4096_i32_527
  let v1139 : BitVec 32 := Scalar.subi v1137 v1138
  let c0_i32_528 : BitVec 32 := 0#32
  let v1140 : BitVec 1 := Scalar.cmpi .sge v1139 c0_i32_528
  let c4096_i32_529 : BitVec 32 := 4096#32
  let v1141 : BitVec 1 := Scalar.cmpi .slt v1139 c4096_i32_529
  let v1142 : BitVec 1 := Scalar.andi v1140 v1141
  let v1143 : BitVec 32 := Scalar.extui v1142
  let c0_i32_530 : BitVec 32 := 0#32
  let v1144 : BitVec 1 := Scalar.cmpi .ne v1143 c0_i32_530
  v1144

def k0_chk100 (d0 : Dev nD) (v1137 : BitVec 32) : Prop :=
  (∀ (k0_h100 : k0_cond100 d0 v1137 = 1#1), ∀ a, (k0_off200 d0 v1137) a + S1x512.size a ≤ S4096x512.size a)
theorem k0_off200_inb : ∀ (d0 : Dev nD) (v1137 : BitVec 32) (k0_hw100 : k0_chk100 d0 v1137), ∀ (k0_h100 : k0_cond100 d0 v1137 = 1#1), ∀ a, (k0_off200 d0 v1137) a + S1x512.size a ≤ S4096x512.size a := fun d0 v1137 k0_hw100 k0_h100 => k0_hw100 k0_h100

def k0_off201 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_531 : BitVec 32 := 128#32
  let v1145 : BitVec 32 := Scalar.muli v10 c128_i32_531
  let c100_i32 : BitVec 32 := 100#32
  let v1146 : BitVec 32 := Scalar.addi v1145 c100_i32
  let v1147 : Index := Scalar.indexCast v1146
  ![v1147.toNat]
def k0_off202 (d0 : Dev nD) (v1148 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_532 : BitVec 32 := 4096#32
  let v1149 : BitVec 32 := Scalar.muli v8 c4096_i32_532
  let v1150 : BitVec 32 := Scalar.subi v1148 v1149
  let c0_i32_2121 : BitVec 32 := 0#32
  ![v1150.toNat, 0]
def k0_cond101 (d0 : Dev nD) (v1148 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_532 : BitVec 32 := 4096#32
  let v1149 : BitVec 32 := Scalar.muli v8 c4096_i32_532
  let v1150 : BitVec 32 := Scalar.subi v1148 v1149
  let c0_i32_533 : BitVec 32 := 0#32
  let v1151 : BitVec 1 := Scalar.cmpi .sge v1150 c0_i32_533
  let c4096_i32_534 : BitVec 32 := 4096#32
  let v1152 : BitVec 1 := Scalar.cmpi .slt v1150 c4096_i32_534
  let v1153 : BitVec 1 := Scalar.andi v1151 v1152
  let v1154 : BitVec 32 := Scalar.extui v1153
  let c0_i32_535 : BitVec 32 := 0#32
  let v1155 : BitVec 1 := Scalar.cmpi .ne v1154 c0_i32_535
  v1155

def k0_chk101 (d0 : Dev nD) (v1148 : BitVec 32) : Prop :=
  (∀ (k0_h101 : k0_cond101 d0 v1148 = 1#1), ∀ a, (k0_off202 d0 v1148) a + S1x512.size a ≤ S4096x512.size a)
theorem k0_off202_inb : ∀ (d0 : Dev nD) (v1148 : BitVec 32) (k0_hw101 : k0_chk101 d0 v1148), ∀ (k0_h101 : k0_cond101 d0 v1148 = 1#1), ∀ a, (k0_off202 d0 v1148) a + S1x512.size a ≤ S4096x512.size a := fun d0 v1148 k0_hw101 k0_h101 => k0_hw101 k0_h101

def k0_off203 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_536 : BitVec 32 := 128#32
  let v1156 : BitVec 32 := Scalar.muli v10 c128_i32_536
  let c101_i32 : BitVec 32 := 101#32
  let v1157 : BitVec 32 := Scalar.addi v1156 c101_i32
  let v1158 : Index := Scalar.indexCast v1157
  ![v1158.toNat]
def k0_off204 (d0 : Dev nD) (v1159 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_537 : BitVec 32 := 4096#32
  let v1160 : BitVec 32 := Scalar.muli v8 c4096_i32_537
  let v1161 : BitVec 32 := Scalar.subi v1159 v1160
  let c0_i32_2121 : BitVec 32 := 0#32
  ![v1161.toNat, 0]
def k0_cond102 (d0 : Dev nD) (v1159 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_537 : BitVec 32 := 4096#32
  let v1160 : BitVec 32 := Scalar.muli v8 c4096_i32_537
  let v1161 : BitVec 32 := Scalar.subi v1159 v1160
  let c0_i32_538 : BitVec 32 := 0#32
  let v1162 : BitVec 1 := Scalar.cmpi .sge v1161 c0_i32_538
  let c4096_i32_539 : BitVec 32 := 4096#32
  let v1163 : BitVec 1 := Scalar.cmpi .slt v1161 c4096_i32_539
  let v1164 : BitVec 1 := Scalar.andi v1162 v1163
  let v1165 : BitVec 32 := Scalar.extui v1164
  let c0_i32_540 : BitVec 32 := 0#32
  let v1166 : BitVec 1 := Scalar.cmpi .ne v1165 c0_i32_540
  v1166

def k0_chk102 (d0 : Dev nD) (v1159 : BitVec 32) : Prop :=
  (∀ (k0_h102 : k0_cond102 d0 v1159 = 1#1), ∀ a, (k0_off204 d0 v1159) a + S1x512.size a ≤ S4096x512.size a)
theorem k0_off204_inb : ∀ (d0 : Dev nD) (v1159 : BitVec 32) (k0_hw102 : k0_chk102 d0 v1159), ∀ (k0_h102 : k0_cond102 d0 v1159 = 1#1), ∀ a, (k0_off204 d0 v1159) a + S1x512.size a ≤ S4096x512.size a := fun d0 v1159 k0_hw102 k0_h102 => k0_hw102 k0_h102

def k0_off205 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_541 : BitVec 32 := 128#32
  let v1167 : BitVec 32 := Scalar.muli v10 c128_i32_541
  let c102_i32 : BitVec 32 := 102#32
  let v1168 : BitVec 32 := Scalar.addi v1167 c102_i32
  let v1169 : Index := Scalar.indexCast v1168
  ![v1169.toNat]
def k0_off206 (d0 : Dev nD) (v1170 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_542 : BitVec 32 := 4096#32
  let v1171 : BitVec 32 := Scalar.muli v8 c4096_i32_542
  let v1172 : BitVec 32 := Scalar.subi v1170 v1171
  let c0_i32_2121 : BitVec 32 := 0#32
  ![v1172.toNat, 0]
def k0_cond103 (d0 : Dev nD) (v1170 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_542 : BitVec 32 := 4096#32
  let v1171 : BitVec 32 := Scalar.muli v8 c4096_i32_542
  let v1172 : BitVec 32 := Scalar.subi v1170 v1171
  let c0_i32_543 : BitVec 32 := 0#32
  let v1173 : BitVec 1 := Scalar.cmpi .sge v1172 c0_i32_543
  let c4096_i32_544 : BitVec 32 := 4096#32
  let v1174 : BitVec 1 := Scalar.cmpi .slt v1172 c4096_i32_544
  let v1175 : BitVec 1 := Scalar.andi v1173 v1174
  let v1176 : BitVec 32 := Scalar.extui v1175
  let c0_i32_545 : BitVec 32 := 0#32
  let v1177 : BitVec 1 := Scalar.cmpi .ne v1176 c0_i32_545
  v1177

def k0_chk103 (d0 : Dev nD) (v1170 : BitVec 32) : Prop :=
  (∀ (k0_h103 : k0_cond103 d0 v1170 = 1#1), ∀ a, (k0_off206 d0 v1170) a + S1x512.size a ≤ S4096x512.size a)
theorem k0_off206_inb : ∀ (d0 : Dev nD) (v1170 : BitVec 32) (k0_hw103 : k0_chk103 d0 v1170), ∀ (k0_h103 : k0_cond103 d0 v1170 = 1#1), ∀ a, (k0_off206 d0 v1170) a + S1x512.size a ≤ S4096x512.size a := fun d0 v1170 k0_hw103 k0_h103 => k0_hw103 k0_h103

def k0_off207 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_546 : BitVec 32 := 128#32
  let v1178 : BitVec 32 := Scalar.muli v10 c128_i32_546
  let c103_i32 : BitVec 32 := 103#32
  let v1179 : BitVec 32 := Scalar.addi v1178 c103_i32
  let v1180 : Index := Scalar.indexCast v1179
  ![v1180.toNat]
def k0_off208 (d0 : Dev nD) (v1181 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_547 : BitVec 32 := 4096#32
  let v1182 : BitVec 32 := Scalar.muli v8 c4096_i32_547
  let v1183 : BitVec 32 := Scalar.subi v1181 v1182
  let c0_i32_2121 : BitVec 32 := 0#32
  ![v1183.toNat, 0]
def k0_cond104 (d0 : Dev nD) (v1181 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_547 : BitVec 32 := 4096#32
  let v1182 : BitVec 32 := Scalar.muli v8 c4096_i32_547
  let v1183 : BitVec 32 := Scalar.subi v1181 v1182
  let c0_i32_548 : BitVec 32 := 0#32
  let v1184 : BitVec 1 := Scalar.cmpi .sge v1183 c0_i32_548
  let c4096_i32_549 : BitVec 32 := 4096#32
  let v1185 : BitVec 1 := Scalar.cmpi .slt v1183 c4096_i32_549
  let v1186 : BitVec 1 := Scalar.andi v1184 v1185
  let v1187 : BitVec 32 := Scalar.extui v1186
  let c0_i32_550 : BitVec 32 := 0#32
  let v1188 : BitVec 1 := Scalar.cmpi .ne v1187 c0_i32_550
  v1188

def k0_chk104 (d0 : Dev nD) (v1181 : BitVec 32) : Prop :=
  (∀ (k0_h104 : k0_cond104 d0 v1181 = 1#1), ∀ a, (k0_off208 d0 v1181) a + S1x512.size a ≤ S4096x512.size a)
theorem k0_off208_inb : ∀ (d0 : Dev nD) (v1181 : BitVec 32) (k0_hw104 : k0_chk104 d0 v1181), ∀ (k0_h104 : k0_cond104 d0 v1181 = 1#1), ∀ a, (k0_off208 d0 v1181) a + S1x512.size a ≤ S4096x512.size a := fun d0 v1181 k0_hw104 k0_h104 => k0_hw104 k0_h104

def k0_off209 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_551 : BitVec 32 := 128#32
  let v1189 : BitVec 32 := Scalar.muli v10 c128_i32_551
  let c104_i32 : BitVec 32 := 104#32
  let v1190 : BitVec 32 := Scalar.addi v1189 c104_i32
  let v1191 : Index := Scalar.indexCast v1190
  ![v1191.toNat]
def k0_off210 (d0 : Dev nD) (v1192 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_552 : BitVec 32 := 4096#32
  let v1193 : BitVec 32 := Scalar.muli v8 c4096_i32_552
  let v1194 : BitVec 32 := Scalar.subi v1192 v1193
  let c0_i32_2121 : BitVec 32 := 0#32
  ![v1194.toNat, 0]
def k0_cond105 (d0 : Dev nD) (v1192 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_552 : BitVec 32 := 4096#32
  let v1193 : BitVec 32 := Scalar.muli v8 c4096_i32_552
  let v1194 : BitVec 32 := Scalar.subi v1192 v1193
  let c0_i32_553 : BitVec 32 := 0#32
  let v1195 : BitVec 1 := Scalar.cmpi .sge v1194 c0_i32_553
  let c4096_i32_554 : BitVec 32 := 4096#32
  let v1196 : BitVec 1 := Scalar.cmpi .slt v1194 c4096_i32_554
  let v1197 : BitVec 1 := Scalar.andi v1195 v1196
  let v1198 : BitVec 32 := Scalar.extui v1197
  let c0_i32_555 : BitVec 32 := 0#32
  let v1199 : BitVec 1 := Scalar.cmpi .ne v1198 c0_i32_555
  v1199

def k0_chk105 (d0 : Dev nD) (v1192 : BitVec 32) : Prop :=
  (∀ (k0_h105 : k0_cond105 d0 v1192 = 1#1), ∀ a, (k0_off210 d0 v1192) a + S1x512.size a ≤ S4096x512.size a)
theorem k0_off210_inb : ∀ (d0 : Dev nD) (v1192 : BitVec 32) (k0_hw105 : k0_chk105 d0 v1192), ∀ (k0_h105 : k0_cond105 d0 v1192 = 1#1), ∀ a, (k0_off210 d0 v1192) a + S1x512.size a ≤ S4096x512.size a := fun d0 v1192 k0_hw105 k0_h105 => k0_hw105 k0_h105

def k0_off211 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_556 : BitVec 32 := 128#32
  let v1200 : BitVec 32 := Scalar.muli v10 c128_i32_556
  let c105_i32 : BitVec 32 := 105#32
  let v1201 : BitVec 32 := Scalar.addi v1200 c105_i32
  let v1202 : Index := Scalar.indexCast v1201
  ![v1202.toNat]
def k0_off212 (d0 : Dev nD) (v1203 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_557 : BitVec 32 := 4096#32
  let v1204 : BitVec 32 := Scalar.muli v8 c4096_i32_557
  let v1205 : BitVec 32 := Scalar.subi v1203 v1204
  let c0_i32_2121 : BitVec 32 := 0#32
  ![v1205.toNat, 0]
def k0_cond106 (d0 : Dev nD) (v1203 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_557 : BitVec 32 := 4096#32
  let v1204 : BitVec 32 := Scalar.muli v8 c4096_i32_557
  let v1205 : BitVec 32 := Scalar.subi v1203 v1204
  let c0_i32_558 : BitVec 32 := 0#32
  let v1206 : BitVec 1 := Scalar.cmpi .sge v1205 c0_i32_558
  let c4096_i32_559 : BitVec 32 := 4096#32
  let v1207 : BitVec 1 := Scalar.cmpi .slt v1205 c4096_i32_559
  let v1208 : BitVec 1 := Scalar.andi v1206 v1207
  let v1209 : BitVec 32 := Scalar.extui v1208
  let c0_i32_560 : BitVec 32 := 0#32
  let v1210 : BitVec 1 := Scalar.cmpi .ne v1209 c0_i32_560
  v1210

def k0_chk106 (d0 : Dev nD) (v1203 : BitVec 32) : Prop :=
  (∀ (k0_h106 : k0_cond106 d0 v1203 = 1#1), ∀ a, (k0_off212 d0 v1203) a + S1x512.size a ≤ S4096x512.size a)
theorem k0_off212_inb : ∀ (d0 : Dev nD) (v1203 : BitVec 32) (k0_hw106 : k0_chk106 d0 v1203), ∀ (k0_h106 : k0_cond106 d0 v1203 = 1#1), ∀ a, (k0_off212 d0 v1203) a + S1x512.size a ≤ S4096x512.size a := fun d0 v1203 k0_hw106 k0_h106 => k0_hw106 k0_h106

def k0_off213 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_561 : BitVec 32 := 128#32
  let v1211 : BitVec 32 := Scalar.muli v10 c128_i32_561
  let c106_i32 : BitVec 32 := 106#32
  let v1212 : BitVec 32 := Scalar.addi v1211 c106_i32
  let v1213 : Index := Scalar.indexCast v1212
  ![v1213.toNat]
def k0_off214 (d0 : Dev nD) (v1214 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_562 : BitVec 32 := 4096#32
  let v1215 : BitVec 32 := Scalar.muli v8 c4096_i32_562
  let v1216 : BitVec 32 := Scalar.subi v1214 v1215
  let c0_i32_2121 : BitVec 32 := 0#32
  ![v1216.toNat, 0]
def k0_cond107 (d0 : Dev nD) (v1214 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_562 : BitVec 32 := 4096#32
  let v1215 : BitVec 32 := Scalar.muli v8 c4096_i32_562
  let v1216 : BitVec 32 := Scalar.subi v1214 v1215
  let c0_i32_563 : BitVec 32 := 0#32
  let v1217 : BitVec 1 := Scalar.cmpi .sge v1216 c0_i32_563
  let c4096_i32_564 : BitVec 32 := 4096#32
  let v1218 : BitVec 1 := Scalar.cmpi .slt v1216 c4096_i32_564
  let v1219 : BitVec 1 := Scalar.andi v1217 v1218
  let v1220 : BitVec 32 := Scalar.extui v1219
  let c0_i32_565 : BitVec 32 := 0#32
  let v1221 : BitVec 1 := Scalar.cmpi .ne v1220 c0_i32_565
  v1221

def k0_chk107 (d0 : Dev nD) (v1214 : BitVec 32) : Prop :=
  (∀ (k0_h107 : k0_cond107 d0 v1214 = 1#1), ∀ a, (k0_off214 d0 v1214) a + S1x512.size a ≤ S4096x512.size a)
theorem k0_off214_inb : ∀ (d0 : Dev nD) (v1214 : BitVec 32) (k0_hw107 : k0_chk107 d0 v1214), ∀ (k0_h107 : k0_cond107 d0 v1214 = 1#1), ∀ a, (k0_off214 d0 v1214) a + S1x512.size a ≤ S4096x512.size a := fun d0 v1214 k0_hw107 k0_h107 => k0_hw107 k0_h107

def k0_off215 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_566 : BitVec 32 := 128#32
  let v1222 : BitVec 32 := Scalar.muli v10 c128_i32_566
  let c107_i32 : BitVec 32 := 107#32
  let v1223 : BitVec 32 := Scalar.addi v1222 c107_i32
  let v1224 : Index := Scalar.indexCast v1223
  ![v1224.toNat]
def k0_off216 (d0 : Dev nD) (v1225 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_567 : BitVec 32 := 4096#32
  let v1226 : BitVec 32 := Scalar.muli v8 c4096_i32_567
  let v1227 : BitVec 32 := Scalar.subi v1225 v1226
  let c0_i32_2121 : BitVec 32 := 0#32
  ![v1227.toNat, 0]
def k0_cond108 (d0 : Dev nD) (v1225 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_567 : BitVec 32 := 4096#32
  let v1226 : BitVec 32 := Scalar.muli v8 c4096_i32_567
  let v1227 : BitVec 32 := Scalar.subi v1225 v1226
  let c0_i32_568 : BitVec 32 := 0#32
  let v1228 : BitVec 1 := Scalar.cmpi .sge v1227 c0_i32_568
  let c4096_i32_569 : BitVec 32 := 4096#32
  let v1229 : BitVec 1 := Scalar.cmpi .slt v1227 c4096_i32_569
  let v1230 : BitVec 1 := Scalar.andi v1228 v1229
  let v1231 : BitVec 32 := Scalar.extui v1230
  let c0_i32_570 : BitVec 32 := 0#32
  let v1232 : BitVec 1 := Scalar.cmpi .ne v1231 c0_i32_570
  v1232

def k0_chk108 (d0 : Dev nD) (v1225 : BitVec 32) : Prop :=
  (∀ (k0_h108 : k0_cond108 d0 v1225 = 1#1), ∀ a, (k0_off216 d0 v1225) a + S1x512.size a ≤ S4096x512.size a)
theorem k0_off216_inb : ∀ (d0 : Dev nD) (v1225 : BitVec 32) (k0_hw108 : k0_chk108 d0 v1225), ∀ (k0_h108 : k0_cond108 d0 v1225 = 1#1), ∀ a, (k0_off216 d0 v1225) a + S1x512.size a ≤ S4096x512.size a := fun d0 v1225 k0_hw108 k0_h108 => k0_hw108 k0_h108

def k0_off217 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_571 : BitVec 32 := 128#32
  let v1233 : BitVec 32 := Scalar.muli v10 c128_i32_571
  let c108_i32 : BitVec 32 := 108#32
  let v1234 : BitVec 32 := Scalar.addi v1233 c108_i32
  let v1235 : Index := Scalar.indexCast v1234
  ![v1235.toNat]
def k0_off218 (d0 : Dev nD) (v1236 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_572 : BitVec 32 := 4096#32
  let v1237 : BitVec 32 := Scalar.muli v8 c4096_i32_572
  let v1238 : BitVec 32 := Scalar.subi v1236 v1237
  let c0_i32_2121 : BitVec 32 := 0#32
  ![v1238.toNat, 0]
def k0_cond109 (d0 : Dev nD) (v1236 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_572 : BitVec 32 := 4096#32
  let v1237 : BitVec 32 := Scalar.muli v8 c4096_i32_572
  let v1238 : BitVec 32 := Scalar.subi v1236 v1237
  let c0_i32_573 : BitVec 32 := 0#32
  let v1239 : BitVec 1 := Scalar.cmpi .sge v1238 c0_i32_573
  let c4096_i32_574 : BitVec 32 := 4096#32
  let v1240 : BitVec 1 := Scalar.cmpi .slt v1238 c4096_i32_574
  let v1241 : BitVec 1 := Scalar.andi v1239 v1240
  let v1242 : BitVec 32 := Scalar.extui v1241
  let c0_i32_575 : BitVec 32 := 0#32
  let v1243 : BitVec 1 := Scalar.cmpi .ne v1242 c0_i32_575
  v1243

def k0_chk109 (d0 : Dev nD) (v1236 : BitVec 32) : Prop :=
  (∀ (k0_h109 : k0_cond109 d0 v1236 = 1#1), ∀ a, (k0_off218 d0 v1236) a + S1x512.size a ≤ S4096x512.size a)
theorem k0_off218_inb : ∀ (d0 : Dev nD) (v1236 : BitVec 32) (k0_hw109 : k0_chk109 d0 v1236), ∀ (k0_h109 : k0_cond109 d0 v1236 = 1#1), ∀ a, (k0_off218 d0 v1236) a + S1x512.size a ≤ S4096x512.size a := fun d0 v1236 k0_hw109 k0_h109 => k0_hw109 k0_h109

def k0_off219 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_576 : BitVec 32 := 128#32
  let v1244 : BitVec 32 := Scalar.muli v10 c128_i32_576
  let c109_i32 : BitVec 32 := 109#32
  let v1245 : BitVec 32 := Scalar.addi v1244 c109_i32
  let v1246 : Index := Scalar.indexCast v1245
  ![v1246.toNat]
def k0_off220 (d0 : Dev nD) (v1247 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_577 : BitVec 32 := 4096#32
  let v1248 : BitVec 32 := Scalar.muli v8 c4096_i32_577
  let v1249 : BitVec 32 := Scalar.subi v1247 v1248
  let c0_i32_2121 : BitVec 32 := 0#32
  ![v1249.toNat, 0]
def k0_cond110 (d0 : Dev nD) (v1247 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_577 : BitVec 32 := 4096#32
  let v1248 : BitVec 32 := Scalar.muli v8 c4096_i32_577
  let v1249 : BitVec 32 := Scalar.subi v1247 v1248
  let c0_i32_578 : BitVec 32 := 0#32
  let v1250 : BitVec 1 := Scalar.cmpi .sge v1249 c0_i32_578
  let c4096_i32_579 : BitVec 32 := 4096#32
  let v1251 : BitVec 1 := Scalar.cmpi .slt v1249 c4096_i32_579
  let v1252 : BitVec 1 := Scalar.andi v1250 v1251
  let v1253 : BitVec 32 := Scalar.extui v1252
  let c0_i32_580 : BitVec 32 := 0#32
  let v1254 : BitVec 1 := Scalar.cmpi .ne v1253 c0_i32_580
  v1254

def k0_chk110 (d0 : Dev nD) (v1247 : BitVec 32) : Prop :=
  (∀ (k0_h110 : k0_cond110 d0 v1247 = 1#1), ∀ a, (k0_off220 d0 v1247) a + S1x512.size a ≤ S4096x512.size a)
theorem k0_off220_inb : ∀ (d0 : Dev nD) (v1247 : BitVec 32) (k0_hw110 : k0_chk110 d0 v1247), ∀ (k0_h110 : k0_cond110 d0 v1247 = 1#1), ∀ a, (k0_off220 d0 v1247) a + S1x512.size a ≤ S4096x512.size a := fun d0 v1247 k0_hw110 k0_h110 => k0_hw110 k0_h110

def k0_off221 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_581 : BitVec 32 := 128#32
  let v1255 : BitVec 32 := Scalar.muli v10 c128_i32_581
  let c110_i32 : BitVec 32 := 110#32
  let v1256 : BitVec 32 := Scalar.addi v1255 c110_i32
  let v1257 : Index := Scalar.indexCast v1256
  ![v1257.toNat]
def k0_off222 (d0 : Dev nD) (v1258 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_582 : BitVec 32 := 4096#32
  let v1259 : BitVec 32 := Scalar.muli v8 c4096_i32_582
  let v1260 : BitVec 32 := Scalar.subi v1258 v1259
  let c0_i32_2121 : BitVec 32 := 0#32
  ![v1260.toNat, 0]
def k0_cond111 (d0 : Dev nD) (v1258 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_582 : BitVec 32 := 4096#32
  let v1259 : BitVec 32 := Scalar.muli v8 c4096_i32_582
  let v1260 : BitVec 32 := Scalar.subi v1258 v1259
  let c0_i32_583 : BitVec 32 := 0#32
  let v1261 : BitVec 1 := Scalar.cmpi .sge v1260 c0_i32_583
  let c4096_i32_584 : BitVec 32 := 4096#32
  let v1262 : BitVec 1 := Scalar.cmpi .slt v1260 c4096_i32_584
  let v1263 : BitVec 1 := Scalar.andi v1261 v1262
  let v1264 : BitVec 32 := Scalar.extui v1263
  let c0_i32_585 : BitVec 32 := 0#32
  let v1265 : BitVec 1 := Scalar.cmpi .ne v1264 c0_i32_585
  v1265

def k0_chk111 (d0 : Dev nD) (v1258 : BitVec 32) : Prop :=
  (∀ (k0_h111 : k0_cond111 d0 v1258 = 1#1), ∀ a, (k0_off222 d0 v1258) a + S1x512.size a ≤ S4096x512.size a)
theorem k0_off222_inb : ∀ (d0 : Dev nD) (v1258 : BitVec 32) (k0_hw111 : k0_chk111 d0 v1258), ∀ (k0_h111 : k0_cond111 d0 v1258 = 1#1), ∀ a, (k0_off222 d0 v1258) a + S1x512.size a ≤ S4096x512.size a := fun d0 v1258 k0_hw111 k0_h111 => k0_hw111 k0_h111

def k0_off223 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_586 : BitVec 32 := 128#32
  let v1266 : BitVec 32 := Scalar.muli v10 c128_i32_586
  let c111_i32 : BitVec 32 := 111#32
  let v1267 : BitVec 32 := Scalar.addi v1266 c111_i32
  let v1268 : Index := Scalar.indexCast v1267
  ![v1268.toNat]
def k0_off224 (d0 : Dev nD) (v1269 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_587 : BitVec 32 := 4096#32
  let v1270 : BitVec 32 := Scalar.muli v8 c4096_i32_587
  let v1271 : BitVec 32 := Scalar.subi v1269 v1270
  let c0_i32_2121 : BitVec 32 := 0#32
  ![v1271.toNat, 0]
def k0_cond112 (d0 : Dev nD) (v1269 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_587 : BitVec 32 := 4096#32
  let v1270 : BitVec 32 := Scalar.muli v8 c4096_i32_587
  let v1271 : BitVec 32 := Scalar.subi v1269 v1270
  let c0_i32_588 : BitVec 32 := 0#32
  let v1272 : BitVec 1 := Scalar.cmpi .sge v1271 c0_i32_588
  let c4096_i32_589 : BitVec 32 := 4096#32
  let v1273 : BitVec 1 := Scalar.cmpi .slt v1271 c4096_i32_589
  let v1274 : BitVec 1 := Scalar.andi v1272 v1273
  let v1275 : BitVec 32 := Scalar.extui v1274
  let c0_i32_590 : BitVec 32 := 0#32
  let v1276 : BitVec 1 := Scalar.cmpi .ne v1275 c0_i32_590
  v1276

def k0_chk112 (d0 : Dev nD) (v1269 : BitVec 32) : Prop :=
  (∀ (k0_h112 : k0_cond112 d0 v1269 = 1#1), ∀ a, (k0_off224 d0 v1269) a + S1x512.size a ≤ S4096x512.size a)
theorem k0_off224_inb : ∀ (d0 : Dev nD) (v1269 : BitVec 32) (k0_hw112 : k0_chk112 d0 v1269), ∀ (k0_h112 : k0_cond112 d0 v1269 = 1#1), ∀ a, (k0_off224 d0 v1269) a + S1x512.size a ≤ S4096x512.size a := fun d0 v1269 k0_hw112 k0_h112 => k0_hw112 k0_h112

def k0_off225 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_591 : BitVec 32 := 128#32
  let v1277 : BitVec 32 := Scalar.muli v10 c128_i32_591
  let c112_i32 : BitVec 32 := 112#32
  let v1278 : BitVec 32 := Scalar.addi v1277 c112_i32
  let v1279 : Index := Scalar.indexCast v1278
  ![v1279.toNat]
def k0_off226 (d0 : Dev nD) (v1280 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_592 : BitVec 32 := 4096#32
  let v1281 : BitVec 32 := Scalar.muli v8 c4096_i32_592
  let v1282 : BitVec 32 := Scalar.subi v1280 v1281
  let c0_i32_2121 : BitVec 32 := 0#32
  ![v1282.toNat, 0]
def k0_cond113 (d0 : Dev nD) (v1280 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_592 : BitVec 32 := 4096#32
  let v1281 : BitVec 32 := Scalar.muli v8 c4096_i32_592
  let v1282 : BitVec 32 := Scalar.subi v1280 v1281
  let c0_i32_593 : BitVec 32 := 0#32
  let v1283 : BitVec 1 := Scalar.cmpi .sge v1282 c0_i32_593
  let c4096_i32_594 : BitVec 32 := 4096#32
  let v1284 : BitVec 1 := Scalar.cmpi .slt v1282 c4096_i32_594
  let v1285 : BitVec 1 := Scalar.andi v1283 v1284
  let v1286 : BitVec 32 := Scalar.extui v1285
  let c0_i32_595 : BitVec 32 := 0#32
  let v1287 : BitVec 1 := Scalar.cmpi .ne v1286 c0_i32_595
  v1287

def k0_chk113 (d0 : Dev nD) (v1280 : BitVec 32) : Prop :=
  (∀ (k0_h113 : k0_cond113 d0 v1280 = 1#1), ∀ a, (k0_off226 d0 v1280) a + S1x512.size a ≤ S4096x512.size a)
theorem k0_off226_inb : ∀ (d0 : Dev nD) (v1280 : BitVec 32) (k0_hw113 : k0_chk113 d0 v1280), ∀ (k0_h113 : k0_cond113 d0 v1280 = 1#1), ∀ a, (k0_off226 d0 v1280) a + S1x512.size a ≤ S4096x512.size a := fun d0 v1280 k0_hw113 k0_h113 => k0_hw113 k0_h113

def k0_off227 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_596 : BitVec 32 := 128#32
  let v1288 : BitVec 32 := Scalar.muli v10 c128_i32_596
  let c113_i32 : BitVec 32 := 113#32
  let v1289 : BitVec 32 := Scalar.addi v1288 c113_i32
  let v1290 : Index := Scalar.indexCast v1289
  ![v1290.toNat]
def k0_off228 (d0 : Dev nD) (v1291 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_597 : BitVec 32 := 4096#32
  let v1292 : BitVec 32 := Scalar.muli v8 c4096_i32_597
  let v1293 : BitVec 32 := Scalar.subi v1291 v1292
  let c0_i32_2121 : BitVec 32 := 0#32
  ![v1293.toNat, 0]
def k0_cond114 (d0 : Dev nD) (v1291 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_597 : BitVec 32 := 4096#32
  let v1292 : BitVec 32 := Scalar.muli v8 c4096_i32_597
  let v1293 : BitVec 32 := Scalar.subi v1291 v1292
  let c0_i32_598 : BitVec 32 := 0#32
  let v1294 : BitVec 1 := Scalar.cmpi .sge v1293 c0_i32_598
  let c4096_i32_599 : BitVec 32 := 4096#32
  let v1295 : BitVec 1 := Scalar.cmpi .slt v1293 c4096_i32_599
  let v1296 : BitVec 1 := Scalar.andi v1294 v1295
  let v1297 : BitVec 32 := Scalar.extui v1296
  let c0_i32_600 : BitVec 32 := 0#32
  let v1298 : BitVec 1 := Scalar.cmpi .ne v1297 c0_i32_600
  v1298

def k0_chk114 (d0 : Dev nD) (v1291 : BitVec 32) : Prop :=
  (∀ (k0_h114 : k0_cond114 d0 v1291 = 1#1), ∀ a, (k0_off228 d0 v1291) a + S1x512.size a ≤ S4096x512.size a)
theorem k0_off228_inb : ∀ (d0 : Dev nD) (v1291 : BitVec 32) (k0_hw114 : k0_chk114 d0 v1291), ∀ (k0_h114 : k0_cond114 d0 v1291 = 1#1), ∀ a, (k0_off228 d0 v1291) a + S1x512.size a ≤ S4096x512.size a := fun d0 v1291 k0_hw114 k0_h114 => k0_hw114 k0_h114

def k0_off229 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_601 : BitVec 32 := 128#32
  let v1299 : BitVec 32 := Scalar.muli v10 c128_i32_601
  let c114_i32 : BitVec 32 := 114#32
  let v1300 : BitVec 32 := Scalar.addi v1299 c114_i32
  let v1301 : Index := Scalar.indexCast v1300
  ![v1301.toNat]
def k0_off230 (d0 : Dev nD) (v1302 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_602 : BitVec 32 := 4096#32
  let v1303 : BitVec 32 := Scalar.muli v8 c4096_i32_602
  let v1304 : BitVec 32 := Scalar.subi v1302 v1303
  let c0_i32_2121 : BitVec 32 := 0#32
  ![v1304.toNat, 0]
def k0_cond115 (d0 : Dev nD) (v1302 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_602 : BitVec 32 := 4096#32
  let v1303 : BitVec 32 := Scalar.muli v8 c4096_i32_602
  let v1304 : BitVec 32 := Scalar.subi v1302 v1303
  let c0_i32_603 : BitVec 32 := 0#32
  let v1305 : BitVec 1 := Scalar.cmpi .sge v1304 c0_i32_603
  let c4096_i32_604 : BitVec 32 := 4096#32
  let v1306 : BitVec 1 := Scalar.cmpi .slt v1304 c4096_i32_604
  let v1307 : BitVec 1 := Scalar.andi v1305 v1306
  let v1308 : BitVec 32 := Scalar.extui v1307
  let c0_i32_605 : BitVec 32 := 0#32
  let v1309 : BitVec 1 := Scalar.cmpi .ne v1308 c0_i32_605
  v1309

def k0_chk115 (d0 : Dev nD) (v1302 : BitVec 32) : Prop :=
  (∀ (k0_h115 : k0_cond115 d0 v1302 = 1#1), ∀ a, (k0_off230 d0 v1302) a + S1x512.size a ≤ S4096x512.size a)
theorem k0_off230_inb : ∀ (d0 : Dev nD) (v1302 : BitVec 32) (k0_hw115 : k0_chk115 d0 v1302), ∀ (k0_h115 : k0_cond115 d0 v1302 = 1#1), ∀ a, (k0_off230 d0 v1302) a + S1x512.size a ≤ S4096x512.size a := fun d0 v1302 k0_hw115 k0_h115 => k0_hw115 k0_h115

def k0_off231 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_606 : BitVec 32 := 128#32
  let v1310 : BitVec 32 := Scalar.muli v10 c128_i32_606
  let c115_i32 : BitVec 32 := 115#32
  let v1311 : BitVec 32 := Scalar.addi v1310 c115_i32
  let v1312 : Index := Scalar.indexCast v1311
  ![v1312.toNat]
def k0_off232 (d0 : Dev nD) (v1313 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_607 : BitVec 32 := 4096#32
  let v1314 : BitVec 32 := Scalar.muli v8 c4096_i32_607
  let v1315 : BitVec 32 := Scalar.subi v1313 v1314
  let c0_i32_2121 : BitVec 32 := 0#32
  ![v1315.toNat, 0]
def k0_cond116 (d0 : Dev nD) (v1313 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_607 : BitVec 32 := 4096#32
  let v1314 : BitVec 32 := Scalar.muli v8 c4096_i32_607
  let v1315 : BitVec 32 := Scalar.subi v1313 v1314
  let c0_i32_608 : BitVec 32 := 0#32
  let v1316 : BitVec 1 := Scalar.cmpi .sge v1315 c0_i32_608
  let c4096_i32_609 : BitVec 32 := 4096#32
  let v1317 : BitVec 1 := Scalar.cmpi .slt v1315 c4096_i32_609
  let v1318 : BitVec 1 := Scalar.andi v1316 v1317
  let v1319 : BitVec 32 := Scalar.extui v1318
  let c0_i32_610 : BitVec 32 := 0#32
  let v1320 : BitVec 1 := Scalar.cmpi .ne v1319 c0_i32_610
  v1320

def k0_chk116 (d0 : Dev nD) (v1313 : BitVec 32) : Prop :=
  (∀ (k0_h116 : k0_cond116 d0 v1313 = 1#1), ∀ a, (k0_off232 d0 v1313) a + S1x512.size a ≤ S4096x512.size a)
theorem k0_off232_inb : ∀ (d0 : Dev nD) (v1313 : BitVec 32) (k0_hw116 : k0_chk116 d0 v1313), ∀ (k0_h116 : k0_cond116 d0 v1313 = 1#1), ∀ a, (k0_off232 d0 v1313) a + S1x512.size a ≤ S4096x512.size a := fun d0 v1313 k0_hw116 k0_h116 => k0_hw116 k0_h116

def k0_off233 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_611 : BitVec 32 := 128#32
  let v1321 : BitVec 32 := Scalar.muli v10 c128_i32_611
  let c116_i32 : BitVec 32 := 116#32
  let v1322 : BitVec 32 := Scalar.addi v1321 c116_i32
  let v1323 : Index := Scalar.indexCast v1322
  ![v1323.toNat]
def k0_off234 (d0 : Dev nD) (v1324 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_612 : BitVec 32 := 4096#32
  let v1325 : BitVec 32 := Scalar.muli v8 c4096_i32_612
  let v1326 : BitVec 32 := Scalar.subi v1324 v1325
  let c0_i32_2121 : BitVec 32 := 0#32
  ![v1326.toNat, 0]
def k0_cond117 (d0 : Dev nD) (v1324 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_612 : BitVec 32 := 4096#32
  let v1325 : BitVec 32 := Scalar.muli v8 c4096_i32_612
  let v1326 : BitVec 32 := Scalar.subi v1324 v1325
  let c0_i32_613 : BitVec 32 := 0#32
  let v1327 : BitVec 1 := Scalar.cmpi .sge v1326 c0_i32_613
  let c4096_i32_614 : BitVec 32 := 4096#32
  let v1328 : BitVec 1 := Scalar.cmpi .slt v1326 c4096_i32_614
  let v1329 : BitVec 1 := Scalar.andi v1327 v1328
  let v1330 : BitVec 32 := Scalar.extui v1329
  let c0_i32_615 : BitVec 32 := 0#32
  let v1331 : BitVec 1 := Scalar.cmpi .ne v1330 c0_i32_615
  v1331

def k0_chk117 (d0 : Dev nD) (v1324 : BitVec 32) : Prop :=
  (∀ (k0_h117 : k0_cond117 d0 v1324 = 1#1), ∀ a, (k0_off234 d0 v1324) a + S1x512.size a ≤ S4096x512.size a)
theorem k0_off234_inb : ∀ (d0 : Dev nD) (v1324 : BitVec 32) (k0_hw117 : k0_chk117 d0 v1324), ∀ (k0_h117 : k0_cond117 d0 v1324 = 1#1), ∀ a, (k0_off234 d0 v1324) a + S1x512.size a ≤ S4096x512.size a := fun d0 v1324 k0_hw117 k0_h117 => k0_hw117 k0_h117

def k0_off235 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_616 : BitVec 32 := 128#32
  let v1332 : BitVec 32 := Scalar.muli v10 c128_i32_616
  let c117_i32 : BitVec 32 := 117#32
  let v1333 : BitVec 32 := Scalar.addi v1332 c117_i32
  let v1334 : Index := Scalar.indexCast v1333
  ![v1334.toNat]
def k0_off236 (d0 : Dev nD) (v1335 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_617 : BitVec 32 := 4096#32
  let v1336 : BitVec 32 := Scalar.muli v8 c4096_i32_617
  let v1337 : BitVec 32 := Scalar.subi v1335 v1336
  let c0_i32_2121 : BitVec 32 := 0#32
  ![v1337.toNat, 0]
def k0_cond118 (d0 : Dev nD) (v1335 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_617 : BitVec 32 := 4096#32
  let v1336 : BitVec 32 := Scalar.muli v8 c4096_i32_617
  let v1337 : BitVec 32 := Scalar.subi v1335 v1336
  let c0_i32_618 : BitVec 32 := 0#32
  let v1338 : BitVec 1 := Scalar.cmpi .sge v1337 c0_i32_618
  let c4096_i32_619 : BitVec 32 := 4096#32
  let v1339 : BitVec 1 := Scalar.cmpi .slt v1337 c4096_i32_619
  let v1340 : BitVec 1 := Scalar.andi v1338 v1339
  let v1341 : BitVec 32 := Scalar.extui v1340
  let c0_i32_620 : BitVec 32 := 0#32
  let v1342 : BitVec 1 := Scalar.cmpi .ne v1341 c0_i32_620
  v1342

def k0_chk118 (d0 : Dev nD) (v1335 : BitVec 32) : Prop :=
  (∀ (k0_h118 : k0_cond118 d0 v1335 = 1#1), ∀ a, (k0_off236 d0 v1335) a + S1x512.size a ≤ S4096x512.size a)
theorem k0_off236_inb : ∀ (d0 : Dev nD) (v1335 : BitVec 32) (k0_hw118 : k0_chk118 d0 v1335), ∀ (k0_h118 : k0_cond118 d0 v1335 = 1#1), ∀ a, (k0_off236 d0 v1335) a + S1x512.size a ≤ S4096x512.size a := fun d0 v1335 k0_hw118 k0_h118 => k0_hw118 k0_h118

def k0_off237 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_621 : BitVec 32 := 128#32
  let v1343 : BitVec 32 := Scalar.muli v10 c128_i32_621
  let c118_i32 : BitVec 32 := 118#32
  let v1344 : BitVec 32 := Scalar.addi v1343 c118_i32
  let v1345 : Index := Scalar.indexCast v1344
  ![v1345.toNat]
def k0_off238 (d0 : Dev nD) (v1346 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_622 : BitVec 32 := 4096#32
  let v1347 : BitVec 32 := Scalar.muli v8 c4096_i32_622
  let v1348 : BitVec 32 := Scalar.subi v1346 v1347
  let c0_i32_2121 : BitVec 32 := 0#32
  ![v1348.toNat, 0]
def k0_cond119 (d0 : Dev nD) (v1346 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_622 : BitVec 32 := 4096#32
  let v1347 : BitVec 32 := Scalar.muli v8 c4096_i32_622
  let v1348 : BitVec 32 := Scalar.subi v1346 v1347
  let c0_i32_623 : BitVec 32 := 0#32
  let v1349 : BitVec 1 := Scalar.cmpi .sge v1348 c0_i32_623
  let c4096_i32_624 : BitVec 32 := 4096#32
  let v1350 : BitVec 1 := Scalar.cmpi .slt v1348 c4096_i32_624
  let v1351 : BitVec 1 := Scalar.andi v1349 v1350
  let v1352 : BitVec 32 := Scalar.extui v1351
  let c0_i32_625 : BitVec 32 := 0#32
  let v1353 : BitVec 1 := Scalar.cmpi .ne v1352 c0_i32_625
  v1353

def k0_chk119 (d0 : Dev nD) (v1346 : BitVec 32) : Prop :=
  (∀ (k0_h119 : k0_cond119 d0 v1346 = 1#1), ∀ a, (k0_off238 d0 v1346) a + S1x512.size a ≤ S4096x512.size a)
theorem k0_off238_inb : ∀ (d0 : Dev nD) (v1346 : BitVec 32) (k0_hw119 : k0_chk119 d0 v1346), ∀ (k0_h119 : k0_cond119 d0 v1346 = 1#1), ∀ a, (k0_off238 d0 v1346) a + S1x512.size a ≤ S4096x512.size a := fun d0 v1346 k0_hw119 k0_h119 => k0_hw119 k0_h119

def k0_off239 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_626 : BitVec 32 := 128#32
  let v1354 : BitVec 32 := Scalar.muli v10 c128_i32_626
  let c119_i32 : BitVec 32 := 119#32
  let v1355 : BitVec 32 := Scalar.addi v1354 c119_i32
  let v1356 : Index := Scalar.indexCast v1355
  ![v1356.toNat]
def k0_off240 (d0 : Dev nD) (v1357 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_627 : BitVec 32 := 4096#32
  let v1358 : BitVec 32 := Scalar.muli v8 c4096_i32_627
  let v1359 : BitVec 32 := Scalar.subi v1357 v1358
  let c0_i32_2121 : BitVec 32 := 0#32
  ![v1359.toNat, 0]
def k0_cond120 (d0 : Dev nD) (v1357 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_627 : BitVec 32 := 4096#32
  let v1358 : BitVec 32 := Scalar.muli v8 c4096_i32_627
  let v1359 : BitVec 32 := Scalar.subi v1357 v1358
  let c0_i32_628 : BitVec 32 := 0#32
  let v1360 : BitVec 1 := Scalar.cmpi .sge v1359 c0_i32_628
  let c4096_i32_629 : BitVec 32 := 4096#32
  let v1361 : BitVec 1 := Scalar.cmpi .slt v1359 c4096_i32_629
  let v1362 : BitVec 1 := Scalar.andi v1360 v1361
  let v1363 : BitVec 32 := Scalar.extui v1362
  let c0_i32_630 : BitVec 32 := 0#32
  let v1364 : BitVec 1 := Scalar.cmpi .ne v1363 c0_i32_630
  v1364

def k0_chk120 (d0 : Dev nD) (v1357 : BitVec 32) : Prop :=
  (∀ (k0_h120 : k0_cond120 d0 v1357 = 1#1), ∀ a, (k0_off240 d0 v1357) a + S1x512.size a ≤ S4096x512.size a)
theorem k0_off240_inb : ∀ (d0 : Dev nD) (v1357 : BitVec 32) (k0_hw120 : k0_chk120 d0 v1357), ∀ (k0_h120 : k0_cond120 d0 v1357 = 1#1), ∀ a, (k0_off240 d0 v1357) a + S1x512.size a ≤ S4096x512.size a := fun d0 v1357 k0_hw120 k0_h120 => k0_hw120 k0_h120

def k0_off241 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_631 : BitVec 32 := 128#32
  let v1365 : BitVec 32 := Scalar.muli v10 c128_i32_631
  let c120_i32 : BitVec 32 := 120#32
  let v1366 : BitVec 32 := Scalar.addi v1365 c120_i32
  let v1367 : Index := Scalar.indexCast v1366
  ![v1367.toNat]
def k0_off242 (d0 : Dev nD) (v1368 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_632 : BitVec 32 := 4096#32
  let v1369 : BitVec 32 := Scalar.muli v8 c4096_i32_632
  let v1370 : BitVec 32 := Scalar.subi v1368 v1369
  let c0_i32_2121 : BitVec 32 := 0#32
  ![v1370.toNat, 0]
def k0_cond121 (d0 : Dev nD) (v1368 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_632 : BitVec 32 := 4096#32
  let v1369 : BitVec 32 := Scalar.muli v8 c4096_i32_632
  let v1370 : BitVec 32 := Scalar.subi v1368 v1369
  let c0_i32_633 : BitVec 32 := 0#32
  let v1371 : BitVec 1 := Scalar.cmpi .sge v1370 c0_i32_633
  let c4096_i32_634 : BitVec 32 := 4096#32
  let v1372 : BitVec 1 := Scalar.cmpi .slt v1370 c4096_i32_634
  let v1373 : BitVec 1 := Scalar.andi v1371 v1372
  let v1374 : BitVec 32 := Scalar.extui v1373
  let c0_i32_635 : BitVec 32 := 0#32
  let v1375 : BitVec 1 := Scalar.cmpi .ne v1374 c0_i32_635
  v1375

def k0_chk121 (d0 : Dev nD) (v1368 : BitVec 32) : Prop :=
  (∀ (k0_h121 : k0_cond121 d0 v1368 = 1#1), ∀ a, (k0_off242 d0 v1368) a + S1x512.size a ≤ S4096x512.size a)
theorem k0_off242_inb : ∀ (d0 : Dev nD) (v1368 : BitVec 32) (k0_hw121 : k0_chk121 d0 v1368), ∀ (k0_h121 : k0_cond121 d0 v1368 = 1#1), ∀ a, (k0_off242 d0 v1368) a + S1x512.size a ≤ S4096x512.size a := fun d0 v1368 k0_hw121 k0_h121 => k0_hw121 k0_h121

def k0_off243 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_636 : BitVec 32 := 128#32
  let v1376 : BitVec 32 := Scalar.muli v10 c128_i32_636
  let c121_i32 : BitVec 32 := 121#32
  let v1377 : BitVec 32 := Scalar.addi v1376 c121_i32
  let v1378 : Index := Scalar.indexCast v1377
  ![v1378.toNat]
def k0_off244 (d0 : Dev nD) (v1379 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_637 : BitVec 32 := 4096#32
  let v1380 : BitVec 32 := Scalar.muli v8 c4096_i32_637
  let v1381 : BitVec 32 := Scalar.subi v1379 v1380
  let c0_i32_2121 : BitVec 32 := 0#32
  ![v1381.toNat, 0]
def k0_cond122 (d0 : Dev nD) (v1379 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_637 : BitVec 32 := 4096#32
  let v1380 : BitVec 32 := Scalar.muli v8 c4096_i32_637
  let v1381 : BitVec 32 := Scalar.subi v1379 v1380
  let c0_i32_638 : BitVec 32 := 0#32
  let v1382 : BitVec 1 := Scalar.cmpi .sge v1381 c0_i32_638
  let c4096_i32_639 : BitVec 32 := 4096#32
  let v1383 : BitVec 1 := Scalar.cmpi .slt v1381 c4096_i32_639
  let v1384 : BitVec 1 := Scalar.andi v1382 v1383
  let v1385 : BitVec 32 := Scalar.extui v1384
  let c0_i32_640 : BitVec 32 := 0#32
  let v1386 : BitVec 1 := Scalar.cmpi .ne v1385 c0_i32_640
  v1386

def k0_chk122 (d0 : Dev nD) (v1379 : BitVec 32) : Prop :=
  (∀ (k0_h122 : k0_cond122 d0 v1379 = 1#1), ∀ a, (k0_off244 d0 v1379) a + S1x512.size a ≤ S4096x512.size a)
theorem k0_off244_inb : ∀ (d0 : Dev nD) (v1379 : BitVec 32) (k0_hw122 : k0_chk122 d0 v1379), ∀ (k0_h122 : k0_cond122 d0 v1379 = 1#1), ∀ a, (k0_off244 d0 v1379) a + S1x512.size a ≤ S4096x512.size a := fun d0 v1379 k0_hw122 k0_h122 => k0_hw122 k0_h122

def k0_off245 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_641 : BitVec 32 := 128#32
  let v1387 : BitVec 32 := Scalar.muli v10 c128_i32_641
  let c122_i32 : BitVec 32 := 122#32
  let v1388 : BitVec 32 := Scalar.addi v1387 c122_i32
  let v1389 : Index := Scalar.indexCast v1388
  ![v1389.toNat]
def k0_off246 (d0 : Dev nD) (v1390 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_642 : BitVec 32 := 4096#32
  let v1391 : BitVec 32 := Scalar.muli v8 c4096_i32_642
  let v1392 : BitVec 32 := Scalar.subi v1390 v1391
  let c0_i32_2121 : BitVec 32 := 0#32
  ![v1392.toNat, 0]
def k0_cond123 (d0 : Dev nD) (v1390 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_642 : BitVec 32 := 4096#32
  let v1391 : BitVec 32 := Scalar.muli v8 c4096_i32_642
  let v1392 : BitVec 32 := Scalar.subi v1390 v1391
  let c0_i32_643 : BitVec 32 := 0#32
  let v1393 : BitVec 1 := Scalar.cmpi .sge v1392 c0_i32_643
  let c4096_i32_644 : BitVec 32 := 4096#32
  let v1394 : BitVec 1 := Scalar.cmpi .slt v1392 c4096_i32_644
  let v1395 : BitVec 1 := Scalar.andi v1393 v1394
  let v1396 : BitVec 32 := Scalar.extui v1395
  let c0_i32_645 : BitVec 32 := 0#32
  let v1397 : BitVec 1 := Scalar.cmpi .ne v1396 c0_i32_645
  v1397

def k0_chk123 (d0 : Dev nD) (v1390 : BitVec 32) : Prop :=
  (∀ (k0_h123 : k0_cond123 d0 v1390 = 1#1), ∀ a, (k0_off246 d0 v1390) a + S1x512.size a ≤ S4096x512.size a)
theorem k0_off246_inb : ∀ (d0 : Dev nD) (v1390 : BitVec 32) (k0_hw123 : k0_chk123 d0 v1390), ∀ (k0_h123 : k0_cond123 d0 v1390 = 1#1), ∀ a, (k0_off246 d0 v1390) a + S1x512.size a ≤ S4096x512.size a := fun d0 v1390 k0_hw123 k0_h123 => k0_hw123 k0_h123

def k0_off247 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_646 : BitVec 32 := 128#32
  let v1398 : BitVec 32 := Scalar.muli v10 c128_i32_646
  let c123_i32 : BitVec 32 := 123#32
  let v1399 : BitVec 32 := Scalar.addi v1398 c123_i32
  let v1400 : Index := Scalar.indexCast v1399
  ![v1400.toNat]
def k0_off248 (d0 : Dev nD) (v1401 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_647 : BitVec 32 := 4096#32
  let v1402 : BitVec 32 := Scalar.muli v8 c4096_i32_647
  let v1403 : BitVec 32 := Scalar.subi v1401 v1402
  let c0_i32_2121 : BitVec 32 := 0#32
  ![v1403.toNat, 0]
def k0_cond124 (d0 : Dev nD) (v1401 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_647 : BitVec 32 := 4096#32
  let v1402 : BitVec 32 := Scalar.muli v8 c4096_i32_647
  let v1403 : BitVec 32 := Scalar.subi v1401 v1402
  let c0_i32_648 : BitVec 32 := 0#32
  let v1404 : BitVec 1 := Scalar.cmpi .sge v1403 c0_i32_648
  let c4096_i32_649 : BitVec 32 := 4096#32
  let v1405 : BitVec 1 := Scalar.cmpi .slt v1403 c4096_i32_649
  let v1406 : BitVec 1 := Scalar.andi v1404 v1405
  let v1407 : BitVec 32 := Scalar.extui v1406
  let c0_i32_650 : BitVec 32 := 0#32
  let v1408 : BitVec 1 := Scalar.cmpi .ne v1407 c0_i32_650
  v1408

def k0_chk124 (d0 : Dev nD) (v1401 : BitVec 32) : Prop :=
  (∀ (k0_h124 : k0_cond124 d0 v1401 = 1#1), ∀ a, (k0_off248 d0 v1401) a + S1x512.size a ≤ S4096x512.size a)
theorem k0_off248_inb : ∀ (d0 : Dev nD) (v1401 : BitVec 32) (k0_hw124 : k0_chk124 d0 v1401), ∀ (k0_h124 : k0_cond124 d0 v1401 = 1#1), ∀ a, (k0_off248 d0 v1401) a + S1x512.size a ≤ S4096x512.size a := fun d0 v1401 k0_hw124 k0_h124 => k0_hw124 k0_h124

def k0_off249 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_651 : BitVec 32 := 128#32
  let v1409 : BitVec 32 := Scalar.muli v10 c128_i32_651
  let c124_i32 : BitVec 32 := 124#32
  let v1410 : BitVec 32 := Scalar.addi v1409 c124_i32
  let v1411 : Index := Scalar.indexCast v1410
  ![v1411.toNat]
def k0_off250 (d0 : Dev nD) (v1412 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_652 : BitVec 32 := 4096#32
  let v1413 : BitVec 32 := Scalar.muli v8 c4096_i32_652
  let v1414 : BitVec 32 := Scalar.subi v1412 v1413
  let c0_i32_2121 : BitVec 32 := 0#32
  ![v1414.toNat, 0]
def k0_cond125 (d0 : Dev nD) (v1412 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_652 : BitVec 32 := 4096#32
  let v1413 : BitVec 32 := Scalar.muli v8 c4096_i32_652
  let v1414 : BitVec 32 := Scalar.subi v1412 v1413
  let c0_i32_653 : BitVec 32 := 0#32
  let v1415 : BitVec 1 := Scalar.cmpi .sge v1414 c0_i32_653
  let c4096_i32_654 : BitVec 32 := 4096#32
  let v1416 : BitVec 1 := Scalar.cmpi .slt v1414 c4096_i32_654
  let v1417 : BitVec 1 := Scalar.andi v1415 v1416
  let v1418 : BitVec 32 := Scalar.extui v1417
  let c0_i32_655 : BitVec 32 := 0#32
  let v1419 : BitVec 1 := Scalar.cmpi .ne v1418 c0_i32_655
  v1419

def k0_chk125 (d0 : Dev nD) (v1412 : BitVec 32) : Prop :=
  (∀ (k0_h125 : k0_cond125 d0 v1412 = 1#1), ∀ a, (k0_off250 d0 v1412) a + S1x512.size a ≤ S4096x512.size a)
theorem k0_off250_inb : ∀ (d0 : Dev nD) (v1412 : BitVec 32) (k0_hw125 : k0_chk125 d0 v1412), ∀ (k0_h125 : k0_cond125 d0 v1412 = 1#1), ∀ a, (k0_off250 d0 v1412) a + S1x512.size a ≤ S4096x512.size a := fun d0 v1412 k0_hw125 k0_h125 => k0_hw125 k0_h125

def k0_off251 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_656 : BitVec 32 := 128#32
  let v1420 : BitVec 32 := Scalar.muli v10 c128_i32_656
  let c125_i32 : BitVec 32 := 125#32
  let v1421 : BitVec 32 := Scalar.addi v1420 c125_i32
  let v1422 : Index := Scalar.indexCast v1421
  ![v1422.toNat]
def k0_off252 (d0 : Dev nD) (v1423 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_657 : BitVec 32 := 4096#32
  let v1424 : BitVec 32 := Scalar.muli v8 c4096_i32_657
  let v1425 : BitVec 32 := Scalar.subi v1423 v1424
  let c0_i32_2121 : BitVec 32 := 0#32
  ![v1425.toNat, 0]
def k0_cond126 (d0 : Dev nD) (v1423 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_657 : BitVec 32 := 4096#32
  let v1424 : BitVec 32 := Scalar.muli v8 c4096_i32_657
  let v1425 : BitVec 32 := Scalar.subi v1423 v1424
  let c0_i32_658 : BitVec 32 := 0#32
  let v1426 : BitVec 1 := Scalar.cmpi .sge v1425 c0_i32_658
  let c4096_i32_659 : BitVec 32 := 4096#32
  let v1427 : BitVec 1 := Scalar.cmpi .slt v1425 c4096_i32_659
  let v1428 : BitVec 1 := Scalar.andi v1426 v1427
  let v1429 : BitVec 32 := Scalar.extui v1428
  let c0_i32_660 : BitVec 32 := 0#32
  let v1430 : BitVec 1 := Scalar.cmpi .ne v1429 c0_i32_660
  v1430

def k0_chk126 (d0 : Dev nD) (v1423 : BitVec 32) : Prop :=
  (∀ (k0_h126 : k0_cond126 d0 v1423 = 1#1), ∀ a, (k0_off252 d0 v1423) a + S1x512.size a ≤ S4096x512.size a)
theorem k0_off252_inb : ∀ (d0 : Dev nD) (v1423 : BitVec 32) (k0_hw126 : k0_chk126 d0 v1423), ∀ (k0_h126 : k0_cond126 d0 v1423 = 1#1), ∀ a, (k0_off252 d0 v1423) a + S1x512.size a ≤ S4096x512.size a := fun d0 v1423 k0_hw126 k0_h126 => k0_hw126 k0_h126

def k0_off253 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_661 : BitVec 32 := 128#32
  let v1431 : BitVec 32 := Scalar.muli v10 c128_i32_661
  let c126_i32 : BitVec 32 := 126#32
  let v1432 : BitVec 32 := Scalar.addi v1431 c126_i32
  let v1433 : Index := Scalar.indexCast v1432
  ![v1433.toNat]
def k0_off254 (d0 : Dev nD) (v1434 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_662 : BitVec 32 := 4096#32
  let v1435 : BitVec 32 := Scalar.muli v8 c4096_i32_662
  let v1436 : BitVec 32 := Scalar.subi v1434 v1435
  let c0_i32_2121 : BitVec 32 := 0#32
  ![v1436.toNat, 0]
def k0_cond127 (d0 : Dev nD) (v1434 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_662 : BitVec 32 := 4096#32
  let v1435 : BitVec 32 := Scalar.muli v8 c4096_i32_662
  let v1436 : BitVec 32 := Scalar.subi v1434 v1435
  let c0_i32_663 : BitVec 32 := 0#32
  let v1437 : BitVec 1 := Scalar.cmpi .sge v1436 c0_i32_663
  let c4096_i32_664 : BitVec 32 := 4096#32
  let v1438 : BitVec 1 := Scalar.cmpi .slt v1436 c4096_i32_664
  let v1439 : BitVec 1 := Scalar.andi v1437 v1438
  let v1440 : BitVec 32 := Scalar.extui v1439
  let c0_i32_665 : BitVec 32 := 0#32
  let v1441 : BitVec 1 := Scalar.cmpi .ne v1440 c0_i32_665
  v1441

def k0_chk127 (d0 : Dev nD) (v1434 : BitVec 32) : Prop :=
  (∀ (k0_h127 : k0_cond127 d0 v1434 = 1#1), ∀ a, (k0_off254 d0 v1434) a + S1x512.size a ≤ S4096x512.size a)
theorem k0_off254_inb : ∀ (d0 : Dev nD) (v1434 : BitVec 32) (k0_hw127 : k0_chk127 d0 v1434), ∀ (k0_h127 : k0_cond127 d0 v1434 = 1#1), ∀ a, (k0_off254 d0 v1434) a + S1x512.size a ≤ S4096x512.size a := fun d0 v1434 k0_hw127 k0_h127 => k0_hw127 k0_h127

def k0_off255 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_666 : BitVec 32 := 128#32
  let v1442 : BitVec 32 := Scalar.muli v10 c128_i32_666
  let c127_i32 : BitVec 32 := 127#32
  let v1443 : BitVec 32 := Scalar.addi v1442 c127_i32
  let v1444 : Index := Scalar.indexCast v1443
  ![v1444.toNat]
def k0_off256 (d0 : Dev nD) (v1445 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_667 : BitVec 32 := 4096#32
  let v1446 : BitVec 32 := Scalar.muli v8 c4096_i32_667
  let v1447 : BitVec 32 := Scalar.subi v1445 v1446
  let c0_i32_2121 : BitVec 32 := 0#32
  ![v1447.toNat, 0]
def k0_cond128 (d0 : Dev nD) (v1445 : BitVec 32) : BitVec 1 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32_667 : BitVec 32 := 4096#32
  let v1446 : BitVec 32 := Scalar.muli v8 c4096_i32_667
  let v1447 : BitVec 32 := Scalar.subi v1445 v1446
  let c0_i32_668 : BitVec 32 := 0#32
  let v1448 : BitVec 1 := Scalar.cmpi .sge v1447 c0_i32_668
  let c4096_i32_669 : BitVec 32 := 4096#32
  let v1449 : BitVec 1 := Scalar.cmpi .slt v1447 c4096_i32_669
  let v1450 : BitVec 1 := Scalar.andi v1448 v1449
  let v1451 : BitVec 32 := Scalar.extui v1450
  let c0_i32_670 : BitVec 32 := 0#32
  let v1452 : BitVec 1 := Scalar.cmpi .ne v1451 c0_i32_670
  v1452

def k0_chk128 (d0 : Dev nD) (v1445 : BitVec 32) : Prop :=
  (∀ (k0_h128 : k0_cond128 d0 v1445 = 1#1), ∀ a, (k0_off256 d0 v1445) a + S1x512.size a ≤ S4096x512.size a)
theorem k0_off256_inb : ∀ (d0 : Dev nD) (v1445 : BitVec 32) (k0_hw128 : k0_chk128 d0 v1445), ∀ (k0_h128 : k0_cond128 d0 v1445 = 1#1), ∀ a, (k0_off256 d0 v1445) a + S1x512.size a ≤ S4096x512.size a := fun d0 v1445 k0_hw128 k0_h128 => k0_hw128 k0_h128

def k0_off257 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_672 : BitVec 32 := 128#32
  let v1453 : BitVec 32 := Scalar.muli v10 c128_i32_672
  let c0_i32_673 : BitVec 32 := 0#32
  let v1454 : BitVec 32 := Scalar.addi v1453 c0_i32_673
  let v1455 : Index := Scalar.indexCast v1454
  ![v1455.toNat]
def k0_off258 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_678 : BitVec 32 := 128#32
  let v1464 : BitVec 32 := Scalar.muli v10 c128_i32_678
  let c1_i32_679 : BitVec 32 := 1#32
  let v1465 : BitVec 32 := Scalar.addi v1464 c1_i32_679
  let v1466 : Index := Scalar.indexCast v1465
  ![v1466.toNat]
def k0_off259 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_684 : BitVec 32 := 128#32
  let v1475 : BitVec 32 := Scalar.muli v10 c128_i32_684
  let c2_i32_685 : BitVec 32 := 2#32
  let v1476 : BitVec 32 := Scalar.addi v1475 c2_i32_685
  let v1477 : Index := Scalar.indexCast v1476
  ![v1477.toNat]
def k0_off260 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_690 : BitVec 32 := 128#32
  let v1486 : BitVec 32 := Scalar.muli v10 c128_i32_690
  let c3_i32_691 : BitVec 32 := 3#32
  let v1487 : BitVec 32 := Scalar.addi v1486 c3_i32_691
  let v1488 : Index := Scalar.indexCast v1487
  ![v1488.toNat]
def k0_off261 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_696 : BitVec 32 := 128#32
  let v1497 : BitVec 32 := Scalar.muli v10 c128_i32_696
  let c4_i32_697 : BitVec 32 := 4#32
  let v1498 : BitVec 32 := Scalar.addi v1497 c4_i32_697
  let v1499 : Index := Scalar.indexCast v1498
  ![v1499.toNat]
def k0_off262 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_702 : BitVec 32 := 128#32
  let v1508 : BitVec 32 := Scalar.muli v10 c128_i32_702
  let c5_i32_703 : BitVec 32 := 5#32
  let v1509 : BitVec 32 := Scalar.addi v1508 c5_i32_703
  let v1510 : Index := Scalar.indexCast v1509
  ![v1510.toNat]
def k0_off263 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_708 : BitVec 32 := 128#32
  let v1519 : BitVec 32 := Scalar.muli v10 c128_i32_708
  let c6_i32_709 : BitVec 32 := 6#32
  let v1520 : BitVec 32 := Scalar.addi v1519 c6_i32_709
  let v1521 : Index := Scalar.indexCast v1520
  ![v1521.toNat]
def k0_off264 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_714 : BitVec 32 := 128#32
  let v1530 : BitVec 32 := Scalar.muli v10 c128_i32_714
  let c7_i32_715 : BitVec 32 := 7#32
  let v1531 : BitVec 32 := Scalar.addi v1530 c7_i32_715
  let v1532 : Index := Scalar.indexCast v1531
  ![v1532.toNat]
def k0_off265 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_720 : BitVec 32 := 128#32
  let v1541 : BitVec 32 := Scalar.muli v10 c128_i32_720
  let c8_i32_721 : BitVec 32 := 8#32
  let v1542 : BitVec 32 := Scalar.addi v1541 c8_i32_721
  let v1543 : Index := Scalar.indexCast v1542
  ![v1543.toNat]
def k0_off266 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_726 : BitVec 32 := 128#32
  let v1552 : BitVec 32 := Scalar.muli v10 c128_i32_726
  let c9_i32_727 : BitVec 32 := 9#32
  let v1553 : BitVec 32 := Scalar.addi v1552 c9_i32_727
  let v1554 : Index := Scalar.indexCast v1553
  ![v1554.toNat]
def k0_off267 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_732 : BitVec 32 := 128#32
  let v1563 : BitVec 32 := Scalar.muli v10 c128_i32_732
  let c10_i32_733 : BitVec 32 := 10#32
  let v1564 : BitVec 32 := Scalar.addi v1563 c10_i32_733
  let v1565 : Index := Scalar.indexCast v1564
  ![v1565.toNat]
def k0_off268 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_738 : BitVec 32 := 128#32
  let v1574 : BitVec 32 := Scalar.muli v10 c128_i32_738
  let c11_i32_739 : BitVec 32 := 11#32
  let v1575 : BitVec 32 := Scalar.addi v1574 c11_i32_739
  let v1576 : Index := Scalar.indexCast v1575
  ![v1576.toNat]
def k0_off269 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_744 : BitVec 32 := 128#32
  let v1585 : BitVec 32 := Scalar.muli v10 c128_i32_744
  let c12_i32_745 : BitVec 32 := 12#32
  let v1586 : BitVec 32 := Scalar.addi v1585 c12_i32_745
  let v1587 : Index := Scalar.indexCast v1586
  ![v1587.toNat]
def k0_off270 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_750 : BitVec 32 := 128#32
  let v1596 : BitVec 32 := Scalar.muli v10 c128_i32_750
  let c13_i32_751 : BitVec 32 := 13#32
  let v1597 : BitVec 32 := Scalar.addi v1596 c13_i32_751
  let v1598 : Index := Scalar.indexCast v1597
  ![v1598.toNat]
def k0_off271 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_756 : BitVec 32 := 128#32
  let v1607 : BitVec 32 := Scalar.muli v10 c128_i32_756
  let c14_i32_757 : BitVec 32 := 14#32
  let v1608 : BitVec 32 := Scalar.addi v1607 c14_i32_757
  let v1609 : Index := Scalar.indexCast v1608
  ![v1609.toNat]
def k0_off272 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_762 : BitVec 32 := 128#32
  let v1618 : BitVec 32 := Scalar.muli v10 c128_i32_762
  let c15_i32_763 : BitVec 32 := 15#32
  let v1619 : BitVec 32 := Scalar.addi v1618 c15_i32_763
  let v1620 : Index := Scalar.indexCast v1619
  ![v1620.toNat]
def k0_off273 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_768 : BitVec 32 := 128#32
  let v1629 : BitVec 32 := Scalar.muli v10 c128_i32_768
  let c16_i32_769 : BitVec 32 := 16#32
  let v1630 : BitVec 32 := Scalar.addi v1629 c16_i32_769
  let v1631 : Index := Scalar.indexCast v1630
  ![v1631.toNat]
def k0_off274 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_774 : BitVec 32 := 128#32
  let v1640 : BitVec 32 := Scalar.muli v10 c128_i32_774
  let c17_i32_775 : BitVec 32 := 17#32
  let v1641 : BitVec 32 := Scalar.addi v1640 c17_i32_775
  let v1642 : Index := Scalar.indexCast v1641
  ![v1642.toNat]
def k0_off275 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_780 : BitVec 32 := 128#32
  let v1651 : BitVec 32 := Scalar.muli v10 c128_i32_780
  let c18_i32_781 : BitVec 32 := 18#32
  let v1652 : BitVec 32 := Scalar.addi v1651 c18_i32_781
  let v1653 : Index := Scalar.indexCast v1652
  ![v1653.toNat]
def k0_off276 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_786 : BitVec 32 := 128#32
  let v1662 : BitVec 32 := Scalar.muli v10 c128_i32_786
  let c19_i32_787 : BitVec 32 := 19#32
  let v1663 : BitVec 32 := Scalar.addi v1662 c19_i32_787
  let v1664 : Index := Scalar.indexCast v1663
  ![v1664.toNat]
def k0_off277 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_792 : BitVec 32 := 128#32
  let v1673 : BitVec 32 := Scalar.muli v10 c128_i32_792
  let c20_i32_793 : BitVec 32 := 20#32
  let v1674 : BitVec 32 := Scalar.addi v1673 c20_i32_793
  let v1675 : Index := Scalar.indexCast v1674
  ![v1675.toNat]
def k0_off278 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_798 : BitVec 32 := 128#32
  let v1684 : BitVec 32 := Scalar.muli v10 c128_i32_798
  let c21_i32_799 : BitVec 32 := 21#32
  let v1685 : BitVec 32 := Scalar.addi v1684 c21_i32_799
  let v1686 : Index := Scalar.indexCast v1685
  ![v1686.toNat]
def k0_off279 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_804 : BitVec 32 := 128#32
  let v1695 : BitVec 32 := Scalar.muli v10 c128_i32_804
  let c22_i32_805 : BitVec 32 := 22#32
  let v1696 : BitVec 32 := Scalar.addi v1695 c22_i32_805
  let v1697 : Index := Scalar.indexCast v1696
  ![v1697.toNat]
def k0_off280 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_810 : BitVec 32 := 128#32
  let v1706 : BitVec 32 := Scalar.muli v10 c128_i32_810
  let c23_i32_811 : BitVec 32 := 23#32
  let v1707 : BitVec 32 := Scalar.addi v1706 c23_i32_811
  let v1708 : Index := Scalar.indexCast v1707
  ![v1708.toNat]
def k0_off281 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_816 : BitVec 32 := 128#32
  let v1717 : BitVec 32 := Scalar.muli v10 c128_i32_816
  let c24_i32_817 : BitVec 32 := 24#32
  let v1718 : BitVec 32 := Scalar.addi v1717 c24_i32_817
  let v1719 : Index := Scalar.indexCast v1718
  ![v1719.toNat]
def k0_off282 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_822 : BitVec 32 := 128#32
  let v1728 : BitVec 32 := Scalar.muli v10 c128_i32_822
  let c25_i32_823 : BitVec 32 := 25#32
  let v1729 : BitVec 32 := Scalar.addi v1728 c25_i32_823
  let v1730 : Index := Scalar.indexCast v1729
  ![v1730.toNat]
def k0_off283 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_828 : BitVec 32 := 128#32
  let v1739 : BitVec 32 := Scalar.muli v10 c128_i32_828
  let c26_i32_829 : BitVec 32 := 26#32
  let v1740 : BitVec 32 := Scalar.addi v1739 c26_i32_829
  let v1741 : Index := Scalar.indexCast v1740
  ![v1741.toNat]
def k0_off284 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_834 : BitVec 32 := 128#32
  let v1750 : BitVec 32 := Scalar.muli v10 c128_i32_834
  let c27_i32_835 : BitVec 32 := 27#32
  let v1751 : BitVec 32 := Scalar.addi v1750 c27_i32_835
  let v1752 : Index := Scalar.indexCast v1751
  ![v1752.toNat]
def k0_off285 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_840 : BitVec 32 := 128#32
  let v1761 : BitVec 32 := Scalar.muli v10 c128_i32_840
  let c28_i32_841 : BitVec 32 := 28#32
  let v1762 : BitVec 32 := Scalar.addi v1761 c28_i32_841
  let v1763 : Index := Scalar.indexCast v1762
  ![v1763.toNat]
def k0_off286 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_846 : BitVec 32 := 128#32
  let v1772 : BitVec 32 := Scalar.muli v10 c128_i32_846
  let c29_i32_847 : BitVec 32 := 29#32
  let v1773 : BitVec 32 := Scalar.addi v1772 c29_i32_847
  let v1774 : Index := Scalar.indexCast v1773
  ![v1774.toNat]
def k0_off287 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_852 : BitVec 32 := 128#32
  let v1783 : BitVec 32 := Scalar.muli v10 c128_i32_852
  let c30_i32_853 : BitVec 32 := 30#32
  let v1784 : BitVec 32 := Scalar.addi v1783 c30_i32_853
  let v1785 : Index := Scalar.indexCast v1784
  ![v1785.toNat]
def k0_off288 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_858 : BitVec 32 := 128#32
  let v1794 : BitVec 32 := Scalar.muli v10 c128_i32_858
  let c31_i32_859 : BitVec 32 := 31#32
  let v1795 : BitVec 32 := Scalar.addi v1794 c31_i32_859
  let v1796 : Index := Scalar.indexCast v1795
  ![v1796.toNat]
def k0_dev5 (d0 : Dev nD) : Nat :=
  let c0_i32_877 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_876 : BitVec 32 := 4#32
  let v1810 : BitVec 32 := Scalar.muli v2 c4_i32_876
  let v1811 : BitVec 32 := Scalar.addi c0_i32_877 v1810
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_878 : BitVec 32 := 2#32
  let v1812 : BitVec 32 := Scalar.muli v5 c2_i32_878
  let v1813 : BitVec 32 := Scalar.addi v1811 v1812
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_879 : BitVec 32 := 1#32
  let v1814 : BitVec 32 := Scalar.muli v11 c1_i32_879
  let v1815 : BitVec 32 := Scalar.addi v1813 v1814
  v1815.toNat
def k0_off289 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_884 : BitVec 32 := 128#32
  let v1824 : BitVec 32 := Scalar.muli v10 c128_i32_884
  let c32_i32_885 : BitVec 32 := 32#32
  let v1825 : BitVec 32 := Scalar.addi v1824 c32_i32_885
  let v1826 : Index := Scalar.indexCast v1825
  ![v1826.toNat]
def k0_off290 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_890 : BitVec 32 := 128#32
  let v1835 : BitVec 32 := Scalar.muli v10 c128_i32_890
  let c33_i32_891 : BitVec 32 := 33#32
  let v1836 : BitVec 32 := Scalar.addi v1835 c33_i32_891
  let v1837 : Index := Scalar.indexCast v1836
  ![v1837.toNat]
def k0_off291 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_896 : BitVec 32 := 128#32
  let v1846 : BitVec 32 := Scalar.muli v10 c128_i32_896
  let c34_i32_897 : BitVec 32 := 34#32
  let v1847 : BitVec 32 := Scalar.addi v1846 c34_i32_897
  let v1848 : Index := Scalar.indexCast v1847
  ![v1848.toNat]
def k0_off292 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_902 : BitVec 32 := 128#32
  let v1857 : BitVec 32 := Scalar.muli v10 c128_i32_902
  let c35_i32_903 : BitVec 32 := 35#32
  let v1858 : BitVec 32 := Scalar.addi v1857 c35_i32_903
  let v1859 : Index := Scalar.indexCast v1858
  ![v1859.toNat]
def k0_off293 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_908 : BitVec 32 := 128#32
  let v1868 : BitVec 32 := Scalar.muli v10 c128_i32_908
  let c36_i32_909 : BitVec 32 := 36#32
  let v1869 : BitVec 32 := Scalar.addi v1868 c36_i32_909
  let v1870 : Index := Scalar.indexCast v1869
  ![v1870.toNat]
def k0_off294 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_914 : BitVec 32 := 128#32
  let v1879 : BitVec 32 := Scalar.muli v10 c128_i32_914
  let c37_i32_915 : BitVec 32 := 37#32
  let v1880 : BitVec 32 := Scalar.addi v1879 c37_i32_915
  let v1881 : Index := Scalar.indexCast v1880
  ![v1881.toNat]
def k0_off295 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_920 : BitVec 32 := 128#32
  let v1890 : BitVec 32 := Scalar.muli v10 c128_i32_920
  let c38_i32_921 : BitVec 32 := 38#32
  let v1891 : BitVec 32 := Scalar.addi v1890 c38_i32_921
  let v1892 : Index := Scalar.indexCast v1891
  ![v1892.toNat]
def k0_off296 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_926 : BitVec 32 := 128#32
  let v1901 : BitVec 32 := Scalar.muli v10 c128_i32_926
  let c39_i32_927 : BitVec 32 := 39#32
  let v1902 : BitVec 32 := Scalar.addi v1901 c39_i32_927
  let v1903 : Index := Scalar.indexCast v1902
  ![v1903.toNat]
def k0_off297 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_932 : BitVec 32 := 128#32
  let v1912 : BitVec 32 := Scalar.muli v10 c128_i32_932
  let c40_i32_933 : BitVec 32 := 40#32
  let v1913 : BitVec 32 := Scalar.addi v1912 c40_i32_933
  let v1914 : Index := Scalar.indexCast v1913
  ![v1914.toNat]
def k0_off298 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_938 : BitVec 32 := 128#32
  let v1923 : BitVec 32 := Scalar.muli v10 c128_i32_938
  let c41_i32_939 : BitVec 32 := 41#32
  let v1924 : BitVec 32 := Scalar.addi v1923 c41_i32_939
  let v1925 : Index := Scalar.indexCast v1924
  ![v1925.toNat]
def k0_off299 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_944 : BitVec 32 := 128#32
  let v1934 : BitVec 32 := Scalar.muli v10 c128_i32_944
  let c42_i32_945 : BitVec 32 := 42#32
  let v1935 : BitVec 32 := Scalar.addi v1934 c42_i32_945
  let v1936 : Index := Scalar.indexCast v1935
  ![v1936.toNat]
def k0_off300 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_950 : BitVec 32 := 128#32
  let v1945 : BitVec 32 := Scalar.muli v10 c128_i32_950
  let c43_i32_951 : BitVec 32 := 43#32
  let v1946 : BitVec 32 := Scalar.addi v1945 c43_i32_951
  let v1947 : Index := Scalar.indexCast v1946
  ![v1947.toNat]
def k0_off301 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_956 : BitVec 32 := 128#32
  let v1956 : BitVec 32 := Scalar.muli v10 c128_i32_956
  let c44_i32_957 : BitVec 32 := 44#32
  let v1957 : BitVec 32 := Scalar.addi v1956 c44_i32_957
  let v1958 : Index := Scalar.indexCast v1957
  ![v1958.toNat]
def k0_off302 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_962 : BitVec 32 := 128#32
  let v1967 : BitVec 32 := Scalar.muli v10 c128_i32_962
  let c45_i32_963 : BitVec 32 := 45#32
  let v1968 : BitVec 32 := Scalar.addi v1967 c45_i32_963
  let v1969 : Index := Scalar.indexCast v1968
  ![v1969.toNat]
def k0_off303 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_968 : BitVec 32 := 128#32
  let v1978 : BitVec 32 := Scalar.muli v10 c128_i32_968
  let c46_i32_969 : BitVec 32 := 46#32
  let v1979 : BitVec 32 := Scalar.addi v1978 c46_i32_969
  let v1980 : Index := Scalar.indexCast v1979
  ![v1980.toNat]
def k0_off304 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_974 : BitVec 32 := 128#32
  let v1989 : BitVec 32 := Scalar.muli v10 c128_i32_974
  let c47_i32_975 : BitVec 32 := 47#32
  let v1990 : BitVec 32 := Scalar.addi v1989 c47_i32_975
  let v1991 : Index := Scalar.indexCast v1990
  ![v1991.toNat]
def k0_off305 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_980 : BitVec 32 := 128#32
  let v2000 : BitVec 32 := Scalar.muli v10 c128_i32_980
  let c48_i32_981 : BitVec 32 := 48#32
  let v2001 : BitVec 32 := Scalar.addi v2000 c48_i32_981
  let v2002 : Index := Scalar.indexCast v2001
  ![v2002.toNat]
def k0_off306 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_986 : BitVec 32 := 128#32
  let v2011 : BitVec 32 := Scalar.muli v10 c128_i32_986
  let c49_i32_987 : BitVec 32 := 49#32
  let v2012 : BitVec 32 := Scalar.addi v2011 c49_i32_987
  let v2013 : Index := Scalar.indexCast v2012
  ![v2013.toNat]
def k0_off307 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_992 : BitVec 32 := 128#32
  let v2022 : BitVec 32 := Scalar.muli v10 c128_i32_992
  let c50_i32_993 : BitVec 32 := 50#32
  let v2023 : BitVec 32 := Scalar.addi v2022 c50_i32_993
  let v2024 : Index := Scalar.indexCast v2023
  ![v2024.toNat]
def k0_off308 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_998 : BitVec 32 := 128#32
  let v2033 : BitVec 32 := Scalar.muli v10 c128_i32_998
  let c51_i32_999 : BitVec 32 := 51#32
  let v2034 : BitVec 32 := Scalar.addi v2033 c51_i32_999
  let v2035 : Index := Scalar.indexCast v2034
  ![v2035.toNat]
def k0_off309 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1004 : BitVec 32 := 128#32
  let v2044 : BitVec 32 := Scalar.muli v10 c128_i32_1004
  let c52_i32_1005 : BitVec 32 := 52#32
  let v2045 : BitVec 32 := Scalar.addi v2044 c52_i32_1005
  let v2046 : Index := Scalar.indexCast v2045
  ![v2046.toNat]
def k0_off310 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1010 : BitVec 32 := 128#32
  let v2055 : BitVec 32 := Scalar.muli v10 c128_i32_1010
  let c53_i32_1011 : BitVec 32 := 53#32
  let v2056 : BitVec 32 := Scalar.addi v2055 c53_i32_1011
  let v2057 : Index := Scalar.indexCast v2056
  ![v2057.toNat]
def k0_off311 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1016 : BitVec 32 := 128#32
  let v2066 : BitVec 32 := Scalar.muli v10 c128_i32_1016
  let c54_i32_1017 : BitVec 32 := 54#32
  let v2067 : BitVec 32 := Scalar.addi v2066 c54_i32_1017
  let v2068 : Index := Scalar.indexCast v2067
  ![v2068.toNat]
def k0_off312 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1022 : BitVec 32 := 128#32
  let v2077 : BitVec 32 := Scalar.muli v10 c128_i32_1022
  let c55_i32_1023 : BitVec 32 := 55#32
  let v2078 : BitVec 32 := Scalar.addi v2077 c55_i32_1023
  let v2079 : Index := Scalar.indexCast v2078
  ![v2079.toNat]
def k0_off313 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1028 : BitVec 32 := 128#32
  let v2088 : BitVec 32 := Scalar.muli v10 c128_i32_1028
  let c56_i32_1029 : BitVec 32 := 56#32
  let v2089 : BitVec 32 := Scalar.addi v2088 c56_i32_1029
  let v2090 : Index := Scalar.indexCast v2089
  ![v2090.toNat]
def k0_off314 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1034 : BitVec 32 := 128#32
  let v2099 : BitVec 32 := Scalar.muli v10 c128_i32_1034
  let c57_i32_1035 : BitVec 32 := 57#32
  let v2100 : BitVec 32 := Scalar.addi v2099 c57_i32_1035
  let v2101 : Index := Scalar.indexCast v2100
  ![v2101.toNat]
def k0_off315 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1040 : BitVec 32 := 128#32
  let v2110 : BitVec 32 := Scalar.muli v10 c128_i32_1040
  let c58_i32_1041 : BitVec 32 := 58#32
  let v2111 : BitVec 32 := Scalar.addi v2110 c58_i32_1041
  let v2112 : Index := Scalar.indexCast v2111
  ![v2112.toNat]
def k0_off316 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1046 : BitVec 32 := 128#32
  let v2121 : BitVec 32 := Scalar.muli v10 c128_i32_1046
  let c59_i32_1047 : BitVec 32 := 59#32
  let v2122 : BitVec 32 := Scalar.addi v2121 c59_i32_1047
  let v2123 : Index := Scalar.indexCast v2122
  ![v2123.toNat]
def k0_off317 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1052 : BitVec 32 := 128#32
  let v2132 : BitVec 32 := Scalar.muli v10 c128_i32_1052
  let c60_i32_1053 : BitVec 32 := 60#32
  let v2133 : BitVec 32 := Scalar.addi v2132 c60_i32_1053
  let v2134 : Index := Scalar.indexCast v2133
  ![v2134.toNat]
def k0_off318 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1058 : BitVec 32 := 128#32
  let v2143 : BitVec 32 := Scalar.muli v10 c128_i32_1058
  let c61_i32_1059 : BitVec 32 := 61#32
  let v2144 : BitVec 32 := Scalar.addi v2143 c61_i32_1059
  let v2145 : Index := Scalar.indexCast v2144
  ![v2145.toNat]
def k0_off319 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1064 : BitVec 32 := 128#32
  let v2154 : BitVec 32 := Scalar.muli v10 c128_i32_1064
  let c62_i32_1065 : BitVec 32 := 62#32
  let v2155 : BitVec 32 := Scalar.addi v2154 c62_i32_1065
  let v2156 : Index := Scalar.indexCast v2155
  ![v2156.toNat]
def k0_off320 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1070 : BitVec 32 := 128#32
  let v2165 : BitVec 32 := Scalar.muli v10 c128_i32_1070
  let c63_i32_1071 : BitVec 32 := 63#32
  let v2166 : BitVec 32 := Scalar.addi v2165 c63_i32_1071
  let v2167 : Index := Scalar.indexCast v2166
  ![v2167.toNat]
def k0_dev6 (d0 : Dev nD) : Nat :=
  let c0_i32_1087 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1086 : BitVec 32 := 4#32
  let v2181 : BitVec 32 := Scalar.muli v2 c4_i32_1086
  let v2182 : BitVec 32 := Scalar.addi c0_i32_1087 v2181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1088 : BitVec 32 := 2#32
  let v2183 : BitVec 32 := Scalar.muli v5 c2_i32_1088
  let v2184 : BitVec 32 := Scalar.addi v2182 v2183
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1089 : BitVec 32 := 1#32
  let v2185 : BitVec 32 := Scalar.muli v11 c1_i32_1089
  let v2186 : BitVec 32 := Scalar.addi v2184 v2185
  v2186.toNat
def k0_off321 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1094 : BitVec 32 := 128#32
  let v2195 : BitVec 32 := Scalar.muli v10 c128_i32_1094
  let c64_i32_1095 : BitVec 32 := 64#32
  let v2196 : BitVec 32 := Scalar.addi v2195 c64_i32_1095
  let v2197 : Index := Scalar.indexCast v2196
  ![v2197.toNat]
def k0_off322 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1100 : BitVec 32 := 128#32
  let v2206 : BitVec 32 := Scalar.muli v10 c128_i32_1100
  let c65_i32_1101 : BitVec 32 := 65#32
  let v2207 : BitVec 32 := Scalar.addi v2206 c65_i32_1101
  let v2208 : Index := Scalar.indexCast v2207
  ![v2208.toNat]
def k0_off323 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1106 : BitVec 32 := 128#32
  let v2217 : BitVec 32 := Scalar.muli v10 c128_i32_1106
  let c66_i32_1107 : BitVec 32 := 66#32
  let v2218 : BitVec 32 := Scalar.addi v2217 c66_i32_1107
  let v2219 : Index := Scalar.indexCast v2218
  ![v2219.toNat]
def k0_off324 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1112 : BitVec 32 := 128#32
  let v2228 : BitVec 32 := Scalar.muli v10 c128_i32_1112
  let c67_i32_1113 : BitVec 32 := 67#32
  let v2229 : BitVec 32 := Scalar.addi v2228 c67_i32_1113
  let v2230 : Index := Scalar.indexCast v2229
  ![v2230.toNat]
def k0_off325 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1118 : BitVec 32 := 128#32
  let v2239 : BitVec 32 := Scalar.muli v10 c128_i32_1118
  let c68_i32_1119 : BitVec 32 := 68#32
  let v2240 : BitVec 32 := Scalar.addi v2239 c68_i32_1119
  let v2241 : Index := Scalar.indexCast v2240
  ![v2241.toNat]
def k0_off326 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1124 : BitVec 32 := 128#32
  let v2250 : BitVec 32 := Scalar.muli v10 c128_i32_1124
  let c69_i32_1125 : BitVec 32 := 69#32
  let v2251 : BitVec 32 := Scalar.addi v2250 c69_i32_1125
  let v2252 : Index := Scalar.indexCast v2251
  ![v2252.toNat]
def k0_off327 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1130 : BitVec 32 := 128#32
  let v2261 : BitVec 32 := Scalar.muli v10 c128_i32_1130
  let c70_i32_1131 : BitVec 32 := 70#32
  let v2262 : BitVec 32 := Scalar.addi v2261 c70_i32_1131
  let v2263 : Index := Scalar.indexCast v2262
  ![v2263.toNat]
def k0_off328 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1136 : BitVec 32 := 128#32
  let v2272 : BitVec 32 := Scalar.muli v10 c128_i32_1136
  let c71_i32_1137 : BitVec 32 := 71#32
  let v2273 : BitVec 32 := Scalar.addi v2272 c71_i32_1137
  let v2274 : Index := Scalar.indexCast v2273
  ![v2274.toNat]
def k0_off329 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1142 : BitVec 32 := 128#32
  let v2283 : BitVec 32 := Scalar.muli v10 c128_i32_1142
  let c72_i32_1143 : BitVec 32 := 72#32
  let v2284 : BitVec 32 := Scalar.addi v2283 c72_i32_1143
  let v2285 : Index := Scalar.indexCast v2284
  ![v2285.toNat]
def k0_off330 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1148 : BitVec 32 := 128#32
  let v2294 : BitVec 32 := Scalar.muli v10 c128_i32_1148
  let c73_i32_1149 : BitVec 32 := 73#32
  let v2295 : BitVec 32 := Scalar.addi v2294 c73_i32_1149
  let v2296 : Index := Scalar.indexCast v2295
  ![v2296.toNat]
def k0_off331 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1154 : BitVec 32 := 128#32
  let v2305 : BitVec 32 := Scalar.muli v10 c128_i32_1154
  let c74_i32_1155 : BitVec 32 := 74#32
  let v2306 : BitVec 32 := Scalar.addi v2305 c74_i32_1155
  let v2307 : Index := Scalar.indexCast v2306
  ![v2307.toNat]
def k0_off332 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1160 : BitVec 32 := 128#32
  let v2316 : BitVec 32 := Scalar.muli v10 c128_i32_1160
  let c75_i32_1161 : BitVec 32 := 75#32
  let v2317 : BitVec 32 := Scalar.addi v2316 c75_i32_1161
  let v2318 : Index := Scalar.indexCast v2317
  ![v2318.toNat]
def k0_off333 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1166 : BitVec 32 := 128#32
  let v2327 : BitVec 32 := Scalar.muli v10 c128_i32_1166
  let c76_i32_1167 : BitVec 32 := 76#32
  let v2328 : BitVec 32 := Scalar.addi v2327 c76_i32_1167
  let v2329 : Index := Scalar.indexCast v2328
  ![v2329.toNat]
def k0_off334 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1172 : BitVec 32 := 128#32
  let v2338 : BitVec 32 := Scalar.muli v10 c128_i32_1172
  let c77_i32_1173 : BitVec 32 := 77#32
  let v2339 : BitVec 32 := Scalar.addi v2338 c77_i32_1173
  let v2340 : Index := Scalar.indexCast v2339
  ![v2340.toNat]
def k0_off335 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1178 : BitVec 32 := 128#32
  let v2349 : BitVec 32 := Scalar.muli v10 c128_i32_1178
  let c78_i32_1179 : BitVec 32 := 78#32
  let v2350 : BitVec 32 := Scalar.addi v2349 c78_i32_1179
  let v2351 : Index := Scalar.indexCast v2350
  ![v2351.toNat]
def k0_off336 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1184 : BitVec 32 := 128#32
  let v2360 : BitVec 32 := Scalar.muli v10 c128_i32_1184
  let c79_i32_1185 : BitVec 32 := 79#32
  let v2361 : BitVec 32 := Scalar.addi v2360 c79_i32_1185
  let v2362 : Index := Scalar.indexCast v2361
  ![v2362.toNat]
def k0_off337 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1190 : BitVec 32 := 128#32
  let v2371 : BitVec 32 := Scalar.muli v10 c128_i32_1190
  let c80_i32_1191 : BitVec 32 := 80#32
  let v2372 : BitVec 32 := Scalar.addi v2371 c80_i32_1191
  let v2373 : Index := Scalar.indexCast v2372
  ![v2373.toNat]
def k0_off338 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1196 : BitVec 32 := 128#32
  let v2382 : BitVec 32 := Scalar.muli v10 c128_i32_1196
  let c81_i32_1197 : BitVec 32 := 81#32
  let v2383 : BitVec 32 := Scalar.addi v2382 c81_i32_1197
  let v2384 : Index := Scalar.indexCast v2383
  ![v2384.toNat]
def k0_off339 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1202 : BitVec 32 := 128#32
  let v2393 : BitVec 32 := Scalar.muli v10 c128_i32_1202
  let c82_i32_1203 : BitVec 32 := 82#32
  let v2394 : BitVec 32 := Scalar.addi v2393 c82_i32_1203
  let v2395 : Index := Scalar.indexCast v2394
  ![v2395.toNat]
def k0_off340 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1208 : BitVec 32 := 128#32
  let v2404 : BitVec 32 := Scalar.muli v10 c128_i32_1208
  let c83_i32_1209 : BitVec 32 := 83#32
  let v2405 : BitVec 32 := Scalar.addi v2404 c83_i32_1209
  let v2406 : Index := Scalar.indexCast v2405
  ![v2406.toNat]
def k0_off341 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1214 : BitVec 32 := 128#32
  let v2415 : BitVec 32 := Scalar.muli v10 c128_i32_1214
  let c84_i32_1215 : BitVec 32 := 84#32
  let v2416 : BitVec 32 := Scalar.addi v2415 c84_i32_1215
  let v2417 : Index := Scalar.indexCast v2416
  ![v2417.toNat]
def k0_off342 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1220 : BitVec 32 := 128#32
  let v2426 : BitVec 32 := Scalar.muli v10 c128_i32_1220
  let c85_i32_1221 : BitVec 32 := 85#32
  let v2427 : BitVec 32 := Scalar.addi v2426 c85_i32_1221
  let v2428 : Index := Scalar.indexCast v2427
  ![v2428.toNat]
def k0_off343 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1226 : BitVec 32 := 128#32
  let v2437 : BitVec 32 := Scalar.muli v10 c128_i32_1226
  let c86_i32_1227 : BitVec 32 := 86#32
  let v2438 : BitVec 32 := Scalar.addi v2437 c86_i32_1227
  let v2439 : Index := Scalar.indexCast v2438
  ![v2439.toNat]
def k0_off344 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1232 : BitVec 32 := 128#32
  let v2448 : BitVec 32 := Scalar.muli v10 c128_i32_1232
  let c87_i32_1233 : BitVec 32 := 87#32
  let v2449 : BitVec 32 := Scalar.addi v2448 c87_i32_1233
  let v2450 : Index := Scalar.indexCast v2449
  ![v2450.toNat]
def k0_off345 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1238 : BitVec 32 := 128#32
  let v2459 : BitVec 32 := Scalar.muli v10 c128_i32_1238
  let c88_i32_1239 : BitVec 32 := 88#32
  let v2460 : BitVec 32 := Scalar.addi v2459 c88_i32_1239
  let v2461 : Index := Scalar.indexCast v2460
  ![v2461.toNat]
def k0_off346 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1244 : BitVec 32 := 128#32
  let v2470 : BitVec 32 := Scalar.muli v10 c128_i32_1244
  let c89_i32_1245 : BitVec 32 := 89#32
  let v2471 : BitVec 32 := Scalar.addi v2470 c89_i32_1245
  let v2472 : Index := Scalar.indexCast v2471
  ![v2472.toNat]
def k0_off347 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1250 : BitVec 32 := 128#32
  let v2481 : BitVec 32 := Scalar.muli v10 c128_i32_1250
  let c90_i32_1251 : BitVec 32 := 90#32
  let v2482 : BitVec 32 := Scalar.addi v2481 c90_i32_1251
  let v2483 : Index := Scalar.indexCast v2482
  ![v2483.toNat]
def k0_off348 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1256 : BitVec 32 := 128#32
  let v2492 : BitVec 32 := Scalar.muli v10 c128_i32_1256
  let c91_i32_1257 : BitVec 32 := 91#32
  let v2493 : BitVec 32 := Scalar.addi v2492 c91_i32_1257
  let v2494 : Index := Scalar.indexCast v2493
  ![v2494.toNat]
def k0_off349 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1262 : BitVec 32 := 128#32
  let v2503 : BitVec 32 := Scalar.muli v10 c128_i32_1262
  let c92_i32_1263 : BitVec 32 := 92#32
  let v2504 : BitVec 32 := Scalar.addi v2503 c92_i32_1263
  let v2505 : Index := Scalar.indexCast v2504
  ![v2505.toNat]
def k0_off350 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1268 : BitVec 32 := 128#32
  let v2514 : BitVec 32 := Scalar.muli v10 c128_i32_1268
  let c93_i32_1269 : BitVec 32 := 93#32
  let v2515 : BitVec 32 := Scalar.addi v2514 c93_i32_1269
  let v2516 : Index := Scalar.indexCast v2515
  ![v2516.toNat]
def k0_off351 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1274 : BitVec 32 := 128#32
  let v2525 : BitVec 32 := Scalar.muli v10 c128_i32_1274
  let c94_i32_1275 : BitVec 32 := 94#32
  let v2526 : BitVec 32 := Scalar.addi v2525 c94_i32_1275
  let v2527 : Index := Scalar.indexCast v2526
  ![v2527.toNat]
def k0_off352 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1280 : BitVec 32 := 128#32
  let v2536 : BitVec 32 := Scalar.muli v10 c128_i32_1280
  let c95_i32_1281 : BitVec 32 := 95#32
  let v2537 : BitVec 32 := Scalar.addi v2536 c95_i32_1281
  let v2538 : Index := Scalar.indexCast v2537
  ![v2538.toNat]
def k0_dev7 (d0 : Dev nD) : Nat :=
  let c0_i32_1297 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1296 : BitVec 32 := 4#32
  let v2552 : BitVec 32 := Scalar.muli v2 c4_i32_1296
  let v2553 : BitVec 32 := Scalar.addi c0_i32_1297 v2552
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1298 : BitVec 32 := 2#32
  let v2554 : BitVec 32 := Scalar.muli v5 c2_i32_1298
  let v2555 : BitVec 32 := Scalar.addi v2553 v2554
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1299 : BitVec 32 := 1#32
  let v2556 : BitVec 32 := Scalar.muli v11 c1_i32_1299
  let v2557 : BitVec 32 := Scalar.addi v2555 v2556
  v2557.toNat
def k0_off353 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1304 : BitVec 32 := 128#32
  let v2566 : BitVec 32 := Scalar.muli v10 c128_i32_1304
  let c96_i32_1305 : BitVec 32 := 96#32
  let v2567 : BitVec 32 := Scalar.addi v2566 c96_i32_1305
  let v2568 : Index := Scalar.indexCast v2567
  ![v2568.toNat]
def k0_off354 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1310 : BitVec 32 := 128#32
  let v2577 : BitVec 32 := Scalar.muli v10 c128_i32_1310
  let c97_i32_1311 : BitVec 32 := 97#32
  let v2578 : BitVec 32 := Scalar.addi v2577 c97_i32_1311
  let v2579 : Index := Scalar.indexCast v2578
  ![v2579.toNat]
def k0_off355 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1316 : BitVec 32 := 128#32
  let v2588 : BitVec 32 := Scalar.muli v10 c128_i32_1316
  let c98_i32_1317 : BitVec 32 := 98#32
  let v2589 : BitVec 32 := Scalar.addi v2588 c98_i32_1317
  let v2590 : Index := Scalar.indexCast v2589
  ![v2590.toNat]
def k0_off356 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1322 : BitVec 32 := 128#32
  let v2599 : BitVec 32 := Scalar.muli v10 c128_i32_1322
  let c99_i32_1323 : BitVec 32 := 99#32
  let v2600 : BitVec 32 := Scalar.addi v2599 c99_i32_1323
  let v2601 : Index := Scalar.indexCast v2600
  ![v2601.toNat]
def k0_off357 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1328 : BitVec 32 := 128#32
  let v2610 : BitVec 32 := Scalar.muli v10 c128_i32_1328
  let c100_i32_1329 : BitVec 32 := 100#32
  let v2611 : BitVec 32 := Scalar.addi v2610 c100_i32_1329
  let v2612 : Index := Scalar.indexCast v2611
  ![v2612.toNat]
def k0_off358 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1334 : BitVec 32 := 128#32
  let v2621 : BitVec 32 := Scalar.muli v10 c128_i32_1334
  let c101_i32_1335 : BitVec 32 := 101#32
  let v2622 : BitVec 32 := Scalar.addi v2621 c101_i32_1335
  let v2623 : Index := Scalar.indexCast v2622
  ![v2623.toNat]
def k0_off359 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1340 : BitVec 32 := 128#32
  let v2632 : BitVec 32 := Scalar.muli v10 c128_i32_1340
  let c102_i32_1341 : BitVec 32 := 102#32
  let v2633 : BitVec 32 := Scalar.addi v2632 c102_i32_1341
  let v2634 : Index := Scalar.indexCast v2633
  ![v2634.toNat]
def k0_off360 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1346 : BitVec 32 := 128#32
  let v2643 : BitVec 32 := Scalar.muli v10 c128_i32_1346
  let c103_i32_1347 : BitVec 32 := 103#32
  let v2644 : BitVec 32 := Scalar.addi v2643 c103_i32_1347
  let v2645 : Index := Scalar.indexCast v2644
  ![v2645.toNat]
def k0_off361 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1352 : BitVec 32 := 128#32
  let v2654 : BitVec 32 := Scalar.muli v10 c128_i32_1352
  let c104_i32_1353 : BitVec 32 := 104#32
  let v2655 : BitVec 32 := Scalar.addi v2654 c104_i32_1353
  let v2656 : Index := Scalar.indexCast v2655
  ![v2656.toNat]
def k0_off362 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1358 : BitVec 32 := 128#32
  let v2665 : BitVec 32 := Scalar.muli v10 c128_i32_1358
  let c105_i32_1359 : BitVec 32 := 105#32
  let v2666 : BitVec 32 := Scalar.addi v2665 c105_i32_1359
  let v2667 : Index := Scalar.indexCast v2666
  ![v2667.toNat]
def k0_off363 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1364 : BitVec 32 := 128#32
  let v2676 : BitVec 32 := Scalar.muli v10 c128_i32_1364
  let c106_i32_1365 : BitVec 32 := 106#32
  let v2677 : BitVec 32 := Scalar.addi v2676 c106_i32_1365
  let v2678 : Index := Scalar.indexCast v2677
  ![v2678.toNat]
def k0_off364 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1370 : BitVec 32 := 128#32
  let v2687 : BitVec 32 := Scalar.muli v10 c128_i32_1370
  let c107_i32_1371 : BitVec 32 := 107#32
  let v2688 : BitVec 32 := Scalar.addi v2687 c107_i32_1371
  let v2689 : Index := Scalar.indexCast v2688
  ![v2689.toNat]
def k0_off365 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1376 : BitVec 32 := 128#32
  let v2698 : BitVec 32 := Scalar.muli v10 c128_i32_1376
  let c108_i32_1377 : BitVec 32 := 108#32
  let v2699 : BitVec 32 := Scalar.addi v2698 c108_i32_1377
  let v2700 : Index := Scalar.indexCast v2699
  ![v2700.toNat]
def k0_off366 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1382 : BitVec 32 := 128#32
  let v2709 : BitVec 32 := Scalar.muli v10 c128_i32_1382
  let c109_i32_1383 : BitVec 32 := 109#32
  let v2710 : BitVec 32 := Scalar.addi v2709 c109_i32_1383
  let v2711 : Index := Scalar.indexCast v2710
  ![v2711.toNat]
def k0_off367 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1388 : BitVec 32 := 128#32
  let v2720 : BitVec 32 := Scalar.muli v10 c128_i32_1388
  let c110_i32_1389 : BitVec 32 := 110#32
  let v2721 : BitVec 32 := Scalar.addi v2720 c110_i32_1389
  let v2722 : Index := Scalar.indexCast v2721
  ![v2722.toNat]
def k0_off368 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1394 : BitVec 32 := 128#32
  let v2731 : BitVec 32 := Scalar.muli v10 c128_i32_1394
  let c111_i32_1395 : BitVec 32 := 111#32
  let v2732 : BitVec 32 := Scalar.addi v2731 c111_i32_1395
  let v2733 : Index := Scalar.indexCast v2732
  ![v2733.toNat]
def k0_off369 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1400 : BitVec 32 := 128#32
  let v2742 : BitVec 32 := Scalar.muli v10 c128_i32_1400
  let c112_i32_1401 : BitVec 32 := 112#32
  let v2743 : BitVec 32 := Scalar.addi v2742 c112_i32_1401
  let v2744 : Index := Scalar.indexCast v2743
  ![v2744.toNat]
def k0_off370 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1406 : BitVec 32 := 128#32
  let v2753 : BitVec 32 := Scalar.muli v10 c128_i32_1406
  let c113_i32_1407 : BitVec 32 := 113#32
  let v2754 : BitVec 32 := Scalar.addi v2753 c113_i32_1407
  let v2755 : Index := Scalar.indexCast v2754
  ![v2755.toNat]
def k0_off371 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1412 : BitVec 32 := 128#32
  let v2764 : BitVec 32 := Scalar.muli v10 c128_i32_1412
  let c114_i32_1413 : BitVec 32 := 114#32
  let v2765 : BitVec 32 := Scalar.addi v2764 c114_i32_1413
  let v2766 : Index := Scalar.indexCast v2765
  ![v2766.toNat]
def k0_off372 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1418 : BitVec 32 := 128#32
  let v2775 : BitVec 32 := Scalar.muli v10 c128_i32_1418
  let c115_i32_1419 : BitVec 32 := 115#32
  let v2776 : BitVec 32 := Scalar.addi v2775 c115_i32_1419
  let v2777 : Index := Scalar.indexCast v2776
  ![v2777.toNat]
def k0_off373 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1424 : BitVec 32 := 128#32
  let v2786 : BitVec 32 := Scalar.muli v10 c128_i32_1424
  let c116_i32_1425 : BitVec 32 := 116#32
  let v2787 : BitVec 32 := Scalar.addi v2786 c116_i32_1425
  let v2788 : Index := Scalar.indexCast v2787
  ![v2788.toNat]
def k0_off374 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1430 : BitVec 32 := 128#32
  let v2797 : BitVec 32 := Scalar.muli v10 c128_i32_1430
  let c117_i32_1431 : BitVec 32 := 117#32
  let v2798 : BitVec 32 := Scalar.addi v2797 c117_i32_1431
  let v2799 : Index := Scalar.indexCast v2798
  ![v2799.toNat]
def k0_off375 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1436 : BitVec 32 := 128#32
  let v2808 : BitVec 32 := Scalar.muli v10 c128_i32_1436
  let c118_i32_1437 : BitVec 32 := 118#32
  let v2809 : BitVec 32 := Scalar.addi v2808 c118_i32_1437
  let v2810 : Index := Scalar.indexCast v2809
  ![v2810.toNat]
def k0_off376 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1442 : BitVec 32 := 128#32
  let v2819 : BitVec 32 := Scalar.muli v10 c128_i32_1442
  let c119_i32_1443 : BitVec 32 := 119#32
  let v2820 : BitVec 32 := Scalar.addi v2819 c119_i32_1443
  let v2821 : Index := Scalar.indexCast v2820
  ![v2821.toNat]
def k0_off377 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1448 : BitVec 32 := 128#32
  let v2830 : BitVec 32 := Scalar.muli v10 c128_i32_1448
  let c120_i32_1449 : BitVec 32 := 120#32
  let v2831 : BitVec 32 := Scalar.addi v2830 c120_i32_1449
  let v2832 : Index := Scalar.indexCast v2831
  ![v2832.toNat]
def k0_off378 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1454 : BitVec 32 := 128#32
  let v2841 : BitVec 32 := Scalar.muli v10 c128_i32_1454
  let c121_i32_1455 : BitVec 32 := 121#32
  let v2842 : BitVec 32 := Scalar.addi v2841 c121_i32_1455
  let v2843 : Index := Scalar.indexCast v2842
  ![v2843.toNat]
def k0_off379 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1460 : BitVec 32 := 128#32
  let v2852 : BitVec 32 := Scalar.muli v10 c128_i32_1460
  let c122_i32_1461 : BitVec 32 := 122#32
  let v2853 : BitVec 32 := Scalar.addi v2852 c122_i32_1461
  let v2854 : Index := Scalar.indexCast v2853
  ![v2854.toNat]
def k0_off380 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1466 : BitVec 32 := 128#32
  let v2863 : BitVec 32 := Scalar.muli v10 c128_i32_1466
  let c123_i32_1467 : BitVec 32 := 123#32
  let v2864 : BitVec 32 := Scalar.addi v2863 c123_i32_1467
  let v2865 : Index := Scalar.indexCast v2864
  ![v2865.toNat]
def k0_off381 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1472 : BitVec 32 := 128#32
  let v2874 : BitVec 32 := Scalar.muli v10 c128_i32_1472
  let c124_i32_1473 : BitVec 32 := 124#32
  let v2875 : BitVec 32 := Scalar.addi v2874 c124_i32_1473
  let v2876 : Index := Scalar.indexCast v2875
  ![v2876.toNat]
def k0_off382 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1478 : BitVec 32 := 128#32
  let v2885 : BitVec 32 := Scalar.muli v10 c128_i32_1478
  let c125_i32_1479 : BitVec 32 := 125#32
  let v2886 : BitVec 32 := Scalar.addi v2885 c125_i32_1479
  let v2887 : Index := Scalar.indexCast v2886
  ![v2887.toNat]
def k0_off383 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1484 : BitVec 32 := 128#32
  let v2896 : BitVec 32 := Scalar.muli v10 c128_i32_1484
  let c126_i32_1485 : BitVec 32 := 126#32
  let v2897 : BitVec 32 := Scalar.addi v2896 c126_i32_1485
  let v2898 : Index := Scalar.indexCast v2897
  ![v2898.toNat]
def k0_off384 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1490 : BitVec 32 := 128#32
  let v2907 : BitVec 32 := Scalar.muli v10 c128_i32_1490
  let c127_i32_1491 : BitVec 32 := 127#32
  let v2908 : BitVec 32 := Scalar.addi v2907 c127_i32_1491
  let v2909 : Index := Scalar.indexCast v2908
  ![v2909.toNat]
def k0_dev8 (d0 : Dev nD) : Nat :=
  let c0_i32_1507 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1506 : BitVec 32 := 4#32
  let v2923 : BitVec 32 := Scalar.muli v2 c4_i32_1506
  let v2924 : BitVec 32 := Scalar.addi c0_i32_1507 v2923
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1508 : BitVec 32 := 2#32
  let v2925 : BitVec 32 := Scalar.muli v5 c2_i32_1508
  let v2926 : BitVec 32 := Scalar.addi v2924 v2925
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_1509 : BitVec 32 := 1#32
  let v2927 : BitVec 32 := Scalar.muli v11 c1_i32_1509
  let v2928 : BitVec 32 := Scalar.addi v2926 v2927
  v2928.toNat
def k0_off385 (d0 : Dev nD) (c0_i32_1549 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c128_i32_1548 : BitVec 32 := 128#32
  let v2964 : BitVec 32 := Scalar.muli v10 c128_i32_1548
  let v2965 : BitVec 32 := Scalar.addi v2964 c0_i32_1549
  let c0_i32_1551 : BitVec 32 := 0#32
  ![v2965.toNat, 0]
def k0_dev9 (d0 : Dev nD) : Nat :=
  let c0_i32_1562 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1561 : BitVec 32 := 4#32
  let v2971 : BitVec 32 := Scalar.muli v2 c4_i32_1561
  let v2972 : BitVec 32 := Scalar.addi c0_i32_1562 v2971
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_1563 : BitVec 32 := 2#32
  let v2973 : BitVec 32 := Scalar.muli v12 c2_i32_1563
  let v2974 : BitVec 32 := Scalar.addi v2972 v2973
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1564 : BitVec 32 := 1#32
  let v2975 : BitVec 32 := Scalar.muli v8 c1_i32_1564
  let v2976 : BitVec 32 := Scalar.addi v2974 v2975
  v2976.toNat
def k0_dev10 (d0 : Dev nD) : Nat :=
  let c0_i32_1576 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_1575 : BitVec 32 := 4#32
  let v2986 : BitVec 32 := Scalar.muli v13 c4_i32_1575
  let v2987 : BitVec 32 := Scalar.addi c0_i32_1576 v2986
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1577 : BitVec 32 := 2#32
  let v2988 : BitVec 32 := Scalar.muli v5 c2_i32_1577
  let v2989 : BitVec 32 := Scalar.addi v2987 v2988
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1578 : BitVec 32 := 1#32
  let v2990 : BitVec 32 := Scalar.muli v8 c1_i32_1578
  let v2991 : BitVec 32 := Scalar.addi v2989 v2990
  v2991.toNat
def k0_dev11 (d0 : Dev nD) : Nat :=
  let c0_i32_1590 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_1589 : BitVec 32 := 4#32
  let v3001 : BitVec 32 := Scalar.muli v14 c4_i32_1589
  let v3002 : BitVec 32 := Scalar.addi c0_i32_1590 v3001
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_1591 : BitVec 32 := 2#32
  let v3003 : BitVec 32 := Scalar.muli v15 c2_i32_1591
  let v3004 : BitVec 32 := Scalar.addi v3002 v3003
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1592 : BitVec 32 := 1#32
  let v3005 : BitVec 32 := Scalar.muli v8 c1_i32_1592
  let v3006 : BitVec 32 := Scalar.addi v3004 v3005
  v3006.toNat
def k0_dev12 (d0 : Dev nD) : Nat :=
  let c0_i32_1644 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1643 : BitVec 32 := 4#32
  let v3048 : BitVec 32 := Scalar.muli v2 c4_i32_1643
  let v3049 : BitVec 32 := Scalar.addi c0_i32_1644 v3048
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_1645 : BitVec 32 := 2#32
  let v3050 : BitVec 32 := Scalar.muli v12 c2_i32_1645
  let v3051 : BitVec 32 := Scalar.addi v3049 v3050
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1646 : BitVec 32 := 1#32
  let v3052 : BitVec 32 := Scalar.muli v8 c1_i32_1646
  let v3053 : BitVec 32 := Scalar.addi v3051 v3052
  v3053.toNat
def k0_dev13 (d0 : Dev nD) : Nat :=
  let c0_i32_1658 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_1657 : BitVec 32 := 4#32
  let v3063 : BitVec 32 := Scalar.muli v13 c4_i32_1657
  let v3064 : BitVec 32 := Scalar.addi c0_i32_1658 v3063
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1659 : BitVec 32 := 2#32
  let v3065 : BitVec 32 := Scalar.muli v5 c2_i32_1659
  let v3066 : BitVec 32 := Scalar.addi v3064 v3065
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1660 : BitVec 32 := 1#32
  let v3067 : BitVec 32 := Scalar.muli v8 c1_i32_1660
  let v3068 : BitVec 32 := Scalar.addi v3066 v3067
  v3068.toNat
def k0_dev14 (d0 : Dev nD) : Nat :=
  let c0_i32_1672 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_1671 : BitVec 32 := 4#32
  let v3078 : BitVec 32 := Scalar.muli v14 c4_i32_1671
  let v3079 : BitVec 32 := Scalar.addi c0_i32_1672 v3078
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_1673 : BitVec 32 := 2#32
  let v3080 : BitVec 32 := Scalar.muli v15 c2_i32_1673
  let v3081 : BitVec 32 := Scalar.addi v3079 v3080
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1674 : BitVec 32 := 1#32
  let v3082 : BitVec 32 := Scalar.muli v8 c1_i32_1674
  let v3083 : BitVec 32 := Scalar.addi v3081 v3082
  v3083.toNat
def k0_dev15 (d0 : Dev nD) : Nat :=
  let c0_i32_1726 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1725 : BitVec 32 := 4#32
  let v3125 : BitVec 32 := Scalar.muli v2 c4_i32_1725
  let v3126 : BitVec 32 := Scalar.addi c0_i32_1726 v3125
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_1727 : BitVec 32 := 2#32
  let v3127 : BitVec 32 := Scalar.muli v12 c2_i32_1727
  let v3128 : BitVec 32 := Scalar.addi v3126 v3127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1728 : BitVec 32 := 1#32
  let v3129 : BitVec 32 := Scalar.muli v8 c1_i32_1728
  let v3130 : BitVec 32 := Scalar.addi v3128 v3129
  v3130.toNat
def k0_dev16 (d0 : Dev nD) : Nat :=
  let c0_i32_1740 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_1739 : BitVec 32 := 4#32
  let v3140 : BitVec 32 := Scalar.muli v13 c4_i32_1739
  let v3141 : BitVec 32 := Scalar.addi c0_i32_1740 v3140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1741 : BitVec 32 := 2#32
  let v3142 : BitVec 32 := Scalar.muli v5 c2_i32_1741
  let v3143 : BitVec 32 := Scalar.addi v3141 v3142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1742 : BitVec 32 := 1#32
  let v3144 : BitVec 32 := Scalar.muli v8 c1_i32_1742
  let v3145 : BitVec 32 := Scalar.addi v3143 v3144
  v3145.toNat
def k0_dev17 (d0 : Dev nD) : Nat :=
  let c0_i32_1754 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_1753 : BitVec 32 := 4#32
  let v3155 : BitVec 32 := Scalar.muli v14 c4_i32_1753
  let v3156 : BitVec 32 := Scalar.addi c0_i32_1754 v3155
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_1755 : BitVec 32 := 2#32
  let v3157 : BitVec 32 := Scalar.muli v15 c2_i32_1755
  let v3158 : BitVec 32 := Scalar.addi v3156 v3157
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1756 : BitVec 32 := 1#32
  let v3159 : BitVec 32 := Scalar.muli v8 c1_i32_1756
  let v3160 : BitVec 32 := Scalar.addi v3158 v3159
  v3160.toNat
def k0_dev18 (d0 : Dev nD) : Nat :=
  let c0_i32_1808 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_1807 : BitVec 32 := 4#32
  let v3202 : BitVec 32 := Scalar.muli v2 c4_i32_1807
  let v3203 : BitVec 32 := Scalar.addi c0_i32_1808 v3202
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_1809 : BitVec 32 := 2#32
  let v3204 : BitVec 32 := Scalar.muli v12 c2_i32_1809
  let v3205 : BitVec 32 := Scalar.addi v3203 v3204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1810 : BitVec 32 := 1#32
  let v3206 : BitVec 32 := Scalar.muli v8 c1_i32_1810
  let v3207 : BitVec 32 := Scalar.addi v3205 v3206
  v3207.toNat
def k0_dev19 (d0 : Dev nD) : Nat :=
  let c0_i32_1822 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_1821 : BitVec 32 := 4#32
  let v3217 : BitVec 32 := Scalar.muli v13 c4_i32_1821
  let v3218 : BitVec 32 := Scalar.addi c0_i32_1822 v3217
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_1823 : BitVec 32 := 2#32
  let v3219 : BitVec 32 := Scalar.muli v5 c2_i32_1823
  let v3220 : BitVec 32 := Scalar.addi v3218 v3219
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1824 : BitVec 32 := 1#32
  let v3221 : BitVec 32 := Scalar.muli v8 c1_i32_1824
  let v3222 : BitVec 32 := Scalar.addi v3220 v3221
  v3222.toNat
def k0_dev20 (d0 : Dev nD) : Nat :=
  let c0_i32_1836 : BitVec 32 := 0#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let c4_i32_1835 : BitVec 32 := 4#32
  let v3232 : BitVec 32 := Scalar.muli v14 c4_i32_1835
  let v3233 : BitVec 32 := Scalar.addi c0_i32_1836 v3232
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.subi c1_i32_8 v5
  let c2_i32_1837 : BitVec 32 := 2#32
  let v3234 : BitVec 32 := Scalar.muli v15 c2_i32_1837
  let v3235 : BitVec 32 := Scalar.addi v3233 v3234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_1838 : BitVec 32 := 1#32
  let v3236 : BitVec 32 := Scalar.muli v8 c1_i32_1838
  let v3237 : BitVec 32 := Scalar.addi v3235 v3236
  v3237.toNat
abbrev stage0_0 : Fin 1 → Memref sig .tc .smem S512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512 : Shape := ⟨1, ![512]⟩
abbrev S8192x512 : Shape := ⟨2, ![8192, 512]⟩
abbrev S_ : Shape := ⟨0, ![]⟩
abbrev S512x1 : Shape := ⟨2, ![512, 1]⟩
abbrev S512x512 : Shape := ⟨2, ![512, 512]⟩

abbrev nBuf : Space → Nat
  | .hbm => 12
  | .vmem => 0
  | .smem => 0
  | _ => 0

abbrev bufTy : (tb : Table) → Fin (tcTables nBuf tb) → BufTy
  | .hbm, ⟨0, _⟩ => ⟨S512, .i32⟩
  | .hbm, ⟨1, _⟩ => ⟨S8192x512, .f32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S512x512, .f32⟩
  | .hbm, ⟨11, _⟩ => ⟨S512x512, .bf16⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Mesh.lean ====
module
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.Launch
public import Idealize.ShloMosaic.Lib.Pipeline.Kit
public import Idealize.ShloMosaic.Lib.Tactic
public import Idealize.ShloMosaic.Lib.Rounds
public import Idealize.ShloMosaic.Lib.Batch
public import Idealize.ShloMosaic.Lib.Ring

/-! The mesh, the buffers' pieces, what they come to hold, and the protocol of the kernel's semaphores. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option maxRecDepth 100000

variable {F : FTy → Type} [FloatOps F]

/-! ## Ghost state: the pipeline's part, the rounds of the exchange, and counters for the local copies -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

abbrev 𝒱₀ : Variants := Variants.none

/-- A program of device `c`'s core, from every mask. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

/-- The memory at launch. -/
def s₀ : MemSt nD τ sig (Elt F) := ⟨m, fun _ => 0, ρ⟩

/-! ## The devices -/

/-- The device that differs from `c` in `z` (`k = 0`), in `y` (1), in `x` (2), in both `x` and `y` (3). -/
def peer (c : Dev nD) (k : Fin 4) : Dev nD := ⟨(c.val ^^^ (![1, 2, 4, 6] : Fin 4 → ℕ) k) % 8, Nat.mod_lt _ (by decide)⟩

theorem peer_peer (c : Dev nD) (k : Fin 4) : peer (peer c k) k = c := by revert c k; decide +kernel

/-- `peer` with `k = 0` read as the device itself: the four devices of one `z`. -/
def grp (c : Dev nD) (k : Fin 4) : Dev nD := if k = 0 then c else peer c k

/-! ## Buffers and their pieces -/

abbrev idsM : Memref sig .tc .smem S512 .i32 := Memref.whole cc0_stg0_0
abbrev tabM : Memref sig .tc .hbm S4096x512 .f32 := Memref.whole main_arg1
abbrev outW : Memref sig .tc .hbm S512x512 .bf16 := Memref.whole main_v1
abbrev gM : Memref sig .tc .vmem S128x512 .f32 := Memref.whole cc0_scratch0
abbrev zW : Memref sig .tc .vmem S2x4x32x512 .bf16 := Memref.whole cc0_scratch1
abbrev sW : Memref sig .tc .vmem S4x32x512 .bf16 := Memref.whole cc0_scratch2

theorem z_inb : ∀ (a : Fin 2) (j : Fin 4), ∀ x, (![a.val, j.val, 0, 0] : Fin 4 → ℕ) x + S1x1x32x512.size x ≤ S2x4x32x512.size x := by decide +kernel
theorem s_inb : ∀ (j : Fin 4), ∀ x, (![j.val, 0, 0] : Fin 3 → ℕ) x + S1x32x512.size x ≤ S4x32x512.size x := by decide +kernel
theorem g_inb : ∀ (j : Fin 4), ∀ x, (![32 * j.val, 0] : Fin 2 → ℕ) x + S32x512.size x ≤ S128x512.size x := by decide +kernel
theorem row_inb : ∀ (i : Fin 128), ∀ x, (![i.val, 0] : Fin 2 → ℕ) x + S1x512.size x ≤ S128x512.size x := by decide +kernel

abbrev zR (a : Fin 2) (j : Fin 4) : Rect S2x4x32x512 := Rect.unit (s := S2x4x32x512) ![a.val, j.val, 0, 0] S1x1x32x512.size (z_inb a j)
abbrev sR (j : Fin 4) : Rect S4x32x512 := Rect.unit (s := S4x32x512) ![j.val, 0, 0] S1x32x512.size (s_inb j)
abbrev gR (j : Fin 4) : Rect S128x512 := Rect.unit (s := S128x512) ![32 * j.val, 0] S32x512.size (g_inb j)
abbrev rowR (i : Fin 128) : Rect S128x512 := Rect.unit (s := S128x512) ![i.val, 0] S1x512.size (row_inb i)
abbrev oR (c : Dev nD) (j : Fin 4) : Rect S512x512 :=
  Rect.unit (s := S512x512) (k0_off385 c (BitVec.ofNat 32 (32 * j.val))) S32x512.size (k0_off385_inb c j)

/-- Slot `(a, j)` of the exchange buffer, chunk `j` of the staging buffer, chunk `j` of the gathered rows, and the rows of
    the result that belong to device `c`'s group, chunk `j`. -/
abbrev zV (a : Fin 2) (j : Fin 4) : View sig .tc .vmem (zR a j).shape .bf16 := zW.access (zR a j)
abbrev sV (j : Fin 4) : View sig .tc .vmem (sR j).shape .bf16 := sW.access (sR j)
abbrev gV (j : Fin 4) : View sig .tc .vmem (gR j).shape .f32 := gM.access (gR j)
abbrev oM (c : Dev nD) (j : Fin 4) : Memref sig .tc .hbm S32x512 .bf16 := outW.slice (oR c j) (fun _ => rfl)
abbrev oV (c : Dev nD) (j : Fin 4) : View sig .tc .hbm S32x512 .bf16 := (oM c j).view
abbrev zM (a : Fin 2) (j : Fin 4) : Memref sig .tc .vmem S32x512 .bf16 := (zW.slice (zR a j) (fun _ => rfl)).squeeze S32x512 squeezes_S1x1x32x512_S32x512
abbrev sM (j : Fin 4) : Memref sig .tc .vmem S32x512 .bf16 := (sW.slice (sR j) (fun _ => rfl)).squeeze S32x512 squeezes_S1x32x512_S32x512

theorem set_zM (a : Fin 2) (j : Fin 4) : (zM a j).view.set = (zV a j).set := Memref.set_view_squeeze _ _
theorem set_sM (j : Fin 4) : (sM j).view.set = (sV j).set := Memref.set_view_squeeze _ _

/-! ## Semaphores -/

abbrev barS : Sem sig := (SemArray.scalar (sig.barrier 0 rfl) : Sems sig S_).sem
/-- The send and the receive semaphore of transfer `(j, k)`: chunk `j`, to or from the device `peer · k`. -/
def sIx (j k : Fin 4) : ℕ := if k = 0 then 6 + j.val else 14 + (4 * j.val + k.val)
def rIx (j k : Fin 4) : ℕ := if k = 0 then 10 + j.val else 30 + (4 * j.val + k.val)
theorem sIx_lt (j k : Fin 4) : sIx j k < 46 := by revert j k; decide
theorem rIx_lt (j k : Fin 4) : rIx j k < 46 := by revert j k; decide
def sS (j k : Fin 4) : DmaSem sig := ⟨sIx j k, sIx_lt j k⟩
def rS (j k : Fin 4) : DmaSem sig := ⟨rIx j k, rIx_lt j k⟩
def gS (j : Fin 4) : DmaSem sig := ⟨1 + j.val, by have := j.isLt; show _ < 46; omega⟩
def oS : DmaSem sig := ⟨5, by decide⟩

abbrev barCell (c : Dev nD) : GSem nD τ sig := ((c : Thread nD τ), .reg barS)
abbrev sCell (c : Dev nD) (j k : Fin 4) : GSem nD τ sig := ((c : Thread nD τ), .dma (sS j k))
abbrev rCell (c : Dev nD) (j k : Fin 4) : GSem nD τ sig := ((c : Thread nD τ), .dma (rS j k))

/-- Which transfer the DMA semaphore of number `n` belongs to, and whether it is its send semaphore. -/
def decN (n : ℕ) : Option (Bool × Fin 4 × Fin 4) :=
  if 6 ≤ n ∧ n < 10 then some (true, Fin.ofNat 4 (n - 6), 0)
  else if 10 ≤ n ∧ n < 14 then some (false, Fin.ofNat 4 (n - 10), 0)
  else if 14 ≤ n ∧ n < 30 ∧ (n - 14) % 4 ≠ 0 then some (true, Fin.ofNat 4 ((n - 14) / 4), Fin.ofNat 4 (n - 14))
  else if 30 ≤ n ∧ (n - 30) % 4 ≠ 0 then some (false, Fin.ofNat 4 ((n - 30) / 4), Fin.ofNat 4 (n - 30))
  else none
def dec : SemLoc sig → Option (Bool × Fin 4 × Fin 4)
  | .reg _ => none
  | .dma q => decN q.val

theorem decN_s (j k : Fin 4) : decN (sIx j k) = some (true, j, k) := by revert j k; decide
theorem decN_r (j k : Fin 4) : decN (rIx j k) = some (false, j, k) := by revert j k; decide
theorem dec_s (j k : Fin 4) : dec (.dma (sS j k)) = some (true, j, k) := decN_s j k
theorem dec_r (j k : Fin 4) : dec (.dma (rS j k)) = some (false, j, k) := decN_r j k
theorem dec_bar : dec (.reg barS) = none := rfl
theorem s_inj {j k j' k' : Fin 4} (h : sS j k = sS j' k') : j = j' ∧ k = k' := by
  have := congrArg dec (congrArg SemLoc.dma h); rw [dec_s, dec_s] at this; simpa using this
theorem r_inj {j k j' k' : Fin 4} (h : rS j k = rS j' k') : j = j' ∧ k = k' := by
  have := congrArg dec (congrArg SemLoc.dma h); rw [dec_r, dec_r] at this; simpa using this

/-- One transfer's credit, and one row copy's. -/
abbrev NB : ℕ := (sM 0).view.dmaCredit
abbrev NR : ℕ := ((gM.slice (rowR 0) (fun _ => rfl)).view).dmaCredit
theorem NB_pos : 0 < NB := View.dmaCredit_pos _ (by decide)
theorem NR_pos : 0 < NR := View.dmaCredit_pos _ (by decide)

/-! ## Contents -/

/-- The token ids staged on device `c`, its table, and the id its row `i` looks up. -/
def ids (c : Dev nD) : (cc0_stg0_0 : Ref sig .tc).ty.Contents (Elt F) :=
  (win0_0.blk (0 : Fin 1)).view.read (Elt F) ((s₀ m ρ).mem ((c : Thread nD τ).loc main_arg0))
def tab (c : Dev nD) : (main_arg1 : Ref sig .tc).ty.Contents (Elt F) := (s₀ m ρ).mem ((c : Thread nD τ).loc main_arg1)
def base (c : Dev nD) : ℕ := 256 * (c.val / 4) + 128 * ((c.val / 2) % 2)
theorem base_le (c : Dev nD) : base c + 128 ≤ 512 := by revert c; decide +kernel
def ix1 (n : ℕ) (h : n < 512) : S512.Idx := fun a => ⟨n, by fin_cases a; exact h⟩
def wd (c : Dev nD) (i : ℕ) : BitVec 32 := if h : base c + i < 512 then (ids m ρ c) (ix1 (base c + i) h) else 0#32

/-- Device `c` holds the row of the table that its row `i` looks up. -/
def valid (c : Dev nD) (i : ℕ) : Prop := k0_cond1 c (wd m ρ c i) = 1#1
instance (c : Dev nD) (i : ℕ) : Decidable (valid m ρ c i) := by unfold valid; infer_instance

def tabIx (r : ℕ) (x : S128x512.Idx) : S4096x512.Idx :=
  fun a => match a with
    | ⟨0, _⟩ => ⟨r % 4096, Nat.mod_lt _ (by decide)⟩
    | ⟨1, _⟩ => x 1
/-- The gathered rows: the table's where this device holds them, zero elsewhere. -/
def Gt (c : Dev nD) : (cc0_scratch0 : Ref sig .tc).ty.Contents (Elt F) :=
  fun x => if valid m ρ c (x 0).val then tab m ρ c (tabIx (k0_off2 c (wd m ρ c (x 0).val) 0) x) else k0_pay1 (F := F) x

def GV (c : Dev nD) (j : Fin 4) : Vec F S32x512 .f32 := (gV j).read (Elt F) (Gt m ρ c)
def ZV (c : Dev nD) (j : Fin 4) : Vec F S1x1x32x512 .bf16 := k0_pay2 (GV m ρ c j)
def SV (c : Dev nD) (j : Fin 4) : Vec F S1x32x512 .bf16 := k0_pay7 (GV m ρ c j) (ZV m ρ (peer c 0) j)
/-- The rows of the result that device `c` broadcasts for chunk `j`. -/
def OV (c : Dev nD) (j : Fin 4) : Vec F S32x512 .bf16 :=
  fun x => SV m ρ c j (Shape.reshapeEquiv (Shape.Squeezes.numel_eq squeezes_S1x32x512_S32x512) x)

/-! ## Pieces held -/

/-- A view's elements on device `d`, whatever they hold. -/
def anyOn {sp : Space} {s : Shape} {e : EltTy} (v : View sig .tc sp s e) (q : PosShare TreeShare) (d : Dev nD) : sProp 𝕄 :=
  iprop(∃ f, (v.loc (d : Thread nD τ) ↦[v.set]{q} f))
/-- A view's elements on device `d`, reading `X`. -/
def holds {sp : Space} {s : Shape} {e : EltTy} (v : View sig .tc sp s e) (q : PosShare TreeShare) (d : Dev nD) (X : s.Idx → Elt F e) : sProp 𝕄 :=
  iprop(∃ f, ⌜v.read (Elt F) f = X⌝ ∗ (v.loc (d : Thread nD τ) ↦[v.set]{q} f))

omit [FloatOps F] in
instance anyOn_storable {sp s e} (v : View sig .tc sp s e) (q) (d : Dev nD) : BI.Storable (upEmb : UEmb _ 𝕄) (anyOn (F := F) v q d) := by
  unfold anyOn; infer_instance
omit [FloatOps F] in
instance holds_storable {sp s e} (v : View sig .tc sp s e) (q) (d : Dev nD) (X : s.Idx → Elt F e) : BI.Storable (upEmb : UEmb _ 𝕄) (holds v q d X) := by
  unfold holds; infer_instance
omit [FloatOps F] in
theorem holds_any {sp s e} (v : View sig .tc sp s e) (q) (d : Dev nD) (X : s.Idx → Elt F e) : holds v q d X ⊢ (anyOn v q d : sProp 𝕄) := by
  unfold holds anyOn; iintro ⟨%f, -, H⟩; iexists f; iexact H

/-- Where transfer `(j, k)` of device `c` lands on device `d = peer c k`: its slot of the exchange buffer, its rows of the result. -/
def land (c d : Dev nD) (j k : Fin 4) : sProp 𝕄 :=
  if k = 0 then anyOn (zV 1 j) fullShare d else anyOn (oV c j) fullShare d
/-- The same, holding what was sent. -/
def landed (c d : Dev nD) (j k : Fin 4) : sProp 𝕄 :=
  if k = 0 then holds (zV 1 j) fullShare d (ZV m ρ c j) else holds (oV c j) fullShare d (OV m ρ c j)
/-- What comes back from the send semaphore of transfer `(j, k)`: the source. -/
def back (c : Dev nD) (j k : Fin 4) : sProp 𝕄 :=
  if k = 0 then anyOn (zV 0 j) fullShare c else anyOn (sV j) (Transfers.shareTokN fullShare (k.val - 1)) c

instance land_storable (c d : Dev nD) (j k) : BI.Storable (upEmb : UEmb _ 𝕄) (land (F := F) c d j k) := by unfold land; split <;> infer_instance
instance landed_storable (c d : Dev nD) (j k) : BI.Storable (upEmb : UEmb _ 𝕄) (landed (F := F) m ρ c d j k) := by unfold landed; split <;> infer_instance
instance back_storable (c : Dev nD) (j k) : BI.Storable (upEmb : UEmb _ 𝕄) (back (F := F) c j k) := by unfold back; split <;> infer_instance

/-! ## The schedule -/

/-- What the barrier signal of device `peer c k` hands device `c`: the places its four transfers to that device land. -/
def barPay (c : Dev nD) (k : Fin 4) : sProp 𝕄 := bigSep (Finset.univ : Finset (Fin 4)) (fun j => land c (peer c k) j k)
instance barPay_storable (c : Dev nD) (k) : BI.Storable (upEmb : UEmb _ 𝕄) (barPay (F := F) c k) := by unfold barPay; infer_instance

/-- What a transfer's semaphore hands over. -/
def xPay (c : Dev nD) : Bool × Fin 4 × Fin 4 → sProp 𝕄
  | (true, j, k) => back c j k
  | (false, j, k) => landed m ρ (peer c k) c j k
instance xPay_storable (c : Dev nD) (p) : BI.Storable (upEmb : UEmb _ 𝕄) (xPay (F := F) m ρ c p) := by
  obtain ⟨b, j, k⟩ := p; cases b <;> (unfold xPay; infer_instance)

/-- One round: a barrier cell has four duties of one unit, a transfer's cell one duty of the transfer's credit. -/
def Rd : Rounds.Schedule (GSem nD τ sig) (Fin 4) 𝕄 where
  duties g r := if r = 0 ∧ g.1.2 = .tc then (if g.2 = .reg barS then Finset.univ else if (dec g.2).isSome then {0} else ∅) else ∅
  unitless _ := False
  amount g _ _ := if g.2 = .reg barS then 1 else NB
  payload g _ d := if g.2 = .reg barS then barPay g.1.1 d else (dec g.2).elim iprop(emp) (xPay m ρ g.1.1)
  amount_pos g _ _ _ := by
    by_cases h : g.2 = .reg barS
    · rw [if_pos h]; exact Nat.one_pos
    · rw [if_neg h]; exact NB_pos

instance Rd_storable (g : GSem nD τ sig) (r : ℕ) (d : Fin 4) : BI.Storable (upEmb : UEmb _ 𝕄) ((Rd (F := F) m ρ).payload g r d) := by
  show BI.Storable upEmb (if g.2 = .reg barS then barPay g.1.1 d else (dec g.2).elim iprop(emp) (xPay m ρ g.1.1))
  split
  · infer_instance
  · cases dec g.2 with
    | none => exact inferInstanceAs (BI.Storable upEmb (iprop(emp) : sProp 𝕄))
    | some p => exact xPay_storable m ρ g.1.1 p

theorem dma_ne_bar (q : DmaSem sig) : (SemLoc.dma q : SemLoc sig) ≠ .reg barS := fun h => by cases h

section
variable (c : Dev nD) (j k : Fin 4)

theorem duties_bar : (Rd (F := F) m ρ).duties (barCell c) 0 = Finset.univ := by
  dsimp only [Rd]; rw [if_pos ⟨rfl, rfl⟩]; exact if_pos rfl
theorem duties_x (q : DmaSem sig) (h : (dec (.dma q)).isSome) : (Rd (F := F) m ρ).duties ((c : Thread nD τ), .dma q) 0 = {0} := by
  dsimp only [Rd]; rw [if_pos ⟨rfl, rfl⟩, if_neg (dma_ne_bar q), if_pos h]
theorem duties_later (g : GSem nD τ sig) : ∀ r, 1 ≤ r → (Rd (F := F) m ρ).duties g r = ∅ :=
  fun r hr => by dsimp only [Rd]; rw [if_neg fun h => by omega]
theorem amount_bar (d : Fin 4) : (Rd (F := F) m ρ).amount (barCell c) 0 d = 1 := by dsimp only [Rd]; exact if_pos rfl
theorem amount_x (q : DmaSem sig) (d : Fin 4) : (Rd (F := F) m ρ).amount ((c : Thread nD τ), .dma q) 0 d = NB := by dsimp only [Rd]; exact if_neg (dma_ne_bar q)
theorem expect_bar : (Rd (F := F) m ρ).expect (barCell c) 0 = 4 := by
  unfold Schedule.expect Schedule.amountOf
  rw [duties_bar, Finset.sum_congr rfl fun d _ => amount_bar m ρ c d, Finset.sum_const, Finset.card_univ, Fintype.card_fin, smul_eq_mul]
theorem expect_x (q : DmaSem sig) (h : (dec (.dma q)).isSome) : (Rd (F := F) m ρ).expect ((c : Thread nD τ), .dma q) 0 = NB := by
  unfold Schedule.expect Schedule.amountOf; rw [duties_x m ρ c q h, Finset.sum_singleton, amount_x]
theorem payload_bar (d : Fin 4) : (Rd (F := F) m ρ).payload (barCell c) 0 d = barPay c d := by dsimp only [Rd]; exact if_pos rfl
theorem payload_s (d : Fin 4) : (Rd (F := F) m ρ).payload (sCell c j k) 0 d = back c j k := by
  dsimp only [Rd]; rw [if_neg (dma_ne_bar _), dec_s]; rfl
theorem payload_r (d : Fin 4) : (Rd (F := F) m ρ).payload (rCell c j k) 0 d = landed m ρ (peer c k) c j k := by
  dsimp only [Rd]; rw [if_neg (dma_ne_bar _), dec_r]; rfl
theorem rest_bar : bigSep ((Rd (F := F) m ρ).duties (barCell c) 0 \ ∅) (fun d => (Rd (F := F) m ρ).payload (barCell c) 0 d)
    = bigSep Finset.univ (fun d => barPay (F := F) c d) := by
  rw [Finset.sdiff_empty, duties_bar]; exact bigSep_congr fun d _ => payload_bar m ρ c d
theorem rest_s : bigSep ((Rd (F := F) m ρ).duties (sCell c j k) 0 \ ∅) (fun d => (Rd (F := F) m ρ).payload (sCell c j k) 0 d) = back c j k := by
  rw [Finset.sdiff_empty, duties_x m ρ c _ (by rw [dec_s]; rfl), bigSep_singleton, payload_s]
theorem rest_r : bigSep ((Rd (F := F) m ρ).duties (rCell c j k) 0 \ ∅) (fun d => (Rd (F := F) m ρ).payload (rCell c j k) 0 d) = landed m ρ (peer c k) c j k := by
  rw [Finset.sdiff_empty, duties_x m ρ c _ (by rw [dec_r]; rfl), bigSep_singleton, payload_r]
end

/-! ## Events: the signals and remote copies a device makes, in the program's order -/

/-- The chunk and the peer of event `i`: four signals, four exchange copies, twelve broadcast copies. -/
def evJ (i : ℕ) : Fin 4 := if i < 8 then Fin.ofNat 4 i else Fin.ofNat 4 ((i - 8) / 3)
def evK (i : ℕ) : Fin 4 := if i < 4 then Fin.ofNat 4 i else if i < 8 then 0 else ⟨(i - 8) % 3 + 1, by omega⟩

/-- What device `c` owes for event `i`. -/
def owe (c : Dev nD) (i : ℕ) : CellTallies nD τ sig Unit :=
  if i < 4 then tallyAt (barCell (peer c (evK i))) () 1 else tallyAt (rCell (peer c (evK i)) (evJ i) (evK i)) () NB
def O (c : Dev nD) (n : ℕ) : CellTallies nD τ sig Unit := ∑ i ∈ Finset.Ico n 20, owe c i
theorem O_peel (c : Dev nD) {n : ℕ} (h : n < 20) : O c n = O c (n + 1) + owe c n := by
  unfold O; rw [Ring.sum_Ico_succ h, add_comm]
theorem O_end (c : Dev nD) : O c 20 = 0 := by unfold O; simp

/-- The tokens event `i` pays with. -/
def tok (c : Dev nD) (i : ℕ) : sProp 𝕄 :=
  if i < 4 then dutyTok ER (barCell (peer c (evK i))) 0 (evK i)
  else iprop(dutyTok ER (sCell c (evJ i) (evK i)) 0 (0 : Fin 4) ∗ dutyTok ER (rCell (peer c (evK i)) (evJ i) (evK i)) 0 (0 : Fin 4))

/-! ## Levels -/

def L (g : GSem nD τ sig) : Finset Unit := if g.1.2 = .tc then {()} else ∅
def lv (g : GSem nD τ sig) (_ : Unit) : ℕ :=
  if g.2 = .reg barS then 1 else match dec g.2 with
    | some (false, _, k) => if k = 0 then 2 else 3
    | _ => 0
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_r (c : Dev nD) (j k : Fin 4) : lv (rCell c j k) () = if k = 0 then 2 else 3 := by
  unfold lv; rw [if_neg (dma_ne_bar _)]; show (match dec (SemLoc.dma (rS j k)) with | some (false, _, k) => if k = 0 then 2 else 3 | _ => 0) = _; rw [dec_r]
theorem lv_s (c : Dev nD) (j k : Fin 4) : lv (sCell c j k) () = 0 := by
  unfold lv; rw [if_neg (dma_ne_bar _)]; show (match dec (SemLoc.dma (sS j k)) with | some (false, _, k) => if k = 0 then 2 else 3 | _ => 0) = _; rw [dec_s]

/-- The level of event `i`'s cell. -/
def evL (i : ℕ) : ℕ := if i < 4 then 1 else if i < 8 then 2 else 3

theorem owe_pos {c : Dev nD} {i : ℕ} {g : GSem nD τ sig} {u : Unit} (h : 0 < owe c i g u) : g.1.2 = .tc ∧ lv g u = evL i := by
  unfold owe at h
  split at h
  · rename_i hi
    rw [tallyAt_apply] at h
    by_cases hg : g = barCell (peer c (evK i)) ∧ u = ()
    · rw [hg.1]; exact ⟨rfl, by rw [show evL i = 1 from if_pos hi]; exact lv_bar _⟩
    · rw [if_neg hg] at h; exact absurd h (Nat.lt_irrefl 0)
  · rename_i hi
    rw [tallyAt_apply] at h
    by_cases hg : g = rCell (peer c (evK i)) (evJ i) (evK i) ∧ u = ()
    · rw [hg.1]; refine ⟨rfl, (lv_r _ _ _).trans ?_⟩
      unfold evL evK
      rw [if_neg hi, if_neg hi]
      by_cases h8 : i < 8
      · rw [if_pos h8, if_pos h8]; rfl
      · rw [if_neg h8, if_neg h8, if_neg (fun h0 => by have := congrArg Fin.val h0; simp at this)]
    · rw [if_neg hg] at h; exact absurd h (Nat.lt_irrefl 0)

theorem O_pos {c : Dev nD} {n : ℕ} {g : GSem nD τ sig} {u : Unit} (h : 0 < O c n g u) : g.1.2 = .tc ∧ ∃ i, n ≤ i ∧ lv g u = evL i := by
  unfold O at h
  rw [Finset.sum_apply, Finsupp.finset_sum_apply] at h
  obtain ⟨i, hi, hp⟩ := Finset.exists_ne_zero_of_sum_ne_zero (Nat.pos_iff_ne_zero.mp h)
  have := owe_pos (Nat.pos_iff_ne_zero.mpr hp)
  exact ⟨this.1, i, (Finset.mem_Ico.mp hi).1, this.2⟩

theorem evL_mono {a b : ℕ} (h : a ≤ b) : evL a ≤ evL b := by unfold evL; split_ifs <;> omega

/-- A wait is allowed at a semaphore whose level is below those of the events still to come. -/
theorem mayWait (c : Dev nD) (sm : SemLoc sig) (n : ℕ) (h : n = 20 ∨ lv ((c : Thread nD τ), sm) () < evL n) :
    (levAts L lv : sProp 𝕄) ⊢ MayWait (c : Thread nD τ) sm () (O c n) := by
  rcases h with rfl | h
  · rw [O_end, MayWait_zero]; iintro -; iempintro
  · exact MayOwe.of_cut (L := L) (lev := lv) (lv ((c : Thread nD τ), sm) ())
      (fun p hp => by rw [Finset.mem_singleton.mp hp, L_tc]; exact Finset.mem_singleton_self _)
      (fun g u hg => by unfold L; rw [if_pos (O_pos hg).1]; exact Finset.mem_singleton_self _)
      (fun p hp => by rw [Finset.mem_singleton.mp hp])
      (fun g u hg => by obtain ⟨_, i, hi, he⟩ := O_pos hg; rw [he]; exact lt_of_lt_of_le h (evL_mono hi))

end Cert.KernelIdeal.Hand
-- ==== Proof.Rows.lean ====
module
public import proofs.«01_k».proof.Proof.Mesh
public import Idealize.SL.BI.BigOpNat

/-! The gathering of a device's rows: which elements each copy writes, and the rules for one row's
    instructions, its copy and its wait. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## The row a word names -/

/-- The kernel's test of a word's distance `raw` from its table's first row. -/
theorem raw_iff (raw : BitVec 32) :
    Scalar.cmpi .ne (Scalar.extui (Scalar.andi (Scalar.cmpi .sge raw 0#32) (Scalar.cmpi .slt raw 4096#32)) : BitVec 32) 0#32 = 1#1 ↔ raw.toNat < 4096 := by
  have h1 : (0#32).sle raw = decide (raw.toNat < 2 ^ 31) := by
    rw [BitVec.sle_eq_decide, show (0#32).toInt = 0 from by decide, BitVec.toInt_eq_toNat_cond]
    have := raw.isLt
    apply decide_eq_decide.mpr
    split <;> omega
  have h2 : raw.toNat < 2 ^ 31 → raw.slt 4096#32 = decide (raw.toNat < 4096) := by
    intro h
    rw [BitVec.slt_eq_decide, BitVec.toInt_eq_toNat_cond, if_pos (by omega)]
    rw [show (4096#32).toInt = 4096 from by decide]
    exact decide_eq_decide.mpr (by omega)
  show BitVec.ofBool ((BitVec.ofBool ((0#32).sle raw) &&& BitVec.ofBool (raw.slt 4096#32)).setWidth 32 != 0#32) = 1#1 ↔ _
  rw [h1]
  by_cases h : raw.toNat < 2 ^ 31
  · rw [h2 h, decide_eq_true h]
    by_cases h' : raw.toNat < 4096
    · rw [decide_eq_true h']; exact iff_of_true (by decide) h'
    · rw [decide_eq_false h']; exact iff_of_false (by decide) h'
  · rw [decide_eq_false h]
    refine iff_of_false ?_ (by omega)
    cases raw.slt 4096#32 <;> decide

theorem cond_iff (c : Dev nD) (w : BitVec 32) : k0_cond1 c w = 1#1 ↔ k0_off2 c w 0 < 4096 := raw_iff _
theorem chk (c : Dev nD) (w : BitVec 32) : k0_chk1 c w := fun h a => by
  have := (cond_iff c w).mp h
  fin_cases a
  · show k0_off2 c w 0 + 1 ≤ 4096; omega
  · show 0 + 512 ≤ 512; omega

/-! ## Elements of the gathered rows -/

/-- How many of the first `i` rows are copied into chunk `j`. -/
def cnt (c : Dev nD) (j i : ℕ) : ℕ := ((Finset.range i).filter (fun r => 32 * j ≤ r ∧ r < 32 * j + 32 ∧ valid m ρ c r)).card
/-- The elements the `t`-th copy into chunk `j` writes. -/
def Kt (c : Dev nD) (j t : ℕ) : Finset S128x512.Idx :=
  Finset.univ.filter (fun x => 32 * j ≤ (x 0).val ∧ (x 0).val < 32 * j + 32 ∧ valid m ρ c (x 0).val ∧ cnt m ρ c j (x 0).val = t)
/-- The elements not given to a copy when `i` rows are done, in the chunks from `d` on. -/
def own (c : Dev nD) (i d : ℕ) : Finset S128x512.Idx :=
  Finset.univ.filter (fun x => (i ≤ (x 0).val ∨ ¬ valid m ρ c (x 0).val) ∧ 32 * d ≤ (x 0).val)
def chunk (j : ℕ) : Finset S128x512.Idx := Finset.univ.filter (fun x => 32 * j ≤ (x 0).val ∧ (x 0).val < 32 * j + 32)
def row (i : ℕ) : Finset S128x512.Idx := Finset.univ.filter (fun x => (x 0).val = i)
theorem mem_rowS {i : ℕ} {x : S128x512.Idx} : x ∈ row i ↔ (x 0).val = i := by simp [row]

theorem cnt_succ_of (c : Dev nD) {j i : ℕ} (h : 32 * j ≤ i ∧ i < 32 * j + 32 ∧ valid m ρ c i) : cnt m ρ c j (i + 1) = cnt m ρ c j i + 1 := by
  unfold cnt; rw [Finset.range_add_one, Finset.filter_insert, if_pos h, Finset.card_insert_of_notMem (by simp)]
theorem cnt_succ_of_not (c : Dev nD) {j i : ℕ} (h : ¬ (32 * j ≤ i ∧ i < 32 * j + 32 ∧ valid m ρ c i)) : cnt m ρ c j (i + 1) = cnt m ρ c j i := by
  unfold cnt; rw [Finset.range_add_one, Finset.filter_insert, if_neg h]
theorem cnt_mono (c : Dev nD) (j : ℕ) {a b : ℕ} (h : a ≤ b) : cnt m ρ c j a ≤ cnt m ρ c j b :=
  Finset.card_le_card (Finset.filter_subset_filter _ (Finset.range_mono h))
theorem cnt_lt (c : Dev nD) {j i b : ℕ} (h : 32 * j ≤ i ∧ i < 32 * j + 32 ∧ valid m ρ c i) (hb : i < b) : cnt m ρ c j i < cnt m ρ c j b := by
  have := cnt_mono m ρ c j (Nat.succ_le_of_lt hb)
  rw [Nat.succ_eq_add_one, cnt_succ_of m ρ c h] at this; omega

/-- The copy of row `i` writes row `i`. -/
theorem Kt_cnt (c : Dev nD) {j i : ℕ} (h : 32 * j ≤ i ∧ i < 32 * j + 32 ∧ valid m ρ c i) : Kt m ρ c j (cnt m ρ c j i) = row i := by
  ext x
  simp only [Kt, row, Finset.mem_filter, Finset.mem_univ, true_and]
  constructor
  · rintro ⟨h1, h2, h3, h4⟩
    rcases Nat.lt_trichotomy (x 0).val i with hl | he | hg
    · have := cnt_lt m ρ c ⟨h1, h2, h3⟩ hl; omega
    · exact he
    · have := cnt_lt m ρ c h hg; omega
  · intro he; rw [he]; exact ⟨h.1, h.2.1, h.2.2, rfl⟩

theorem own_split (c : Dev nD) {i : ℕ} (h : valid m ρ c i) : own m ρ c i 0 = row i ∪ own m ρ c (i + 1) 0 := by
  ext x
  simp only [own, row, Finset.mem_filter, Finset.mem_univ, true_and, Finset.mem_union]
  constructor
  · rintro ⟨h1 | h1, h2⟩
    · rcases Nat.eq_or_lt_of_le h1 with he | hl
      · exact .inl he.symm
      · exact .inr ⟨.inl hl, h2⟩
    · exact .inr ⟨.inr h1, h2⟩
  · rintro (he | ⟨h1 | h1, h2⟩)
    · exact ⟨.inl (by omega), by omega⟩
    · exact ⟨.inl (by omega), h2⟩
    · exact ⟨.inr h1, h2⟩
theorem own_disj (c : Dev nD) {i : ℕ} (h : valid m ρ c i) : Disjoint (row i) (own m ρ c (i + 1) 0) := by
  rw [Finset.disjoint_left]; intro x
  simp only [own, row, Finset.mem_filter, Finset.mem_univ, true_and]
  rintro he ⟨h1 | h1, -⟩
  · omega
  · rw [he] at h1; exact h1 h
theorem own_same (c : Dev nD) {i : ℕ} (h : ¬ valid m ρ c i) : own m ρ c i 0 = own m ρ c (i + 1) 0 := by
  ext x
  simp only [own, Finset.mem_filter, Finset.mem_univ, true_and]
  refine and_congr_left fun _ => ⟨?_, ?_⟩
  · rintro (h1 | h1)
    · rcases Nat.eq_or_lt_of_le h1 with he | hl
      · exact .inr (he ▸ h)
      · exact .inl hl
    · exact .inr h1
  · rintro (h1 | h1)
    · exact .inl (by omega)
    · exact .inr h1

/-! ## The state of the gathering -/

abbrev gLoc (c : Dev nD) : Loc nD τ sig := gM.view.loc (c : Thread nD τ)
def idsP (c : Dev nD) : sProp 𝕄 := (idsM.view.loc (c : Thread nD τ) ↦[Finset.univ]{fullShare} ids m ρ c)
def tabP (c : Dev nD) (k : ℕ) : sProp 𝕄 := (tabM.view.loc (c : Thread nD τ) ↦[Finset.univ]{Transfers.shareDrop fullShare k} tab m ρ c)
def gP (c : Dev nD) (S : Finset S128x512.Idx) (f : (cc0_scratch0 : Ref sig .tc).ty.Contents (Elt F)) : sProp 𝕄 := (gLoc c ↦[S]{fullShare} f)
abbrev gSn (j : ℕ) : DmaSem sig := gS (Fin.ofNat 4 j)
def Dl (c : Dev nD) (j : ℕ) (t : Fin (cnt m ρ c j 128)) : sProp 𝕄 := gP c (Kt m ρ c j t.val) (Gt m ρ c)
instance Dl_storable (c : Dev nD) (j : ℕ) (t) : BI.Storable (upEmb : UEmb _ 𝕄) (Dl (F := F) m ρ c j t) := by unfold Dl gP; infer_instance
/-- Chunk `j`'s copies when `i` rows are issued and `q` rows waited for. -/
def Bt (c : Dev nD) (i q j : ℕ) : sProp 𝕄 :=
  Transfers.Batch EC (c : Thread nD τ) (.dma (gSn j)) () NR (Dl m ρ c j) (cnt m ρ c j i) (NR * cnt m ρ c j q)
def Gd (c : Dev nD) (j : ℕ) : sProp 𝕄 := iprop(gP c (chunk j) (Gt m ρ c) ∗ semVal ((c : Thread nD τ), .dma (gSn j)) 0)

/-- `i` rows issued, `q` rows waited for, `d` chunks collected. -/
def GS (c : Dev nD) (i q d : ℕ) : sProp 𝕄 :=
  iprop(idsP m ρ c ∗ tabP m ρ c i ∗ gP c (own m ρ c i d) (k0_pay1 (F := F))
    ∗ bigSep (Finset.Ico d 4) (fun j => Bt m ρ c i q j) ∗ bigSep (Finset.Ico 0 d) (fun j => Gd m ρ c j))

/-! ## Structural rules -/

theorem bs_erase {ι : Type} [DecidableEq ι] {s : Finset ι} {i : ι} (h : i ∈ s) (Φ : ι → sProp 𝕄) : bigSep s Φ = iprop(Φ i ∗ bigSep (s.erase i) Φ) := bigSep_erase h
theorem bs_bot {a b : ℕ} (h : a < b) (Φ : ℕ → sProp 𝕄) : bigSep (Finset.Ico a b) Φ = iprop(Φ a ∗ bigSep (Finset.Ico (a + 1) b) Φ) := bigSep_Ico_succ_bot h Φ
theorem bs_top {a b : ℕ} (h : a ≤ b) (Φ : ℕ → sProp 𝕄) : bigSep (Finset.Ico a (b + 1)) Φ = iprop(Φ b ∗ bigSep (Finset.Ico a b) Φ) := bigSep_Ico_succ_top h Φ

theorem r_bind {c : Dev nD} {α β : Type} {P : sProp 𝕄} {p : Prog (TpuEff nD τ sig (Elt F) Λ₀ .tc) α} {k : α → Prog (TpuEff nD τ sig (Elt F) Λ₀ .tc) β} {Q : β → sProp 𝕄}
    (h : P ⊢ WP c p (fun a => WP c (k a) Q)) : P ⊢ WP c (p >>= k) Q := by
  show P ⊢ wp _ _ _ _ _; rw [wp_bind]; exact h
theorem r_pure {c : Dev nD} {α : Type} {P : sProp 𝕄} {a : α} {Q : α → sProp 𝕄} (h : P ⊢ Q a) : P ⊢ WP c (pure a) Q := by
  show P ⊢ wp _ _ _ (.ret a) _; rw [wp_ret]; exact h.trans (by iintro H; imodintro; iexact H)
theorem r_dev {c : Dev nD} {P : sProp 𝕄} {Q : Dev nD → sProp 𝕄} (h : P ⊢ Q c) : P ⊢ WP c (Prog.lift .deviceId) Q := by
  show P ⊢ wp _ _ _ (.op _ .ret) _; rw [wp_deviceId, wp_ret]; exact h.trans (by iintro H; imodintro; iexact H)
theorem r_assume {c : Dev nD} {P : sProp 𝕄} {p : Prop} {dp : Decidable p} {Q : PLift p → sProp 𝕄} (hp : p) (h : P ⊢ Q ⟨hp⟩) :
    P ⊢ WP c (Prog.lift (TpuEff.assume p dp)) Q := by
  refine BIBase.Entails.trans ?_ (wp_assume 𝒱₀ (c : Thread nD τ) none Set.univ hp)
  rw [wp_ret]; exact h.trans (by iintro H; imodintro; iexact H)

/-- The gathering while rows are issued, and while they are waited for and collected. -/
def GI (c : Dev nD) (i : ℕ) : sProp 𝕄 := GS m ρ c i 0 0
def GW (c : Dev nD) (q d : ℕ) : sProp 𝕄 := GS m ρ c 128 q d

/-- The load of the id that row `r` looks up. -/
theorem word_read (c : Dev nD) {r : ℕ} (hr : r < 128) {off : Fin 1 → ℕ} (inb) (hoff : off = ![base c + r]) (x) :
    (idsM.access (Rect.unit (s := S512) off S1.size inb)).read (Elt F) (ids m ρ c) x = wd m ρ c r := by
  subst hoff
  have hb := base_le c
  unfold wd
  rw [dif_pos (by omega), View.read_apply, cast_eq]
  refine congrArg (ids m ρ c) (funext fun a => Fin.ext ?_)
  fin_cases a
  have hx := (x (0 : Fin 1)).isLt
  show base c + r + 1 * (x (0 : Fin 1)).val = base c + r
  have : (x (0 : Fin 1)).val < 1 := hx
  omega

theorem r_word {c : Dev nD} {i q d r : ℕ} {R : sProp 𝕄} {Q : Elt F .i32 → sProp 𝕄} {off : Fin 1 → ℕ} {inb h1 hp} (hr : r < 128)
    (hoff : off = ![base c + r]) (h : GS m ρ c i q d ∗ R ⊢ Q (wd m ρ c r)) :
    GS m ρ c i q d ∗ R ⊢ WP c (smemLoad idsM (Rect.unit (s := S512) off S1.size inb) h1 hp) Q := by
  have hw := word_read m ρ c hr inb hoff (Shape.Idx.first (h1.symm ▸ Nat.one_pos))
  unfold smemLoad
  iintro ⟨HG, HR⟩
  unfold GS
  icases HG with ⟨Hi, HG⟩
  unfold idsP
  iapply (wp_smemLoadElt 𝒱₀ (c : Thread nD τ) none Set.univ (m := idsM) (r := Rect.unit (s := S512) off S1.size inb) (q := fullShare) (f := ids m ρ c)
    (S := Finset.univ) (Finset.subset_univ _)) $$ Hi
  iintro Hi
  rw [wp_ret, hw]; imodintro
  iapply h
  isplitr [HR]
  · unfold GS idsP
    isplitl [Hi]; · iexact Hi
    iexact HG
  · iexact HR

theorem r_word_i {c : Dev nD} {i : ℕ} {R : sProp 𝕄} {Q : Elt F .i32 → sProp 𝕄} {off : Fin 1 → ℕ} {inb h1 hp} (hc : ClosedOff off) (hr : i < 128)
    (hoff : hc.form = ![base c + i]) (h : GI m ρ c i ∗ R ⊢ Q (wd m ρ c i)) :
    GI m ρ c i ∗ R ⊢ WP c (smemLoad idsM (Rect.unit (s := S512) off S1.size inb) h1 hp) Q :=
  r_word m ρ hr (hc.eq.trans hoff) h
theorem r_word_q {c : Dev nD} {q d : ℕ} {R : sProp 𝕄} {Q : Elt F .i32 → sProp 𝕄} {off : Fin 1 → ℕ} {inb h1 hp} (hc : ClosedOff off) (hr : q < 128)
    (hoff : hc.form = ![base c + q]) (h : GW m ρ c q d ∗ R ⊢ Q (wd m ρ c q)) :
    GW m ρ c q d ∗ R ⊢ WP c (smemLoad idsM (Rect.unit (s := S512) off S1.size inb) h1 hp) Q :=
  r_word m ρ hr (hc.eq.trans hoff) h

theorem mem_row (i : ℕ) (inb) (x : S128x512.Idx) :
    x ∈ (gM.slice (Rect.unit (s := S128x512) ![i, 0] S1x512.size inb) (fun _ => rfl)).view.set ↔ (x 0).val = i := by
  rw [show (gM.slice (Rect.unit (s := S128x512) ![i, 0] S1x512.size inb) (fun _ => rfl)).view.set = (Rect.unit (s := S128x512) ![i, 0] S1x512.size inb).set
    from View.set_slice_whole cc0_scratch0 _]
  refine Rect.mem_set_unit.trans ⟨fun h => ?_, fun h a => ?_⟩
  · have h0 := h 0
    have h1 : i ≤ (x 0).val ∧ (x 0).val < i + 1 := h0
    omega
  · fin_cases a
    · show i ≤ (x 0).val ∧ (x 0).val < i + 1; omega
    · show 0 ≤ (x 1).val ∧ (x 1).val < 0 + 512
      have h1 : (x 1).val < 512 := (x 1).isLt
      exact ⟨Nat.zero_le _, by omega⟩

theorem row_sub (i : ℕ) (inb) : (gM.slice (Rect.unit (s := S128x512) ![i, 0] S1x512.size inb) (fun _ => rfl)).view.set ⊆ row i := by
  intro x hx
  have hx' : ((x : S128x512.Idx) 0).val = i := (mem_row i inb x).mp hx
  exact mem_rowS.mpr hx'

/-- What a row's copy writes is the gathered row. -/
theorem row_write (c : Dev nD) {i : ℕ} (hv : valid m ρ c i) (inb inb') (f : (cc0_scratch0 : Ref sig .tc).ty.Contents (Elt F)) (x : S128x512.Idx) (hx : (x 0).val = i) :
    (gM.slice (Rect.unit (s := S128x512) ![i, 0] S1x512.size inb) (fun _ => rfl)).view.write (Elt F) f
      ((tabM.slice (Rect.unit (s := S4096x512) (k0_off2 c (wd m ρ c i)) S1x512.size inb') (fun _ => rfl)).view.read (Elt F) (tab m ρ c)) Finset.univ x
    = Gt m ρ c x := by
  obtain ⟨y, -, rfl⟩ := Finset.mem_map.mp ((mem_row i inb x).mpr hx)
  rw [View.write_emb_of_mem _ _ (Finset.mem_univ y), View.read_apply]
  unfold Gt
  rw [hx, if_pos hv]
  refine congrArg (tab m ρ c) (funext fun a => Fin.ext ?_)
  have hlt := (cond_iff c _).mp hv
  fin_cases a
  · have hy : (y (0 : Fin 2)).val < 1 := (y (0 : Fin 2)).isLt
    show k0_off2 c (wd m ρ c i) 0 + 1 * (y (0 : Fin 2)).val = k0_off2 c (wd m ρ c i) 0 % 4096
    rw [Nat.mod_eq_of_lt hlt]; omega
  · show 0 + 1 * (y (1 : Fin 2)).val = 0 + 1 * (y (1 : Fin 2)).val
    rfl

/-- The memrefs of row `i`'s copy. -/
abbrev dRow (i : ℕ) (inb : ∀ a, (![i, 0] : Fin 2 → ℕ) a + S1x512.size a ≤ S128x512.size a) : Memref sig .tc .vmem S1x512 .f32 :=
  gM.slice (Rect.unit (s := S128x512) ![i, 0] S1x512.size inb) (fun _ => rfl)
abbrev sRow (off : Fin 2 → ℕ) (inb : ∀ a, off a + S1x512.size a ≤ S4096x512.size a) : Memref sig .tc .hbm S1x512 .f32 :=
  tabM.slice (Rect.unit (s := S4096x512) off S1x512.size inb) (fun _ => rfl)

theorem row_done (c : Dev nD) {i j : ℕ} (hj : 32 * j ≤ i ∧ i < 32 * j + 32 ∧ valid m ρ c i) (inb inb') (f : (cc0_scratch0 : Ref sig .tc).ty.Contents (Elt F)) (q : PosShare TreeShare) (hlt) :
    iprop(((dRow i inb).view.loc (c : Thread nD τ) ↦[row i]{fullShare} (dRow i inb).view.write (Elt F) f
        ((ReadAs.same : ReadAs (Elt F) S1x512 .f32 S1x512 .f32).apply ((sRow (k0_off2 c (wd m ρ c i)) inb').view.read (Elt F) (tab m ρ c))) Finset.univ)
      ∗ ((sRow (k0_off2 c (wd m ρ c i)) inb').view.loc (c : Thread nD τ) ↦[(sRow (k0_off2 c (wd m ρ c i)) inb').view.set]{q} tab m ρ c))
    ⊢ Dl m ρ c j ⟨cnt m ρ c j i, hlt⟩ := by
  have e : ((dRow i inb).view.loc (c : Thread nD τ) ↦[row i]{fullShare} (dRow i inb).view.write (Elt F) f
        ((ReadAs.same : ReadAs (Elt F) S1x512 .f32 S1x512 .f32).apply ((sRow (k0_off2 c (wd m ρ c i)) inb').view.read (Elt F) (tab m ρ c))) Finset.univ : sProp 𝕄)
      = (gLoc c ↦[row i]{fullShare} Gt m ρ c) := by
    refine pointsTo_congr ?_
    intro x hx
    have hx' : ((x : S128x512.Idx) 0).val = i := mem_rowS.mp hx
    exact row_write m ρ c hj.2.2 inb inb' f x hx'
  unfold Dl gP
  rw [Kt_cnt m ρ c hj, e]
  iintro ⟨H, -⟩; iexact H

theorem Bt_congr (c : Dev nD) {i i' q q' j : ℕ} (h : cnt m ρ c j i = cnt m ρ c j i') (h' : cnt m ρ c j q = cnt m ρ c j q') :
    Bt m ρ c i q j = Bt m ρ c i' q' j := by unfold Bt; rw [h, h']

theorem r_row {c : Dev nD} {i r : ℕ} {R : sProp 𝕄} {α : Type} {Q : α → sProp 𝕄} {cond : BitVec 1} {dp : Decidable (cond = 1#1)} {off : Fin 2 → ℕ}
    {inb : cond = 1#1 → ∀ a, off a + S1x512.size a ≤ S4096x512.size a} {inbd : ∀ a, (![r, 0] : Fin 2 → ℕ) a + S1x512.size a ≤ S128x512.size a} {sm : DmaSem sig}
    {p1 : ∀ h, (tabM.slice (Rect.unit (s := S4096x512) off S1x512.size (inb h)) (fun _ => rfl)).view.WordExact} {p2 : (gM.slice (Rect.unit (s := S128x512) ![r, 0] S1x512.size inbd) (fun _ => rfl)).view.WordExact}
    {p3 : DmaTarget.Typed (nD := nD) (τ := τ) (p := .tc) .hbm (.dma sm) (.here (gM.slice (Rect.unit (s := S128x512) ![r, 0] S1x512.size inbd) (fun _ => rfl)))}
    {K : Prog (TpuEff nD τ sig (Elt F) Λ₀ .tc) α} (hi : i = r) (hr : r < 128) (hcond : cond = k0_cond1 c (wd m ρ c r))
    (hoff : off = k0_off2 c (wd m ρ c r)) (hsm : sm = gSn (r / 32)) (h : GI m ρ c (r + 1) ∗ R ⊢ WP c K Q) :
    GI m ρ c i ∗ R ⊢ WP c (dite (cond = 1#1)
      (fun h => Prog.lift (.enqueueDma (tabM.slice (Rect.unit (s := S4096x512) off S1x512.size (inb h)) (fun _ => rfl))
          (.here (gM.slice (Rect.unit (s := S128x512) ![r, 0] S1x512.size inbd) (fun _ => rfl))) (.dma sm) (p1 h) p2 p3) >>= fun _ => K)
      (fun _ => K)) Q := by
  subst hi hcond hoff hsm
  by_cases hv : valid m ρ c i
  · have hv' : k0_cond1 c (wd m ρ c i) = 1#1 := hv
    rw [dif_pos hv']
    have hj : 32 * (i / 32) ≤ i ∧ i < 32 * (i / 32) + 32 ∧ valid m ρ c i := ⟨by omega, by omega, hv⟩
    have hmem : i / 32 ∈ Finset.Ico 0 4 := by rw [Finset.mem_Ico]; omega
    have e0 : cnt m ρ c (i / 32) 0 = 0 := by simp [cnt]
    have hothers : bigSep ((Finset.Ico 0 4).erase (i / 32)) (fun j => Bt m ρ c i 0 j) = bigSep ((Finset.Ico 0 4).erase (i / 32)) (fun j => Bt m ρ c (i + 1) 0 j) :=
      bigSep_congr fun j hj' => Bt_congr m ρ c (cnt_succ_of_not m ρ c fun h' => (Finset.mem_erase.mp hj').1 (by omega)).symm rfl
    unfold GI GS
    rw [bs_erase hmem, hothers, own_split m ρ c hv]
    show _ ⊢ WP c (.op (.enqueueDmaAs _ (.here _) .same (.dma (gSn (i / 32))) _ _ _) (fun _ => K)) Q
    iintro ⟨⟨Hi, Ht, Hg, ⟨HB, HBs⟩, HD⟩, HR⟩
    unfold tabP gP
    ihave Ht := (pointsTo_share (PosShare.mem_left_op_right _)).1 $$ Ht
    icases Ht with ⟨Ht, Htok⟩
    ihave Hg := (pointsTo_union (own_disj m ρ c hv)).1 $$ Hg
    icases Hg with ⟨Hrow, Hg⟩
    ihave Htok := (pointsTo_split_subset (Finset.subset_univ ((tabM.slice (Rect.unit (s := S4096x512) (k0_off2 c (wd m ρ c i)) S1x512.size (inb hv)) (fun _ => rfl)).view.set))).1 $$ Htok
    icases Htok with ⟨Hsrc, Hrest⟩
    unfold Bt
    iapply (Transfers.wp_dmaBatch EC 𝒱₀ (c : Thread nD τ) none () NR (sm := .dma (gSn (i / 32))) rfl
      (src := sRow (k0_off2 c (wd m ρ c i)) (inb hv)) (dst := dRow i inbd) (via := ReadAs.same)
      (fs := tab m ρ c) (fd := k0_pay1 (F := F)) (q := Transfers.shareTokN fullShare i) (Sd := row i) (D := Dl m ρ c (i / 32)) (j := cnt m ρ c (i / 32) i) (u := NR * cnt m ρ c (i / 32) 0)
      (row_sub i inbd)
      (cnt_lt m ρ c hj hr) (by rw [e0]; omega) (row_done m ρ c hj inbd (inb hv) (k0_pay1 (F := F)) _ _)) $$ [Hsrc Hrow HB]
    · isplitl [Hsrc]; · iexact Hsrc
      isplitl [Hrow]; · iexact Hrow
      iexact HB
    iintro HB
    iapply h
    isplitr [HR]
    · unfold GI GS
      rw [bs_erase hmem]
      isplitl [Hi]; · iexact Hi
      isplitl [Ht]; · unfold tabP; iexact Ht
      isplitl [Hg]; · unfold gP; iexact Hg
      isplitr [HD]
      · isplitl [HB]
        · unfold Bt; rw [cnt_succ_of m ρ c hj]; iexact HB
        · iexact HBs
      · iexact HD
    · iexact HR
  · have hv' : ¬ k0_cond1 c (wd m ρ c i) = 1#1 := hv
    rw [dif_neg hv']
    refine BIBase.Entails.trans ?_ h
    have hothers : bigSep (Finset.Ico 0 4) (fun j => Bt m ρ c i 0 j) = bigSep (Finset.Ico 0 4) (fun j => Bt m ρ c (i + 1) 0 j) :=
      bigSep_congr fun j _ => Bt_congr m ρ c (cnt_succ_of_not m ρ c fun h' => hv h'.2.2).symm rfl
    unfold GI GS
    rw [own_same m ρ c hv, hothers]
    iintro ⟨⟨Hi, Ht, HG⟩, HR⟩
    unfold tabP
    ihave Ht := (pointsTo_share (PosShare.mem_left_op_right _)).1 $$ Ht
    icases Ht with ⟨Ht, -⟩
    isplitr [HR]
    · isplitl [Hi]; · iexact Hi
      isplitl [Ht]; · iexact Ht
      iexact HG
    · iexact HR

end Cert.KernelIdeal.Hand
-- ==== Proof.Gather.lean ====
module
public import proofs.«01_k».proof.Proof.Rows

/-! The gathering's other instructions: zeroing the rows, a row's wait, and the loads of a gathered chunk. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-- What device `c` still owes before event `n`, with the order of the waits. -/
def Ow (c : Dev nD) (n : ℕ) : sProp 𝕄 := iprop(levAts L lv ∗ ∃ W, owes (c : Thread nD τ) (O c n) W)

theorem lv_local (c : Dev nD) (q : DmaSem sig) (h : dec (.dma q) = none) : lv ((c : Thread nD τ), .dma q) () = 0 := by
  unfold lv; rw [if_neg (dma_ne_bar _)]
  show (match dec (SemLoc.dma q) with | some (false, _, k) => if k = 0 then 2 else 3 | _ => 0) = _
  rw [h]
theorem evL_pos (n : ℕ) : 0 < evL n := by unfold evL; split_ifs <;> omega
theorem dec_g (j : Fin 4) : dec (.dma (gS j)) = none := by revert j; decide
theorem dec_o : dec (.dma oS) = none := by decide

/-! ## A row's wait -/

theorem r_rowwait {c : Dev nD} {i d n r : ℕ} {R : sProp 𝕄} {α : Type} {Q : α → sProp 𝕄} {cond : BitVec 1} {dp : Decidable (cond = 1#1)}
    {inb : ∀ a, (![0, 0] : Fin 2 → ℕ) a + S1x512.size a ≤ S4096x512.size a} {inbd : ∀ a, (![r, 0] : Fin 2 → ℕ) a + S1x512.size a ≤ S128x512.size a} {sm : DmaSem sig}
    {p1 : (sRow ![0, 0] inb).view.WordExact} {p2 : (dRow r inbd).view.WordExact}
    {K : Prog (TpuEff nD τ sig (Elt F) Λ₀ .tc) α} (hi : i = r) (hr : r < 128) (hd : d = r / 32) (hcond : cond = k0_cond1 c (wd m ρ c r)) (hsm : sm = gSn (r / 32))
    (h : GW m ρ c (r + 1) d ∗ Ow c n ∗ R ⊢ WP c K Q) :
    GW m ρ c i d ∗ Ow c n ∗ R ⊢ WP c (ite (cond = 1#1) (Prog.lift (.waitDma2 sm (sRow ![0, 0] inb) (dRow r inbd) p1 p2) >>= fun _ => K) K) Q := by
  subst hi hd hcond hsm
  by_cases hv : valid m ρ c i
  · have hv' : k0_cond1 c (wd m ρ c i) = 1#1 := hv
    rw [if_pos hv']
    have hj : 32 * (i / 32) ≤ i ∧ i < 32 * (i / 32) + 32 ∧ valid m ρ c i := ⟨by omega, by omega, hv⟩
    have hmem : i / 32 ∈ Finset.Ico (i / 32) 4 := by rw [Finset.mem_Ico]; omega
    have hlt := cnt_lt m ρ c hj hr
    have hothers : bigSep ((Finset.Ico (i / 32) 4).erase (i / 32)) (fun j => Bt m ρ c 128 i j) = bigSep ((Finset.Ico (i / 32) 4).erase (i / 32)) (fun j => Bt m ρ c 128 (i + 1) j) :=
      bigSep_congr fun j hj' => Bt_congr m ρ c rfl (cnt_succ_of_not m ρ c fun h' => (Finset.mem_erase.mp hj').1 (by omega)).symm
    have hB : Bt m ρ c 128 (i + 1) (i / 32) = Transfers.Batch EC (c : Thread nD τ) (.dma (gSn (i / 32))) () NR (Dl m ρ c (i / 32)) (cnt m ρ c (i / 32) 128) (NR * cnt m ρ c (i / 32) i + 1 * NR) := by
      unfold Bt; rw [cnt_succ_of m ρ c hj, Nat.mul_add, Nat.one_mul, Nat.mul_one]
    unfold GW GS
    rw [bs_erase hmem, hothers]
    show _ ⊢ WP c (.op (.waitDma2 (gSn (i / 32)) _ _ _ _) (fun _ => K)) Q
    iintro ⟨⟨Hi, Ht, Hg, ⟨HB, HBs⟩, HD⟩, HO, HR⟩
    unfold Ow
    icases HO with ⟨#Hl, %W, HO⟩
    ihave #HM := (mayWait c (.dma (gSn (i / 32))) n (.inr (by rw [lv_local c _ (dec_g _)]; exact evL_pos n))) $$ Hl
    unfold Bt
    iapply (Transfers.wp_waitBatchMulO EC 𝒱₀ (c : Thread nD τ) none () 1 (N := NR) (dstw := dRow i inbd) (srcw := sRow ![0, 0] inb)
      (D := Dl m ρ c (i / 32)) (j := cnt m ρ c (i / 32) 128) (u := NR * cnt m ρ c (i / 32) i) (O := O c n) (W := W) (Nat.one_mul _).symm
      (by calc NR * cnt m ρ c (i / 32) i + 1 * NR = NR * (cnt m ρ c (i / 32) i + 1) := by rw [Nat.mul_add, Nat.mul_one, Nat.one_mul]
            _ ≤ _ := Nat.mul_le_mul_left _ hlt)) $$ [HB HO]
    · isplitl [HB]; · iexact HB
      isplitl [HO]; · iexact HO
      iexact HM
    iintro ⟨HB, HO⟩
    iapply h
    unfold GW GS Ow
    rw [bs_erase hmem, hB]
    isplitr [HO HR]
    · isplitl [Hi]; · iexact Hi
      isplitl [Ht]; · iexact Ht
      isplitl [Hg]; · iexact Hg
      isplitr [HD]
      · isplitl [HB]; · iexact HB
        iexact HBs
      · iexact HD
    · isplitl [HO]
      · isplitr; · iexact Hl
        iexists _; iexact HO
      · iexact HR
  · have hv' : ¬ k0_cond1 c (wd m ρ c i) = 1#1 := hv
    rw [if_neg hv']
    have hall : bigSep (Finset.Ico (i / 32) 4) (fun j => Bt m ρ c 128 i j) = bigSep (Finset.Ico (i / 32) 4) (fun j => Bt m ρ c 128 (i + 1) j) :=
      bigSep_congr fun j _ => Bt_congr m ρ c rfl (cnt_succ_of_not m ρ c fun h' => hv h'.2.2).symm
    have e : GW m ρ c i (i / 32) = GW m ρ c (i + 1) (i / 32) := by unfold GW GS; rw [hall]
    rw [e]; exact h

/-! ## A chunk's loads -/

/-- The elements of chunk `j` that no copy writes, and those that some copy writes. -/
def inv (c : Dev nD) (j : ℕ) : Finset S128x512.Idx :=
  Finset.univ.filter (fun x => 32 * j ≤ (x 0).val ∧ (x 0).val < 32 * j + 32 ∧ ¬ valid m ρ c (x 0).val)
def cov (c : Dev nD) (j : ℕ) : Finset S128x512.Idx :=
  Finset.univ.filter (fun x => 32 * j ≤ (x 0).val ∧ (x 0).val < 32 * j + 32 ∧ valid m ρ c (x 0).val)

theorem row_lt (x : S128x512.Idx) : (x 0).val < 128 := (x 0).isLt
theorem cov_eq (c : Dev nD) (j : ℕ) : cov m ρ c j = (Finset.univ : Finset (Fin (cnt m ρ c j 128))).biUnion (fun t => Kt m ρ c j t.val) := by
  ext x
  simp only [cov, Kt, Finset.mem_filter, Finset.mem_univ, _root_.true_and, Finset.mem_biUnion]
  constructor
  · intro h
    exact ⟨⟨cnt m ρ c j (x 0).val, cnt_lt m ρ c h (row_lt x)⟩, h.1, h.2.1, h.2.2, rfl⟩
  · rintro ⟨t, h1, h2, h3, -⟩; exact ⟨h1, h2, h3⟩
theorem Kt_disj (c : Dev nD) (j : ℕ) {t t' : ℕ} (h : t ≠ t') : Disjoint (Kt m ρ c j t) (Kt m ρ c j t') := by
  rw [Finset.disjoint_left]; intro x
  simp only [Kt, Finset.mem_filter, Finset.mem_univ, _root_.true_and]
  rintro ⟨-, -, -, h1⟩ ⟨-, -, -, h2⟩; exact h (h1.symm.trans h2)
theorem chunk_eq (c : Dev nD) (j : ℕ) : chunk j = cov m ρ c j ∪ inv m ρ c j := by
  ext x
  simp only [chunk, cov, inv, Finset.mem_filter, Finset.mem_univ, _root_.true_and, Finset.mem_union]
  by_cases hv : valid m ρ c (x 0).val <;> simp [hv]
theorem chunk_disj (c : Dev nD) (j : ℕ) : Disjoint (cov m ρ c j) (inv m ρ c j) := by
  rw [Finset.disjoint_left]; intro x
  simp only [cov, inv, Finset.mem_filter, Finset.mem_univ, _root_.true_and]
  rintro ⟨-, -, h1⟩ ⟨-, -, h2⟩; exact h2 h1
theorem own_chunk (c : Dev nD) (d : ℕ) : own m ρ c 128 d = inv m ρ c d ∪ own m ρ c 128 (d + 1) := by
  ext x
  have hx := row_lt x
  simp only [own, inv, Finset.mem_filter, Finset.mem_univ, _root_.true_and, Finset.mem_union]
  constructor
  · rintro ⟨h1 | h1, h2⟩
    · omega
    · by_cases h3 : (x 0).val < 32 * d + 32
      · exact .inl ⟨h2, h3, h1⟩
      · exact .inr ⟨.inr h1, by omega⟩
  · rintro (⟨h1, h2, h3⟩ | ⟨h1, h2⟩)
    · exact ⟨.inr h3, h1⟩
    · exact ⟨h1, by omega⟩
theorem own_chunk_disj (c : Dev nD) (d : ℕ) : Disjoint (inv m ρ c d) (own m ρ c 128 (d + 1)) := by
  rw [Finset.disjoint_left]; intro x
  simp only [own, inv, Finset.mem_filter, Finset.mem_univ, _root_.true_and]
  rintro ⟨-, h1, -⟩ ⟨-, h2⟩; omega
/-- Past a chunk's last row its count does not grow. -/
theorem cnt_full (c : Dev nD) (d : ℕ) (h : 32 * (d + 1) ≤ 128) : cnt m ρ c d (32 * (d + 1)) = cnt m ρ c d 128 := by
  unfold cnt
  congr 1
  ext x
  simp only [Finset.mem_filter, Finset.mem_range]
  constructor
  · rintro ⟨h1, h2⟩; exact ⟨by omega, h2⟩
  · rintro ⟨h1, h2⟩; exact ⟨by omega, h2⟩

theorem gP_union (c : Dev nD) {S T : Finset S128x512.Idx} (h : Disjoint S T) (f : (cc0_scratch0 : Ref sig .tc).ty.Contents (Elt F)) :
    gP c (S ∪ T) f ⊣⊢ iprop(gP c S f ∗ gP c T f : sProp 𝕄) := pointsTo_union (ℓ := gLoc c) (q := fullShare) (f := f) h

/-- A chunk whose copies are all waited for is gathered. -/
theorem collect (c : Dev nD) (d : ℕ) (h : d < 4) :
    Bt m ρ c 128 (32 * (d + 1)) d ∗ gP c (inv m ρ c d) (k0_pay1 (F := F)) ⊢ (|={Set.univ}=> Gd m ρ c d : sProp 𝕄) := by
  have hinv : gP c (inv m ρ c d) (k0_pay1 (F := F)) = gP c (inv m ρ c d) (Gt m ρ c) := by
    unfold gP
    refine pointsTo_congr ?_
    intro x hx
    have hx' : ¬ valid m ρ c ((x : S128x512.Idx) 0).val := (Finset.mem_filter.mp hx).2.2.2
    unfold Gt; exact (if_neg hx').symm
  have hcov : bigSep Finset.univ (Dl m ρ c d) = gP c (cov m ρ c d) (Gt m ρ c) := by
    rw [cov_eq]
    exact (pointsTo_biUnion (ℓ := gLoc c) (q := fullShare) (f := Gt m ρ c) (Finset.univ : Finset (Fin (cnt m ρ c d 128))) (fun t => Kt m ρ c d t.val)
      (fun t _ t' _ hne => Kt_disj m ρ c d fun e => hne (Fin.ext e))).symm
  have hu : iprop(gP c (cov m ρ c d) (Gt m ρ c) ∗ gP c (inv m ρ c d) (Gt m ρ c)) ⊢ (gP c (chunk d) (Gt m ρ c) : sProp 𝕄) := by
    rw [chunk_eq m ρ c d]
    exact (gP_union c (chunk_disj m ρ c d) _).2
  rw [hinv]
  rw [← hcov] at hu
  unfold Bt Gd
  rw [cnt_full m ρ c d (by omega)]
  iintro ⟨HB, Hg⟩
  imod (Transfers.batch_collect' EC (c : Thread nD τ) NR_pos) $$ HB with ⟨HD, Hs⟩
  imodintro
  isplitr [Hs]
  · iapply hu
    isplitl [HD]; · iexact HD
    iexact Hg
  · iexact Hs

theorem gR_sub (j r : ℕ) (hr : r = 32 * j) (inb : ∀ a, (![r, 0] : Fin 2 → ℕ) a + S32x512.size a ≤ S128x512.size a) :
    (gM.access (Rect.unit (s := S128x512) ![r, 0] S32x512.size inb)).set ⊆ chunk j := by
  intro x hx
  rw [show (gM.access (Rect.unit (s := S128x512) ![r, 0] S32x512.size inb)).set = (Rect.unit (s := S128x512) ![r, 0] S32x512.size inb).set
    from View.set_slice_whole cc0_scratch0 _] at hx
  have h0 := Rect.mem_set_unit.mp hx 0
  have h1 : r ≤ ((x : S128x512.Idx) 0).val ∧ ((x : S128x512.Idx) 0).val < r + 32 := h0
  have h2 : 32 * j ≤ ((x : S128x512.Idx) 0).val ∧ ((x : S128x512.Idx) 0).val < 32 * j + 32 := ⟨by omega, by omega⟩
  exact Finset.mem_filter.mpr ⟨Finset.mem_univ _, h2⟩

/-- The load of a chunk that has been collected. -/
theorem load_Gd {c : Dev nD} {j r : ℕ} {P : sProp 𝕄} {Q : Vec F S32x512 .f32 → sProp 𝕄}
    {inb : ∀ a, (![r, 0] : Fin 2 → ℕ) a + S32x512.size a ≤ S128x512.size a} {hl} (hj : j < 4) (hr : r = 32 * j)
    (h : Gd m ρ c j ∗ P ⊢ Q (GV m ρ c (Fin.ofNat 4 j))) :
    Gd m ρ c j ∗ P ⊢ WP c (Prog.lift (.load gM (Rect.unit (s := S128x512) ![r, 0] S32x512.size inb).toLoadRect hl)) Q := by
  have e : (gM.access (Rect.unit (s := S128x512) ![r, 0] S32x512.size inb)).read (Elt F) (Gt m ρ c) = GV m ρ c (Fin.ofNat 4 j) := by
    subst hr
    have : (Fin.ofNat 4 j).val = j := Nat.mod_eq_of_lt hj
    funext x
    show Gt m ρ c _ = Gt m ρ c _
    refine congrArg (Gt m ρ c) (funext fun a => Fin.ext ?_)
    fin_cases a
    · show 32 * j + 1 * (x (0 : Fin 2)).val = 32 * (Fin.ofNat 4 j).val + 1 * (x (0 : Fin 2)).val
      rw [this]
    · rfl
  show _ ⊢ wp _ _ _ (.op _ .ret) _
  unfold Gd gP
  iintro ⟨⟨Hg, Hs⟩, HP⟩
  iapply (wp_load_rect 𝒱₀ (c : Thread nD τ) none Set.univ (m := gM) (r := Rect.unit (s := S128x512) ![r, 0] S32x512.size inb) (q := fullShare) (f := Gt m ρ c)
    (S := chunk j) (gR_sub j r hr inb)) $$ Hg
  iintro Hg
  rw [wp_ret, e]; imodintro
  iapply h
  unfold Gd gP
  isplitr [HP]
  · isplitl [Hg]; · iexact Hg
    iexact Hs
  · iexact HP

theorem r_chunk {c : Dev nD} {q d r : ℕ} {R : sProp 𝕄} {Q : Vec F S32x512 .f32 → sProp 𝕄}
    {inb : ∀ a, (![r, 0] : Fin 2 → ℕ) a + S32x512.size a ≤ S128x512.size a} {hl} (hq : q = 32 * (d + 1)) (hd : d < 4) (hr : r = 32 * d)
    (h : GW m ρ c q (d + 1) ∗ R ⊢ Q (GV m ρ c (Fin.ofNat 4 d))) :
    GW m ρ c q d ∗ R ⊢ WP c (Prog.lift (.load gM (Rect.unit (s := S128x512) ![r, 0] S32x512.size inb).toLoadRect hl)) Q := by
  subst hq
  have hsp : gP c (own m ρ c 128 d) (k0_pay1 (F := F)) ⊢ iprop(gP c (inv m ρ c d) (k0_pay1 (F := F)) ∗ gP c (own m ρ c 128 (d + 1)) (k0_pay1 (F := F)) : sProp 𝕄) := by
    rw [own_chunk m ρ c d]; exact (gP_union c (own_chunk_disj m ρ c d) _).1
  have h' : Gd m ρ c d ∗ (idsP m ρ c ∗ tabP m ρ c 128 ∗ gP c (own m ρ c 128 (d + 1)) (k0_pay1 (F := F)) ∗ bigSep (Finset.Ico (d + 1) 4) (fun j => Bt m ρ c 128 (32 * (d + 1)) j)
      ∗ bigSep (Finset.Ico 0 d) (fun j => Gd m ρ c j) ∗ R) ⊢ Q (GV m ρ c (Fin.ofNat 4 d)) := by
    refine BIBase.Entails.trans ?_ h
    unfold GW GS
    rw [bs_top (Nat.zero_le d)]
    iintro ⟨Hd, Hi, Ht, Hg, HB, HD, HR⟩
    isplitr [HR]
    · isplitl [Hi]; · iexact Hi
      isplitl [Ht]; · iexact Ht
      isplitl [Hg]; · iexact Hg
      isplitl [HB]; · iexact HB
      isplitl [Hd]; · iexact Hd
      iexact HD
    · iexact HR
  have hl' := load_Gd m ρ (inb := inb) (hl := hl) hd hr h'
  unfold GW GS
  rw [bs_bot hd]
  iintro ⟨⟨Hi, Ht, Hg, ⟨HB, HBs⟩, HD⟩, HR⟩
  ihave Hg := hsp $$ Hg
  icases Hg with ⟨Hinv, Hg⟩
  imod (collect m ρ c d hd) $$ [HB Hinv] with HG
  · isplitl [HB]; · iexact HB
    iexact Hinv
  iapply hl'
  isplitl [HG]; · iexact HG
  isplitl [Hi]; · iexact Hi
  isplitl [Ht]; · iexact Ht
  isplitl [Hg]; · iexact Hg
  isplitl [HBs]; · iexact HBs
  isplitl [HD]; · iexact HD
  iexact HR

theorem r_chunk2 {c : Dev nD} {q d r : ℕ} {R : sProp 𝕄} {Q : Vec F S32x512 .f32 → sProp 𝕄}
    {inb : ∀ a, (![r, 0] : Fin 2 → ℕ) a + S32x512.size a ≤ S128x512.size a} {hl} (hd : d = 4) (hj : r / 32 < 4) (hr : r = 32 * (r / 32))
    (h : GW m ρ c q d ∗ R ⊢ Q (GV m ρ c (Fin.ofNat 4 (r / 32)))) :
    GW m ρ c q d ∗ R ⊢ WP c (Prog.lift (.load gM (Rect.unit (s := S128x512) ![r, 0] S32x512.size inb).toLoadRect hl)) Q := by
  subst hd
  obtain ⟨j, hjr⟩ : ∃ j, j = r / 32 := ⟨_, rfl⟩
  rw [← hjr] at h hj hr
  have hm : j ∈ Finset.Ico 0 4 := by rw [Finset.mem_Ico]; omega
  have h' : Gd m ρ c j ∗ (idsP m ρ c ∗ tabP m ρ c 128 ∗ gP c (own m ρ c 128 4) (k0_pay1 (F := F)) ∗ bigSep (Finset.Ico 4 4) (fun j => Bt m ρ c 128 q j)
      ∗ bigSep ((Finset.Ico 0 4).erase j) (fun j => Gd m ρ c j) ∗ R) ⊢ Q (GV m ρ c (Fin.ofNat 4 j)) := by
    refine BIBase.Entails.trans ?_ h
    unfold GW GS
    rw [bs_erase hm]
    iintro ⟨Hd, Hi, Ht, Hg, HB, HD, HR⟩
    isplitr [HR]
    · isplitl [Hi]; · iexact Hi
      isplitl [Ht]; · iexact Ht
      isplitl [Hg]; · iexact Hg
      isplitl [HB]; · iexact HB
      isplitl [Hd]; · iexact Hd
      iexact HD
    · iexact HR
  have hl' := load_Gd m ρ (inb := inb) (hl := hl) hj hr h'
  unfold GW GS
  rw [bs_erase hm]
  iintro ⟨⟨Hi, Ht, Hg, HBs, HG, HD⟩, HR⟩
  iapply hl'
  isplitl [HG]; · iexact HG
  isplitl [Hi]; · iexact Hi
  isplitl [Ht]; · iexact Ht
  isplitl [Hg]; · iexact Hg
  isplitl [HBs]; · iexact HBs
  isplitl [HD]; · iexact HD
  iexact HR

/-! ## The rows zeroed -/

/-- Before the gathering: the ids, the table, the rows at any contents, the four semaphores. -/
def G0 (c : Dev nD) : sProp 𝕄 :=
  iprop(idsP m ρ c ∗ tabP m ρ c 0 ∗ (∃ f, gP c Finset.univ f) ∗ bigSep (Finset.Ico 0 4) (fun j => semVal ((c : Thread nD τ), .dma (gSn j)) 0))

theorem r_any {c : Dev nD} {R : sProp 𝕄} {Q : Vec F S128x512 .f32 → sProp 𝕄} {inb hl} (h : ∀ v, G0 m ρ c ∗ R ⊢ Q v) :
    G0 m ρ c ∗ R ⊢ WP c (Prog.lift (.load gM (Rect.unit (s := S128x512) ![0, 0] S128x512.size inb).toLoadRect hl)) Q := by
  show _ ⊢ wp _ _ _ (.op _ .ret) _
  unfold G0
  iintro ⟨⟨Hi, Ht, ⟨%f, Hg⟩, Hs⟩, HR⟩
  unfold gP
  iapply (wp_load_rect 𝒱₀ (c : Thread nD τ) none Set.univ (m := gM) (r := Rect.unit (s := S128x512) ![0, 0] S128x512.size inb) (q := fullShare) (f := f)
    (S := Finset.univ) (Finset.subset_univ _)) $$ Hg
  iintro Hg
  rw [wp_ret]; imodintro
  iapply (h _)
  unfold G0 gP
  isplitr [HR]
  · isplitl [Hi]; · iexact Hi
    isplitl [Ht]; · iexact Ht
    isplitl [Hg]; · iexists _; iexact Hg
    iexact Hs
  · iexact HR

theorem alloc_all (c : Dev nD) : bigSep (Finset.Ico 0 4) (fun j => semVal ((c : Thread nD τ), .dma (gSn j)) 0)
    ⊢ (|={Set.univ}=> bigSep (Finset.Ico 0 4) (fun j => Bt m ρ c 0 0 j) : sProp 𝕄) := by
  refine BIBase.Entails.trans (bigSep_mono fun j _ => ?_) (bigSep_fupd _ _)
  have hz : ∀ j, cnt m ρ c j 0 = 0 := fun j => by simp [cnt]
  unfold Bt
  rw [hz, Nat.mul_zero]
  exact Transfers.batch_alloc' EC (c : Thread nD τ) () NR (Dl m ρ c j)

theorem own_all (c : Dev nD) : own m ρ c 0 0 = Finset.univ := by
  ext x; simp [own]

theorem r_zero {c : Dev nD} {R : sProp 𝕄} {Q : PUnit → sProp 𝕄} {inb h1 h2} (h : GI m ρ c 0 ∗ R ⊢ Q ⟨⟩) :
    G0 m ρ c ∗ R ⊢ WP c (Prog.lift (.store gM (Rect.unit (s := S128x512) ![0, 0] S128x512.size inb) (k0_pay1 (F := F)) Finset.univ h1 h2)) Q := by
  have e : ∀ f : (cc0_scratch0 : Ref sig .tc).ty.Contents (Elt F), (gM.access (Rect.unit (s := S128x512) ![0, 0] S128x512.size inb)).write (Elt F) f (k0_pay1 (F := F)) Finset.univ = k0_pay1 (F := F) :=
    fun f => Memref.write_access_unit_zero_univ (Elt F) cc0_scratch0 (by funext a; fin_cases a <;> rfl) inb f _
  show _ ⊢ wp _ _ _ (.op _ .ret) _
  unfold G0
  iintro ⟨⟨Hi, Ht, ⟨%f, Hg⟩, Hs⟩, HR⟩
  unfold gP
  iapply (wp_store 𝒱₀ (c : Thread nD τ) none Set.univ (m := gM) (r := Rect.unit (s := S128x512) ![0, 0] S128x512.size inb) (f := f)
    (S := Finset.univ) (Finset.subset_univ _)) $$ Hg
  iintro Hg
  rw [wp_ret, e]
  imod (alloc_all m ρ c) $$ Hs with Hs
  imodintro
  iapply h
  unfold GI GS
  rw [own_all]
  unfold gP
  isplitr [HR]
  · isplitl [Hi]; · iexact Hi
    isplitl [Ht]; · iexact Ht
    isplitl [Hg]; · iexact Hg
    isplitl [Hs]; · iexact Hs
    rw [Finset.Ico_self, bigSep_empty]; iempintro
  · iexact HR

end Cert.KernelIdeal.Hand
-- ==== Proof.Exch.lean ====
module
public import proofs.«01_k».proof.Proof.Gather

/-! The exchange between devices, event by event: signals, remote copies and the waits for them, over the records of the
    cells and one transfer at a time. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## The cells and their records -/

/-- A device's cells: its barrier, and the send and the receive semaphore of each transfer. -/
abbrev CI : Type := Option (Bool × Fin 4 × Fin 4)
def xsm : CI → SemLoc sig
  | none => .reg barS
  | some (true, j, k) => .dma (sS j k)
  | some (false, j, k) => .dma (rS j k)
def xcell (p : Dev nD × CI) : GSem nD τ sig := ((p.1 : Thread nD τ), xsm p.2)
theorem dec_xsm (i : CI) : dec (xsm i) = i := by
  rcases i with _ | ⟨b, j, k⟩
  · rfl
  · cases b
    · exact dec_r j k
    · exact dec_s j k
theorem xcell_inj : Function.Injective xcell := by
  rintro ⟨c, i⟩ ⟨c', i'⟩ h
  have h1 : c = c' := congrArg (fun g : GSem nD τ sig => g.1.1) h
  have h2 : i = i' := by rw [← dec_xsm i, ← dec_xsm i']; exact congrArg (fun g : GSem nD τ sig => dec g.2) h
  rw [h1, h2]
def Cells : Finset (GSem nD τ sig) := Finset.univ.map ⟨xcell, xcell_inj⟩
theorem mem_bar (c : Dev nD) : barCell c ∈ Cells := Finset.mem_map.mpr ⟨(c, none), Finset.mem_univ _, rfl⟩
theorem mem_s (c : Dev nD) (j k : Fin 4) : sCell c j k ∈ Cells := Finset.mem_map.mpr ⟨(c, some (true, j, k)), Finset.mem_univ _, rfl⟩
theorem mem_r (c : Dev nD) (j k : Fin 4) : rCell c j k ∈ Cells := Finset.mem_map.mpr ⟨(c, some (false, j, k)), Finset.mem_univ _, rfl⟩

/-- Every cell's invariant, and that its only round has begun. -/
def Rec : sProp 𝕄 :=
  iprop(∃ κ : GSem nD τ sig → ℕ, bigSep Cells (fun g => cellInv ER (Rd m ρ) (κ g) g) ∗ bigSep Cells (fun g => reached ER g 0))
instance Rec_persistent : Persistent (Rec (F := F) m ρ) := by unfold Rec; infer_instance

theorem Rec_at {g : GSem nD τ sig} (h : g ∈ Cells) : Rec m ρ ⊢ ∃ κ : ℕ, cellInv ER (Rd m ρ) κ g ∗ reached ER g 0 := by
  unfold Rec
  rw [show (fun κ : GSem nD τ sig → ℕ => iprop(bigSep Cells (fun g => cellInv ER (Rd m ρ) (κ g) g) ∗ bigSep Cells (fun g => reached ER g 0)))
    = fun κ => iprop((cellInv ER (Rd m ρ) (κ g) g ∗ bigSep (Cells.erase g) (fun g => cellInv ER (Rd m ρ) (κ g) g)) ∗ (reached ER g 0 ∗ bigSep (Cells.erase g) (fun g => reached ER g 0))) from
    funext fun κ => by rw [bs_erase h, bs_erase h]]
  iintro ⟨%κ, ⟨H1, -⟩, H2, -⟩
  iexists (κ g)
  isplitl [H1]; · iexact H1
  iexact H2

/-! ## One event -/

theorem tok_bar {i : ℕ} (c : Dev nD) (h : i < 4) : (tok c i : sProp 𝕄) = dutyTok ER (barCell (peer c (evK i))) 0 (evK i) := if_pos h
theorem owe_x {i : ℕ} (c : Dev nD) (h : 4 ≤ i) : owe c i = tallyAt (rCell (peer c (evK i)) (evJ i) (evK i)) () NB := if_neg (by omega)
theorem tok_x {i : ℕ} (c : Dev nD) (h : 4 ≤ i) : (tok c i : sProp 𝕄)
    = iprop(dutyTok ER (sCell c (evJ i) (evK i)) 0 (0 : Fin 4) ∗ dutyTok ER (rCell (peer c (evK i)) (evJ i) (evK i)) 0 (0 : Fin 4)) := if_neg (by omega)

/-- A signal of the barrier: device `c` hands its peer `k` the places that peer's transfers land. -/
theorem x_signal {c d : Dev nD} {i : ℕ} {Q : PUnit → sProp 𝕄} (hi : i < 4) (hd : d = peer c (evK i)) :
    Rec m ρ ∗ Ow c i ∗ tok c i ∗ barPay (peer c (evK i)) (evK i) ⊢ iprop((Ow c (i + 1) -∗ Q ⟨⟩) -∗ WP c (semSignalWord d barS 1#32) Q) := by
  subst hd
  rw [tok_bar c hi]
  show _ ⊢ iprop(_ -∗ WP c (.op (.semSignal (Dev.tc (peer c (evK i))) barS 1) .ret) Q)
  iintro ⟨#HR, HO, Ht, HP⟩ HK
  unfold Ow
  icases HO with ⟨#Hl, %W, HO⟩
  ihave HR' := (Rec_at m ρ (mem_bar (peer c (evK i)))) $$ HR
  icases HR' with ⟨%κ, #Hc, #Hr⟩
  iapply (Rounds.wp_signal 𝒱₀ ER (Rd m ρ) (c : Thread nD τ) none (dst := (Dev.tc (peer c (evK i)) : Thread nD τ)) (sem := barS) (r := 0) (d := evK i) (κ := κ)
    (by rw [duties_bar]; exact Finset.mem_univ _) (amount_bar m ρ _ _) () (O₀ := O c i) (O c (i + 1)) (by rw [O_peel c (by omega : i < 20)]; unfold owe; rw [if_pos hi]) (W := W)) $$ [HO Ht HP]
  · isplitr; · iexact Hc
    isplitl [HO]; · iexact HO
    isplitl [Ht]; · iexact Ht
    isplitl [HP]; · rw [payload_bar]; iexact HP
    iexact Hr
  iintro HO
  rw [wp_ret]; imodintro
  iapply HK
  isplitr; · iexact Hl
  iexists W; iexact HO

/-- A remote copy: event `i` sends chunk `evJ i` to peer `evK i`. -/
theorem x_send {c d : Dev nD} {i : ℕ} {Q : PUnit → sProp 𝕄} {sp sp' : Space} {s : Shape} {e : EltTy}
    {src : Memref sig .tc sp s e} {dst : Memref sig (Dev.tc d : Thread nD τ).2.kind sp' s e} {s1 s2 : DmaSem sig}
    {hsc : dst.view.ref.isScScratch = false} {h1 : src.view.WordExact} {h2 : dst.view.WordExact}
    {h3 : DmaTarget.Typed sp (.dma s2) (.remote (Dev.tc d : Thread nD τ) dst (.dma s1) hsc)}
    (q : PosShare TreeShare) (fs : Buf (Elt F) (src.view.loc (c : Thread nD τ))) (fd : Buf (Elt F) (dst.view.loc (Dev.tc d : Thread nD τ)))
    (h4 : 4 ≤ i) (hi : i < 20) (hd : d = peer c (evK i)) (hs1 : s1 = sS (evJ i) (evK i)) (hs2 : s2 = rS (evJ i) (evK i)) (hN : dst.view.amount (.dma s2) = NB)
    (hp1 : (src.view.loc (c : Thread nD τ) ↦[src.view.set]{q} fs) ⊢ back c (evJ i) (evK i))
    (hp2 : (dst.view.loc (Dev.tc d : Thread nD τ) ↦[dst.view.set]{fullShare} dst.view.write (Elt F) fd (src.view.read (Elt F) fs) Finset.univ) ⊢ landed m ρ c d (evJ i) (evK i)) :
    Rec m ρ ∗ Ow c i ∗ tok c i ∗ (src.view.loc (c : Thread nD τ) ↦[src.view.set]{q} fs) ∗ (dst.view.loc (Dev.tc d : Thread nD τ) ↦[dst.view.set]{fullShare} fd)
      ⊢ iprop((Ow c (i + 1) ∗ cred (tallyAt (sCell c (evJ i) (evK i)) () NB) -∗ Q ⟨⟩)
          -∗ WP c (Prog.lift (.enqueueDma src (.remote (Dev.tc d : Thread nD τ) dst (.dma s1) hsc) (.dma s2) h1 h2 h3)) Q) := by
  subst hs1 hs2
  rw [tok_x c h4]
  show _ ⊢ iprop(_ -∗ WP c (.op (.enqueueDma _ _ _ _ _ _) .ret) Q)
  iintro ⟨#HR, HO, ⟨Ht1, Ht2⟩, Hs, Hd⟩ HK
  unfold Ow
  icases HO with ⟨#Hl, %W, HO⟩
  ihave HR1 := (Rec_at m ρ (mem_s c (evJ i) (evK i))) $$ HR
  icases HR1 with ⟨%κ₁, #Hc1, #Hr1⟩
  ihave HR2 := (Rec_at m ρ (mem_r d (evJ i) (evK i))) $$ HR
  icases HR2 with ⟨%κ₂, #Hc2, #Hr2⟩
  subst hd
  iapply (Rounds.wp_send_pointsTo 𝒱₀ ER (Rd m ρ) (c : Thread nD τ) none (κ₁ := κ₁) (κ₂ := κ₂) (r₁ := 0) (r₂ := 0) (d₁ := (0 : Fin 4)) (d₂ := (0 : Fin 4)) (fd := fd) (fs := fs) (q := q)
    (by rw [duties_x m ρ c _ (by rw [dec_s]; rfl)]; exact Finset.mem_singleton_self _)
    (by rw [duties_x m ρ (peer c (evK i)) _ (by rw [dec_r]; rfl)]; exact Finset.mem_singleton_self _)
    () () NB hN (amount_x m ρ c _ 0) (amount_x m ρ (peer c (evK i)) _ 0) (O₀ := O c i) (O c (i + 1)) (by rw [O_peel c hi, owe_x c h4]) (W := W)
    (by rw [payload_s]; exact hp1) (by rw [payload_r, peer_peer]; exact hp2)) $$ [HO Ht1 Ht2 Hs Hd]
  · isplitr; · iexact Hc1
    isplitr; · iexact Hc2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  rw [wp_ret]; imodintro
  iapply HK
  isplitl [HO]
  · isplitr; · iexact Hl
    iexists W; iexact HO
  iexact Hcr

/-! ## One wait -/

/-- The wait for the barrier's four signals, closing its cell. -/
theorem x_barwait {c : Dev nD} {n : ℕ} {Q : PUnit → sProp 𝕄} (hn : 4 ≤ n) (hn' : n ≤ 20) :
    Rec m ρ ∗ Ow c n ∗ atPos ER (barCell c) 0 ∅ 0 ∗ cred (tallyAt (barCell c) () 4)
      ⊢ iprop((Ow c n ∗ bigSep Finset.univ (fun k => barPay c k) ∗ semVal (barCell c) 0 -∗ Q ⟨⟩) -∗ WP c (semWaitWord barS 4#32) Q) := by
  show _ ⊢ iprop(_ -∗ WP c (.op (.semWait barS 4) .ret) Q)
  iintro ⟨#HR, HO, Ha, Hc⟩ HK
  unfold Ow
  icases HO with ⟨#Hl, %W, HO⟩
  ihave HR1 := (Rec_at m ρ (mem_bar c)) $$ HR
  icases HR1 with ⟨%κ, #Hi, #Hr⟩
  ihave #HM := (mayWait c (.reg barS) n (.inr (by rw [lv_bar]; exact lt_of_lt_of_le (by decide : 1 < evL 4) (evL_mono hn)))) $$ Hl
  iapply (Rounds.wp_wait_rest_token 𝒱₀ ER (Rd m ρ) (c : Thread nD τ) none (κ := κ) (wpE_semWait_eq 𝒱₀ (c : Thread nD τ) none Set.univ) (Set.mem_univ _) ()
    (O := O c n) (W := W) (R := 0) (m := 0) (T := ∅) (by rw [expect_bar])) $$ [HO Ha Hc]
  · isplitr; · iexact Hi
    isplitl [Hc]; · iexact Hc
    isplitl [HO]; · iexact HO
    isplitr; · iexact HM
    iexact Ha
  rw [rest_bar]
  iintro ⟨HO, Ha, -, HP⟩
  rw [wp_ret]
  imod (Rounds.cell_close (Es := Set.univ) ER (Rd m ρ) (κ := κ) (g := barCell c) (R := 1) (Set.mem_univ _) (fun h => h) (duties_later m ρ _)) $$ [Ha] with Hv
  · isplitr; · iexact Hi
    iexact Ha
  imodintro
  iapply HK
  isplitl [HO]
  · isplitr; · iexact Hl
    iexists _; iexact HO
  isplitl [HP]; · iexact HP
  iexact Hv

/-- The wait for one transfer on the semaphore `q` of cell index `x`, closing its cell. -/
theorem x_wait {c : Dev nD} {n : ℕ} {Q : PUnit → sProp 𝕄} {sp sp' : Space} {s s' : Shape} {e e' : EltTy} {κ' : Kind}
    {src : Memref sig (Dev.tc c : Thread nD τ).2.kind sp s e} {dst : Memref sig κ' sp' s' e'} {q : DmaSem sig} {h1 : src.view.WordExact} {h2 : dst.view.WordExact} {P : sProp 𝕄}
    (hm : ((c : Thread nD τ), SemLoc.dma q) ∈ Cells) (hq : (dec (.dma q)).isSome) (hJ : dst.view.dmaCredit = NB)
    (hl : n = 20 ∨ lv ((c : Thread nD τ), .dma q) () < evL n)
    (hP : bigSep ((Rd (F := F) m ρ).duties ((c : Thread nD τ), .dma q) 0 \ ∅) (fun d => (Rd (F := F) m ρ).payload ((c : Thread nD τ), .dma q) 0 d) = P) :
    Rec m ρ ∗ Ow c n ∗ atPos ER ((c : Thread nD τ), .dma q) 0 ∅ 0 ∗ cred (tallyAt ((c : Thread nD τ), .dma q) () NB)
      ⊢ iprop((Ow c n ∗ P ∗ semVal ((c : Thread nD τ), .dma q) 0 -∗ Q ⟨⟩) -∗ WP c (Prog.lift (.waitDma2 q src dst h1 h2)) Q) := by
  show _ ⊢ iprop(_ -∗ WP c (.op (.waitDma2 q src dst h1 h2) .ret) Q)
  iintro ⟨#HR, HO, Ha, Hc⟩ HK
  unfold Ow
  icases HO with ⟨#Hl, %W, HO⟩
  ihave HR1 := (Rec_at m ρ hm) $$ HR
  icases HR1 with ⟨%κ, #Hi, #Hr⟩
  ihave #HM := (mayWait c (.dma q) n hl) $$ Hl
  iapply (Rounds.wp_wait_rest_token 𝒱₀ ER (Rd m ρ) (c : Thread nD τ) none (κ := κ) (wpE_waitDma2_eq 𝒱₀ (c : Thread nD τ) none Set.univ) (Set.mem_univ _) ()
    (O := O c n) (W := W) (R := 0) (m := 0) (T := ∅) (by rw [expect_x m ρ c q hq, hJ, Nat.zero_add])) $$ [HO Ha Hc]
  · isplitr; · iexact Hi
    isplitl [Hc]; · rw [hJ]; iexact Hc
    isplitl [HO]; · iexact HO
    isplitr; · iexact HM
    iexact Ha
  rw [hP]
  iintro ⟨HO, Ha, -, HP⟩
  rw [wp_ret]
  imod (Rounds.cell_close (Es := Set.univ) ER (Rd m ρ) (κ := κ) (g := ((c : Thread nD τ), .dma q)) (R := 1) (Set.mem_univ _) (fun h => h) (duties_later m ρ _)) $$ [Ha] with Hv
  · isplitr; · iexact Hi
    iexact Ha
  imodintro
  iapply HK
  isplitl [HO]
  · isplitr; · iexact Hl
    iexists _; iexact HO
  isplitl [HP]; · iexact HP
  iexact Hv

end Cert.KernelIdeal.Hand
-- ==== Proof.State.lean ====
module
public import proofs.«01_k».proof.Proof.Exch

/-! What a device holds of the exchange at each point of its body, counted by how far each phase has come, and the rule
    of each of the exchange's instructions on it. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## Reading and writing one piece -/

theorem copy_reshape {sp sp' : Space} {s s' : Shape} {e : EltTy} (v : View sig .tc sp s e) (w : View sig .tc sp' s e) (h : s'.numel = s.numel)
    (fd : v.ty.Contents (Elt F)) (fs : w.ty.Contents (Elt F)) :
    v.read (Elt F) ((v.reshape s' h).write (Elt F) fd ((w.reshape s' h).read (Elt F) fs) Finset.univ) = w.read (Elt F) fs := by
  have e := View.read_write_univ (v := v.reshape s' h) fd ((w.reshape s' h).read (Elt F) fs)
  funext x
  have e' := congrFun e ((Shape.reshapeEquiv h).symm x)
  have e1 : ∀ g, (v.reshape s' h).read (Elt F) g ((Shape.reshapeEquiv h).symm x) = v.read (Elt F) g (Shape.reshapeEquiv h ((Shape.reshapeEquiv h).symm x)) := fun _ => rfl
  have e2 : (w.reshape s' h).read (Elt F) fs ((Shape.reshapeEquiv h).symm x) = w.read (Elt F) fs (Shape.reshapeEquiv h ((Shape.reshapeEquiv h).symm x)) := rfl
  rw [e1, e2, Equiv.apply_symm_apply] at e'
  exact e'

theorem p_load {s : Shape} {e : EltTy} {mr : Memref sig .tc .vmem s e} {r : Rect s} {hl : mr.view.LoadsAt r.toLoadRect} {c : Dev nD} {q : PosShare TreeShare} {V : r.shape.Idx → Elt F e} {P : sProp 𝕄}
    {Q : Vec F r.shape e → sProp 𝕄} (h : holds (mr.access r) q c V ∗ P ⊢ Q V) :
    holds (mr.access r) q c V ∗ P ⊢ WP c (Prog.lift (.load mr r.toLoadRect hl)) Q := by
  show _ ⊢ wp _ _ _ (.op _ .ret) _
  unfold holds at h ⊢
  iintro ⟨⟨%f, %hf, H⟩, HP⟩
  iapply (wp_load_rect 𝒱₀ (c : Thread nD τ) none Set.univ (m := mr) (r := r) (q := q) (f := f) (S := (mr.access r).set) (Finset.Subset.refl _)) $$ H
  iintro H
  rw [wp_ret, hf]; imodintro
  iapply h
  isplitr [HP]
  · iexists f
    isplitr; · ipureintro; exact hf
    iexact H
  · iexact HP

theorem p_load_any {s : Shape} {e : EltTy} {mr : Memref sig .tc .vmem s e} {r : Rect s} {hl : mr.view.LoadsAt r.toLoadRect} {c : Dev nD} {q : PosShare TreeShare} {P : sProp 𝕄}
    {Q : Vec F r.shape e → sProp 𝕄} (h : ∀ V, anyOn (mr.access r) q c ∗ P ⊢ Q V) :
    anyOn (mr.access r) q c ∗ P ⊢ WP c (Prog.lift (.load mr r.toLoadRect hl)) Q := by
  show _ ⊢ wp _ _ _ (.op _ .ret) _
  unfold anyOn at h ⊢
  iintro ⟨⟨%f, H⟩, HP⟩
  iapply (wp_load_rect 𝒱₀ (c : Thread nD τ) none Set.univ (m := mr) (r := r) (q := q) (f := f) (S := (mr.access r).set) (Finset.Subset.refl _)) $$ H
  iintro H
  rw [wp_ret]; imodintro
  iapply (h _)
  isplitr [HP]
  · iexists f; iexact H
  · iexact HP

theorem p_store {s : Shape} {e : EltTy} {mr : Memref sig .tc .vmem s e} {r : Rect s} {h1 h2} {c : Dev nD} {V : r.shape.Idx → Elt F e} {P : sProp 𝕄}
    {Q : PUnit → sProp 𝕄} (h : holds (mr.access r) fullShare c V ∗ P ⊢ Q ⟨⟩) :
    anyOn (mr.access r) fullShare c ∗ P ⊢ WP c (Prog.lift (.store mr r V Finset.univ h1 h2)) Q := by
  show _ ⊢ wp _ _ _ (.op _ .ret) _
  unfold holds at h
  unfold anyOn
  iintro ⟨⟨%f, H⟩, HP⟩
  iapply (wp_store 𝒱₀ (c : Thread nD τ) none Set.univ (m := mr) (r := r) (f := f) (S := (mr.access r).set) (Finset.Subset.refl _)) $$ H
  iintro H
  rw [wp_ret]; imodintro
  iapply h
  isplitr [HP]
  · iexists _
    isplitr [H]; swap; · iexact H
    ipureintro; exact View.read_write_univ _ _
  · iexact HP

theorem holds_share {sp : Space} {s : Shape} {e : EltTy} (v : View sig .tc sp s e) (d : Dev nD) (V : s.Idx → Elt F e) (k : ℕ) :
    holds v (Transfers.shareDrop fullShare k) d V ⊢ (iprop(holds v (Transfers.shareDrop fullShare (k + 1)) d V ∗ holds v (Transfers.shareTokN fullShare k) d V) : sProp 𝕄) := by
  unfold holds
  iintro ⟨%f, %hf, H⟩
  ihave H := (pointsTo_share (PosShare.mem_left_op_right _)).1 $$ H
  icases H with ⟨H1, H2⟩
  isplitl [H1]
  · iexists f
    isplitr; · ipureintro; exact hf
    iexact H1
  · iexists f
    isplitr; · ipureintro; exact hf
    iexact H2

/-! ## The state -/

abbrev fo (j : ℕ) : Fin 4 := Fin.ofNat 4 j
theorem fo_val (j : Fin 4) : fo j.val = j := by ext; exact Nat.mod_eq_of_lt j.isLt
theorem fin_ex {j : ℕ} (h : j < 4) : ∃ j' : Fin 4, j = j'.val := ⟨⟨j, h⟩, rfl⟩

/-- The chunk and the peer of the `w`-th transfer. -/
abbrev tJ (w : ℕ) : Fin 4 := evJ (w + 4)
abbrev tK (w : ℕ) : Fin 4 := evK (w + 4)

/-- The events from `n` on: their tokens, and the places their copies land. -/
def Fire (c : Dev nD) (n : ℕ) : sProp 𝕄 :=
  iprop(bigSep (Finset.Ico n 20) (fun i => tok c i) ∗ bigSep (Finset.Ico n 20) (fun i => land c (peer c (evK i)) (evJ i) (evK i)))
/-- This device's half of the exchange buffer: `zs` chunks staged, those of the events before `n` sent. -/
def ZS (c : Dev nD) (n zs : ℕ) : sProp 𝕄 :=
  iprop(bigSep (Finset.Ico zs 4) (fun j => anyOn (zV 0 (fo j)) fullShare c) ∗ bigSep (Finset.Ico (n - 4) zs) (fun j => holds (zV 0 (fo j)) fullShare c (ZV m ρ c (fo j))))
/-- The send semaphores: `ws` waits done. -/
def WS (c : Dev nD) (n ws : ℕ) : sProp 𝕄 :=
  iprop(bigSep (Finset.Ico ws 16) (fun w => atPos ER (sCell c (tJ w) (tK w)) 0 ∅ 0) ∗ bigSep (Finset.Ico ws (n - 4)) (fun w => cred (tallyAt (sCell c (tJ w) (tK w)) () NB))
    ∗ bigSep (Finset.Ico 0 ws) (fun w => iprop(back c (tJ w) (tK w) ∗ semVal (sCell c (tJ w) (tK w)) 0)))
/-- The receive semaphores: `wr` waits done. -/
def WR (c : Dev nD) (wr : ℕ) : sProp 𝕄 :=
  iprop(bigSep (Finset.Ico wr 16) (fun w => iprop(atPos ER (rCell c (tJ w) (tK w)) 0 ∅ 0 ∗ cred (tallyAt (rCell c (tJ w) (tK w)) () NB)))
    ∗ bigSep (Finset.Ico 0 wr) (fun w => iprop(landed m ρ (peer c (tK w)) c (tJ w) (tK w) ∗ semVal (rCell c (tJ w) (tK w)) 0)))
/-- The staging buffer: `ss` chunks summed, each cut in a share for the local copy and three for the broadcast copies. -/
def SS (c : Dev nD) (n ss ls : ℕ) : sProp 𝕄 :=
  iprop(bigSep (Finset.Ico ss 4) (fun j => anyOn (sV (fo j)) fullShare c)
    ∗ bigSep (Finset.Ico (n - 8) (3 * ss)) (fun t => holds (sV (fo (t / 3))) (Transfers.shareTokN fullShare (t % 3)) c (SV m ρ c (fo (t / 3))))
    ∗ bigSep (Finset.Ico ls ss) (fun j => holds (sV (fo j)) (Transfers.shareDrop fullShare 3) c (SV m ρ c (fo j))))
/-- What the local copy of chunk `t` leaves. -/
def LD (c : Dev nD) (t : Fin 4) : sProp 𝕄 :=
  iprop(holds (oV c t) fullShare c (OV m ρ c t) ∗ holds (sV t) (Transfers.shareDrop fullShare 3) c (SV m ρ c t))
instance LD_storable (c : Dev nD) (t) : BI.Storable (upEmb : UEmb _ 𝕄) (LD (F := F) m ρ c t) := by unfold LD; infer_instance
/-- This device's rows of its own result: `ls` local copies made, `os` waited for. -/
def LC (c : Dev nD) (ls os : ℕ) : sProp 𝕄 :=
  iprop(bigSep (Finset.Ico ls 4) (fun j => anyOn (oV c (fo j)) fullShare c) ∗ Transfers.Batch EC (c : Thread nD τ) (.dma oS) () NB (LD m ρ c) ls (NB * os))

def X (c : Dev nD) (n zs ws wr ss ls os : ℕ) : sProp 𝕄 :=
  iprop(Rec m ρ ∗ Fire c n ∗ ZS m ρ c n zs ∗ WS c n ws ∗ WR m ρ c wr ∗ SS m ρ c n ss ls ∗ LC m ρ c ls os ∗ semVal (barCell c) 0)

/-- Before the barrier, `n` signals made. -/
def X0 (c : Dev nD) (n : ℕ) : sProp 𝕄 :=
  iprop(Rec m ρ ∗ bigSep (Finset.Ico n 4) (fun i => barPay (peer c (evK i)) (evK i)) ∗ bigSep (Finset.Ico n 20) (fun i => tok c i)
    ∗ (atPos ER (barCell c) 0 ∅ 0 ∗ cred (tallyAt (barCell c) () 4)) ∗ ZS m ρ c 4 0 ∗ WS c 4 0 ∗ WR m ρ c 0 ∗ SS m ρ c 4 0 0 ∗ LC m ρ c 0 0)

/-! ## The barrier -/

theorem r_signal {c : Dev nD} {n : ℕ} {A : sProp 𝕄} {Q : PUnit → sProp 𝕄} {dv : Dev nD → ℕ} {lt : ∀ c, dv c < nD} (hn : n < 4) (hd : ∀ c, (⟨dv c, lt c⟩ : Dev nD) = peer c (evK n))
    (h : A ∗ Ow c (n + 1) ∗ X0 m ρ c (n + 1) ⊢ Q ⟨⟩) : A ∗ Ow c n ∗ X0 m ρ c n ⊢ WP c (semSignalWord (⟨dv c, lt c⟩ : Dev nD) barS 1#32) Q := by
  unfold X0
  rw [bs_bot hn, bs_bot (by omega : n < 20)]
  iintro ⟨HA, HO, #HR, ⟨HP, HPs⟩, ⟨Ht, Hts⟩, HX⟩
  iapply (x_signal m ρ hn (hd c)) $$ [HO Ht HP]
  · isplitr; · iexact HR
    isplitl [HO]; · iexact HO
    isplitl [Ht]; · iexact Ht
    iexact HP
  iintro HO
  iapply h
  unfold X0
  isplitl [HA]; · iexact HA
  isplitl [HO]; · iexact HO
  isplitr; · iexact HR
  isplitl [HPs]; · iexact HPs
  isplitl [Hts]; · iexact Hts
  iexact HX

/-- The four barrier payloads are the places of the sixteen transfers. -/
theorem lands (c : Dev nD) : bigSep Finset.univ (fun k => barPay (F := F) c k) = bigSep (Finset.Ico 4 20) (fun i => land c (peer c (evK i)) (evJ i) (evK i)) := by
  unfold barPay
  rw [← bigSep_univ_prod (fun p : Fin 4 × Fin 4 => land (F := F) c (peer c p.1) p.2 p.1)]
  have hinj : Function.Injective (fun p : Fin 4 × Fin 4 => if p.1 = 0 then 4 + p.2.val else 8 + 3 * p.2.val + (p.1.val - 1)) := by decide
  have hI : Finset.Ico 4 20 = (Finset.univ : Finset (Fin 4 × Fin 4)).map ⟨_, hinj⟩ := by clear c; decide +revert
  rw [hI, bigSep_map]
  refine bigSep_congr fun p _ => ?_
  have : ∀ p : Fin 4 × Fin 4, evK (if p.1 = 0 then 4 + p.2.val else 8 + 3 * p.2.val + (p.1.val - 1)) = p.1 ∧ evJ (if p.1 = 0 then 4 + p.2.val else 8 + 3 * p.2.val + (p.1.val - 1)) = p.2 := by decide
  show _ = land c (peer c (evK (if p.1 = 0 then 4 + p.2.val else 8 + 3 * p.2.val + (p.1.val - 1)))) _ _
  rw [Function.Embedding.coeFn_mk, (this p).1, (this p).2]

theorem r_barwait {c : Dev nD} {A : sProp 𝕄} {Q : PUnit → sProp 𝕄} {n : ℕ} (hn : n = 4)
    (h : A ∗ Ow c 4 ∗ X m ρ c 4 0 0 0 0 0 0 ⊢ Q ⟨⟩) : A ∗ Ow c n ∗ X0 m ρ c n ⊢ WP c (semWaitWord barS 4#32) Q := by
  subst hn
  unfold X0
  iintro ⟨HA, HO, #HR, -, Hts, ⟨Ha, Hc⟩, HZ, HWS, HWR, HS, HL⟩
  iapply (x_barwait m ρ (le_refl 4) (by decide)) $$ [HO Ha Hc]
  · isplitr; · iexact HR
    isplitl [HO]; · iexact HO
    isplitl [Ha]; · iexact Ha
    iexact Hc
  rw [lands]
  iintro ⟨HO, HP, Hv⟩
  iapply h
  unfold X Fire
  isplitl [HA]; · iexact HA
  isplitl [HO]; · iexact HO
  isplitr; · iexact HR
  isplitl [Hts HP]
  · isplitl [Hts]; · iexact Hts
    iexact HP
  isplitl [HZ]; · iexact HZ
  isplitl [HWS]; · iexact HWS
  isplitl [HWR]; · iexact HWR
  isplitl [HS]; · iexact HS
  isplitl [HL]; · iexact HL
  iexact Hv

/-! ## Staging and sending a chunk to the device holding the other half of the table -/

theorem r_zdead {c : Dev nD} {j n zs ws wr ss ls os : ℕ} {A B : sProp 𝕄} {Q : Vec F S1x1x32x512 .bf16 → sProp 𝕄}
    {inb : ∀ a, (![0, j, 0, 0] : Fin 4 → ℕ) a + S1x1x32x512.size a ≤ S2x4x32x512.size a} {hl} (hj : j < 4) (hz : zs = j)
    (h : ∀ V, A ∗ B ∗ X m ρ c n zs ws wr ss ls os ⊢ Q V) :
    A ∗ B ∗ X m ρ c n zs ws wr ss ls os ⊢ WP c (Prog.lift (.load zW (Rect.unit (s := S2x4x32x512) ![0, j, 0, 0] S1x1x32x512.size inb).toLoadRect hl)) Q := by
  obtain ⟨j, rfl⟩ := fin_ex hj
  subst hz
  have h' : ∀ V, anyOn (zW.access (zR 0 j)) fullShare c ∗ (A ∗ B ∗ Rec m ρ ∗ Fire c n ∗ bigSep (Finset.Ico (j.val + 1) 4) (fun j => anyOn (zV 0 (fo j)) fullShare c)
      ∗ bigSep (Finset.Ico (n - 4) j.val) (fun j => holds (zV 0 (fo j)) fullShare c (ZV m ρ c (fo j))) ∗ WS c n ws ∗ WR m ρ c wr ∗ SS m ρ c n ss ls ∗ LC m ρ c ls os ∗ semVal (barCell c) 0) ⊢ Q V := by
    intro V
    refine BIBase.Entails.trans ?_ (h V)
    unfold X ZS
    rw [bs_bot j.isLt, fo_val]
    iintro ⟨Hz, HA, HB, HR, HF, Hzs, Hst, HX⟩
    iframe
  refine BIBase.Entails.trans ?_ (p_load_any (mr := zW) (r := zR 0 j) h')
  unfold X ZS
  rw [bs_bot j.isLt, fo_val]
  iintro ⟨HA, HB, HR, HF, ⟨⟨Hz, Hzs⟩, Hst⟩, HX⟩
  iframe

theorem r_zstore {c : Dev nD} {j n zs ws wr ss ls os : ℕ} {A B : sProp 𝕄} {Q : PUnit → sProp 𝕄} {V : Vec F S1x1x32x512 .bf16}
    {inb : ∀ a, (![0, j, 0, 0] : Fin 4 → ℕ) a + S1x1x32x512.size a ≤ S2x4x32x512.size a} {h1 h2} (hj : j < 4) (hz : zs = j) (hn : n ≤ zs + 4) (hV : V = ZV m ρ c (fo j))
    (h : A ∗ B ∗ X m ρ c n (zs + 1) ws wr ss ls os ⊢ Q ⟨⟩) :
    A ∗ B ∗ X m ρ c n zs ws wr ss ls os ⊢ WP c (Prog.lift (.store zW (Rect.unit (s := S2x4x32x512) ![0, j, 0, 0] S1x1x32x512.size inb) V Finset.univ h1 h2)) Q := by
  obtain ⟨j, rfl⟩ := fin_ex hj
  subst hz hV
  have h' : holds (zW.access (zR 0 j)) fullShare c (ZV m ρ c j) ∗ (A ∗ B ∗ Rec m ρ ∗ Fire c n ∗ bigSep (Finset.Ico (j.val + 1) 4) (fun j => anyOn (zV 0 (fo j)) fullShare c)
      ∗ bigSep (Finset.Ico (n - 4) j.val) (fun j => holds (zV 0 (fo j)) fullShare c (ZV m ρ c (fo j))) ∗ WS c n ws ∗ WR m ρ c wr ∗ SS m ρ c n ss ls ∗ LC m ρ c ls os ∗ semVal (barCell c) 0) ⊢ Q ⟨⟩ := by
    refine BIBase.Entails.trans ?_ h
    unfold X ZS
    rw [bs_top (by omega : n - 4 ≤ j.val), fo_val]
    iintro ⟨Hz, HA, HB, HR, HF, Hzs, Hst, HX⟩
    iframe
  rw [fo_val]
  refine BIBase.Entails.trans ?_ (p_store (mr := zW) (r := zR 0 j) h')
  unfold X ZS
  rw [bs_bot j.isLt, fo_val]
  iintro ⟨HA, HB, HR, HF, ⟨⟨Hz, Hzs⟩, Hst⟩, HX⟩
  iframe

end Cert.KernelIdeal.Hand
-- ==== Proof.Moves.lean ====
module
public import proofs.«01_k».proof.Proof.State

/-! The exchange's remaining instructions: the copies, the sums and the waits. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## What a copy leaves -/

theorem zmove (d : Dev nD) (j : Fin 4) {V : Vec F S1x1x32x512 .bf16} (fd : (zM 1 j).view.ty.Contents (Elt F)) (fs : (zM 0 j).view.ty.Contents (Elt F))
    (hfs : (zV 0 j).read (Elt F) fs = V) :
    ((zM 1 j).view.loc (d : Thread nD τ) ↦[(zM 1 j).view.set]{fullShare} (zM 1 j).view.write (Elt F) fd ((zM 0 j).view.read (Elt F) fs) Finset.univ)
      ⊢ (holds (zV 1 j) fullShare d V : sProp 𝕄) := by
  rw [set_zM]
  unfold holds
  iintro H
  iexists _
  isplitr [H]; swap; · iexact H
  ipureintro
  exact (copy_reshape (zV 1 j) (zV 0 j) _ fd fs).trans hfs

theorem omove (c d : Dev nD) (j : Fin 4) (fd : (oM c j).view.ty.Contents (Elt F)) (fs : (sM j).view.ty.Contents (Elt F))
    (hfs : (sV j).read (Elt F) fs = SV m ρ c j) :
    ((oM c j).view.loc (d : Thread nD τ) ↦[(oM c j).view.set]{fullShare} (oM c j).view.write (Elt F) fd ((sM j).view.read (Elt F) fs) Finset.univ)
      ⊢ (holds (oV c j) fullShare d (OV m ρ c j) : sProp 𝕄) := by
  unfold holds
  iintro H
  iexists _
  isplitr [H]; swap; · iexact H
  ipureintro
  rw [View.read_write_univ]
  funext x
  show (sV j).read (Elt F) fs _ = SV m ρ c j _
  rw [hfs]
  rfl

theorem amt_z (j : Fin 4) (q : DmaSem sig) : (zM 1 j).view.amount (.dma q) = NB := rfl
theorem amt_o (c : Dev nD) (j : Fin 4) (q : DmaSem sig) : (oM c j).view.amount (.dma q) = NB := rfl

theorem ev_z (j : Fin 4) : evJ (j.val + 4) = j ∧ evK (j.val + 4) = 0 := by revert j; decide
theorem ev_b {n : ℕ} (h8 : 8 ≤ n) (hn : n < 20) : evJ n = fo ((n - 8) / 3) ∧ (evK n).val = (n - 8) % 3 + 1 ∧ evK n ≠ 0 := by
  have e : evK n = ⟨(n - 8) % 3 + 1, by omega⟩ := by unfold evK; rw [if_neg (by omega), if_neg (by omega)]
  refine ⟨by unfold evJ; rw [if_neg (by omega)], by rw [e], fun h => ?_⟩
  rw [e] at h; have := congrArg Fin.val h; simp at this

/-! ## The remote copies -/

theorem r_zsend {c : Dev nD} {j n zs ws wr ss ls os : ℕ} {A : sProp 𝕄} {Q : PUnit → sProp 𝕄}
    {i0 : ∀ a, (![0, j, 0, 0] : Fin 4 → ℕ) a + S1x1x32x512.size a ≤ S2x4x32x512.size a} {i1 : ∀ a, (![1, j, 0, 0] : Fin 4 → ℕ) a + S1x1x32x512.size a ≤ S2x4x32x512.size a}
    {dv : Dev nD → ℕ} {lt : ∀ c, dv c < nD} {s1 s2 : DmaSem sig} {hsc h1 h2 h3}
    (hj : j < 4) (hn : n = j + 4) (hz : j < zs) (hw : ws ≤ j) (hd : ∀ c, (⟨dv c, lt c⟩ : Dev nD) = peer c 0) (hs1 : s1 = sS (fo j) 0) (hs2 : s2 = rS (fo j) 0)
    (h : A ∗ Ow c (n + 1) ∗ X m ρ c (n + 1) zs ws wr ss ls os ⊢ Q ⟨⟩) :
    A ∗ Ow c n ∗ X m ρ c n zs ws wr ss ls os ⊢ WP c (Prog.lift (.enqueueDma
      ((zW.slice (Rect.unit (s := S2x4x32x512) ![0, j, 0, 0] S1x1x32x512.size i0) (fun _ => rfl)).squeeze S32x512 squeezes_S1x1x32x512_S32x512)
      (.remote (Dev.tc (⟨dv c, lt c⟩ : Dev nD)) ((zW.slice (Rect.unit (s := S2x4x32x512) ![1, j, 0, 0] S1x1x32x512.size i1) (fun _ => rfl)).squeeze S32x512 squeezes_S1x1x32x512_S32x512)
        (.dma s1) hsc) (.dma s2) h1 h2 h3)) Q := by
  obtain ⟨j, rfl⟩ := fin_ex hj
  subst hn
  rw [fo_val] at hs1 hs2
  have hJ := (ev_z j).1
  have hK := (ev_z j).2
  have key : ∀ fs fd, (zV 0 j).read (Elt F) fs = ZV m ρ c j → Rec m ρ ∗ Ow c (j.val + 4) ∗ tok c (j.val + 4)
      ∗ ((zM 0 j).view.loc (c : Thread nD τ) ↦[(zM 0 j).view.set]{fullShare} fs) ∗ ((zM 1 j).view.loc ((⟨dv c, lt c⟩ : Dev nD) : Thread nD τ) ↦[(zM 1 j).view.set]{fullShare} fd)
      ⊢ iprop((Ow c (j.val + 4 + 1) ∗ cred (tallyAt (sCell c (tJ j.val) (tK j.val)) () NB) -∗ Q ⟨⟩)
          -∗ WP c (Prog.lift (.enqueueDma (zM 0 j) (.remote (Dev.tc (⟨dv c, lt c⟩ : Dev nD)) (zM 1 j) (.dma s1) hsc) (.dma s2) h1 h2 h3)) Q) := by
    intro fs fd hfs
    have hp1 : ((zM 0 j).view.loc (c : Thread nD τ) ↦[(zM 0 j).view.set]{fullShare} fs) ⊢ (back c (evJ (j.val + 4)) (evK (j.val + 4)) : sProp 𝕄) := by
      rw [set_zM, hJ, hK]
      unfold back anyOn
      rw [if_pos rfl]
      iintro H; iexists fs; iexact H
    have hp2 : ((zM 1 j).view.loc ((⟨dv c, lt c⟩ : Dev nD) : Thread nD τ) ↦[(zM 1 j).view.set]{fullShare} (zM 1 j).view.write (Elt F) fd ((zM 0 j).view.read (Elt F) fs) Finset.univ)
        ⊢ landed m ρ c (⟨dv c, lt c⟩ : Dev nD) (evJ (j.val + 4)) (evK (j.val + 4)) := by
      rw [hJ, hK]
      unfold landed
      rw [if_pos rfl]
      exact zmove _ j fd fs hfs
    exact x_send m ρ (i := j.val + 4) (src := zM 0 j) (dst := zM 1 j) (s1 := s1) (s2 := s2) fullShare fs fd (by omega) (by omega) (by rw [hK]; exact hd c) (by rw [hJ, hK]; exact hs1)
      (by rw [hJ, hK]; exact hs2) (amt_z j s2) hp1 hp2
  have hl : land c (peer c (evK (j.val + 4))) (evJ (j.val + 4)) (evK (j.val + 4)) = iprop(∃ f, ((zM 1 j).view.loc ((⟨dv c, lt c⟩ : Dev nD) : Thread nD τ) ↦[(zM 1 j).view.set]{fullShare} f) : sProp 𝕄) := by
    rw [hJ, hK, set_zM, hd c]; unfold land; rw [if_pos rfl]; rfl
  have e1 : j.val + 4 + 1 - 4 = j.val + 4 - 4 + 1 := by omega
  have e2 : j.val + 4 - 4 = j.val := by omega
  have e3 : j.val + 4 - 8 = 0 ∧ j.val + 4 + 1 - 8 = 0 := by omega
  show _ ⊢ WP c (Prog.lift (.enqueueDma (zM 0 j) (.remote (Dev.tc (⟨dv c, lt c⟩ : Dev nD)) (zM 1 j) (.dma s1) hsc) (.dma s2) h1 h2 h3)) Q
  unfold X Fire ZS WS SS
  rw [bs_bot (by omega : j.val + 4 < 20), bs_bot (by omega : j.val + 4 < 20), hl, e2, bs_bot hz, fo_val, e3.1]
  unfold holds
  iintro ⟨HA, HO, #HR, ⟨⟨Ht, Hts⟩, ⟨%fd, Hl⟩, Hls⟩, ⟨Hz, ⟨%fs, %hfs, Hs⟩, Hzs⟩, ⟨Ha, Hc, Hb⟩, HWR, HS, HL⟩
  iapply (key fs fd hfs) $$ [HO Ht Hs Hl]
  · isplitr; · iexact HR
    isplitl [HO]; · iexact HO
    isplitl [Ht]; · iexact Ht
    isplitl [Hs]; · rw [set_zM]; iexact Hs
    iexact Hl
  iintro ⟨HO, Hcr⟩
  iapply h
  unfold X Fire ZS WS SS
  rw [e1, e2, bs_top hw, e3.2]
  unfold holds
  isplitl [HA]; · iexact HA
  isplitl [HO]; · iexact HO
  isplitr; · iexact HR
  isplitl [Hts Hls]
  · isplitl [Hts]; · iexact Hts
    iexact Hls
  isplitl [Hz Hzs]
  · isplitl [Hz]; · iexact Hz
    iexact Hzs
  isplitl [Ha Hc Hb Hcr]
  · isplitl [Ha]; · iexact Ha
    isplitl [Hcr Hc]
    · isplitl [Hcr]; · iexact Hcr
      iexact Hc
    iexact Hb
  isplitl [HWR]; · iexact HWR
  isplitl [HS]; · iexact HS
  iexact HL

theorem r_bcast {c : Dev nD} {j n zs ws wr ss ls os : ℕ} {A : sProp 𝕄} {Q : PUnit → sProp 𝕄} {w : BitVec 32}
    {i0 : ∀ a, (![j, 0, 0] : Fin 3 → ℕ) a + S1x32x512.size a ≤ S4x32x512.size a} {i1 : ∀ a, k0_off385 c w a + S32x512.size a ≤ S512x512.size a}
    {dv : Dev nD → ℕ} {lt : ∀ c, dv c < nD} {s1 s2 : DmaSem sig} {hsc h1 h2 h3}
    (hj : j < 4) (hn : 8 ≤ n ∧ n < 20 ∧ (n - 8) / 3 = j) (hz : zs ≤ n - 4) (hw : ws ≤ n - 4) (hss : j < ss) (hw' : w = BitVec.ofNat 32 (32 * j))
    (hd : ∀ c, (⟨dv c, lt c⟩ : Dev nD) = peer c (evK n)) (hs1 : s1 = sS (fo j) (evK n)) (hs2 : s2 = rS (fo j) (evK n))
    (h : A ∗ Ow c (n + 1) ∗ X m ρ c (n + 1) zs ws wr ss ls os ⊢ Q ⟨⟩) :
    A ∗ Ow c n ∗ X m ρ c n zs ws wr ss ls os ⊢ WP c (Prog.lift (.enqueueDma
      ((sW.slice (Rect.unit (s := S4x32x512) ![j, 0, 0] S1x32x512.size i0) (fun _ => rfl)).squeeze S32x512 squeezes_S1x32x512_S32x512)
      (.remote (Dev.tc (⟨dv c, lt c⟩ : Dev nD)) (outW.slice (Rect.unit (s := S512x512) (k0_off385 c w) S32x512.size i1) (fun _ => rfl))
        (.dma s1) hsc) (.dma s2) h1 h2 h3)) Q := by
  obtain ⟨j, rfl⟩ := fin_ex hj
  subst hw'
  obtain ⟨h8, h20, hjn⟩ := hn
  obtain ⟨hJ, hKv, hK⟩ := ev_b h8 h20
  rw [hjn, fo_val] at hJ
  rw [fo_val] at hs1 hs2
  have key : ∀ fs fd, (sV j).read (Elt F) fs = SV m ρ c j → Rec m ρ ∗ Ow c n ∗ tok c n
      ∗ ((sM j).view.loc (c : Thread nD τ) ↦[(sM j).view.set]{Transfers.shareTokN fullShare ((n - 8) % 3)} fs)
      ∗ ((oM c j).view.loc ((⟨dv c, lt c⟩ : Dev nD) : Thread nD τ) ↦[(oM c j).view.set]{fullShare} fd)
      ⊢ iprop((Ow c (n + 1) ∗ cred (tallyAt (sCell c (evJ n) (evK n)) () NB) -∗ Q ⟨⟩)
          -∗ WP c (Prog.lift (.enqueueDma (sM j) (.remote (Dev.tc (⟨dv c, lt c⟩ : Dev nD)) (oM c j) (.dma s1) hsc) (.dma s2) h1 h2 h3)) Q) := by
    intro fs fd hfs
    have hp1 : ((sM j).view.loc (c : Thread nD τ) ↦[(sM j).view.set]{Transfers.shareTokN fullShare ((n - 8) % 3)} fs) ⊢ (back c (evJ n) (evK n) : sProp 𝕄) := by
      rw [set_sM, hJ]
      unfold back anyOn
      rw [if_neg hK, hKv, Nat.add_sub_cancel]
      iintro H; iexists fs; iexact H
    have hp2 : ((oM c j).view.loc ((⟨dv c, lt c⟩ : Dev nD) : Thread nD τ) ↦[(oM c j).view.set]{fullShare} (oM c j).view.write (Elt F) fd ((sM j).view.read (Elt F) fs) Finset.univ)
        ⊢ landed m ρ c (⟨dv c, lt c⟩ : Dev nD) (evJ n) (evK n) := by
      rw [hJ]
      unfold landed
      rw [if_neg hK]
      exact omove m ρ c _ j fd fs hfs
    exact x_send m ρ (i := n) (src := sM j) (dst := oM c j) (s1 := s1) (s2 := s2) (Transfers.shareTokN fullShare ((n - 8) % 3)) fs fd (by omega) (by omega) (hd c) (by rw [hJ]; exact hs1)
      (by rw [hJ]; exact hs2) (amt_o c j s2) hp1 hp2
  have hl : land c (peer c (evK n)) (evJ n) (evK n) = iprop(∃ f, ((oM c j).view.loc ((⟨dv c, lt c⟩ : Dev nD) : Thread nD τ) ↦[(oM c j).view.set]{fullShare} f) : sProp 𝕄) := by
    rw [hJ, hd c]; unfold land; rw [if_neg hK]; rfl
  have e1 : n + 1 - 4 = n - 4 + 1 := by omega
  have e2 : n - 4 + 4 = n := by omega
  have e3 : n + 1 - 8 = n - 8 + 1 := by omega
  have eZ : ∀ k, k = n - 4 ∨ k = n - 4 + 1 → bigSep (Finset.Ico k zs) (fun j => holds (zV 0 (fo j)) fullShare c (ZV m ρ c (fo j))) = (iprop(emp) : sProp 𝕄) := by
    intro k hk; rw [Finset.Ico_eq_empty (by omega), bigSep_empty]; rfl
  show _ ⊢ WP c (Prog.lift (.enqueueDma (sM j) (.remote (Dev.tc (⟨dv c, lt c⟩ : Dev nD)) (oM c j) (.dma s1) hsc) (.dma s2) h1 h2 h3)) Q
  have hss' : n - 8 < 3 * ss := by omega
  unfold X Fire ZS WS SS
  rw [bs_bot h20, bs_bot h20, hl, eZ _ (.inl rfl), bs_bot hss', hjn, fo_val]
  unfold holds
  iintro ⟨HA, HO, #HR, ⟨⟨Ht, Hts⟩, ⟨%fd, Hl⟩, Hls⟩, HZ, ⟨Ha, Hc, Hb⟩, HWR, ⟨Hx, ⟨⟨%fs, %hfs, Hs⟩, Hss⟩, Hy⟩, HL⟩
  iapply (key fs fd hfs) $$ [HO Ht Hs Hl]
  · isplitr; · iexact HR
    isplitl [HO]; · iexact HO
    isplitl [Ht]; · iexact Ht
    isplitl [Hs]; · rw [set_sM]; iexact Hs
    iexact Hl
  iintro ⟨HO, Hcr⟩
  iapply h
  unfold X Fire ZS WS SS
  rw [e1, bs_top hw, e3, eZ _ (.inr rfl)]
  unfold holds tJ tK
  rw [e2]
  isplitl [HA]; · iexact HA
  isplitl [HO]; · iexact HO
  isplitr; · iexact HR
  isplitl [Hts Hls]
  · isplitl [Hts]; · iexact Hts
    iexact Hls
  isplitl [HZ]; · iexact HZ
  isplitl [Ha Hc Hb Hcr]
  · isplitl [Ha]; · iexact Ha
    isplitl [Hcr Hc]
    · isplitl [Hcr]; · iexact Hcr
      iexact Hc
    iexact Hb
  isplitl [HWR]; · iexact HWR
  isplitl [Hx Hss Hy]
  · isplitl [Hx]; · iexact Hx
    isplitl [Hss]; · iexact Hss
    iexact Hy
  iexact HL

/-! ## The waits for them -/

theorem r_swait {c : Dev nD} {n zs ws wr ss ls os : ℕ} {A : sProp 𝕄} {Q : PUnit → sProp 𝕄} {sp sp' : Space} {s s' : Shape} {e e' : EltTy} {κ' : Kind}
    {src : Memref sig (Dev.tc c : Thread nD τ).2.kind sp s e} {dst : Memref sig κ' sp' s' e'} {q : DmaSem sig} {h1 : src.view.WordExact} {h2 : dst.view.WordExact}
    (hq : q = sS (tJ ws) (tK ws)) (hw : ws < n - 4) (hw' : ws < 16) (hJ : dst.view.dmaCredit = NB)
    (h : A ∗ Ow c n ∗ X m ρ c n zs (ws + 1) wr ss ls os ⊢ Q ⟨⟩) :
    A ∗ Ow c n ∗ X m ρ c n zs ws wr ss ls os ⊢ WP c (Prog.lift (.waitDma2 q src dst h1 h2)) Q := by
  subst hq
  unfold X WS
  rw [bs_bot hw', bs_bot hw]
  iintro ⟨HA, HO, #HR, HF, HZ, ⟨⟨Ha, Has⟩, ⟨Hc, Hcs⟩, Hb⟩, HX⟩
  iapply (x_wait m ρ (mem_s c (tJ ws) (tK ws)) (by rw [dec_s]; rfl) hJ (.inr (by rw [lv_s]; exact evL_pos n)) (rest_s m ρ c (tJ ws) (tK ws))) $$ [HO Ha Hc]
  · isplitr; · iexact HR
    isplitl [HO]; · iexact HO
    isplitl [Ha]; · iexact Ha
    iexact Hc
  iintro ⟨HO, HP, Hv⟩
  iapply h
  unfold X WS
  rw [bs_top (Nat.zero_le ws)]
  isplitl [HA]; · iexact HA
  isplitl [HO]; · iexact HO
  isplitr; · iexact HR
  isplitl [HF]; · iexact HF
  isplitl [HZ]; · iexact HZ
  isplitr [HX]
  · isplitl [Has]; · iexact Has
    isplitl [Hcs]; · iexact Hcs
    isplitl [HP Hv]
    · isplitl [HP]; · iexact HP
      iexact Hv
    iexact Hb
  iexact HX

theorem r_rwait {c : Dev nD} {n zs ws wr ss ls os : ℕ} {A : sProp 𝕄} {Q : PUnit → sProp 𝕄} {sp sp' : Space} {s s' : Shape} {e e' : EltTy} {κ' : Kind}
    {src : Memref sig (Dev.tc c : Thread nD τ).2.kind sp s e} {dst : Memref sig κ' sp' s' e'} {q : DmaSem sig} {h1 : src.view.WordExact} {h2 : dst.view.WordExact}
    (hq : q = rS (tJ wr) (tK wr)) (hn : n = 20 ∨ (8 ≤ n ∧ wr < 4)) (hw' : wr < 16) (hJ : dst.view.dmaCredit = NB)
    (h : A ∗ Ow c n ∗ X m ρ c n zs ws (wr + 1) ss ls os ⊢ Q ⟨⟩) :
    A ∗ Ow c n ∗ X m ρ c n zs ws wr ss ls os ⊢ WP c (Prog.lift (.waitDma2 q src dst h1 h2)) Q := by
  subst hq
  have hl : n = 20 ∨ lv (rCell c (tJ wr) (tK wr)) () < evL n := by
    rcases hn with hn | ⟨h8, h4⟩
    · exact .inl hn
    · refine .inr ?_
      rw [lv_r, if_pos (ev_z ⟨wr, h4⟩).2]
      exact lt_of_lt_of_le (by decide : 2 < evL 8) (evL_mono h8)
  unfold X WR
  rw [bs_bot hw']
  iintro ⟨HA, HO, #HR, HF, HZ, HW, ⟨⟨⟨Ha, Hc⟩, Has⟩, Hb⟩, HX⟩
  iapply (x_wait m ρ (mem_r c (tJ wr) (tK wr)) (by rw [dec_r]; rfl) hJ hl (rest_r m ρ c (tJ wr) (tK wr))) $$ [HO Ha Hc]
  · isplitr; · iexact HR
    isplitl [HO]; · iexact HO
    isplitl [Ha]; · iexact Ha
    iexact Hc
  iintro ⟨HO, HP, Hv⟩
  iapply h
  unfold X WR
  rw [bs_top (Nat.zero_le wr)]
  isplitl [HA]; · iexact HA
  isplitl [HO]; · iexact HO
  isplitr; · iexact HR
  isplitl [HF]; · iexact HF
  isplitl [HZ]; · iexact HZ
  isplitl [HW]; · iexact HW
  isplitr [HX]
  · isplitl [Has]; · iexact Has
    isplitl [HP Hv]
    · isplitl [HP]; · iexact HP
      iexact Hv
    iexact Hb
  iexact HX

/-! ## Summing a chunk -/

theorem r_zload {c : Dev nD} {j n zs ws wr ss ls os : ℕ} {A B : sProp 𝕄} {Q : Vec F S1x1x32x512 .bf16 → sProp 𝕄}
    {inb : ∀ a, (![1, j, 0, 0] : Fin 4 → ℕ) a + S1x1x32x512.size a ≤ S2x4x32x512.size a} {hl} (hj : j < 4) (hz : j < wr)
    (h : A ∗ B ∗ X m ρ c n zs ws wr ss ls os ⊢ Q (ZV m ρ (peer c 0) (fo j))) :
    A ∗ B ∗ X m ρ c n zs ws wr ss ls os ⊢ WP c (Prog.lift (.load zW (Rect.unit (s := S2x4x32x512) ![1, j, 0, 0] S1x1x32x512.size inb).toLoadRect hl)) Q := by
  obtain ⟨j, rfl⟩ := fin_ex hj
  rw [fo_val] at h
  have hm : j.val ∈ Finset.Ico 0 wr := by rw [Finset.mem_Ico]; omega
  have hp : (iprop(landed m ρ (peer c (tK j.val)) c (tJ j.val) (tK j.val)) : sProp 𝕄) = holds (zV 1 j) fullShare c (ZV m ρ (peer c 0) j) := by
    unfold tK tJ; rw [(ev_z j).1, (ev_z j).2]; unfold landed; rw [if_pos rfl]
  have h' : holds (zW.access (zR 1 j)) fullShare c (ZV m ρ (peer c 0) j) ∗ (A ∗ B ∗ Rec m ρ ∗ Fire c n ∗ ZS m ρ c n zs ∗ WS c n ws
      ∗ (bigSep (Finset.Ico wr 16) (fun w => iprop(atPos ER (rCell c (tJ w) (tK w)) 0 ∅ 0 ∗ cred (tallyAt (rCell c (tJ w) (tK w)) () NB)))
        ∗ semVal (rCell c (tJ j.val) (tK j.val)) 0
        ∗ bigSep ((Finset.Ico 0 wr).erase j.val) (fun w => iprop(landed m ρ (peer c (tK w)) c (tJ w) (tK w) ∗ semVal (rCell c (tJ w) (tK w)) 0)))
      ∗ SS m ρ c n ss ls ∗ LC m ρ c ls os ∗ semVal (barCell c) 0) ⊢ Q (ZV m ρ (peer c 0) j) := by
    refine BIBase.Entails.trans ?_ h
    unfold X WR
    rw [bs_erase hm, hp]
    iintro ⟨Hz, HA, HB, HR, HF, HZ, HW, ⟨H1, H2, H3⟩, HX⟩
    iframe
  refine BIBase.Entails.trans ?_ (p_load (mr := zW) (r := zR 1 j) h')
  unfold X WR
  rw [bs_erase hm, hp]
  iintro ⟨HA, HB, HR, HF, HZ, HW, ⟨H1, ⟨Hz, H2⟩, H3⟩, HX⟩
  iframe

theorem r_sdead {c : Dev nD} {j n zs ws wr ss ls os : ℕ} {A B : sProp 𝕄} {Q : Vec F S1x32x512 .bf16 → sProp 𝕄}
    {inb : ∀ a, (![j, 0, 0] : Fin 3 → ℕ) a + S1x32x512.size a ≤ S4x32x512.size a} {hl} (hj : j < 4) (hz : ss = j)
    (h : ∀ V, A ∗ B ∗ X m ρ c n zs ws wr ss ls os ⊢ Q V) :
    A ∗ B ∗ X m ρ c n zs ws wr ss ls os ⊢ WP c (Prog.lift (.load sW (Rect.unit (s := S4x32x512) ![j, 0, 0] S1x32x512.size inb).toLoadRect hl)) Q := by
  obtain ⟨j, rfl⟩ := fin_ex hj
  subst hz
  have h' : ∀ V, anyOn (sW.access (sR j)) fullShare c ∗ (A ∗ B ∗ Rec m ρ ∗ Fire c n ∗ ZS m ρ c n zs ∗ WS c n ws ∗ WR m ρ c wr ∗ bigSep (Finset.Ico (j.val + 1) 4) (fun j => anyOn (sV (fo j)) fullShare c)
      ∗ (bigSep (Finset.Ico (n - 8) (3 * j.val)) (fun t => holds (sV (fo (t / 3))) (Transfers.shareTokN fullShare (t % 3)) c (SV m ρ c (fo (t / 3))))
      ∗ bigSep (Finset.Ico ls j.val) (fun j => holds (sV (fo j)) (Transfers.shareDrop fullShare 3) c (SV m ρ c (fo j)))) ∗ LC m ρ c ls os ∗ semVal (barCell c) 0) ⊢ Q V := by
    intro V
    refine BIBase.Entails.trans ?_ (h V)
    unfold X SS
    rw [bs_bot j.isLt, fo_val]
    iintro ⟨Hz, HA, HB, HR, HF, HZ, HW, HWR, Hzs, ⟨Hst, Hsu⟩, HX⟩
    iframe
  refine BIBase.Entails.trans ?_ (p_load_any (mr := sW) (r := sR j) h')
  unfold X SS
  rw [bs_bot j.isLt, fo_val]
  iintro ⟨HA, HB, HR, HF, HZ, HW, HWR, ⟨⟨Hz, Hzs⟩, Hst, Hsu⟩, HX⟩
  iframe

theorem r_sstore {c : Dev nD} {j n zs ws wr ss ls os : ℕ} {A B : sProp 𝕄} {Q : PUnit → sProp 𝕄} {V : Vec F S1x32x512 .bf16}
    {inb : ∀ a, (![j, 0, 0] : Fin 3 → ℕ) a + S1x32x512.size a ≤ S4x32x512.size a} {h1 h2} (hj : j < 4) (hz : ss = j) (hn : n ≤ 8 + 3 * ss) (hls : ls ≤ ss) (hV : V = SV m ρ c (fo j))
    (h : A ∗ B ∗ X m ρ c n zs ws wr (ss + 1) ls os ⊢ Q ⟨⟩) :
    A ∗ B ∗ X m ρ c n zs ws wr ss ls os ⊢ WP c (Prog.lift (.store sW (Rect.unit (s := S4x32x512) ![j, 0, 0] S1x32x512.size inb) V Finset.univ h1 h2)) Q := by
  obtain ⟨j, rfl⟩ := fin_ex hj
  subst hz hV
  have e3 : 3 * (j.val + 1) = 3 * j.val + 1 + 1 + 1 := by omega
  have t0 : (3 * j.val) / 3 = j.val ∧ (3 * j.val) % 3 = 0 := by omega
  have t1 : (3 * j.val + 1) / 3 = j.val ∧ (3 * j.val + 1) % 3 = 1 := by omega
  have t2 : (3 * j.val + 1 + 1) / 3 = j.val ∧ (3 * j.val + 1 + 1) % 3 = 2 := by omega
  have hsh : holds (sW.access (sR j)) fullShare c (SV m ρ c j) ⊢ (iprop(holds (sV j) (Transfers.shareDrop fullShare 3) c (SV m ρ c j)
      ∗ holds (sV j) (Transfers.shareTokN fullShare 2) c (SV m ρ c j) ∗ holds (sV j) (Transfers.shareTokN fullShare 1) c (SV m ρ c j)
      ∗ holds (sV j) (Transfers.shareTokN fullShare 0) c (SV m ρ c j)) : sProp 𝕄) := by
    show holds (sV j) (Transfers.shareDrop fullShare 0) c (SV m ρ c j) ⊢ _
    iintro H
    ihave H := (holds_share (sV j) c (SV m ρ c j) 0) $$ H
    icases H with ⟨H, H0⟩
    ihave H := (holds_share (sV j) c (SV m ρ c j) 1) $$ H
    icases H with ⟨H, H1⟩
    ihave H := (holds_share (sV j) c (SV m ρ c j) 2) $$ H
    icases H with ⟨H, H2⟩
    iframe
  have h' : holds (sW.access (sR j)) fullShare c (SV m ρ c j) ∗ (A ∗ B ∗ Rec m ρ ∗ Fire c n ∗ ZS m ρ c n zs ∗ WS c n ws ∗ WR m ρ c wr ∗ bigSep (Finset.Ico (j.val + 1) 4) (fun j => anyOn (sV (fo j)) fullShare c)
      ∗ (bigSep (Finset.Ico (n - 8) (3 * j.val)) (fun t => holds (sV (fo (t / 3))) (Transfers.shareTokN fullShare (t % 3)) c (SV m ρ c (fo (t / 3))))
      ∗ bigSep (Finset.Ico ls j.val) (fun j => holds (sV (fo j)) (Transfers.shareDrop fullShare 3) c (SV m ρ c (fo j)))) ∗ LC m ρ c ls os ∗ semVal (barCell c) 0) ⊢ Q ⟨⟩ := by
    refine BIBase.Entails.trans ?_ h
    unfold X SS
    rw [e3, bs_top (by omega : n - 8 ≤ 3 * j.val + 1 + 1), bs_top (by omega : n - 8 ≤ 3 * j.val + 1), bs_top (by omega : n - 8 ≤ 3 * j.val), bs_top hls,
      t0.1, t0.2, t1.1, t1.2, t2.1, t2.2, fo_val]
    iintro ⟨Hz, HA, HB, HR, HF, HZ, HW, HWR, Hzs, ⟨Hst, Hsu⟩, HX⟩
    ihave Hz := hsh $$ Hz
    icases Hz with ⟨H3, H2, H1, H0⟩
    iframe
  rw [fo_val]
  refine BIBase.Entails.trans ?_ (p_store (mr := sW) (r := sR j) h')
  unfold X SS
  rw [bs_bot j.isLt, fo_val]
  iintro ⟨HA, HB, HR, HF, HZ, HW, HWR, ⟨⟨Hz, Hzs⟩, Hst, Hsu⟩, HX⟩
  iframe

/-! ## The local copies -/

theorem r_local {c : Dev nD} {j n zs ws wr ss ls os : ℕ} {A B : sProp 𝕄} {Q : PUnit → sProp 𝕄} {w : BitVec 32} {sm : DmaSem sig}
    {i0 : ∀ a, (![j, 0, 0] : Fin 3 → ℕ) a + S1x32x512.size a ≤ S4x32x512.size a} {i1 : ∀ a, k0_off385 c w a + S32x512.size a ≤ S512x512.size a} {h1 h2 h3}
    (hj : j < 4) (hls : ls = j) (hss : ls < ss) (hos : os ≤ ls) (hw : w = BitVec.ofNat 32 (32 * j)) (hsm : sm = oS)
    (h : A ∗ B ∗ X m ρ c n zs ws wr ss (ls + 1) os ⊢ Q ⟨⟩) :
    A ∗ B ∗ X m ρ c n zs ws wr ss ls os ⊢ WP c (Prog.lift (.enqueueDma
      ((sW.slice (Rect.unit (s := S4x32x512) ![j, 0, 0] S1x32x512.size i0) (fun _ => rfl)).squeeze S32x512 squeezes_S1x32x512_S32x512)
      (.here (outW.slice (Rect.unit (s := S512x512) (k0_off385 c w) S32x512.size i1) (fun _ => rfl))) (.dma sm) h1 h2 h3)) Q := by
  obtain ⟨j, rfl⟩ := fin_ex hj
  subst hls hw hsm
  have hD : ∀ fs fd, (sV j).read (Elt F) fs = SV m ρ c j →
      iprop(((oM c j).view.loc (c : Thread nD τ) ↦[(oM c j).view.set]{fullShare} ((oM c j).view.write (Elt F) fd
          ((ReadAs.same : ReadAs (Elt F) S32x512 .bf16 S32x512 .bf16).apply ((sM j).view.read (Elt F) fs)) Finset.univ))
        ∗ ((sM j).view.loc (c : Thread nD τ) ↦[(sM j).view.set]{Transfers.shareDrop fullShare 3} fs)) ⊢ LD m ρ c ⟨j.val, j.isLt⟩ := by
    intro fs fd hfs
    unfold LD
    iintro ⟨H1, H2⟩
    isplitl [H1]
    · iapply (omove m ρ c c j fd fs hfs); iexact H1
    · rw [set_sM]
      unfold holds
      iexists fs
      isplitr; · ipureintro; exact hfs
      iexact H2
  show _ ⊢ WP c (.op (.enqueueDmaAs (sM j) (.here (oM c j)) .same (.dma oS) h1 h2 h3) .ret) Q
  unfold X SS LC
  rw [bs_bot hss, bs_bot j.isLt, fo_val]
  unfold holds anyOn
  iintro ⟨HA, HB, HR, HF, HZ, HW, HWR, ⟨Hx, Hy, ⟨%fs, %hfs, Hs⟩, Hss⟩, ⟨⟨⟨%fd, Hd⟩, Hds⟩, HBt⟩, HX⟩
  iapply (Transfers.wp_dmaBatch EC 𝒱₀ (c : Thread nD τ) none () NB (sm := .dma oS) rfl (src := sM j) (dst := oM c j) (via := ReadAs.same)
    (fs := fs) (fd := fd) (q := Transfers.shareDrop fullShare 3) (Sd := (oM c j).view.set) (D := LD m ρ c) (j := j.val) (u := NB * os)
    (Finset.Subset.refl _) j.isLt (by rw [Nat.mul_comm]; exact Nat.mul_le_mul_right _ hos) (hD fs fd hfs)) $$ [Hs Hd HBt]
  · isplitl [Hs]; · rw [set_sM]; iexact Hs
    isplitl [Hd]; · iexact Hd
    iexact HBt
  iintro HBt
  rw [wp_ret]; imodintro
  iapply h
  unfold X SS LC holds anyOn
  iframe

theorem r_owait {c : Dev nD} {n zs ws wr ss ls os : ℕ} {A : sProp 𝕄} {Q : PUnit → sProp 𝕄} {sp sp' : Space} {s s' : Shape} {e e' : EltTy}
    {src : Memref sig (Dev.tc c : Thread nD τ).2.kind sp s e} {dst : Memref sig (Dev.tc c : Thread nD τ).2.kind sp' s' e'} {q : DmaSem sig} {h1 : src.view.WordExact} {h2 : dst.view.WordExact}
    (hq : q = oS) (hos : os < ls) (hJ : dst.view.dmaCredit = NB)
    (h : A ∗ Ow c n ∗ X m ρ c n zs ws wr ss ls (os + 1) ⊢ Q ⟨⟩) :
    A ∗ Ow c n ∗ X m ρ c n zs ws wr ss ls os ⊢ WP c (Prog.lift (.waitDma2 q src dst h1 h2)) Q := by
  subst hq
  have eB : NB * (os + 1) = NB * os + 1 * NB := by rw [Nat.mul_add, Nat.one_mul, Nat.mul_one]
  show _ ⊢ WP c (.op (.waitDma2 oS src dst h1 h2) .ret) Q
  unfold X LC Ow
  iintro ⟨HA, ⟨#Hl, %W, HO⟩, HR, HF, HZ, HW, HWR, HS, ⟨Hd, HB⟩, HX⟩
  ihave #HM := (mayWait c (.dma oS) n (.inr (by rw [lv_local c _ dec_o]; exact evL_pos n))) $$ Hl
  iapply (Transfers.wp_waitBatchMulO EC 𝒱₀ (c : Thread nD τ) none () 1 (N := NB) (dstw := dst) (srcw := src)
    (D := LD m ρ c) (j := ls) (u := NB * os) (O := O c n) (W := W) (by rw [hJ, Nat.one_mul])
    (by rw [← eB]; exact Nat.mul_le_mul_left _ hos)) $$ [HB HO]
  · isplitl [HB]; · iexact HB
    isplitl [HO]; · iexact HO
    iexact HM
  iintro ⟨HB, HO⟩
  rw [wp_ret]; imodintro
  iapply h
  unfold X LC Ow
  rw [eB]
  isplitl [HA]; · iexact HA
  isplitl [HO]
  · isplitr; · iexact Hl
    iexists _; iexact HO
  isplitl [HR]; · iexact HR
  isplitl [HF]; · iexact HF
  isplitl [HZ]; · iexact HZ
  isplitl [HW]; · iexact HW
  isplitl [HWR]; · iexact HWR
  isplitl [HS]; · iexact HS
  isplitr [HX]
  · isplitl [Hd]; · iexact Hd
    iexact HB
  iexact HX

end Cert.KernelIdeal.Hand
-- ==== Proof.Body.lean ====
module
public import proofs.«01_k».proof.Proof.Moves

/-! The run of the kernel's body on one device: every program step is met by the rule for it. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)
set_option allowUnsafeReducibility true in
attribute [local reducible] k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel k0_part52_skel k0_part53_skel k0_part54_skel k0_part55_skel k0_part56_skel k0_part57_skel k0_part58_skel k0_part59_skel k0_part60_skel k0_part61_skel k0_part62_skel k0_part63_skel k0_part64_skel k0_part65_skel k0_part66_skel k0_part67_skel k0_part68_skel k0_part69_skel k0_part70_skel k0_part71_skel k0_part72_skel k0_part73_skel k0_part74_skel k0_part75_skel k0_part76_skel k0_part77_skel k0_part78_skel k0_part79_skel k0_part80_skel k0_part81_skel k0_part82_skel k0_part83_skel k0_part84_skel k0_part85_skel k0_part86_skel k0_part87_skel k0_part88_skel k0_part89_skel k0_part90_skel k0_part91_skel k0_part92_skel k0_part93_skel k0_part94_skel k0_part95_skel k0_part96_skel k0_part97_skel k0_part98_skel k0_part99_skel k0_part100_skel k0_part101_skel k0_part102_skel k0_part103_skel k0_part104_skel

set_option maxHeartbeats 16000000 in
/-- The whole body: from the buffers, semaphores and tokens it starts with to all copies made and waited for. -/
theorem body_run (c : Dev nD) (Q : Unit → sProp 𝕄) (h : GW m ρ c 128 4 ∗ Ow c 20 ∗ X m ρ c 20 4 16 16 4 4 4 ⊢ Q ⟨⟩) :
    G0 m ρ c ∗ Ow c 0 ∗ X0 m ρ c 0 ⊢ WP c (cc0_body_skel (F := F) idsM (Memref.isWhole_whole _) tabM (Memref.isWhole_whole _)
      outW (Memref.isWhole_whole _) gM (Memref.isWhole_whole _) zW (Memref.isWhole_whole _) sW (Memref.isWhole_whole _)
      cc0_scratch3 cc0_scratch4 cc0_scratch5 cc0_scratch6 cc0_scratch7 cc0_scratch8) Q := by
  unfold cc0_body_skel
  simp only [k0_part103_eq_skeleton, k0_part104_eq_skeleton]
  unfold k0_part103_skel k0_part104_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton]
  repeat first
    | with_reducible refine r_bind ?_
    | (with_reducible refine r_row m ρ ?_ ?_ ?_ ?_ ?_ ?_) <;> [rfl; decide; rfl; rfl; rfl; skip]
    | (with_reducible refine r_assume ?_ ?_) <;> [exact chk c _; skip]
    | (with_reducible refine r_pure ?_); (try dsimp only)
    | with_reducible refine r_dev ?_
    | (with_reducible refine r_signal m ρ ?_ ?_ ?_) <;> [decide; decide +kernel; skip]
    | (with_reducible refine r_any m ρ ?_) ; intro v
    | with_reducible refine r_zero m ρ ?_
    | refine r_word_i m ρ ?_ ?_ ?_ ?_ <;> [infer_instance; decide; rfl; skip]
  (with_reducible refine r_barwait m ρ ?_ ?_) <;> [rfl; skip]
  show GW m ρ c 0 0 ∗ _ ⊢ _
  repeat first
    | with_reducible refine r_bind ?_
    | (with_reducible refine r_rowwait m ρ ?_ ?_ ?_ ?_ ?_ ?_) <;> [rfl; decide; rfl; rfl; rfl; skip]
    | (with_reducible refine r_pure ?_); (try dsimp only)
    | (with_reducible refine r_chunk m ρ ?_ ?_ ?_ ?_) <;> [rfl; decide; rfl; skip]
    | (with_reducible refine r_chunk2 m ρ ?_ ?_ ?_ ?_) <;> [rfl; decide; rfl; skip]
    | (with_reducible refine r_zdead m ρ ?_ ?_ ?_) <;> [decide; rfl; (intro v)]
    | (with_reducible refine r_zstore m ρ ?_ ?_ ?_ ?_ ?_) <;> [decide; rfl; decide; rfl; skip]
    | (with_reducible refine r_zsend m ρ ?_ ?_ ?_ ?_ ?_ ?_ ?_ ?_) <;> [decide; rfl; decide; decide; decide +kernel; rfl; rfl; skip]
    | (with_reducible refine r_swait m ρ ?_ ?_ ?_ ?_ ?_) <;> [rfl; decide; decide; rfl; skip]
    | (with_reducible refine r_rwait m ρ ?_ ?_ ?_ ?_ ?_) <;> [rfl; decide; decide; rfl; skip]
    | (with_reducible refine r_owait m ρ ?_ ?_ ?_ ?_) <;> [rfl; decide; rfl; skip]
    | (with_reducible refine r_zload m ρ ?_ ?_ ?_) <;> [decide; decide; skip]
    | (with_reducible refine r_sdead m ρ ?_ ?_ ?_) <;> [decide; rfl; (intro v)]
    | (with_reducible refine r_sstore m ρ ?_ ?_ ?_ ?_ ?_ ?_) <;> [decide; rfl; decide; decide; rfl; skip]
    | (with_reducible refine r_local m ρ ?_ ?_ ?_ ?_ ?_ ?_ ?_) <;> [decide; rfl; decide; decide; rfl; rfl; skip]
    | (with_reducible refine r_bcast m ρ ?_ ?_ ?_ ?_ ?_ ?_ ?_ ?_ ?_ ?_) <;> [decide; decide; decide; decide; decide; rfl; decide +kernel; rfl; rfl; skip]
    | refine r_word_q m ρ ?_ ?_ ?_ ?_ <;> [infer_instance; decide; rfl; skip]
  exact h

end Cert.KernelIdeal.Hand
-- ==== Proof.Pieces.lean ====
module
public import proofs.«01_k».proof.Proof.Body

/-! The buffers cut into the pieces the protocol hands around, and put together again. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## Families over chunks and peers -/

theorem bs4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem f4 (Φ : Fin 4 → sProp 𝕄) : bigSep (Finset.Ico 0 4) (fun j => Φ (fo j)) = bigSep Finset.univ Φ := by
  have h : Finset.Ico 0 4 = (Finset.univ : Finset (Fin 4)).map Fin.valEmbedding := by decide
  rw [h, bigSep_map]
  exact bigSep_congr fun j _ => congrArg Φ (fo_val j)

theorem ev16 (Φ : Fin 4 → Fin 4 → sProp 𝕄) : bigSep (Finset.Ico 4 20) (fun i => Φ (evJ i) (evK i)) = bigSep Finset.univ (fun p : Fin 4 × Fin 4 => Φ p.1 p.2) := by
  have hinj : Function.Injective (fun p : Fin 4 × Fin 4 => if p.2 = 0 then 4 + p.1.val else 8 + 3 * p.1.val + (p.2.val - 1)) := by decide
  have hI : Finset.Ico 4 20 = (Finset.univ : Finset (Fin 4 × Fin 4)).map ⟨_, hinj⟩ := by clear Φ; decide +revert
  rw [hI, bigSep_map]
  refine bigSep_congr fun p _ => ?_
  have : ∀ p : Fin 4 × Fin 4, evJ (if p.2 = 0 then 4 + p.1.val else 8 + 3 * p.1.val + (p.2.val - 1)) = p.1 ∧ evK (if p.2 = 0 then 4 + p.1.val else 8 + 3 * p.1.val + (p.2.val - 1)) = p.2 := by decide
  show Φ (evJ (if p.2 = 0 then 4 + p.1.val else 8 + 3 * p.1.val + (p.2.val - 1))) _ = _
  rw [Function.Embedding.coeFn_mk, (this p).1, (this p).2]

theorem tr16 (Φ : Fin 4 → Fin 4 → sProp 𝕄) : bigSep (Finset.Ico 0 16) (fun w => Φ (tJ w) (tK w)) = bigSep Finset.univ (fun p : Fin 4 × Fin 4 => Φ p.1 p.2) := by
  rw [← ev16]
  have h : Finset.Ico 4 20 = (Finset.Ico 0 16).map ⟨fun w => w + 4, fun a b h => by simpa using h⟩ := by decide
  rw [h, bigSep_map]; rfl

theorem pairs (Φ : Fin 4 → Fin 4 → sProp 𝕄) : bigSep Finset.univ (fun p : Fin 4 × Fin 4 => Φ p.1 p.2) = bigSep Finset.univ (fun j : Fin 4 => iprop(Φ j 0 ∗ Φ j 1 ∗ Φ j 2 ∗ Φ j 3)) := by
  rw [bigSep_univ_prod (fun p : Fin 4 × Fin 4 => Φ p.1 p.2)]
  exact bigSep_congr fun j _ => bs4 _

/-! ## The pieces tile their buffers -/

abbrev zS (p : Fin 2 × Fin 4) : Finset S2x4x32x512.Idx := (zV p.1 p.2).set
abbrev sSet (j : Fin 4) : Finset S4x32x512.Idx := (sV j).set
abbrev oSet (c : Dev nD) (p : Fin 4 × Fin 4) : Finset S512x512.Idx := (oV (grp c p.2) p.1).set

theorem z_disj : ∀ p p' : Fin 2 × Fin 4, p ≠ p' → Disjoint (zV p.1 p.2).set (zV p'.1 p'.2).set := by
  intro p p' h
  rw [show (zV p.1 p.2).set = (zR p.1 p.2).set from View.set_slice_whole cc0_scratch1 _, show (zV p'.1 p'.2).set = (zR p'.1 p'.2).set from View.set_slice_whole cc0_scratch1 _]
  rw [Finset.disjoint_left]
  intro x h1 h2
  have a := Rect.mem_set_unit.mp h1
  have b := Rect.mem_set_unit.mp h2
  have a0 : p.1.val ≤ (x 0).val ∧ (x 0).val < p.1.val + 1 := a 0
  have a1 : p.2.val ≤ (x 1).val ∧ (x 1).val < p.2.val + 1 := a 1
  have b0 : p'.1.val ≤ (x 0).val ∧ (x 0).val < p'.1.val + 1 := b 0
  have b1 : p'.2.val ≤ (x 1).val ∧ (x 1).val < p'.2.val + 1 := b 1
  exact h (Prod.ext (Fin.ext (by omega)) (Fin.ext (by omega)))
theorem z_cov : (Finset.univ : Finset (Fin 2 × Fin 4)).biUnion zS = Finset.univ := by
  ext x
  simp only [Finset.mem_biUnion, Finset.mem_univ, true_and, iff_true]
  have x' : S2x4x32x512.Idx := x
  refine ⟨((x : S2x4x32x512.Idx) 0, (x : S2x4x32x512.Idx) 1), ?_⟩
  show x ∈ (zV ((x : S2x4x32x512.Idx) 0) ((x : S2x4x32x512.Idx) 1)).set
  rw [show (zV ((x : S2x4x32x512.Idx) 0) ((x : S2x4x32x512.Idx) 1)).set = (zR ((x : S2x4x32x512.Idx) 0) ((x : S2x4x32x512.Idx) 1)).set from View.set_slice_whole cc0_scratch1 _]
  refine Rect.mem_set_unit.mpr fun a => ?_
  have h := ((x : S2x4x32x512.Idx) a).isLt
  fin_cases a
  · exact ⟨le_refl _, Nat.lt_succ_self _⟩
  · exact ⟨le_refl _, Nat.lt_succ_self _⟩
  · exact ⟨Nat.zero_le _, by simpa using h⟩
  · exact ⟨Nat.zero_le _, by simpa using h⟩

theorem s_disj : ∀ j j' : Fin 4, j ≠ j' → Disjoint (sV j).set (sV j').set := by
  intro p p' h
  rw [show (sV p).set = (sR p).set from View.set_slice_whole cc0_scratch2 _, show (sV p').set = (sR p').set from View.set_slice_whole cc0_scratch2 _]
  rw [Finset.disjoint_left]
  intro x h1 h2
  have a0 : p.val ≤ (x 0).val ∧ (x 0).val < p.val + 1 := (Rect.mem_set_unit.mp h1) 0
  have b0 : p'.val ≤ (x 0).val ∧ (x 0).val < p'.val + 1 := (Rect.mem_set_unit.mp h2) 0
  exact h (Fin.ext (by omega))
theorem s_cov : (Finset.univ : Finset (Fin 4)).biUnion sSet = Finset.univ := by
  ext x
  simp only [Finset.mem_biUnion, Finset.mem_univ, true_and, iff_true]
  refine ⟨(x : S4x32x512.Idx) 0, ?_⟩
  show x ∈ (sV ((x : S4x32x512.Idx) 0)).set
  rw [show (sV ((x : S4x32x512.Idx) 0)).set = (sR ((x : S4x32x512.Idx) 0)).set from View.set_slice_whole cc0_scratch2 _]
  refine Rect.mem_set_unit.mpr fun a => ?_
  have h := ((x : S4x32x512.Idx) a).isLt
  fin_cases a
  · exact ⟨le_refl _, Nat.lt_succ_self _⟩
  · exact ⟨Nat.zero_le _, by simpa using h⟩
  · exact ⟨Nat.zero_le _, by simpa using h⟩

theorem o_set (d : Dev nD) (j : Fin 4) : (oV d j).set = (oR d j).set := View.set_slice_whole main_v1 _
theorem mem_oR (d : Dev nD) (j : Fin 4) (x : S512x512.Idx) : x ∈ (oR d j).set ↔ base d + 32 * j.val ≤ (x 0).val ∧ (x 0).val < base d + 32 * j.val + 32 := by
  have e : k0_off385 d (BitVec.ofNat 32 (32 * j.val)) = ![base d + 32 * j.val, 0] := k0_off385_eq d j
  constructor
  · intro h
    have := (Rect.mem_set_unit.mp h) 0
    rw [e] at this
    exact this
  · rintro ⟨h0, h1⟩
    refine Rect.mem_set_unit.mpr fun a => ?_
    rw [e]
    have h := (x a).isLt
    fin_cases a
    · exact ⟨h0, h1⟩
    · exact ⟨Nat.zero_le _, by simpa using h⟩
/-- The rows of device `c`'s result go by 128 to the four devices of its group. -/
theorem grp_base : ∀ (c : Dev nD) (k k' : Fin 4), k ≠ k' → base (grp c k) + 128 ≤ base (grp c k') ∨ base (grp c k') + 128 ≤ base (grp c k) := by decide +kernel
theorem grp_cov : ∀ (c : Dev nD) (q : Fin 4), ∃ k : Fin 4, base (grp c k) = 128 * q.val := by decide +kernel

theorem o_disj (c : Dev nD) : ∀ p p' : Fin 4 × Fin 4, p ≠ p' → Disjoint (oV (grp c p.2) p.1).set (oV (grp c p'.2) p'.1).set := by
  rintro ⟨j, k⟩ ⟨j', k'⟩ h
  rw [o_set, o_set, Finset.disjoint_left]
  intro x h1 h2
  have a := (mem_oR _ _ x).mp h1
  have b := (mem_oR _ _ x).mp h2
  dsimp only at a b
  have hj := j.isLt; have hj' := j'.isLt
  by_cases hk : k = k'
  · subst hk
    exact h (Prod.ext (Fin.ext (by dsimp only; omega)) rfl)
  · have := grp_base c k k' hk
    omega
theorem o_mem (c : Dev nD) (x : S512x512.Idx) : ∃ p : Fin 4 × Fin 4, x ∈ (oR (grp c p.2) p.1).set := by
  have hx : (x 0).val < 512 := (x 0).isLt
  obtain ⟨k, hk⟩ := grp_cov c ⟨(x 0).val / 128, by omega⟩
  refine ⟨(⟨(x 0).val % 128 / 32, by omega⟩, k), ?_⟩
  rw [mem_oR, hk]
  dsimp only
  omega
theorem o_cov (c : Dev nD) : (Finset.univ : Finset (Fin 4 × Fin 4)).biUnion (oSet c) = Finset.univ := by
  ext x
  simp only [Finset.mem_biUnion, Finset.mem_univ, true_and, iff_true]
  obtain ⟨p, hp⟩ := o_mem c x
  exact ⟨p, by show x ∈ (oV (grp c p.2) p.1).set; rw [o_set]; exact hp⟩

/-! ## Cutting and joining -/

theorem any_intro {sp : Space} {s : Shape} {e : EltTy} (v : View sig .tc sp s e) (q : PosShare TreeShare) (d : Dev nD) (f : Buf (Elt F) (v.loc (d : Thread nD τ))) :
    (v.loc (d : Thread nD τ) ↦[v.set]{q} f) ⊢ (anyOn v q d : sProp 𝕄) := by
  unfold anyOn; iintro H; iexists f; iexact H

theorem z_split (c : Dev nD) (f : (cc0_scratch1 : Ref sig .tc).ty.Contents (Elt F)) : ((c : Thread nD τ).loc cc0_scratch1 ↦{fullShare} f)
    ⊢ (bigSep Finset.univ (fun p : Fin 2 × Fin 4 => anyOn (zV p.1 p.2) fullShare c) : sProp 𝕄) := by
  rw [Ring.pointsTo_blocks (ℓ := (c : Thread nD τ).loc cc0_scratch1) zS z_disj z_cov f]
  exact bigSep_mono fun p _ => any_intro (zV p.1 p.2) fullShare c f
include m in
theorem z_join (c : Dev nD) : (bigSep Finset.univ (fun p : Fin 2 × Fin 4 => anyOn (zV p.1 p.2) fullShare c) : sProp 𝕄)
    ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) zS z_disj z_cov (m _)
theorem s_split (c : Dev nD) (f : (cc0_scratch2 : Ref sig .tc).ty.Contents (Elt F)) : ((c : Thread nD τ).loc cc0_scratch2 ↦{fullShare} f)
    ⊢ (bigSep Finset.univ (fun j : Fin 4 => anyOn (sV j) fullShare c) : sProp 𝕄) := by
  rw [Ring.pointsTo_blocks (ℓ := (c : Thread nD τ).loc cc0_scratch2) sSet s_disj s_cov f]
  exact bigSep_mono fun p _ => any_intro (sV p) fullShare c f
include m in
theorem s_join (c : Dev nD) : (bigSep Finset.univ (fun j : Fin 4 => anyOn (sV j) fullShare c) : sProp 𝕄)
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) sSet s_disj s_cov (m _)
theorem o_split (c : Dev nD) (f : (main_v1 : Ref sig .tc).ty.Contents (Elt F)) : ((c : Thread nD τ).loc main_v1 ↦{fullShare} f)
    ⊢ (bigSep Finset.univ (fun p : Fin 4 × Fin 4 => anyOn (oV (grp c p.2) p.1) fullShare c) : sProp 𝕄) := by
  rw [Ring.pointsTo_blocks (ℓ := (c : Thread nD τ).loc main_v1) (oSet c) (o_disj c) (o_cov c) f]
  exact bigSep_mono fun p _ => any_intro (oV (grp c p.2) p.1) fullShare c f

/-- Facts known of every member of a family. -/
theorem all_pure {ι : Type} [DecidableEq ι] (S : Finset ι) (P : ι → Prop) : bigSep S (fun i => (iprop(⌜P i⌝) : sProp 𝕄)) ⊢ (iprop(⌜∀ i ∈ S, P i⌝) : sProp 𝕄) := by
  induction S using Finset.induction_on with
  | empty => iintro -; ipureintro; simp
  | insert a S ha ih =>
    rw [bigSep_insert ha]
    show iprop(⌜P a⌝ ∗ bigSep S (fun i => iprop(⌜P i⌝))) ⊢ _
    iintro ⟨%h, H⟩
    ihave %h' := ih $$ H
    ipureintro
    exact fun i hi => (Finset.mem_insert.mp hi).elim (fun e => e ▸ h) (h' i)

/-- Device `c`'s result: the rows of each device of its group as that device broadcast them. -/
def IsOut (c : Dev nD) (f : (main_v1 : Ref sig .tc).ty.Contents (Elt F)) : Prop :=
  ∀ p : Fin 4 × Fin 4, (oV (grp c p.2) p.1).read (Elt F) f = OV m ρ (grp c p.2) p.1
def Out (c : Dev nD) : sProp 𝕄 := iprop(∃ f : Buf (Elt F) ((c : Thread nD τ).loc main_v1), ⌜IsOut m ρ c f⌝ ∗ ((c : Thread nD τ).loc main_v1) ↦{fullShare} f)

theorem o_join (c : Dev nD) : bigSep Finset.univ (fun p : Fin 4 × Fin 4 => holds (oV (grp c p.2) p.1) fullShare c (OV m ρ (grp c p.2) p.1)) ⊢ Out m ρ c := by
  have : Nonempty (Buf (Elt F) ((c : Thread nD τ).loc main_v1)) := ⟨m _⟩
  refine (bigSep_exists_pi Finset.univ (fun (p : Fin 4 × Fin 4) (f : Buf (Elt F) ((c : Thread nD τ).loc main_v1)) =>
    (iprop(⌜(oV (grp c p.2) p.1).read (Elt F) f = OV m ρ (grp c p.2) p.1⌝ ∗ (((c : Thread nD τ).loc main_v1) ↦[(oV (grp c p.2) p.1).set]{fullShare} f)) : sProp 𝕄))).trans ?_
  simp only [bigSep_sep']
  iintro ⟨%fs, #Hp, H⟩
  ihave %hp := (all_pure (F := F) Finset.univ (fun p : Fin 4 × Fin 4 => (oV (grp c p.2) p.1).read (Elt F) (fs p) = OV m ρ (grp c p.2) p.1)) $$ Hp
  ihave H := (pointsTo_biUnion_join (ℓ := (c : Thread nD τ).loc main_v1) Finset.univ (oSet c) fs (m _) (fun p _ p' _ h => o_disj c p p' h)) $$ H
  rw [o_cov c]
  icases H with ⟨%g, %hg, H⟩
  unfold Out
  iexists g
  isplitr
  · ipureintro
    intro p
    rw [← hp p (Finset.mem_univ _)]
    exact View.read_congr fun i hi => hg p (Finset.mem_univ _) i hi
  · iexact H

/-- A chunk's four shares together. -/
theorem holds_unshare {sp : Space} {s : Shape} {e : EltTy} (v : View sig .tc sp s e) (d : Dev nD) (k : ℕ) :
    iprop(anyOn v (Transfers.shareDrop fullShare (k + 1)) d ∗ anyOn v (Transfers.shareTokN fullShare k) d) ⊢ (anyOn v (Transfers.shareDrop fullShare k) d : sProp 𝕄) := by
  unfold anyOn
  iintro ⟨⟨%f, H1⟩, ⟨%g, H2⟩⟩
  ihave %h := (pointsTo_agree) $$ [H1 H2]
  · isplitl [H1]; · iexact H1
    iexact H2
  have e : (v.loc (d : Thread nD τ) ↦[v.set]{Transfers.shareTokN fullShare k} g : sProp 𝕄) = (v.loc (d : Thread nD τ) ↦[v.set]{Transfers.shareTokN fullShare k} f) :=
    pointsTo_congr fun i hi => ((h i (Finset.mem_inter.mpr ⟨hi, hi⟩)).1).symm
  ihave H2 := (Entails.of_eq e) $$ H2
  ihave H := ((pointsTo_share (PosShare.mem_left_op_right (Transfers.shareDrop fullShare k))).2) $$ [H1 H2]
  · isplitl [H1]; · iexact H1
    iexact H2
  iexists f; iexact H

end Cert.KernelIdeal.Hand
-- ==== Proof.Ends.lean ====
module
public import proofs.«01_k».proof.Proof.Pieces

/-! What a device starts the body with and what it ends it with. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## Families over chunks and peers -/

/-- The semaphores the kernel never uses. -/
def spS (n : Fin 8) : DmaSem sig := ⟨14 + 4 * n.val, by have := n.isLt; show _ < 46; omega⟩
def zero (c : Dev nD) (q : DmaSem sig) : sProp 𝕄 := semVal ((c : Thread nD τ), .dma q) 0
def spare (c : Dev nD) : sProp 𝕄 := bigSep Finset.univ (fun n => zero c (spS n))
/-- A scratch buffer at some contents. -/
def some' (c : Dev nD) (b : Ref sig .tc) : sProp 𝕄 := iprop(∃ f : Buf (Elt F) ((c : Thread nD τ).loc b), ((c : Thread nD τ).loc b) ↦{fullShare} f)

def start (c : Dev nD) : sProp 𝕄 :=
  iprop(levAts L lv ∗ Rec m ρ ∗ tabP m ρ c 0 ∗ some' c main_v1 ∗ bigSep (Finset.Ico 0 4) (fun j => semVal ((c : Thread nD τ), .dma (gSn j)) 0)
    ∗ Transfers.Batch EC (c : Thread nD τ) (.dma oS) () NB (LD m ρ c) 0 0 ∗ spare c ∗ bigSep (Finset.Ico 0 20) (fun i => tok c i)
    ∗ (atPos ER (barCell c) 0 ∅ 0 ∗ cred (tallyAt (barCell c) () 4))
    ∗ bigSep (Finset.Ico 0 16) (fun w => atPos ER (sCell c (tJ w) (tK w)) 0 ∅ 0)
    ∗ bigSep (Finset.Ico 0 16) (fun w => iprop(atPos ER (rCell c (tJ w) (tK w)) 0 ∅ 0 ∗ cred (tallyAt (rCell c (tJ w) (tK w)) () NB))))

/-- The places of the peers' copies on this device, out of its own buffers. -/
theorem bars (c : Dev nD) : (iprop(bigSep Finset.univ (fun j : Fin 4 => anyOn (zV 1 j) fullShare c)
      ∗ bigSep Finset.univ (fun j : Fin 4 => iprop(anyOn (oV (grp c 1) j) fullShare c ∗ anyOn (oV (grp c 2) j) fullShare c ∗ anyOn (oV (grp c 3) j) fullShare c))) : sProp 𝕄)
    ⊢ bigSep (Finset.Ico 0 4) (fun i => barPay (F := F) (peer c (evK i)) (evK i)) := by
  have e : bigSep (Finset.Ico 0 4) (fun i => barPay (F := F) (peer c (evK i)) (evK i)) = bigSep Finset.univ (fun k => barPay (F := F) (peer c k) k) := by
    rw [← f4]
    refine bigSep_congr fun i hi => ?_
    have : evK i = fo i := if_pos (Finset.mem_Ico.mp hi).2
    rw [this]
  rw [e, bs4 (fun k => barPay (F := F) (peer c k) k)]
  unfold barPay
  simp only [peer_peer]
  simp only [bigSep_sep']
  iintro ⟨H0, H1, H2, H3⟩
  isplitl [H0]; · iexact H0
  isplitl [H1]; · iexact H1
  isplitl [H2]; · iexact H2
  iexact H3

theorem enter (c : Dev nD) : (iprop(start m ρ c ∗ (some' c cc0_scratch0 ∗ some' c cc0_scratch1 ∗ some' c cc0_scratch2) ∗ idsP m ρ c ∗ ∃ W, owes (c : Thread nD τ) (O c 0) W) : sProp 𝕄)
    ⊢ iprop((G0 m ρ c ∗ Ow c 0 ∗ X0 m ρ c 0) ∗ spare c) := by
  have hz : (bigSep Finset.univ (fun p : Fin 2 × Fin 4 => anyOn (zV p.1 p.2) fullShare c) : sProp 𝕄)
      = iprop(bigSep Finset.univ (fun j : Fin 4 => anyOn (zV 0 j) fullShare c) ∗ bigSep Finset.univ (fun j : Fin 4 => anyOn (zV 1 j) fullShare c)) := by
    rw [bigSep_univ_prod (fun p : Fin 2 × Fin 4 => anyOn (F := F) (zV p.1 p.2) fullShare c)]
    exact bigSep_univ_eq_bigSepL [0, 1] (by decide) (by decide) _
  have ho : (bigSep Finset.univ (fun p : Fin 4 × Fin 4 => anyOn (oV (grp c p.2) p.1) fullShare c) : sProp 𝕄)
      = iprop(bigSep Finset.univ (fun j : Fin 4 => anyOn (oV c j) fullShare c)
        ∗ bigSep Finset.univ (fun j : Fin 4 => iprop(anyOn (oV (grp c 1) j) fullShare c ∗ anyOn (oV (grp c 2) j) fullShare c ∗ anyOn (oV (grp c 3) j) fullShare c))) := by
    rw [pairs (F := F) (fun j k => anyOn (oV (grp c k) j) fullShare c)]
    exact bigSep_sep' _ _ _
  unfold start some'
  iintro ⟨⟨Hl, HR, Ht, ⟨%f, Ho⟩, Hg, HB, Hsp, Htok, Hbar, Hs, Hr⟩, ⟨⟨%f0, H0⟩, ⟨%f1, H1⟩, ⟨%f2, H2⟩⟩, Hi, HO⟩
  ihave H1 := (z_split c f1) $$ H1
  ihave H1 := (Entails.of_eq hz) $$ H1
  icases H1 with ⟨Hz0, Hz1⟩
  ihave Ho := (o_split c f) $$ Ho
  ihave Ho := (Entails.of_eq ho) $$ Ho
  icases Ho with ⟨Hoc, Hog⟩
  ihave H2 := (s_split c f2) $$ H2
  ihave Hbp := (bars (F := F) c) $$ [Hz1 Hog]
  · isplitl [Hz1]; · iexact Hz1
    iexact Hog
  isplitr [Hsp]; swap; · iexact Hsp
  isplitl [Hi Ht H0 Hg]
  · unfold G0
    isplitl [Hi]; · iexact Hi
    isplitl [Ht]; · iexact Ht
    isplitl [H0]; · iexists f0; unfold gP; iexact H0
    iexact Hg
  isplitl [Hl HO]
  · unfold Ow
    isplitl [Hl]; · iexact Hl
    iexact HO
  unfold X0 ZS WS WR SS LC
  rw [f4 (fun j => anyOn (F := F) (zV 0 j) fullShare c), f4 (fun j => anyOn (F := F) (sV j) fullShare c), f4 (fun j => anyOn (F := F) (oV c j) fullShare c)]
  simp only [Nat.sub_self, Finset.Ico_self, bigSep_empty, Nat.mul_zero, show 4 - 8 = 0 from rfl]
  isplitl [HR]; · iexact HR
  isplitl [Hbp]; · iexact Hbp
  isplitl [Htok]; · iexact Htok
  isplitl [Hbar]; · iexact Hbar
  isplitl [Hz0]
  · isplitl [Hz0]; · iexact Hz0
    iempintro
  isplitl [Hs]
  · isplitl [Hs]; · iexact Hs
    isplitr <;> iempintro
  isplitl [Hr]
  · isplitl [Hr]; · iexact Hr
    iempintro
  isplitl [H2]
  · isplitl [H2]; · iexact H2
    isplitr <;> iempintro
  isplitl [Hoc]; · iexact Hoc
  iexact HB

/-- What a device ends with. -/
def finish (c : Dev nD) : sProp 𝕄 :=
  iprop((tabP m ρ c 128 ∗ Out m ρ c ∗ semVal (barCell c) 0) ∗ bigSep (Finset.Ico 0 4) (fun j => zero c (gSn j)) ∗ zero c oS
    ∗ bigSep Finset.univ (fun p : Fin 4 × Fin 4 => zero c (sS p.1 p.2)) ∗ bigSep Finset.univ (fun p : Fin 4 × Fin 4 => zero c (rS p.1 p.2))
    ∗ some' c cc0_scratch0 ∗ some' c cc0_scratch1 ∗ some' c cc0_scratch2)

theorem gather_end (c : Dev nD) : GW m ρ c 128 4 ⊢ iprop(idsP m ρ c ∗ tabP m ρ c 128 ∗ bigSep (Finset.Ico 0 4) (fun j => zero c (gSn j)) ∗ some' c cc0_scratch0 : sProp 𝕄) := by
  have hd : ∀ j ∈ Finset.Ico 0 4, ∀ j' ∈ Finset.Ico 0 4, j ≠ j' → Disjoint (chunk j) (chunk j') := by
    intro j _ j' _ h
    unfold chunk
    rw [Finset.disjoint_left]
    intro x h1 h2
    have a := (Finset.mem_filter.mp h1).2
    have b := (Finset.mem_filter.mp h2).2
    omega
  have hc : (Finset.Ico 0 4).biUnion chunk = Finset.univ := by
    ext x
    simp only [Finset.mem_biUnion, Finset.mem_univ, iff_true]
    have hx : (x 0).val < 128 := (x 0).isLt
    exact ⟨(x 0).val / 32, Finset.mem_Ico.mpr ⟨Nat.zero_le _, by omega⟩, Finset.mem_filter.mpr ⟨Finset.mem_univ _, by omega, by omega⟩⟩
  have e : bigSep (Finset.Ico 0 4) (fun j => gP (F := F) c (chunk j) (Gt m ρ c)) = gP c Finset.univ (Gt m ρ c) := by
    rw [← hc]
    exact (pointsTo_biUnion (ℓ := gLoc c) (q := fullShare) (f := Gt m ρ c) (Finset.Ico 0 4) chunk hd).symm
  unfold GW GS Gd
  rw [bigSep_sep', e]
  iintro ⟨Hi, Ht, -, -, Hg, Hs⟩
  isplitl [Hi]; · iexact Hi
  isplitl [Ht]; · iexact Ht
  isplitl [Hs]; · iexact Hs
  unfold some' gP
  iexists (Gt m ρ c); iexact Hg

theorem leave (c : Dev nD) : (iprop(GW m ρ c 128 4 ∗ Ow c 20 ∗ X m ρ c 20 4 16 16 4 4 4) : sProp 𝕄)
    ⊢ |={Set.univ}=> iprop(idsP m ρ c ∗ (∃ W, owes (c : Thread nD τ) 0 W) ∗ finish m ρ c) := by
  have hw : ∀ j : Fin 4, (iprop(anyOn (sV j) (Transfers.shareDrop fullShare 3) c ∗ anyOn (sV j) (Transfers.shareTokN fullShare 0) c ∗ anyOn (sV j) (Transfers.shareTokN fullShare 1) c
      ∗ anyOn (sV j) (Transfers.shareTokN fullShare 2) c) : sProp 𝕄) ⊢ anyOn (sV j) fullShare c := by
    intro j
    iintro ⟨H, H0, H1, H2⟩
    ihave H := (holds_unshare (F := F) (sV j) c 2) $$ [H H2]
    · isplitl [H]; · iexact H
      iexact H2
    ihave H := (holds_unshare (F := F) (sV j) c 1) $$ [H H1]
    · isplitl [H]; · iexact H
      iexact H1
    ihave H := (holds_unshare (F := F) (sV j) c 0) $$ [H H0]
    · isplitl [H]; · iexact H
      iexact H0
    iexact H
  have hld : (bigSep Finset.univ (LD m ρ c) : sProp 𝕄)
      = iprop(bigSep Finset.univ (fun j => holds (oV c j) fullShare c (OV m ρ c j)) ∗ bigSep Finset.univ (fun j => holds (sV j) (Transfers.shareDrop fullShare 3) c (SV m ρ c j))) :=
    bigSep_sep' _ _ _
  have hback : (bigSep Finset.univ (fun j : Fin 4 => iprop(back c j 0 ∗ back c j 1 ∗ back c j 2 ∗ back c j 3)) : sProp 𝕄)
      = iprop(bigSep Finset.univ (fun j : Fin 4 => anyOn (zV 0 j) fullShare c) ∗ bigSep Finset.univ (fun j : Fin 4 => anyOn (sV j) (Transfers.shareTokN fullShare 0) c)
        ∗ bigSep Finset.univ (fun j : Fin 4 => anyOn (sV j) (Transfers.shareTokN fullShare 1) c) ∗ bigSep Finset.univ (fun j : Fin 4 => anyOn (sV j) (Transfers.shareTokN fullShare 2) c)) := by
    simp only [bigSep_sep']; rfl
  have hland : (bigSep Finset.univ (fun j : Fin 4 => iprop(landed m ρ (peer c 0) c j 0 ∗ landed m ρ (peer c 1) c j 1 ∗ landed m ρ (peer c 2) c j 2 ∗ landed m ρ (peer c 3) c j 3)) : sProp 𝕄)
      = iprop(bigSep Finset.univ (fun j : Fin 4 => holds (zV 1 j) fullShare c (ZV m ρ (peer c 0) j)) ∗ bigSep Finset.univ (fun j : Fin 4 => holds (oV (grp c 1) j) fullShare c (OV m ρ (grp c 1) j))
        ∗ bigSep Finset.univ (fun j : Fin 4 => holds (oV (grp c 2) j) fullShare c (OV m ρ (grp c 2) j)) ∗ bigSep Finset.univ (fun j : Fin 4 => holds (oV (grp c 3) j) fullShare c (OV m ρ (grp c 3) j))) := by
    simp only [bigSep_sep']; rfl
  have hout : (iprop(bigSep Finset.univ (fun j : Fin 4 => holds (oV c j) fullShare c (OV m ρ c j)) ∗ bigSep Finset.univ (fun j : Fin 4 => holds (oV (grp c 1) j) fullShare c (OV m ρ (grp c 1) j))
        ∗ bigSep Finset.univ (fun j : Fin 4 => holds (oV (grp c 2) j) fullShare c (OV m ρ (grp c 2) j)) ∗ bigSep Finset.univ (fun j : Fin 4 => holds (oV (grp c 3) j) fullShare c (OV m ρ (grp c 3) j))) : sProp 𝕄)
      ⊢ Out m ρ c := by
    refine (Entails.of_eq ?_).trans (o_join m ρ c)
    rw [pairs (F := F) (fun j k => holds (oV (grp c k) j) fullShare c (OV m ρ (grp c k) j))]
    simp only [bigSep_sep']; rfl
  have h3 : (bigSep Finset.univ (fun j : Fin 4 => holds (sV j) (Transfers.shareDrop fullShare 3) c (SV m ρ c j)) : sProp 𝕄)
      ⊢ bigSep Finset.univ (fun j : Fin 4 => anyOn (sV j) (Transfers.shareDrop fullShare 3) c) := bigSep_mono fun j _ => holds_any (sV j) _ c _
  have h1 : (bigSep Finset.univ (fun j : Fin 4 => holds (zV 1 j) fullShare c (ZV m ρ (peer c 0) j)) : sProp 𝕄)
      ⊢ bigSep Finset.univ (fun j : Fin 4 => anyOn (zV 1 j) fullShare c) := bigSep_mono fun j _ => holds_any (zV 1 j) _ c _
  have hs : (iprop(bigSep Finset.univ (fun j : Fin 4 => holds (sV j) (Transfers.shareDrop fullShare 3) c (SV m ρ c j)) ∗ bigSep Finset.univ (fun j : Fin 4 => anyOn (sV j) (Transfers.shareTokN fullShare 0) c)
        ∗ bigSep Finset.univ (fun j : Fin 4 => anyOn (sV j) (Transfers.shareTokN fullShare 1) c) ∗ bigSep Finset.univ (fun j : Fin 4 => anyOn (sV j) (Transfers.shareTokN fullShare 2) c)) : sProp 𝕄)
      ⊢ some' c cc0_scratch2 := by
    refine BIBase.Entails.trans ?_ ((bigSep_mono fun j _ => hw j).trans (s_join m c))
    simp only [bigSep_sep']
    iintro ⟨H, H'⟩
    isplitl [H]; · iapply h3 $$ H
    iexact H'
  have hz : (iprop(bigSep Finset.univ (fun j : Fin 4 => anyOn (zV 0 j) fullShare c) ∗ bigSep Finset.univ (fun j : Fin 4 => holds (zV 1 j) fullShare c (ZV m ρ (peer c 0) j))) : sProp 𝕄)
      ⊢ some' c cc0_scratch1 := by
    refine BIBase.Entails.trans ?_ (z_join m c)
    rw [bigSep_univ_prod (fun p : Fin 2 × Fin 4 => anyOn (F := F) (zV p.1 p.2) fullShare c)]
    rw [bigSep_univ_eq_bigSepL [0, 1] (by decide) (by decide) (fun a : Fin 2 => bigSep Finset.univ (fun b : Fin 4 => anyOn (F := F) (zV a b) fullShare c))]
    show _ ⊢ iprop(bigSep Finset.univ (fun b : Fin 4 => anyOn (F := F) (zV 0 b) fullShare c) ∗ bigSep Finset.univ (fun b : Fin 4 => anyOn (F := F) (zV 1 b) fullShare c))
    iintro ⟨H, H'⟩
    isplitl [H]; · iexact H
    iapply h1 $$ H'
  unfold X WS WR LC Ow
  rw [O_end]
  simp only [bigSep_sep']
  show (iprop(GW m ρ c 128 4 ∗ (levAts L lv ∗ ∃ W, owes (c : Thread nD τ) 0 W) ∗ Rec m ρ ∗ Fire c 20 ∗ ZS m ρ c 20 4
    ∗ (bigSep (Finset.Ico 16 16) (fun w => atPos ER (sCell c (tJ w) (tK w)) 0 ∅ 0)
      ∗ bigSep (Finset.Ico 16 (20 - 4)) (fun w => cred (tallyAt (sCell c (tJ w) (tK w)) () NB))
      ∗ bigSep (Finset.Ico 0 16) (fun w => back (F := F) c (tJ w) (tK w)) ∗ bigSep (Finset.Ico 0 16) (fun w => zero c (sS (tJ w) (tK w))))
    ∗ ((bigSep (Finset.Ico 16 16) (fun w => atPos ER (rCell c (tJ w) (tK w)) 0 ∅ 0)
        ∗ bigSep (Finset.Ico 16 16) (fun w => cred (tallyAt (rCell c (tJ w) (tK w)) () NB)))
      ∗ bigSep (Finset.Ico 0 16) (fun w => landed m ρ (peer c (tK w)) c (tJ w) (tK w)) ∗ bigSep (Finset.Ico 0 16) (fun w => zero c (rS (tJ w) (tK w))))
    ∗ SS m ρ c 20 4 4 ∗ (bigSep (Finset.Ico 4 4) (fun j => anyOn (oV c (fo j)) fullShare c)
      ∗ Transfers.Batch EC (c : Thread nD τ) (.dma oS) () NB (LD m ρ c) 4 (NB * 4)) ∗ semVal (barCell c) 0) : sProp 𝕄)
    ⊢ |={Set.univ}=> iprop(idsP m ρ c ∗ (∃ W, owes (c : Thread nD τ) 0 W) ∗ finish m ρ c)
  rw [tr16 (fun j k => back (F := F) c j k), tr16 (fun j k => zero (F := F) c (sS j k)), tr16 (fun j k => landed (F := F) m ρ (peer c k) c j k), tr16 (fun j k => zero (F := F) c (rS j k)),
    pairs (F := F) (fun j k => back c j k), pairs (F := F) (fun j k => landed m ρ (peer c k) c j k)]
  iintro ⟨HG, ⟨-, HO⟩, -, -, -, ⟨-, -, Hb, Hs⟩, ⟨-, Hl, Hr⟩, -, ⟨-, HB⟩, Hv⟩
  imod (Transfers.batch_collect' EC (c : Thread nD τ) NB_pos) $$ HB with ⟨HD, Hos⟩
  imodintro
  ihave HG := (gather_end m ρ c) $$ HG
  icases HG with ⟨Hi, Ht, Hgs, H0⟩
  isplitl [Hi]; · iexact Hi
  isplitl [HO]; · iexact HO
  unfold finish
  ihave HD := (Entails.of_eq hld) $$ HD
  icases HD with ⟨Ho0, Hs3⟩
  ihave Hb := (Entails.of_eq hback) $$ Hb
  icases Hb with ⟨Hz0, Hs0, Hs1, Hs2⟩
  ihave Hl := (Entails.of_eq hland) $$ Hl
  icases Hl with ⟨Hz1, Ho1, Ho2, Ho3⟩
  ihave Hout := (hout) $$ [Ho0 Ho1 Ho2 Ho3]
  · isplitl [Ho0]; · iexact Ho0
    isplitl [Ho1]; · iexact Ho1
    isplitl [Ho2]; · iexact Ho2
    iexact Ho3
  ihave H2 := (hs) $$ [Hs0 Hs1 Hs2 Hs3]
  · isplitl [Hs3]; · iexact Hs3
    isplitl [Hs0]; · iexact Hs0
    isplitl [Hs1]; · iexact Hs1
    iexact Hs2
  ihave H1 := (hz) $$ [Hz0 Hz1]
  · isplitl [Hz0]; · iexact Hz0
    iexact Hz1
  isplitl [Ht Hout Hv]
  · isplitl [Ht]; · iexact Ht
    isplitl [Hout]; · iexact Hout
    iexact Hv
  isplitl [Hgs]; · iexact Hgs
  isplitl [Hos]; · unfold zero; iexact Hos
  isplitl [Hs]; · iexact Hs
  isplitl [Hr]; · iexact Hr
  isplitl [H0]; · iexact H0
  isplitl [H1]; · iexact H1
  iexact H2
end Cert.KernelIdeal.Hand
-- ==== Proof.Deal.lean ====
module
public import proofs.«01_k».proof.Proof.Ends

/-! The launch: semaphores, credits and tokens dealt to the devices. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

/-! ## The kernel's own semaphores -/

abbrev osem (i : Fin 45) : SemLoc sig := .dma ⟨i.val + 1, by have := i.isLt; show _ < 46; omega⟩
theorem ownSemFacts : Pipeline.OwnSemFacts cfg0.spec osem := by decide +kernel

/-- The kernel's DMA semaphores by use: the gathers', the local stores', the send and the receive ones, the unused. -/
abbrev SI' : Type := Fin 4 ⊕ Unit ⊕ (Fin 4 × Fin 4) ⊕ (Fin 4 × Fin 4) ⊕ Fin 8
def semOf : SI' → DmaSem sig
  | .inl j => gS j
  | .inr (.inl _) => oS
  | .inr (.inr (.inl p)) => sS p.1 p.2
  | .inr (.inr (.inr (.inl p))) => rS p.1 p.2
  | .inr (.inr (.inr (.inr n))) => spS n
theorem semOf_inj : Function.Injective semOf := by decide +kernel
def ownS (i : Fin 45) : DmaSem sig := ⟨i.val + 1, by have := i.isLt; show _ < 46; omega⟩
theorem ownS_inj : Function.Injective ownS := by decide +kernel
theorem sems_eq : Finset.univ.map ⟨ownS, ownS_inj⟩ = Finset.univ.map ⟨semOf, semOf_inj⟩ := by decide +kernel

omit [FloatOps F] in
theorem one_unit (Φ : Unit → sProp 𝕄) : bigSep Finset.univ Φ = Φ () := bigSep_univ_eq_bigSepL [()] (by decide) (by decide) Φ

theorem own_eq (c : Dev nD) : (Pipeline.ownSems0 (Ix := Unit) (Name := ℕ) (U := UU) (Lvl := ℕ) (Val := Elt F) (τ := τ) osem c : sProp 𝕄)
    = iprop(bigSep Finset.univ (fun j => zero c (gS j)) ∗ zero c oS ∗ bigSep Finset.univ (fun p : Fin 4 × Fin 4 => zero c (sS p.1 p.2))
      ∗ bigSep Finset.univ (fun p : Fin 4 × Fin 4 => zero c (rS p.1 p.2)) ∗ spare c) := by
  have e : (Pipeline.ownSems0 (Ix := Unit) (Name := ℕ) (U := UU) (Lvl := ℕ) (Val := Elt F) (τ := τ) osem c : sProp 𝕄)
      = bigSep Finset.univ (fun i : Fin 45 => zero c (ownS i)) := rfl
  refine (e.trans (bigSep_map (s := Finset.univ) (⟨ownS, ownS_inj⟩ : Fin 45 ↪ DmaSem sig) (Φ := fun q => zero (F := F) c q)).symm).trans ?_
  rw [sems_eq, bigSep_map, bigSep_univ_sum, bigSep_univ_sum, bigSep_univ_sum, bigSep_univ_sum, one_unit]
  rfl

theorem un_eq (c : Dev nD) : (unscopedSems0 c : sProp 𝕄) = semVal (barCell c) 0 := by
  unfold unscopedSems0; rw [bigSep_eq_bigSepL_of_eq [SemLoc.reg barS] (by decide) (by decide)]; rfl

/-- Anything said of every cell, device by device and by the cell's use. -/
def ciE : Unit ⊕ (Fin 4 × Fin 4) ⊕ (Fin 4 × Fin 4) ≃ CI where
  toFun x := match x with
    | .inl _ => none
    | .inr (.inl p) => some (true, p.1, p.2)
    | .inr (.inr p) => some (false, p.1, p.2)
  invFun i := match i with
    | none => .inl ()
    | some (true, j, k) => .inr (.inl (j, k))
    | some (false, j, k) => .inr (.inr (j, k))
  left_inv x := by rcases x with _ | _ | _ <;> rfl
  right_inv i := by rcases i with _ | ⟨b, j, k⟩; · rfl
                    cases b <;> rfl
theorem cells_eq (Φ : GSem nD τ sig → sProp 𝕄) : bigSep Cells Φ = bigSep Finset.univ (fun c : Dev nD =>
    iprop(Φ (barCell c) ∗ bigSep Finset.univ (fun p : Fin 4 × Fin 4 => Φ (sCell c p.1 p.2)) ∗ bigSep Finset.univ (fun p : Fin 4 × Fin 4 => Φ (rCell c p.1 p.2)))) := by
  unfold Cells
  rw [bigSep_map, bigSep_univ_prod]
  refine bigSep_congr fun c _ => ?_
  rw [bigSep_univ_equiv ciE, bigSep_univ_sum, bigSep_univ_sum, one_unit]
  rfl

/-! ## The tokens, each to the device that pays with it -/

abbrev TI : Type := Fin 4 ⊕ (Fin 4 × Fin 4) ⊕ (Fin 4 × Fin 4)
def tokP (p : Dev nD × TI) : GSem nD τ sig × ℕ × Fin 4 := match p.2 with
  | .inl k => (barCell (peer p.1 k), 0, k)
  | .inr (.inl q) => (sCell p.1 q.1 q.2, 0, 0)
  | .inr (.inr q) => (rCell (peer p.1 q.2) q.1 q.2, 0, 0)
theorem peer_inj {c d : Dev nD} {k : Fin 4} (h : peer c k = peer d k) : c = d := by rw [← peer_peer c k, h, peer_peer]
theorem tokP_inj : Function.Injective tokP := by
  have hd : ∀ {a b : Dev nD} {s t : SemLoc sig}, (((a : Thread nD τ), s) : GSem nD τ sig) = ((b : Thread nD τ), t) → a = b ∧ s = t :=
    fun h => ⟨congrArg (fun g : GSem nD τ sig => g.1.1) h, congrArg Prod.snd h⟩
  have hx : ∀ {q q' : DmaSem sig}, (SemLoc.dma q : SemLoc sig) = .dma q' → q = q' := fun h => by injection h
  rintro ⟨c, i⟩ ⟨d, i'⟩ h
  unfold tokP at h
  rcases i with k | ⟨j, k⟩ | ⟨j, k⟩ <;> rcases i' with k' | ⟨j', k'⟩ | ⟨j', k'⟩ <;> dsimp only at h
  · have h2 : k = k' := congrArg (fun x : GSem nD τ sig × ℕ × Fin 4 => x.2.2) h
    subst h2
    rw [peer_inj (hd (congrArg Prod.fst h)).1]
  · exact absurd (hd (congrArg Prod.fst h)).2 (fun h => by cases h)
  · exact absurd (hd (congrArg Prod.fst h)).2 (fun h => by cases h)
  · exact absurd (hd (congrArg Prod.fst h)).2 (fun h => by cases h)
  · obtain ⟨h1, h2⟩ := hd (congrArg Prod.fst h)
    obtain ⟨h3, h4⟩ := s_inj (hx h2)
    rw [h1, h3, h4]
  · have := congrArg dec (hd (congrArg Prod.fst h)).2
    rw [dec_s, dec_r] at this; simp at this
  · exact absurd (hd (congrArg Prod.fst h)).2 (fun h => by cases h)
  · have := congrArg dec (hd (congrArg Prod.fst h)).2
    rw [dec_s, dec_r] at this; simp at this
  · obtain ⟨h1, h2⟩ := hd (congrArg Prod.fst h)
    obtain ⟨h3, h4⟩ := r_inj (hx h2)
    subst h3 h4
    rw [peer_inj h1]
def Toks : Finset (GSem nD τ sig × ℕ × Fin 4) := Finset.univ.map ⟨tokP, tokP_inj⟩

theorem toks_eq : (bigSep Toks (fun x => dutyTok ER x.1 x.2.1 x.2.2) : sProp 𝕄) = bigSep Finset.univ (fun c : Dev nD => bigSep (Finset.Ico 0 20) (fun i => tok c i)) := by
  unfold Toks
  rw [bigSep_map, bigSep_univ_prod]
  refine bigSep_congr fun c _ => ?_
  have e1 : (bigSep (Finset.Ico 0 4) (fun i => tok c i) : sProp 𝕄) = bigSep Finset.univ (fun k : Fin 4 => dutyTok ER (barCell (peer c k)) 0 k) := by
    rw [← f4]
    refine bigSep_congr fun i hi => ?_
    have h := (Finset.mem_Ico.mp hi).2
    rw [tok_bar c h, show evK i = fo i from if_pos h]
  have e2 : (bigSep (Finset.Ico 4 20) (fun i => tok c i) : sProp 𝕄) = bigSep Finset.univ (fun p : Fin 4 × Fin 4 =>
      iprop(dutyTok ER (sCell c p.1 p.2) 0 (0 : Fin 4) ∗ dutyTok ER (rCell (peer c p.2) p.1 p.2) 0 (0 : Fin 4))) := by
    rw [← ev16 (F := F) (fun j k => iprop(dutyTok ER (sCell c j k) 0 (0 : Fin 4) ∗ dutyTok ER (rCell (peer c k) j k) 0 (0 : Fin 4)))]
    exact bigSep_congr fun i hi => tok_x c (Finset.mem_Ico.mp hi).1
  rw [show Finset.Ico 0 20 = Finset.Ico 0 4 ∪ Finset.Ico 4 20 from by decide, bigSep_union (by decide), e1, e2, bigSep_univ_sum, bigSep_univ_sum, bigSep_sep']
  rfl

/-! ## The credits -/

theorem bar_iff {a b : Dev nD} : barCell a = barCell b ↔ a = b := ⟨fun h => congrArg (fun g : GSem nD τ sig => g.1.1) h, fun h => h ▸ rfl⟩
theorem peer_iff {c d : Dev nD} {k : Fin 4} : c = peer d k ↔ d = peer c k := ⟨fun h => by rw [h, peer_peer], fun h => by rw [h, peer_peer]⟩

theorem owe_to_bar (d c : Dev nD) (i : ℕ) : owe d i (barCell c) () = if d = peer c (evK i) then (if i < 4 then 1 else 0) else 0 := by
  unfold owe
  by_cases h : i < 4
  · rw [if_pos h, if_pos h, tallyAt_apply]
    simp only [bar_iff, peer_iff, and_true]
  · rw [if_neg h, if_neg h, tallyAt_ne_cell (fun e => dma_ne_bar _ (congrArg Prod.snd e).symm)]
    simp
theorem owe_to_r (d c : Dev nD) (j k : Fin 4) (i : ℕ) :
    owe d i (rCell c j k) () = if d = peer c (evK i) then (if 4 ≤ i ∧ evJ i = j ∧ evK i = k then NB else 0) else 0 := by
  unfold owe
  by_cases h : i < 4
  · rw [if_pos h, if_neg (by omega : ¬(4 ≤ i ∧ evJ i = j ∧ evK i = k)), tallyAt_ne_cell (fun e => dma_ne_bar _ (congrArg Prod.snd e))]
    simp
  · rw [if_neg h, tallyAt_apply]
    by_cases hd : d = peer c (evK i)
    · subst hd
      rw [peer_peer, if_pos rfl]
      refine if_congr ⟨fun e => ?_, fun e => ?_⟩ rfl rfl
      · have h2 := r_inj (j := j) (k := k) (by have := congrArg Prod.snd e.1; injection this)
        exact ⟨by omega, h2.1.symm, h2.2.symm⟩
      · rw [e.2.1, e.2.2]; exact ⟨rfl, rfl⟩
    · rw [if_neg hd, if_neg fun e => hd (peer_iff.mp (congrArg (fun g : GSem nD τ sig => g.1.1) e.1))]

theorem owed_all (g : GSem nD τ sig) (c : Dev nD) (a : ℕ → ℕ) (h : ∀ d i, owe d i g () = if d = peer c (evK i) then a i else 0) :
    ∑ d : Dev nD, O d 0 g () = ∑ i ∈ Finset.Ico 0 20, a i := by
  unfold O
  simp only [Finset.sum_apply, Finsupp.finset_sum_apply]
  rw [Finset.sum_comm]
  refine Finset.sum_congr rfl fun i _ => ?_
  rw [Finset.sum_congr rfl fun d _ => h d i, Finset.sum_ite_eq' Finset.univ (peer c (evK i)) fun _ => a i, if_pos (Finset.mem_univ _)]

theorem launch_bar (c : Dev nD) :
    tallyOn (barCell c) (launchCredit (Pipeline.owing (fun d => O d 0)) 0 (barCell c)) = (tallyAt (barCell c) () 4 : CellTallies nD τ sig Unit) := by
  unfold tallyAt; refine congrArg _ (Finsupp.ext fun u => ?_); cases u
  rw [Pipeline.launchCredit_owing, Finsupp.single_eq_same, owed_all (barCell c) c _ (fun d i => owe_to_bar d c i)]
  decide
theorem launch_r (c : Dev nD) (j k : Fin 4) :
    tallyOn (rCell c j k) (launchCredit (Pipeline.owing (fun d => O d 0)) 0 (rCell c j k)) = (tallyAt (rCell c j k) () NB : CellTallies nD τ sig Unit) := by
  unfold tallyAt; refine congrArg _ (Finsupp.ext fun u => ?_); cases u
  rw [Pipeline.launchCredit_owing, Finsupp.single_eq_same, owed_all (rCell c j k) c _ (fun d i => owe_to_r d c j k i), ← Finset.sum_filter, Finset.sum_const,
    show ((Finset.Ico 0 20).filter fun i => 4 ≤ i ∧ evJ i = j ∧ evK i = k).card = 1 from by revert j k; decide, one_smul]

abbrev crI : Unit ⊕ (Fin 4 × Fin 4) → SemLoc sig := fun x => match x with
  | .inl _ => .reg barS
  | .inr p => .dma (rS p.1 p.2)
theorem crI_inj : Function.Injective crI := by
  rintro (_ | ⟨j, k⟩) (_ | ⟨j', k'⟩) h
  · rfl
  · exact absurd h.symm (dma_ne_bar _)
  · exact absurd h (dma_ne_bar _)
  · obtain ⟨h1, h2⟩ := r_inj (j := j) (k := k) (j' := j') (k' := k') (by injection h)
    rw [h1, h2]
theorem creds (c : Dev nD) : (Pipeline.launchCred (fun d => O d 0) c : sProp 𝕄)
    ⊢ iprop(cred (tallyAt (barCell c) () 4) ∗ bigSep Finset.univ (fun p : Fin 4 × Fin 4 => cred (tallyAt (rCell c p.1 p.2) () NB))) := by
  unfold Pipeline.launchCred
  refine BIBase.Entails.trans (bigSep_subset (Finset.subset_univ (Finset.univ.map ⟨crI, crI_inj⟩))) ?_
  rw [bigSep_map, bigSep_univ_sum, one_unit]
  refine Entails.of_eq ?_
  show iprop(cred (tallyOn (barCell c) (launchCredit (Pipeline.owing (fun d => O d 0)) 0 (barCell c)))
    ∗ bigSep Finset.univ (fun p : Fin 4 × Fin 4 => cred (tallyOn (rCell c p.1 p.2) (launchCredit (Pipeline.owing (fun d => O d 0)) 0 (rCell c p.1 p.2))))) = _
  rw [launch_bar, bigSep_congr (fun p _ => congrArg cred (launch_r c p.1 p.2))]

/-! ## Dealing -/

def G (c : Dev nD) : sProp 𝕄 := if c = 0 then BI.own (ER (launchOf Cells ∅ Toks)) else iprop(emp)
theorem G_all : (BI.own (ER (launchOf Cells ∅ Toks)) : sProp 𝕄) ⊢ bigSep Finset.univ (G (F := F)) := by
  rw [bigSep_univ_at _ (0 : Dev nD), show bigSep (Finset.univ.erase (0 : Dev nD)) (G (F := F)) = iprop(emp) from
    (bigSep_congr fun c hc => if_neg (Finset.ne_of_mem_erase hc)).trans (bigSep_emp_const _)]
  iintro H
  isplitl
  · unfold G; rw [if_pos rfl]; iexact H
  iempintro
theorem all_G : (bigSep Finset.univ (G (F := F)) : sProp 𝕄) ⊢ BI.own (ER (launchOf Cells ∅ Toks)) := by
  refine BIBase.Entails.trans (bigSep_elim (Finset.mem_univ (0 : Dev nD))) (Entails.of_eq (if_pos rfl))

/-- What the deal leaves a device with. -/
def mine (c : Dev nD) : sProp 𝕄 :=
  iprop((atPos ER (barCell c) 0 ∅ 0 ∗ bigSep Finset.univ (fun p : Fin 4 × Fin 4 => atPos ER (sCell c p.1 p.2) 0 ∅ 0) ∗ bigSep Finset.univ (fun p : Fin 4 × Fin 4 => atPos ER (rCell c p.1 p.2) 0 ∅ 0))
    ∗ bigSep (Finset.Ico 0 20) (fun i => tok c i) ∗ (bigSep Finset.univ (fun j => zero c (gS j)) ∗ zero c oS ∗ spare c))
def G' (c : Dev nD) : sProp 𝕄 := iprop(Rec m ρ ∗ mine c)

theorem glob : (bigSep Finset.univ fun c => iprop(Pipeline.ownSems0 (Ix := Unit) (Name := ℕ) (U := UU) (Lvl := ℕ) (Val := Elt F) (τ := τ) osem c ∗ unscopedSems0 c ∗ G c) : sProp 𝕄)
    ⊢ |={Set.univ}=> bigSep Finset.univ (G' m ρ) := by
  have e : (bigSep Finset.univ fun c => iprop(Pipeline.ownSems0 (Ix := Unit) (Name := ℕ) (U := UU) (Lvl := ℕ) (Val := Elt F) (τ := τ) osem c ∗ unscopedSems0 c ∗ G c) : sProp 𝕄)
      ⊢ iprop(bigSep Cells (fun g => semVal g 0) ∗ bigSep Finset.univ (fun c => iprop(bigSep Finset.univ (fun j => zero c (gS j)) ∗ zero c oS ∗ spare c)) ∗ bigSep Finset.univ (G (F := F))) := by
    rw [cells_eq, ← bigSep_sep', ← bigSep_sep']
    refine bigSep_mono fun c _ => ?_
    rw [own_eq, un_eq]
    show iprop((bigSep Finset.univ (fun j => zero c (gS j)) ∗ zero c oS ∗ bigSep Finset.univ (fun p : Fin 4 × Fin 4 => zero c (sS p.1 p.2))
      ∗ bigSep Finset.univ (fun p : Fin 4 × Fin 4 => zero c (rS p.1 p.2)) ∗ spare c) ∗ semVal (barCell c) 0 ∗ G c)
      ⊢ iprop((semVal (barCell c) 0 ∗ bigSep Finset.univ (fun p : Fin 4 × Fin 4 => zero c (sS p.1 p.2)) ∗ bigSep Finset.univ (fun p : Fin 4 × Fin 4 => zero c (rS p.1 p.2)))
        ∗ (bigSep Finset.univ (fun j => zero c (gS j)) ∗ zero c oS ∗ spare c) ∗ G (F := F) c)
    iintro ⟨⟨H1, H2, H3, H4, H5⟩, H6, H7⟩
    isplitl [H3 H4 H6]
    · isplitl [H6]; · iexact H6
      isplitl [H3] <;> iassumption
    isplitr [H7]; swap; · iexact H7
    isplitl [H1]; · iexact H1
    isplitl [H2] <;> iassumption
  refine e.trans ?_
  iintro ⟨Hv, Hs, HG⟩
  ihave HG := (all_G (F := F)) $$ HG
  imod (Rounds.fund_launch ER (Rd m ρ) (Finset.disjoint_empty_right Cells) (fun g hg => absurd hg (Finset.notMem_empty g)) Toks) $$ [Hv HG] with ⟨%κ, -, Hinv, Hr, Hat, -, Htok⟩
  · isplitl [Hv] <;> iassumption
  imodintro
  ihave Hat := (Entails.of_eq (cells_eq (F := F) (fun g => atPos ER g 0 ∅ 0))) $$ Hat
  ihave Htok := (Entails.of_eq (toks_eq (F := F))) $$ Htok
  unfold G' mine
  simp only [bigSep_sep']
  isplitl [Hinv Hr]
  · iapply (BI.bigSep_of_persistent Finset.univ (Rec (F := F) m ρ))
    unfold Rec
    iexists κ
    rw [Finset.union_empty]
    isplitl [Hinv] <;> iassumption
  isplitl [Hat]; · iexact Hat
  isplitl [Htok]; · iexact Htok
  iexact Hs
end Cert.KernelIdeal.Hand
-- ==== Proof.Launch.lean ====
module
public import proofs.«01_k».proof.Proof.Deal
public import Idealize.ShloMosaic.Lib.Pipeline.CollectiveSegs
public import Idealize.ShloMosaic.Lib.Quiescent

/-! The run of the whole program. -/

@[expose] public section
noncomputable section
namespace Cert.KernelIdeal.Hand
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
set_option maxRecDepth 100000
variable {F : FTy → Type} [FloatOps F]
local notation "𝕄" => MT nD τ sig Unit (Elt F) ℕ UU ℕ
variable (m : (ℓ : Loc nD τ sig) → Buf (Elt F) ℓ) (ρ : Dev nD → PrngReg)

open Idealize.ShloMosaic.Pipeline (Dat Cfg Window BodyObligation cellOf)

theorem gsems_eq (c : Dev nD) : (bigSep (Finset.Ico 0 4) (fun j => zero c (gSn j)) : sProp 𝕄) = bigSep Finset.univ (fun j => zero c (gS j)) :=
  f4 (F := F) (fun j => zero c (gS j))

/-! ## The body in the pipeline -/

def Φ₀ (c : Dev nD) : sProp 𝕄 := iprop(start m ρ c ∗ some' c cc0_scratch0 ∗ some' c cc0_scratch1 ∗ some' c cc0_scratch2)
def Φ₁ (c : Dev nD) : sProp 𝕄 := iprop(finish m ρ c ∗ spare c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => ids m ρ c
  Φ t := match t with
    | ⟨0, _⟩ => Φ₀ m ρ c
    | ⟨_ + 1, _⟩ => Φ₁ m ρ c
  q _ := fullShare
  owed t := match t with
    | ⟨0, _⟩ => O c 0
    | ⟨_ + 1, _⟩ => 0

abbrev t₀ : Fin cfg0.N := t0_0
theorem fin_N (t : Fin cfg0.N) : t = t₀ := fin_N0 t
theorem fetch_0 (t : Fin cfg0.N) : (cfg0.win (0 : Fin 1)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc ∗ (∃ d, stg c cc0_stg0_0 ((dats m ρ 0 c).before (0 : Fin 1) t₀ d)))
def bodyPost (c : Dev nD) : sProp 𝕄 :=
  iprop(Φ₁ m ρ c ∗ (dats m ρ 0 c).owesAt () t₀.succ ∗ stg c cc0_stg0_0 (ids m ρ c))

theorem pre_enter (c : Dev nD) : bodyPre m ρ c ⊢ iprop((G0 m ρ c ∗ Ow c 0 ∗ X0 m ρ c 0) ∗ spare c) := by
  refine BIBase.Entails.trans ?_ (enter m ρ c)
  unfold bodyPre Φ₀ Dat.owesAt Pipeline.owesWithin
  rw [show (dats m ρ 0 c).owed t₀.castSucc = O c 0 from rfl]
  iintro ⟨⟨Hs, Hb⟩, ⟨%W, %hW, HO⟩, ⟨%d, %g, %hg, Hx⟩⟩
  have hx : g = ids m ρ c := by rw [hg]; unfold Dat.before; rw [if_pos (fetch_0 t₀)]; rfl
  subst hx
  isplitl [Hs]; · iexact Hs
  isplitl [Hb]; · iexact Hb
  isplitl [Hx]; · unfold idsP; iexact Hx
  iexists W; iexact HO

theorem leave_post (c : Dev nD) : iprop(idsP m ρ c ∗ (∃ W, owes (c : Thread nD τ) 0 W) ∗ finish m ρ c) ∗ spare c ⊢ bodyPost m ρ c := by
  unfold bodyPost Φ₁ Dat.owesAt Pipeline.owesWithin
  rw [show (dats m ρ 0 c).owed t₀.succ = 0 from rfl]
  iintro ⟨⟨Hi, ⟨%W, HO⟩, HF⟩, Hs⟩
  isplitl [HF Hs]
  · isplitl [HF] <;> iassumption
  isplitl [HO]
  · iexists W
    isplitr; · ipureintro; exact fun _ _ => Or.inl trivial
    iexact HO
  iexists (ids m ρ c)
  isplitr; · ipureintro; rfl
  unfold idsP; iexact Hi

theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ WP c (cc0_body (F := F) idsM (Memref.isWhole_whole _) tabM (Memref.isWhole_whole _)
      outW (Memref.isWhole_whole _) gM (Memref.isWhole_whole _) zW (Memref.isWhole_whole _) sW (Memref.isWhole_whole _)
      cc0_scratch3 cc0_scratch4 cc0_scratch5 cc0_scratch6 cc0_scratch7 cc0_scratch8) (fun _ => bodyPost m ρ c)
  rw [cc0_body_eq_skeleton]
  refine (pre_enter m ρ c).trans ?_
  refine (sep_mono_left (body_run m ρ c (fun _ => iprop(|={Set.univ}=> iprop(idsP m ρ c ∗ (∃ W, owes (c : Thread nD τ) 0 W) ∗ finish m ρ c))) (leave m ρ c))).trans ?_
  refine (wp_frame_r _ _ _).trans ((wp_mono _ _ _ fun _ => ?_).trans (wp_fupd _ _ _ _ _))
  iintro ⟨H, Hs⟩
  imod H
  imodintro
  iapply (leave_post m ρ c)
  isplitl [H] <;> iassumption

/-! ## The theorem's side conditions -/

theorem share_eq (c : Dev nD) (w : Fin cfg0.W) : (dats (F := F) m ρ 0 c).share w = fullShare := by unfold Dat.share; split <;> rfl

def u₀ : UU := (initOf (Pipeline.cells cfgs cellOf_inj) (Pipeline.launchToks cfgs cellOf_inj), (launchOf Cells ∅ Toks, 1))

theorem start_intro (c : Dev nD) :
    iprop(Pipeline.unscopedRestP Pipeline.Prefetch.none cfg0.spec c (fun b => m ((c : Thread nD τ).loc b)) ∗ levAts L lv
        ∗ Pipeline.launchCred (fun d => O d 0) c ∗ prngReg c (ρ c) ∗ G' m ρ c)
      ⊢ |={Set.univ}=> iprop(start m ρ c ∗ emp) := by
  rw [Pipeline.unscopedRestP_none, unscopedRest0_eq]
  unfold G' mine
  rw [← gsems_eq, ← tr16 (F := F) (fun j k => atPos ER (sCell c j k) 0 ∅ 0), ← tr16 (F := F) (fun j k => atPos ER (rCell c j k) 0 ∅ 0)]
  iintro ⟨⟨Ht, Ho⟩, Hl, Hc, -, HR, ⟨Hb, Hs, Hr⟩, Htok, Hg, Hos, Hsp⟩
  ihave Hc := (creds (F := F) c) $$ Hc
  icases Hc with ⟨Hcb, Hcr⟩
  ihave Hcr := (Entails.of_eq (tr16 (F := F) (fun j k => cred (tallyAt (rCell c j k) () NB))).symm) $$ Hcr
  unfold zero
  imod (Transfers.batch_alloc' EC (c : Thread nD τ) (sm := .dma oS) () NB (LD m ρ c) (E := Set.univ)) $$ Hos with HB
  imodintro
  isplitl; swap; · iempintro
  unfold start some'
  rw [bigSep_sep']
  isplitl [Hl]; · iexact Hl
  isplitl [HR]; · iexact HR
  isplitl [Ht]; · unfold tabP; iexact Ht
  isplitl [Ho]; · iexists _; iexact Ho
  isplitl [Hg]; · iexact Hg
  isplitl [HB]; · iexact HB
  isplitl [Hsp]; · iexact Hsp
  isplitl [Htok]; · iexact Htok
  isplitl [Hb Hcb]
  · isplitl [Hb] <;> iassumption
  isplitl [Hs]; · iexact Hs
  isplitl [Hr]; · iexact Hr
  iexact Hcr

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ some'
  iintro ⟨Hs, -, Hr⟩
  isplitl [Hs] <;> iassumption

def Yd (c : Dev nD) : sProp 𝕄 := iprop(unscopedSems0 c ∗ tabP m ρ c 128 ∗ Out m ρ c)

theorem phi1_exit (c : Dev nD) :
    (dats m ρ 0 c).Φ (Fin.last cfg0.N) ⊢ iprop(Yd m ρ c ∗ Pipeline.ownSems0 osem c ∗ Pipeline.scopedRest cfg0.spec c) := by
  rw [show (dats m ρ 0 c).Φ (Fin.last cfg0.N) = Φ₁ m ρ c from rfl, scopedRest0_eq, own_eq]
  unfold Φ₁ finish Yd some'
  rw [un_eq, gsems_eq]
  iintro ⟨⟨⟨Ht, Ho, Hb⟩, Hg, Hos, Hs, Hr, Hbufs⟩, Hsp⟩
  isplitl [Ht Ho Hb]
  · isplitl [Hb]; · iexact Hb
    isplitl [Ht] <;> iassumption
  isplitr [Hbufs]; swap; · iexact Hbufs
  isplitl [Hg]; · iexact Hg
  isplitl [Hos]; · iexact Hos
  isplitl [Hs]; · iexact Hs
  isplitl [Hr] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait c _ 0 (Or.inr ?_)
      fin_cases w; fin_cases s; exact Nat.zero_lt_one
    · have h := mayWait (F := F) c (.dma ((cfg0.win w).sem s)) 20 (Or.inl rfl)
      rw [O_end] at h
      exact h

/-! ## The run -/

def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1) ∧ IsOut m ρ c (s.mem ((c : Thread nD τ).loc main_v1))

theorem read_out (c : Dev nD) (s' : Phys nD τ sig (Elt F)) : iprop(Yd m ρ c ∗ emp ∗ SI s') ⊢ |={Set.univ}=> iprop(⌜QY m ρ c s'.mem⌝ ∗ SI s' : sProp 𝕄) := by
  unfold Yd Out tabP
  iintro ⟨⟨Hu, Ht, ⟨%f, %hf, Ho⟩⟩, -, HSI⟩
  ihave %h1 := (SI_pointsTo_agree) $$ [HSI Ht]
  · isplitl [HSI] <;> iassumption
  ihave %h2 := (SI_pointsTo_agree) $$ [HSI Ho]
  · isplitl [HSI] <;> iassumption
  imod (Pipeline.unscopedSems0_read (X := unscopedSems0 c) (c := c) fupd_intro s') $$ [Hu HSI] with ⟨%h3, HSI⟩
  · isplitl [Hu] <;> iassumption
  imodintro
  isplitr; swap; · iexact HSI
  ipureintro
  have e2 : s'.mem.mem ((c : Thread nD τ).loc main_v1) = f := funext fun i => h2 i (Finset.mem_univ _)
  exact ⟨h3, funext fun i => h1 i (Finset.mem_univ _), by rw [e2]; exact hf⟩

/-- From any memory, every weakly fair execution of the program on the eight devices ends, with the operands unchanged,
    every counter at zero and every device's result assembled from the rows the four devices of its plane sent out. -/
theorem run_main : θ_run defs (onTc (τ := τ) (main (F := F))) (s₀ m ρ) (fun r =>
    (∀ c : Dev nD, (r.2.mem ((c : Thread nD τ).loc main_arg0) = m ((c : Thread nD τ).loc main_arg0)
      ∧ r.2.mem ((c : Thread nD τ).loc main_arg1) = m ((c : Thread nD τ).loc main_arg1)) ∧ IsOut m ρ c (r.2.mem ((c : Thread nD τ).loc main_v1)))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => O d 0) (howed₀ := fun _ => rfl) (howedN := fun _ => rfl)
    (L := L) (lv := lv) (hL := L_of_ne) (hwaits := waits m ρ)
    (G := G) (G' := G' m ρ) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      ihave HG := (G_all (F := F)) $$ HR
      imodintro
      isplitl [HP] <;> iassumption)
    (hglob := glob m ρ)
    (hA := fun _ _ => rfl) (hpf := fun _ k => k.elim0)
    (X := start m ρ) (Y := Yd m ρ) (Z := fun _ => iprop(emp))
    (hX := start_intro m ρ) (hin := phi0_intro m ρ) (hout := phi1_exit m ρ)
    (QY := QY m ρ) (hY := read_out m ρ)
    (hQ := fun s h hs => ⟨fun c => ⟨⟨((h c).1 (0 : Fin 1)).trans ((dats (F := F) m ρ 0 c).arrAt_in (0 : Fin 1) rfl _), (h c).2.2.2.1⟩, (h c).2.2.2.2⟩,
      sem_eq_zero hs fun c => (h c).2.2.1⟩)
end Cert.KernelIdeal.Hand
-- ==== Proof.Value.lean ====
module
public import proofs.«01_k».proof.Proof.Launch
public import proofs.«01_k».proof.Proof.Gen.ReferenceIdeal.Run
public import Idealize.ShloMosaic.Lib.Routing.Ops
public import Idealize.ShloMosaic.Lib.Layout
public import Idealize.ShloMosaic.PureOps.Ideal
public import Idealize.ShloMosaic.Lib.IdealHost
public import Idealize.ShloMosaic.Lib.Pointwise.ElementwiseCore

/-! The result over exact floats: of the two devices of a pair, exactly one holds the row of the table that an id names, and
    the other adds zero to it. -/

@[expose] public section
noncomputable section
namespace Cert.KernelIdeal.Hand
open Cert.KernelIdeal Cert.KernelIdeal.Gen
open Idealize.ShloMosaic
open Idealize.ShloMosaic.TcCoe
set_option maxRecDepth 100000
variable (m : (ℓ : Loc nD τ sig) → Buf (Elt Ideal) ℓ) (ρ : Dev nD → PrngReg)

/-! ## Rows of the table -/

/-- Where a row is in this device's half of the table, counted modulo the words' range. -/
theorem off2_val : ∀ (c : Dev nD) (w : BitVec 32), k0_off2 c w 0 = (w - BitVec.ofNat 32 (4096 * (c.val % 2))).toNat := by
  have e : ∀ c : Dev nD, Scalar.muli (Scalar.remsi (Scalar.divsi (Dev.word c) 1#32) 2#32) 4096#32 = BitVec.ofNat 32 (4096 * (c.val % 2)) := by
    decide +kernel
  intro c w
  rw [← e c]
  rfl

theorem off2_of {c : Dev nD} {w : BitVec 32} (h : w.toNat < 8192) :
    k0_off2 c w 0 = if 4096 * (c.val % 2) ≤ w.toNat then w.toNat - 4096 * (c.val % 2) else w.toNat + 4294967296 - 4096 * (c.val % 2) := by
  rw [off2_val, BitVec.toNat_sub, BitVec.toNat_ofNat]
  have : c.val % 2 < 2 := Nat.mod_lt _ (by decide)
  split <;> omega

/-- A device holds the rows of the table's half that its place along the last mesh axis names. -/
theorem valid_iff {c : Dev nD} {i : ℕ} (h : (wd m ρ c i).toNat < 8192) : valid m ρ c i ↔ (wd m ρ c i).toNat / 4096 = c.val % 2 := by
  unfold valid
  rw [cond_iff, off2_of h]
  have : c.val % 2 < 2 := Nat.mod_lt _ (by decide)
  split <;> omega

theorem ids_eq (c : Dev nD) : ids m ρ c = m ((c : Thread nD τ).loc main_arg0) := by
  funext x
  unfold ids
  rw [View.read_apply, cast_eq]
  refine congrArg (m ((c : Thread nD τ).loc main_arg0)) (funext fun a => Fin.ext ?_)
  fin_cases a
  show 0 * 512 + 1 * (x 0).val = (x 0).val
  omega

theorem zero_apply (x : S128x512.Idx) : k0_pay1 (F := Ideal) x = (0 : EReal) := Ideal.ofBits_zero_f32

/-- A device's gathered rows, where the table's halves are those of `E`: the row of `E` that the id names, or zeros. -/
theorem Gt_val {c : Dev nD} {E : (⟨2, ![8192, 512]⟩ : Shape).Idx → EReal}
    (hE : m ((c : Thread nD τ).loc main_arg1) = Layout.blockN ⟨2, ![4096, 512]⟩ ⟨2, ![8192, 512]⟩ (Layout.meshBlock [2, 2, 2] ![[2], []] c) E)
    (x : S128x512.Idx) (h : (wd m ρ c (x 0).val).toNat < 8192) :
    Gt m ρ c x = if (wd m ρ c (x 0).val).toNat / 4096 = c.val % 2 then E (ValueIdx.ix2 ⟨(wd m ρ c (x 0).val).toNat, h⟩ ⟨(x 1).val, (x 1).isLt⟩) else (0 : EReal) := by
  unfold Gt
  by_cases hv : (wd m ρ c (x 0).val).toNat / 4096 = c.val % 2
  · rw [if_pos hv, if_pos ((valid_iff m ρ h).mpr hv)]
    show m ((c : Thread nD τ).loc main_arg1) _ = _
    rw [hE, Layout.blockN_apply]
    refine congrArg E (funext fun a => Fin.ext ?_)
    rw [Layout.TilesN.idx_val]
    have hm : ∀ c : Dev nD, Layout.meshLin [2, 2, 2] c.val [2] = c.val % 2 := by decide +kernel
    fin_cases a
    · show Layout.meshLin [2, 2, 2] c.val [2] * 4096 + k0_off2 c (wd m ρ c (x 0).val) 0 % 4096 = (wd m ρ c (x 0).val).toNat
      rw [hm, off2_of h]
      split <;> omega
    · show Layout.meshLin [2, 2, 2] c.val [] * 512 + (x 1).val = (x 1).val
      have : Layout.meshLin [2, 2, 2] c.val [] = 0 := rfl
      omega
  · rw [if_neg hv, if_neg (fun h' => hv ((valid_iff m ρ h).mp h'))]
    exact zero_apply x

/-! ## What a device sends out -/

/-- An index of a chunk among the gathered rows. -/
def gIx (j : Fin 4) (y : S32x512.Idx) : S128x512.Idx := (gR j).emb y
theorem gIx_row (j : Fin 4) (y : S32x512.Idx) : ((gIx j y) 0).val = 32 * j.val + (y 0).val := by
  show 32 * j.val + 1 * (y 0).val = _
  omega
theorem gIx_col (j : Fin 4) (y : S32x512.Idx) : ((gIx j y) 1).val = (y 1).val := by
  show 0 + 1 * (y 1).val = _
  omega
theorem GV_val (c : Dev nD) (j : Fin 4) (y : S32x512.Idx) : GV m ρ c j y = Gt m ρ c (gIx j y) := rfl

/-- A device's chunk plus its peer's: the changes of shape and of format leave the values alone. -/
theorem pay7_val (g z : S32x512.Idx → EReal) (y : S32x512.Idx) :
    k0_pay7 (F := Ideal) g (k0_pay2 (F := Ideal) z) (Shape.reshapeEquiv (Shape.Squeezes.numel_eq squeezes_S1x32x512_S32x512) y) = (g y + z y : EReal) := by
  unfold k0_pay7 k0_pay2
  dsimp only
  rw [shapeCast_shapeCast]
  unfold shapeCast
  rw [Shape.reshapeEquiv_reshapeEquiv, Shape.reshapeEquiv_self]
  rfl

theorem OV_val (c : Dev nD) (j : Fin 4) (y : S32x512.Idx) :
    OV m ρ c j y = (@HAdd.hAdd EReal EReal EReal _ (Gt m ρ c (gIx j y)) (Gt m ρ (peer c 0) (gIx j y))) :=
  pay7_val (GV m ρ c j) (GV m ρ (peer c 0) j) y

theorem peer_base : ∀ c : Dev nD, base (peer c 0) = base c := by decide +kernel
theorem peer_half : ∀ c : Dev nD, (peer c 0).val % 2 = 1 - c.val % 2 := by decide +kernel

section Table
variable (I : S512.Idx → BitVec 32) (E : (⟨2, ![8192, 512]⟩ : Shape).Idx → EReal) (hI : ∀ t, (I t).toNat < 8192)

/-- The rows of the whole table that the ids name. -/
def Rows : S512x512.Idx → EReal := fun x => E (ValueIdx.ix2 ⟨(I (ix1 (x 0).val (x 0).isLt)).toNat, hI _⟩ ⟨(x 1).val, (x 1).isLt⟩)

/-- What a device sends out are the table's rows. -/
theorem OV_rows (hm : ∀ c : Dev nD, m ((c : Thread nD τ).loc main_arg0) = I
      ∧ m ((c : Thread nD τ).loc main_arg1) = Layout.blockN ⟨2, ![4096, 512]⟩ ⟨2, ![8192, 512]⟩ (Layout.meshBlock [2, 2, 2] ![[2], []] c) E)
    (c : Dev nD) (j : Fin 4) (y : S32x512.Idx) : OV m ρ c j y = Rows I E hI ((oR c j).emb y) := by
  have hy : (y 0).val < 32 := (y 0).isLt
  have hb := base_le c
  have hx0 : (((oR c j).emb y) 0).val = base c + (32 * j.val + (y 0).val) := by
    show k0_off385 c (BitVec.ofNat 32 (32 * j.val)) 0 + 1 * (y 0).val = _
    rw [k0_off385_eq c j]
    show base c + 32 * j.val + 1 * (y 0).val = _
    omega
  have hx1 : (((oR c j).emb y) 1).val = (y 1).val := by
    show k0_off385 c (BitVec.ofNat 32 (32 * j.val)) 1 + 1 * (y 1).val = _
    rw [k0_off385_eq c j]
    show 0 + 1 * (y 1).val = _
    omega
  have hw : ∀ d : Dev nD, base d = base c → wd m ρ d ((gIx j y) 0).val = I (ix1 (((oR c j).emb y) 0).val (((oR c j).emb y) 0).isLt) := by
    intro d hd
    unfold wd
    rw [dif_pos (by rw [gIx_row]; omega), ids_eq, (hm d).1]
    refine congrArg I (funext fun a => Fin.ext ?_)
    show base d + ((gIx j y) 0).val = (((oR c j).emb y) 0).val
    rw [gIx_row, hx0, hd]
  rw [OV_val, Gt_val m ρ (hm c).2 _ (by rw [hw c rfl]; exact hI _), Gt_val m ρ (hm (peer c 0)).2 _ (by rw [hw _ (peer_base c)]; exact hI _)]
  unfold Rows
  have h0 := hI (ix1 (((oR c j).emb y) 0).val (((oR c j).emb y) 0).isLt)
  have hp := peer_half c
  simp only [hw c rfl, hw _ (peer_base c), hp, gIx_col, hx1]
  have hc : c.val % 2 < 2 := Nat.mod_lt _ (by decide)
  by_cases h : (I (ix1 (((oR c j).emb y) 0).val (((oR c j).emb y) 0).isLt)).toNat / 4096 = c.val % 2
  · rw [if_pos h, if_neg (by omega), add_zero]
  · rw [if_neg h, if_pos (by omega), zero_add]

/-- Every device's whole result is the table's rows. -/
theorem IsOut_rows (hm : ∀ c : Dev nD, m ((c : Thread nD τ).loc main_arg0) = I
      ∧ m ((c : Thread nD τ).loc main_arg1) = Layout.blockN ⟨2, ![4096, 512]⟩ ⟨2, ![8192, 512]⟩ (Layout.meshBlock [2, 2, 2] ![[2], []] c) E)
    (c : Dev nD) (f : (main_v1 : Ref sig .tc).ty.Contents (Elt Ideal)) (hf : IsOut m ρ c f) : f = Rows I E hI := by
  funext x
  obtain ⟨p, hp⟩ := o_mem c x
  rw [← Rect.map_emb_univ, Finset.mem_map] at hp
  obtain ⟨y, -, rfl⟩ := hp
  rw [← OV_rows m ρ I E hI hm]
  exact congrFun (hf p) y

/-! ## The reference -/

/-- The reference's gather, whose ids are never negative, takes the same rows. -/
theorem ref_rows (x : S512x512.Idx) :
    (Host.gather (α := EReal) Cert.ReferenceIdeal.gather_S8192x512_S512x1_S512x512_1_0_n_n_0_1_1512 E
      (broadcastInDim Cert.ReferenceIdeal.S512x1 ![0] Cert.ReferenceIdeal.Facts₀.bcast_S512_S512x1_0
        (select (cmpi .slt I (broadcastInDim Cert.ReferenceIdeal.S512 ![] Cert.ReferenceIdeal.Facts₀.bcast_S_S512 (constantI Cert.ReferenceIdeal.S_ 32 0#32)))
          (addi I (broadcastInDim Cert.ReferenceIdeal.S512 ![] Cert.ReferenceIdeal.Facts₀.bcast_S_S512 (constantI Cert.ReferenceIdeal.S_ 32 8192#32))) I)) x) = Rows I E hI x := by
  have hx : x = ValueIdx.ix2 (n0 := 512) (n1 := 512) (x 0) (x 1) := by
    funext a
    fin_cases a <;> rfl
  rw [hx]
  refine (Routing.gather_row (nb := 8192) (B := 512) (n := 512) _ rfl rfl rfl rfl rfl E _ (x 0) (x 1) ⟨(I (ix1 (x 0).val (x 0).isLt)).toNat, hI _⟩ ?_ (by decide)).trans rfl
  have ht : ∀ t, select (cmpi .slt I (broadcastInDim Cert.ReferenceIdeal.S512 ![] Cert.ReferenceIdeal.Facts₀.bcast_S_S512 (constantI Cert.ReferenceIdeal.S_ 32 0#32)))
      (addi I (broadcastInDim Cert.ReferenceIdeal.S512 ![] Cert.ReferenceIdeal.Facts₀.bcast_S_S512 (constantI Cert.ReferenceIdeal.S_ 32 8192#32))) I t = I t := by
    intro t
    have h := hI t
    have hs : (I t).slt 0#32 = false := by
      rw [BitVec.slt_eq_decide, BitVec.toInt_eq_toNat_cond, if_pos (by omega)]
      exact decide_eq_false (by show ¬ ((I t).toNat : ℤ) < 0; omega)
    show Scalar.select (BitVec.ofBool ((I t).slt 0#32)) _ (I t) = I t
    rw [hs]
    rfl
  show select _ _ _ _ = _
  rw [ht]
  refine BitVec.eq_of_toNat_eq ?_
  rw [BitVec.toNat_ofNat, Nat.mod_eq_of_lt (by have := hI (ix1 (x 0).val (x 0).isLt); dsimp only; omega)]
  refine congrArg (fun t => (I t).toNat) (funext fun a => Fin.ext ?_)
  fin_cases a
  rfl

end Table

end Cert.KernelIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel's frame, over any float values: the run with its results dropped. -/
theorem frame_run {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).1, h.2⟩) (Cert.KernelIdeal.Hand.run_main (F := F) m ρ)

set_option maxRecDepth 100000
set_option maxHeartbeats 4000000

/-- The two programs have the same text: their body tables agree, label by label. -/
theorem bodies_same : Cert.Kernel.defs₀ (F := Bits) = Cert.KernelIdeal.defs₀ (F := Bits) := by
  refine congrArg Defs.onTc (funext fun l => ?_)
  fin_cases l
  funext ⟨t, s⟩
  rfl
/-- So do their tables with the region and its pipeline. -/
theorem defs_same : Cert.Kernel.defs (F := Bits) = Cert.KernelIdeal.defs (F := Bits) :=
  congrArg (Pipeline.defs (Cert.KernelIdeal.pcfgs (F := Bits))) bodies_same

/-- The frame over words. -/
theorem frame_kernel : Cert.quiescent_Kernel := fun m ρ _ => by
  have h := frame_run (F := Bits) m ρ
  rw [← defs_same] at h
  exact h

/-- The reference's frame; it has no semaphores. -/
theorem frame_reference : Cert.quiescent_ReferenceIdeal := fun m ρ _ =>
  (θ_run Cert.ReferenceIdeal.defs _ _).mono (fun r h => ⟨fun c => ⟨(h c).2.1, (h c).2.2⟩, sem_eq_zero_of_no_sems rfl r.2⟩)
    (Cert.ReferenceIdeal.Value.run m ρ)

instance pre_kernel : Cert.Pre_ids_in_table_KernelIdeal.Facts := ⟨by decide⟩
instance pre_reference : Cert.Pre_ids_in_table_ReferenceIdeal.Facts := ⟨by decide⟩

/-- Ids that the precondition admits name rows of the table. -/
theorem ids_lt {I : IVec Cert.Pre_ids_in_table_KernelIdeal.S512 32} {T : FVec Ideal Cert.Pre_ids_in_table_KernelIdeal.S4096x512 .f32}
    (h : Cert.Pre_ids_in_table_KernelIdeal.fn (F := Ideal) I T = fun _ => 1#1) (t : Cert.Pre_ids_in_table_KernelIdeal.S512.Idx) : (I t).toNat < 8192 := by
  have e : BitVec.ofBool ((0#32).sle (I t)) &&& BitVec.ofBool ((I t).slt 8192#32) = 1#1 := congrFun h t
  have h0 : (0#32).sle (I t) = true := by
    revert e
    cases (0#32).sle (I t) <;> cases (I t).slt 8192#32 <;> decide
  have h1 : (I t).slt 8192#32 = true := by
    revert e
    cases (0#32).sle (I t) <;> cases (I t).slt 8192#32 <;> decide
  rw [BitVec.sle_iff_toInt_le] at h0
  rw [BitVec.slt_iff_toInt_lt] at h1
  have a0 : (0#32).toInt = 0 := by decide
  have a1 : (8192#32).toInt = 8192 := by decide
  have := (I t).isLt
  rw [a0, BitVec.toInt_eq_toNat_cond] at h0
  rw [a1, BitVec.toInt_eq_toNat_cond] at h1
  split at h0 <;> omega

/-- Over exact floats every device ends with the rows of the whole table that the ids name, and so does the reference. -/
theorem values : Cert.algebraic_KernelIdeal_ReferenceIdeal_pre_ids_in_table_KernelIdeal := by
  intro m g m' g' hpre hm
  have hI := fun t => ids_lt (hpre 0) t
  rw [(hm 0).1] at hI
  refine ⟨Cert.KernelIdeal.Hand.Rows (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) hI, ?_, ?_⟩
  · exact (θ_run Cert.KernelIdeal.defs _ _).mono (fun r h c =>
      ⟨Cert.KernelIdeal.Hand.IsOut_rows m g _ _ hI hm c _ (h.1 c).2, (h.1 c).1.1, (h.1 c).1.2⟩) (Cert.KernelIdeal.Hand.run_main (F := Ideal) m g)
  · exact (θ_run Cert.ReferenceIdeal.defs _ _).mono (fun r h =>
      ⟨(h 0).1.trans (funext fun x => Cert.KernelIdeal.Hand.ref_rows _ _ hI x), (h 0).2.1, (h 0).2.2⟩) (Cert.ReferenceIdeal.Value.run m' g')

theorem claim : Cert.Claim :=
  ⟨Cert.Kernel.Gen.facts, Cert.KernelIdeal.Gen.facts, Cert.ReferenceIdeal.Gen.facts, pre_kernel, pre_reference,
    frame_kernel, fun m ρ _ => frame_run m ρ, fun m ρ _ => frame_run m ρ, frame_reference, fun m ρ _ => frame_reference m ρ trivial, trivial, values⟩

end Cert.Proof

end
